-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightRefIdeal (m : (ℓ : Loc Cert.UpWeightRefIdeal.nD Cert.UpWeightRefIdeal.τ Cert.UpWeightRefIdeal.sig) → Buf (Elt Ideal) ℓ) : Prop :=
  True

def Pre_UpInput (m : (ℓ : Loc Cert.UpInput.nD Cert.UpInput.τ Cert.UpInput.sig) → Buf (Elt Bits) ℓ) : Prop :=
  True

def Pre_UpInputIdeal (m : (ℓ : Loc Cert.UpInputIdeal.nD Cert.UpInputIdeal.τ Cert.UpInputIdeal.sig) → Buf (Elt Ideal) ℓ) : Prop :=
  True

def Pre_UpInputRefIdeal (m : (ℓ : Loc Cert.UpInputRefIdeal.nD Cert.UpInputRefIdeal.τ Cert.UpInputRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_GateInput (m : (ℓ : Loc Cert.GateInput.nD Cert.GateInput.τ Cert.GateInput.sig) → Buf (Elt Bits) ℓ) : Prop :=
  True

def Pre_GateInputIdeal (m : (ℓ : Loc Cert.GateInputIdeal.nD Cert.GateInputIdeal.τ Cert.GateInputIdeal.sig) → Buf (Elt Ideal) ℓ) : Prop :=
  True

def Pre_GateInputRefIdeal (m : (ℓ : Loc Cert.GateInputRefIdeal.nD Cert.GateInputRefIdeal.τ Cert.GateInputRefIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightRefIdeal (m : (ℓ : Loc Cert.GateWeightRefIdeal.nD Cert.GateWeightRefIdeal.τ Cert.GateWeightRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Attend (m : (ℓ : Loc Cert.Attend.nD Cert.Attend.τ Cert.Attend.sig) → Buf (Elt Bits) ℓ) : Prop :=
  True

def Pre_AttendIdeal (m : (ℓ : Loc Cert.AttendIdeal.nD Cert.AttendIdeal.τ Cert.AttendIdeal.sig) → Buf (Elt Ideal) ℓ) : Prop :=
  True

def Pre_AttendIdeal_finite_projection [hPre_finite_projection : Cert.Pre_finite_projection.Facts] (m : (ℓ : Loc Cert.AttendIdeal.nD Cert.AttendIdeal.τ Cert.AttendIdeal.sig) → Buf (Elt Ideal) ℓ) : Prop :=
  ∀ c : Dev Cert.AttendIdeal.nD,
    (Cert.Pre_finite_projection.fn (F := Ideal) (m ((c.tc : Thread Cert.AttendIdeal.nD Cert.AttendIdeal.τ).loc Cert.AttendIdeal.main_arg0))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_finite_projection [hPre_finite_projection : Cert.Pre_finite_projection.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_finite_projection.fn (F := Ideal) (m ((c.tc : Thread Cert.AttendRefIdeal.nD Cert.AttendRefIdeal.τ).loc Cert.AttendRefIdeal.main_arg0))) = (fun _ => 1#1)

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_UpdateSmall (m : (ℓ : Loc Cert.UpdateSmall.nD Cert.UpdateSmall.τ Cert.UpdateSmall.sig) → Buf (Elt Bits) ℓ) : Prop :=
  True

def Pre_UpdateSmallIdeal (m : (ℓ : Loc Cert.UpdateSmallIdeal.nD Cert.UpdateSmallIdeal.τ Cert.UpdateSmallIdeal.sig) → Buf (Elt Ideal) ℓ) : Prop :=
  True

def Pre_UpdateSmallRefIdeal (m : (ℓ : Loc Cert.UpdateSmallRefIdeal.nD Cert.UpdateSmallRefIdeal.τ Cert.UpdateSmallRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InputBack (m : (ℓ : Loc Cert.InputBack.nD Cert.InputBack.τ Cert.InputBack.sig) → Buf (Elt Bits) ℓ) : Prop :=
  True

def Pre_InputBackIdeal (m : (ℓ : Loc Cert.InputBackIdeal.nD Cert.InputBackIdeal.τ Cert.InputBackIdeal.sig) → Buf (Elt Ideal) ℓ) : Prop :=
  True

def Pre_InputBackRefIdeal (m : (ℓ : Loc Cert.InputBackRefIdeal.nD Cert.InputBackRefIdeal.τ Cert.InputBackRefIdeal.sig) → Buf (Elt Ideal) ℓ) : Prop :=
  True

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedRefIdeal (m : (ℓ : Loc Cert.EmbedRefIdeal.nD Cert.EmbedRefIdeal.τ Cert.EmbedRefIdeal.sig) → Buf (Elt Ideal) ℓ) : Prop :=
  True

def Pre_EmbedWeight (m : (ℓ : Loc Cert.EmbedWeight.nD Cert.EmbedWeight.τ Cert.EmbedWeight.sig) → Buf (Elt Bits) ℓ) : Prop :=
  True

def Pre_EmbedWeightIdeal (m : (ℓ : Loc Cert.EmbedWeightIdeal.nD Cert.EmbedWeightIdeal.τ Cert.EmbedWeightIdeal.sig) → Buf (Elt Ideal) ℓ) : Prop :=
  True

def Pre_EmbedWeightRefIdeal (m : (ℓ : Loc Cert.EmbedWeightRefIdeal.nD Cert.EmbedWeightRefIdeal.τ Cert.EmbedWeightRefIdeal.sig) → Buf (Elt Ideal) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutRefIdeal (m : (ℓ : Loc Cert.UpdateOutRefIdeal.nD Cert.UpdateOutRefIdeal.τ Cert.UpdateOutRefIdeal.sig) → Buf (Elt Ideal) ℓ) : Prop :=
  True

def Pre_UpdateEmbed (m : (ℓ : Loc Cert.UpdateEmbed.nD Cert.UpdateEmbed.τ Cert.UpdateEmbed.sig) → Buf (Elt Bits) ℓ) : Prop :=
  True

def Pre_UpdateEmbedIdeal (m : (ℓ : Loc Cert.UpdateEmbedIdeal.nD Cert.UpdateEmbedIdeal.τ Cert.UpdateEmbedIdeal.sig) → Buf (Elt Ideal) ℓ) : Prop :=
  True

def Pre_UpdateEmbedRefIdeal (m : (ℓ : Loc Cert.UpdateEmbedRefIdeal.nD Cert.UpdateEmbedRefIdeal.τ Cert.UpdateEmbedRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightRefIdeal [hUpWeightRefIdeal : Cert.UpWeightRefIdeal.Facts] : Prop :=
  ∀ (m : (ℓ : Loc Cert.UpWeightRefIdeal.nD Cert.UpWeightRefIdeal.τ Cert.UpWeightRefIdeal.sig) → Buf (Elt Ideal) ℓ) (g : Dev Cert.UpWeightRefIdeal.nD → PrngReg), Pre_UpWeightRefIdeal m →
    θ_run (Cert.UpWeightRefIdeal.defs (F := Ideal)) (onTc (τ := Cert.UpWeightRefIdeal.τ) (Cert.UpWeightRefIdeal.main (F := Ideal))) ⟨m, fun _ => 0, g⟩ (fun r => (∀ c : Dev Cert.UpWeightRefIdeal.nD,
      r.2.mem ((c.tc : Thread Cert.UpWeightRefIdeal.nD Cert.UpWeightRefIdeal.τ).loc Cert.UpWeightRefIdeal.main_arg0) = m ((c.tc : Thread Cert.UpWeightRefIdeal.nD Cert.UpWeightRefIdeal.τ).loc Cert.UpWeightRefIdeal.main_arg0)
      ∧ r.2.mem ((c.tc : Thread Cert.UpWeightRefIdeal.nD Cert.UpWeightRefIdeal.τ).loc Cert.UpWeightRefIdeal.main_arg1) = m ((c.tc : Thread Cert.UpWeightRefIdeal.nD Cert.UpWeightRefIdeal.τ).loc Cert.UpWeightRefIdeal.main_arg1))
      ∧ r.2.sem = fun _ => 0)

def quiescent_UpInput [hUpInput : Cert.UpInput.Facts] : Prop :=
  ∀ (m : (ℓ : Loc Cert.UpInput.nD Cert.UpInput.τ Cert.UpInput.sig) → Buf (Elt Bits) ℓ) (g : Dev Cert.UpInput.nD → PrngReg), Pre_UpInput m →
    θ_run (Cert.UpInput.defs (F := Bits)) (onTc (τ := Cert.UpInput.τ) (Cert.UpInput.main (F := Bits))) ⟨m, fun _ => 0, g⟩ (fun r => (∀ c : Dev Cert.UpInput.nD,
      r.2.mem ((c.tc : Thread Cert.UpInput.nD Cert.UpInput.τ).loc Cert.UpInput.main_arg0) = m ((c.tc : Thread Cert.UpInput.nD Cert.UpInput.τ).loc Cert.UpInput.main_arg0)
      ∧ r.2.mem ((c.tc : Thread Cert.UpInput.nD Cert.UpInput.τ).loc Cert.UpInput.main_arg1) = m ((c.tc : Thread Cert.UpInput.nD Cert.UpInput.τ).loc Cert.UpInput.main_arg1))
      ∧ r.2.sem = fun _ => 0)

def quiescent_UpInputIdeal [hUpInputIdeal : Cert.UpInputIdeal.Facts] : Prop :=
  ∀ (m : (ℓ : Loc Cert.UpInputIdeal.nD Cert.UpInputIdeal.τ Cert.UpInputIdeal.sig) → Buf (Elt Ideal) ℓ) (g : Dev Cert.UpInputIdeal.nD → PrngReg), Pre_UpInputIdeal m →
    θ_run (Cert.UpInputIdeal.defs (F := Ideal)) (onTc (τ := Cert.UpInputIdeal.τ) (Cert.UpInputIdeal.main (F := Ideal))) ⟨m, fun _ => 0, g⟩ (fun r => (∀ c : Dev Cert.UpInputIdeal.nD,
      r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
      ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1))
      ∧ r.2.sem = fun _ => 0)

def quiescent_UpInputRefIdeal [hUpInputRefIdeal : Cert.UpInputRefIdeal.Facts] : Prop :=
  ∀ (m : (ℓ : Loc Cert.UpInputRefIdeal.nD Cert.UpInputRefIdeal.τ Cert.UpInputRefIdeal.sig) → Buf (Elt Ideal) ℓ) (g : Dev Cert.UpInputRefIdeal.nD → PrngReg), Pre_UpInputRefIdeal m →
    θ_run (Cert.UpInputRefIdeal.defs (F := Ideal)) (onTc (τ := Cert.UpInputRefIdeal.τ) (Cert.UpInputRefIdeal.main (F := Ideal))) ⟨m, fun _ => 0, g⟩ (fun r => (∀ c : Dev Cert.UpInputRefIdeal.nD,
      r.2.mem ((c.tc : Thread Cert.UpInputRefIdeal.nD Cert.UpInputRefIdeal.τ).loc Cert.UpInputRefIdeal.main_arg0) = m ((c.tc : Thread Cert.UpInputRefIdeal.nD Cert.UpInputRefIdeal.τ).loc Cert.UpInputRefIdeal.main_arg0)
      ∧ r.2.mem ((c.tc : Thread Cert.UpInputRefIdeal.nD Cert.UpInputRefIdeal.τ).loc Cert.UpInputRefIdeal.main_arg1) = m ((c.tc : Thread Cert.UpInputRefIdeal.nD Cert.UpInputRefIdeal.τ).loc Cert.UpInputRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5))
      ∧ r.2.sem = fun _ => 0)

def quiescent_GateInput [hGateInput : Cert.GateInput.Facts] : Prop :=
  ∀ (m : (ℓ : Loc Cert.GateInput.nD Cert.GateInput.τ Cert.GateInput.sig) → Buf (Elt Bits) ℓ) (g : Dev Cert.GateInput.nD → PrngReg), Pre_GateInput m →
    θ_run (Cert.GateInput.defs (F := Bits)) (onTc (τ := Cert.GateInput.τ) (Cert.GateInput.main (F := Bits))) ⟨m, fun _ => 0, g⟩ (fun r => (∀ c : Dev Cert.GateInput.nD,
      r.2.mem ((c.tc : Thread Cert.GateInput.nD Cert.GateInput.τ).loc Cert.GateInput.main_arg0) = m ((c.tc : Thread Cert.GateInput.nD Cert.GateInput.τ).loc Cert.GateInput.main_arg0)
      ∧ r.2.mem ((c.tc : Thread Cert.GateInput.nD Cert.GateInput.τ).loc Cert.GateInput.main_arg1) = m ((c.tc : Thread Cert.GateInput.nD Cert.GateInput.τ).loc Cert.GateInput.main_arg1))
      ∧ r.2.sem = fun _ => 0)

def quiescent_GateInputIdeal [hGateInputIdeal : Cert.GateInputIdeal.Facts] : Prop :=
  ∀ (m : (ℓ : Loc Cert.GateInputIdeal.nD Cert.GateInputIdeal.τ Cert.GateInputIdeal.sig) → Buf (Elt Ideal) ℓ) (g : Dev Cert.GateInputIdeal.nD → PrngReg), Pre_GateInputIdeal m →
    θ_run (Cert.GateInputIdeal.defs (F := Ideal)) (onTc (τ := Cert.GateInputIdeal.τ) (Cert.GateInputIdeal.main (F := Ideal))) ⟨m, fun _ => 0, g⟩ (fun r => (∀ c : Dev Cert.GateInputIdeal.nD,
      r.2.mem ((c.tc : Thread Cert.GateInputIdeal.nD Cert.GateInputIdeal.τ).loc Cert.GateInputIdeal.main_arg0) = m ((c.tc : Thread Cert.GateInputIdeal.nD Cert.GateInputIdeal.τ).loc Cert.GateInputIdeal.main_arg0)
      ∧ r.2.mem ((c.tc : Thread Cert.GateInputIdeal.nD Cert.GateInputIdeal.τ).loc Cert.GateInputIdeal.main_arg1) = m ((c.tc : Thread Cert.GateInputIdeal.nD Cert.GateInputIdeal.τ).loc Cert.GateInputIdeal.main_arg1))
      ∧ r.2.sem = fun _ => 0)

def quiescent_GateInputRefIdeal [hGateInputRefIdeal : Cert.GateInputRefIdeal.Facts] : Prop :=
  ∀ (m : (ℓ : Loc Cert.GateInputRefIdeal.nD Cert.GateInputRefIdeal.τ Cert.GateInputRefIdeal.sig) → Buf (Elt Ideal) ℓ) (g : Dev Cert.GateInputRefIdeal.nD → PrngReg), Pre_GateInputRefIdeal m →
    θ_run (Cert.GateInputRefIdeal.defs (F := Ideal)) (onTc (τ := Cert.GateInputRefIdeal.τ) (Cert.GateInputRefIdeal.main (F := Ideal))) ⟨m, fun _ => 0, g⟩ (fun r => (∀ c : Dev Cert.GateInputRefIdeal.nD,
      r.2.mem ((c.tc : Thread Cert.GateInputRefIdeal.nD Cert.GateInputRefIdeal.τ).loc Cert.GateInputRefIdeal.main_arg0) = m ((c.tc : Thread Cert.GateInputRefIdeal.nD Cert.GateInputRefIdeal.τ).loc Cert.GateInputRefIdeal.main_arg0)
      ∧ r.2.mem ((c.tc : Thread Cert.GateInputRefIdeal.nD Cert.GateInputRefIdeal.τ).loc Cert.GateInputRefIdeal.main_arg1) = m ((c.tc : Thread Cert.GateInputRefIdeal.nD Cert.GateInputRefIdeal.τ).loc Cert.GateInputRefIdeal.main_arg1))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ r.2.sem = fun _ => 0)

def quiescent_GateWeightRefIdeal [hGateWeightRefIdeal : Cert.GateWeightRefIdeal.Facts] : Prop :=
  ∀ (m : (ℓ : Loc Cert.GateWeightRefIdeal.nD Cert.GateWeightRefIdeal.τ Cert.GateWeightRefIdeal.sig) → Buf (Elt Ideal) ℓ) (g : Dev Cert.GateWeightRefIdeal.nD → PrngReg), Pre_GateWeightRefIdeal m →
    θ_run (Cert.GateWeightRefIdeal.defs (F := Ideal)) (onTc (τ := Cert.GateWeightRefIdeal.τ) (Cert.GateWeightRefIdeal.main (F := Ideal))) ⟨m, fun _ => 0, g⟩ (fun r => (∀ c : Dev Cert.GateWeightRefIdeal.nD,
      r.2.mem ((c.tc : Thread Cert.GateWeightRefIdeal.nD Cert.GateWeightRefIdeal.τ).loc Cert.GateWeightRefIdeal.main_arg0) = m ((c.tc : Thread Cert.GateWeightRefIdeal.nD Cert.GateWeightRefIdeal.τ).loc Cert.GateWeightRefIdeal.main_arg0)
      ∧ r.2.mem ((c.tc : Thread Cert.GateWeightRefIdeal.nD Cert.GateWeightRefIdeal.τ).loc Cert.GateWeightRefIdeal.main_arg1) = m ((c.tc : Thread Cert.GateWeightRefIdeal.nD Cert.GateWeightRefIdeal.τ).loc Cert.GateWeightRefIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_Attend [hAttend : Cert.Attend.Facts] : Prop :=
  ∀ (m : (ℓ : Loc Cert.Attend.nD Cert.Attend.τ Cert.Attend.sig) → Buf (Elt Bits) ℓ) (g : Dev Cert.Attend.nD → PrngReg), Pre_Attend m →
    θ_run (Cert.Attend.defs (F := Bits)) (onTc (τ := Cert.Attend.τ) (Cert.Attend.main (F := Bits))) ⟨m, fun _ => 0, g⟩ (fun r => (∀ c : Dev Cert.Attend.nD,
      r.2.mem ((c.tc : Thread Cert.Attend.nD Cert.Attend.τ).loc Cert.Attend.main_arg0) = m ((c.tc : Thread Cert.Attend.nD Cert.Attend.τ).loc Cert.Attend.main_arg0))
      ∧ r.2.sem = fun _ => 0)

def quiescent_AttendIdeal [hAttendIdeal : Cert.AttendIdeal.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendIdeal_pre_finite_projection [hAttendIdeal : Cert.AttendIdeal.Facts] [hPre_finite_projection : Cert.Pre_finite_projection.Facts] : Prop :=
  ∀ (m : (ℓ : Loc Cert.AttendIdeal.nD Cert.AttendIdeal.τ Cert.AttendIdeal.sig) → Buf (Elt Ideal) ℓ) (g : Dev Cert.AttendIdeal.nD → PrngReg), Pre_AttendIdeal_finite_projection m →
    θ_run (Cert.AttendIdeal.defs (F := Ideal)) (onTc (τ := Cert.AttendIdeal.τ) (Cert.AttendIdeal.main (F := Ideal))) ⟨m, fun _ => 0, g⟩ (fun r => (∀ c : Dev Cert.AttendIdeal.nD,
      r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0))
      ∧ r.2.sem = fun _ => 0)

def quiescent_AttendRefIdeal_pre_finite_projection [hAttendRefIdeal : Cert.AttendRefIdeal.Facts] [hPre_finite_projection : Cert.Pre_finite_projection.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_finite_projection m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3))
      ∧ r.2.sem = fun _ => 0)

def quiescent_UpdateSmall [hUpdateSmall : Cert.UpdateSmall.Facts] : Prop :=
  ∀ (m : (ℓ : Loc Cert.UpdateSmall.nD Cert.UpdateSmall.τ Cert.UpdateSmall.sig) → Buf (Elt Bits) ℓ) (g : Dev Cert.UpdateSmall.nD → PrngReg), Pre_UpdateSmall m →
    θ_run (Cert.UpdateSmall.defs (F := Bits)) (onTc (τ := Cert.UpdateSmall.τ) (Cert.UpdateSmall.main (F := Bits))) ⟨m, fun _ => 0, g⟩ (fun r => (∀ c : Dev Cert.UpdateSmall.nD,
      r.2.mem ((c.tc : Thread Cert.UpdateSmall.nD Cert.UpdateSmall.τ).loc Cert.UpdateSmall.main_arg0) = m ((c.tc : Thread Cert.UpdateSmall.nD Cert.UpdateSmall.τ).loc Cert.UpdateSmall.main_arg0)
      ∧ r.2.mem ((c.tc : Thread Cert.UpdateSmall.nD Cert.UpdateSmall.τ).loc Cert.UpdateSmall.main_arg1) = m ((c.tc : Thread Cert.UpdateSmall.nD Cert.UpdateSmall.τ).loc Cert.UpdateSmall.main_arg1)
      ∧ r.2.mem ((c.tc : Thread Cert.UpdateSmall.nD Cert.UpdateSmall.τ).loc Cert.UpdateSmall.main_arg2) = m ((c.tc : Thread Cert.UpdateSmall.nD Cert.UpdateSmall.τ).loc Cert.UpdateSmall.main_arg2)
      ∧ r.2.mem ((c.tc : Thread Cert.UpdateSmall.nD Cert.UpdateSmall.τ).loc Cert.UpdateSmall.main_arg3) = m ((c.tc : Thread Cert.UpdateSmall.nD Cert.UpdateSmall.τ).loc Cert.UpdateSmall.main_arg3))
      ∧ r.2.sem = fun _ => 0)

def quiescent_UpdateSmallIdeal [hUpdateSmallIdeal : Cert.UpdateSmallIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg), Pre_UpdateSmallIdeal m →
    θ_run (Cert.UpdateSmallIdeal.defs (F := Ideal)) (onTc (τ := Cert.UpdateSmallIdeal.τ) (Cert.UpdateSmallIdeal.main (F := Ideal))) ⟨m, fun _ => 0, g⟩ (fun r => (∀ c : Dev Cert.UpdateSmallIdeal.nD,
      r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
      ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
      ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
      ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ r.2.sem = fun _ => 0)

def quiescent_UpdateSmallRefIdeal [hUpdateSmallRefIdeal : Cert.UpdateSmallRefIdeal.Facts] : Prop :=
  ∀ (m : (ℓ : Loc Cert.UpdateSmallRefIdeal.nD Cert.UpdateSmallRefIdeal.τ Cert.UpdateSmallRefIdeal.sig) → Buf (Elt Ideal) ℓ) (g : Dev Cert.UpdateSmallRefIdeal.nD → PrngReg), Pre_UpdateSmallRefIdeal m →
    θ_run (Cert.UpdateSmallRefIdeal.defs (F := Ideal)) (onTc (τ := Cert.UpdateSmallRefIdeal.τ) (Cert.UpdateSmallRefIdeal.main (F := Ideal))) ⟨m, fun _ => 0, g⟩ (fun r => (∀ c : Dev Cert.UpdateSmallRefIdeal.nD,
      r.2.mem ((c.tc : Thread Cert.UpdateSmallRefIdeal.nD Cert.UpdateSmallRefIdeal.τ).loc Cert.UpdateSmallRefIdeal.main_arg0) = m ((c.tc : Thread Cert.UpdateSmallRefIdeal.nD Cert.UpdateSmallRefIdeal.τ).loc Cert.UpdateSmallRefIdeal.main_arg0)
      ∧ r.2.mem ((c.tc : Thread Cert.UpdateSmallRefIdeal.nD Cert.UpdateSmallRefIdeal.τ).loc Cert.UpdateSmallRefIdeal.main_arg1) = m ((c.tc : Thread Cert.UpdateSmallRefIdeal.nD Cert.UpdateSmallRefIdeal.τ).loc Cert.UpdateSmallRefIdeal.main_arg1)
      ∧ r.2.mem ((c.tc : Thread Cert.UpdateSmallRefIdeal.nD Cert.UpdateSmallRefIdeal.τ).loc Cert.UpdateSmallRefIdeal.main_arg2) = m ((c.tc : Thread Cert.UpdateSmallRefIdeal.nD Cert.UpdateSmallRefIdeal.τ).loc Cert.UpdateSmallRefIdeal.main_arg2)
      ∧ r.2.mem ((c.tc : Thread Cert.UpdateSmallRefIdeal.nD Cert.UpdateSmallRefIdeal.τ).loc Cert.UpdateSmallRefIdeal.main_arg3) = m ((c.tc : Thread Cert.UpdateSmallRefIdeal.nD Cert.UpdateSmallRefIdeal.τ).loc Cert.UpdateSmallRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_InputBack [hInputBack : Cert.InputBack.Facts] : Prop :=
  ∀ (m : (ℓ : Loc Cert.InputBack.nD Cert.InputBack.τ Cert.InputBack.sig) → Buf (Elt Bits) ℓ) (g : Dev Cert.InputBack.nD → PrngReg), Pre_InputBack m →
    θ_run (Cert.InputBack.defs (F := Bits)) (onTc (τ := Cert.InputBack.τ) (Cert.InputBack.main (F := Bits))) ⟨m, fun _ => 0, g⟩ (fun r => (∀ c : Dev Cert.InputBack.nD,
      r.2.mem ((c.tc : Thread Cert.InputBack.nD Cert.InputBack.τ).loc Cert.InputBack.main_arg0) = m ((c.tc : Thread Cert.InputBack.nD Cert.InputBack.τ).loc Cert.InputBack.main_arg0)
      ∧ r.2.mem ((c.tc : Thread Cert.InputBack.nD Cert.InputBack.τ).loc Cert.InputBack.main_arg1) = m ((c.tc : Thread Cert.InputBack.nD Cert.InputBack.τ).loc Cert.InputBack.main_arg1)
      ∧ r.2.mem ((c.tc : Thread Cert.InputBack.nD Cert.InputBack.τ).loc Cert.InputBack.main_arg2) = m ((c.tc : Thread Cert.InputBack.nD Cert.InputBack.τ).loc Cert.InputBack.main_arg2)
      ∧ r.2.mem ((c.tc : Thread Cert.InputBack.nD Cert.InputBack.τ).loc Cert.InputBack.main_arg3) = m ((c.tc : Thread Cert.InputBack.nD Cert.InputBack.τ).loc Cert.InputBack.main_arg3))
      ∧ r.2.sem = fun _ => 0)

def quiescent_InputBackIdeal [hInputBackIdeal : Cert.InputBackIdeal.Facts] : Prop :=
  ∀ (m : (ℓ : Loc Cert.InputBackIdeal.nD Cert.InputBackIdeal.τ Cert.InputBackIdeal.sig) → Buf (Elt Ideal) ℓ) (g : Dev Cert.InputBackIdeal.nD → PrngReg), Pre_InputBackIdeal m →
    θ_run (Cert.InputBackIdeal.defs (F := Ideal)) (onTc (τ := Cert.InputBackIdeal.τ) (Cert.InputBackIdeal.main (F := Ideal))) ⟨m, fun _ => 0, g⟩ (fun r => (∀ c : Dev Cert.InputBackIdeal.nD,
      r.2.mem ((c.tc : Thread Cert.InputBackIdeal.nD Cert.InputBackIdeal.τ).loc Cert.InputBackIdeal.main_arg0) = m ((c.tc : Thread Cert.InputBackIdeal.nD Cert.InputBackIdeal.τ).loc Cert.InputBackIdeal.main_arg0)
      ∧ r.2.mem ((c.tc : Thread Cert.InputBackIdeal.nD Cert.InputBackIdeal.τ).loc Cert.InputBackIdeal.main_arg1) = m ((c.tc : Thread Cert.InputBackIdeal.nD Cert.InputBackIdeal.τ).loc Cert.InputBackIdeal.main_arg1)
      ∧ r.2.mem ((c.tc : Thread Cert.InputBackIdeal.nD Cert.InputBackIdeal.τ).loc Cert.InputBackIdeal.main_arg2) = m ((c.tc : Thread Cert.InputBackIdeal.nD Cert.InputBackIdeal.τ).loc Cert.InputBackIdeal.main_arg2)
      ∧ r.2.mem ((c.tc : Thread Cert.InputBackIdeal.nD Cert.InputBackIdeal.τ).loc Cert.InputBackIdeal.main_arg3) = m ((c.tc : Thread Cert.InputBackIdeal.nD Cert.InputBackIdeal.τ).loc Cert.InputBackIdeal.main_arg3))
      ∧ r.2.sem = fun _ => 0)

def quiescent_InputBackRefIdeal [hInputBackRefIdeal : Cert.InputBackRefIdeal.Facts] : Prop :=
  ∀ (m : (ℓ : Loc Cert.InputBackRefIdeal.nD Cert.InputBackRefIdeal.τ Cert.InputBackRefIdeal.sig) → Buf (Elt Ideal) ℓ) (g : Dev Cert.InputBackRefIdeal.nD → PrngReg), Pre_InputBackRefIdeal m →
    θ_run (Cert.InputBackRefIdeal.defs (F := Ideal)) (onTc (τ := Cert.InputBackRefIdeal.τ) (Cert.InputBackRefIdeal.main (F := Ideal))) ⟨m, fun _ => 0, g⟩ (fun r => (∀ c : Dev Cert.InputBackRefIdeal.nD,
      r.2.mem ((c.tc : Thread Cert.InputBackRefIdeal.nD Cert.InputBackRefIdeal.τ).loc Cert.InputBackRefIdeal.main_arg0) = m ((c.tc : Thread Cert.InputBackRefIdeal.nD Cert.InputBackRefIdeal.τ).loc Cert.InputBackRefIdeal.main_arg0)
      ∧ r.2.mem ((c.tc : Thread Cert.InputBackRefIdeal.nD Cert.InputBackRefIdeal.τ).loc Cert.InputBackRefIdeal.main_arg1) = m ((c.tc : Thread Cert.InputBackRefIdeal.nD Cert.InputBackRefIdeal.τ).loc Cert.InputBackRefIdeal.main_arg1)
      ∧ r.2.mem ((c.tc : Thread Cert.InputBackRefIdeal.nD Cert.InputBackRefIdeal.τ).loc Cert.InputBackRefIdeal.main_arg2) = m ((c.tc : Thread Cert.InputBackRefIdeal.nD Cert.InputBackRefIdeal.τ).loc Cert.InputBackRefIdeal.main_arg2)
      ∧ r.2.mem ((c.tc : Thread Cert.InputBackRefIdeal.nD Cert.InputBackRefIdeal.τ).loc Cert.InputBackRefIdeal.main_arg3) = m ((c.tc : Thread Cert.InputBackRefIdeal.nD Cert.InputBackRefIdeal.τ).loc Cert.InputBackRefIdeal.main_arg3))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1))
      ∧ r.2.sem = fun _ => 0)

def quiescent_EmbedRefIdeal [hEmbedRefIdeal : Cert.EmbedRefIdeal.Facts] : Prop :=
  ∀ (m : (ℓ : Loc Cert.EmbedRefIdeal.nD Cert.EmbedRefIdeal.τ Cert.EmbedRefIdeal.sig) → Buf (Elt Ideal) ℓ) (g : Dev Cert.EmbedRefIdeal.nD → PrngReg), Pre_EmbedRefIdeal m →
    θ_run (Cert.EmbedRefIdeal.defs (F := Ideal)) (onTc (τ := Cert.EmbedRefIdeal.τ) (Cert.EmbedRefIdeal.main (F := Ideal))) ⟨m, fun _ => 0, g⟩ (fun r => (∀ c : Dev Cert.EmbedRefIdeal.nD,
      r.2.mem ((c.tc : Thread Cert.EmbedRefIdeal.nD Cert.EmbedRefIdeal.τ).loc Cert.EmbedRefIdeal.main_arg0) = m ((c.tc : Thread Cert.EmbedRefIdeal.nD Cert.EmbedRefIdeal.τ).loc Cert.EmbedRefIdeal.main_arg0)
      ∧ r.2.mem ((c.tc : Thread Cert.EmbedRefIdeal.nD Cert.EmbedRefIdeal.τ).loc Cert.EmbedRefIdeal.main_arg1) = m ((c.tc : Thread Cert.EmbedRefIdeal.nD Cert.EmbedRefIdeal.τ).loc Cert.EmbedRefIdeal.main_arg1))
      ∧ r.2.sem = fun _ => 0)

def quiescent_EmbedWeight [hEmbedWeight : Cert.EmbedWeight.Facts] : Prop :=
  ∀ (m : (ℓ : Loc Cert.EmbedWeight.nD Cert.EmbedWeight.τ Cert.EmbedWeight.sig) → Buf (Elt Bits) ℓ) (g : Dev Cert.EmbedWeight.nD → PrngReg), Pre_EmbedWeight m →
    θ_run (Cert.EmbedWeight.defs (F := Bits)) (onTc (τ := Cert.EmbedWeight.τ) (Cert.EmbedWeight.main (F := Bits))) ⟨m, fun _ => 0, g⟩ (fun r => (∀ c : Dev Cert.EmbedWeight.nD,
      r.2.mem ((c.tc : Thread Cert.EmbedWeight.nD Cert.EmbedWeight.τ).loc Cert.EmbedWeight.main_arg0) = m ((c.tc : Thread Cert.EmbedWeight.nD Cert.EmbedWeight.τ).loc Cert.EmbedWeight.main_arg0)
      ∧ r.2.mem ((c.tc : Thread Cert.EmbedWeight.nD Cert.EmbedWeight.τ).loc Cert.EmbedWeight.main_arg1) = m ((c.tc : Thread Cert.EmbedWeight.nD Cert.EmbedWeight.τ).loc Cert.EmbedWeight.main_arg1))
      ∧ r.2.sem = fun _ => 0)

def quiescent_EmbedWeightIdeal [hEmbedWeightIdeal : Cert.EmbedWeightIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg), Pre_EmbedWeightIdeal m →
    θ_run (Cert.EmbedWeightIdeal.defs (F := Ideal)) (onTc (τ := Cert.EmbedWeightIdeal.τ) (Cert.EmbedWeightIdeal.main (F := Ideal))) ⟨m, fun _ => 0, g⟩ (fun r => (∀ c : Dev Cert.EmbedWeightIdeal.nD,
      r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
      ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1))
      ∧ r.2.sem = fun _ => 0)

def quiescent_EmbedWeightRefIdeal [hEmbedWeightRefIdeal : Cert.EmbedWeightRefIdeal.Facts] : Prop :=
  ∀ (m : (ℓ : Loc Cert.EmbedWeightRefIdeal.nD Cert.EmbedWeightRefIdeal.τ Cert.EmbedWeightRefIdeal.sig) → Buf (Elt Ideal) ℓ) (g : Dev Cert.EmbedWeightRefIdeal.nD → PrngReg), Pre_EmbedWeightRefIdeal m →
    θ_run (Cert.EmbedWeightRefIdeal.defs (F := Ideal)) (onTc (τ := Cert.EmbedWeightRefIdeal.τ) (Cert.EmbedWeightRefIdeal.main (F := Ideal))) ⟨m, fun _ => 0, g⟩ (fun r => (∀ c : Dev Cert.EmbedWeightRefIdeal.nD,
      r.2.mem ((c.tc : Thread Cert.EmbedWeightRefIdeal.nD Cert.EmbedWeightRefIdeal.τ).loc Cert.EmbedWeightRefIdeal.main_arg0) = m ((c.tc : Thread Cert.EmbedWeightRefIdeal.nD Cert.EmbedWeightRefIdeal.τ).loc Cert.EmbedWeightRefIdeal.main_arg0)
      ∧ r.2.mem ((c.tc : Thread Cert.EmbedWeightRefIdeal.nD Cert.EmbedWeightRefIdeal.τ).loc Cert.EmbedWeightRefIdeal.main_arg1) = m ((c.tc : Thread Cert.EmbedWeightRefIdeal.nD Cert.EmbedWeightRefIdeal.τ).loc Cert.EmbedWeightRefIdeal.main_arg1))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutRefIdeal [hUpdateOutRefIdeal : Cert.UpdateOutRefIdeal.Facts] : Prop :=
  ∀ (m : (ℓ : Loc Cert.UpdateOutRefIdeal.nD Cert.UpdateOutRefIdeal.τ Cert.UpdateOutRefIdeal.sig) → Buf (Elt Ideal) ℓ) (g : Dev Cert.UpdateOutRefIdeal.nD → PrngReg), Pre_UpdateOutRefIdeal m →
    θ_run (Cert.UpdateOutRefIdeal.defs (F := Ideal)) (onTc (τ := Cert.UpdateOutRefIdeal.τ) (Cert.UpdateOutRefIdeal.main (F := Ideal))) ⟨m, fun _ => 0, g⟩ (fun r => (∀ c : Dev Cert.UpdateOutRefIdeal.nD,
      r.2.mem ((c.tc : Thread Cert.UpdateOutRefIdeal.nD Cert.UpdateOutRefIdeal.τ).loc Cert.UpdateOutRefIdeal.main_arg0) = m ((c.tc : Thread Cert.UpdateOutRefIdeal.nD Cert.UpdateOutRefIdeal.τ).loc Cert.UpdateOutRefIdeal.main_arg0)
      ∧ r.2.mem ((c.tc : Thread Cert.UpdateOutRefIdeal.nD Cert.UpdateOutRefIdeal.τ).loc Cert.UpdateOutRefIdeal.main_arg1) = m ((c.tc : Thread Cert.UpdateOutRefIdeal.nD Cert.UpdateOutRefIdeal.τ).loc Cert.UpdateOutRefIdeal.main_arg1)
      ∧ r.2.mem ((c.tc : Thread Cert.UpdateOutRefIdeal.nD Cert.UpdateOutRefIdeal.τ).loc Cert.UpdateOutRefIdeal.main_arg2) = m ((c.tc : Thread Cert.UpdateOutRefIdeal.nD Cert.UpdateOutRefIdeal.τ).loc Cert.UpdateOutRefIdeal.main_arg2)
      ∧ r.2.mem ((c.tc : Thread Cert.UpdateOutRefIdeal.nD Cert.UpdateOutRefIdeal.τ).loc Cert.UpdateOutRefIdeal.main_arg3) = m ((c.tc : Thread Cert.UpdateOutRefIdeal.nD Cert.UpdateOutRefIdeal.τ).loc Cert.UpdateOutRefIdeal.main_arg3))
      ∧ r.2.sem = fun _ => 0)

def quiescent_UpdateEmbed [hUpdateEmbed : Cert.UpdateEmbed.Facts] : Prop :=
  ∀ (m : (ℓ : Loc Cert.UpdateEmbed.nD Cert.UpdateEmbed.τ Cert.UpdateEmbed.sig) → Buf (Elt Bits) ℓ) (g : Dev Cert.UpdateEmbed.nD → PrngReg), Pre_UpdateEmbed m →
    θ_run (Cert.UpdateEmbed.defs (F := Bits)) (onTc (τ := Cert.UpdateEmbed.τ) (Cert.UpdateEmbed.main (F := Bits))) ⟨m, fun _ => 0, g⟩ (fun r => (∀ c : Dev Cert.UpdateEmbed.nD,
      r.2.mem ((c.tc : Thread Cert.UpdateEmbed.nD Cert.UpdateEmbed.τ).loc Cert.UpdateEmbed.main_arg0) = m ((c.tc : Thread Cert.UpdateEmbed.nD Cert.UpdateEmbed.τ).loc Cert.UpdateEmbed.main_arg0)
      ∧ r.2.mem ((c.tc : Thread Cert.UpdateEmbed.nD Cert.UpdateEmbed.τ).loc Cert.UpdateEmbed.main_arg1) = m ((c.tc : Thread Cert.UpdateEmbed.nD Cert.UpdateEmbed.τ).loc Cert.UpdateEmbed.main_arg1)
      ∧ r.2.mem ((c.tc : Thread Cert.UpdateEmbed.nD Cert.UpdateEmbed.τ).loc Cert.UpdateEmbed.main_arg2) = m ((c.tc : Thread Cert.UpdateEmbed.nD Cert.UpdateEmbed.τ).loc Cert.UpdateEmbed.main_arg2)
      ∧ r.2.mem ((c.tc : Thread Cert.UpdateEmbed.nD Cert.UpdateEmbed.τ).loc Cert.UpdateEmbed.main_arg3) = m ((c.tc : Thread Cert.UpdateEmbed.nD Cert.UpdateEmbed.τ).loc Cert.UpdateEmbed.main_arg3))
      ∧ r.2.sem = fun _ => 0)

def quiescent_UpdateEmbedIdeal [hUpdateEmbedIdeal : Cert.UpdateEmbedIdeal.Facts] : Prop :=
  ∀ (m : (ℓ : Loc Cert.UpdateEmbedIdeal.nD Cert.UpdateEmbedIdeal.τ Cert.UpdateEmbedIdeal.sig) → Buf (Elt Ideal) ℓ) (g : Dev Cert.UpdateEmbedIdeal.nD → PrngReg), Pre_UpdateEmbedIdeal m →
    θ_run (Cert.UpdateEmbedIdeal.defs (F := Ideal)) (onTc (τ := Cert.UpdateEmbedIdeal.τ) (Cert.UpdateEmbedIdeal.main (F := Ideal))) ⟨m, fun _ => 0, g⟩ (fun r => (∀ c : Dev Cert.UpdateEmbedIdeal.nD,
      r.2.mem ((c.tc : Thread Cert.UpdateEmbedIdeal.nD Cert.UpdateEmbedIdeal.τ).loc Cert.UpdateEmbedIdeal.main_arg0) = m ((c.tc : Thread Cert.UpdateEmbedIdeal.nD Cert.UpdateEmbedIdeal.τ).loc Cert.UpdateEmbedIdeal.main_arg0)
      ∧ r.2.mem ((c.tc : Thread Cert.UpdateEmbedIdeal.nD Cert.UpdateEmbedIdeal.τ).loc Cert.UpdateEmbedIdeal.main_arg1) = m ((c.tc : Thread Cert.UpdateEmbedIdeal.nD Cert.UpdateEmbedIdeal.τ).loc Cert.UpdateEmbedIdeal.main_arg1)
      ∧ r.2.mem ((c.tc : Thread Cert.UpdateEmbedIdeal.nD Cert.UpdateEmbedIdeal.τ).loc Cert.UpdateEmbedIdeal.main_arg2) = m ((c.tc : Thread Cert.UpdateEmbedIdeal.nD Cert.UpdateEmbedIdeal.τ).loc Cert.UpdateEmbedIdeal.main_arg2)
      ∧ r.2.mem ((c.tc : Thread Cert.UpdateEmbedIdeal.nD Cert.UpdateEmbedIdeal.τ).loc Cert.UpdateEmbedIdeal.main_arg3) = m ((c.tc : Thread Cert.UpdateEmbedIdeal.nD Cert.UpdateEmbedIdeal.τ).loc Cert.UpdateEmbedIdeal.main_arg3))
      ∧ r.2.sem = fun _ => 0)

def quiescent_UpdateEmbedRefIdeal [hUpdateEmbedRefIdeal : Cert.UpdateEmbedRefIdeal.Facts] : Prop :=
  ∀ (m : (ℓ : Loc Cert.UpdateEmbedRefIdeal.nD Cert.UpdateEmbedRefIdeal.τ Cert.UpdateEmbedRefIdeal.sig) → Buf (Elt Ideal) ℓ) (g : Dev Cert.UpdateEmbedRefIdeal.nD → PrngReg), Pre_UpdateEmbedRefIdeal m →
    θ_run (Cert.UpdateEmbedRefIdeal.defs (F := Ideal)) (onTc (τ := Cert.UpdateEmbedRefIdeal.τ) (Cert.UpdateEmbedRefIdeal.main (F := Ideal))) ⟨m, fun _ => 0, g⟩ (fun r => (∀ c : Dev Cert.UpdateEmbedRefIdeal.nD,
      r.2.mem ((c.tc : Thread Cert.UpdateEmbedRefIdeal.nD Cert.UpdateEmbedRefIdeal.τ).loc Cert.UpdateEmbedRefIdeal.main_arg0) = m ((c.tc : Thread Cert.UpdateEmbedRefIdeal.nD Cert.UpdateEmbedRefIdeal.τ).loc Cert.UpdateEmbedRefIdeal.main_arg0)
      ∧ r.2.mem ((c.tc : Thread Cert.UpdateEmbedRefIdeal.nD Cert.UpdateEmbedRefIdeal.τ).loc Cert.UpdateEmbedRefIdeal.main_arg1) = m ((c.tc : Thread Cert.UpdateEmbedRefIdeal.nD Cert.UpdateEmbedRefIdeal.τ).loc Cert.UpdateEmbedRefIdeal.main_arg1)
      ∧ r.2.mem ((c.tc : Thread Cert.UpdateEmbedRefIdeal.nD Cert.UpdateEmbedRefIdeal.τ).loc Cert.UpdateEmbedRefIdeal.main_arg2) = m ((c.tc : Thread Cert.UpdateEmbedRefIdeal.nD Cert.UpdateEmbedRefIdeal.τ).loc Cert.UpdateEmbedRefIdeal.main_arg2)
      ∧ r.2.mem ((c.tc : Thread Cert.UpdateEmbedRefIdeal.nD Cert.UpdateEmbedRefIdeal.τ).loc Cert.UpdateEmbedRefIdeal.main_arg3) = m ((c.tc : Thread Cert.UpdateEmbedRefIdeal.nD Cert.UpdateEmbedRefIdeal.τ).loc Cert.UpdateEmbedRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v2)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v2) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v4) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_UpWeight_UpWeightIdeal : Prop :=
  True

def algebraic_UpWeightIdeal_UpWeightRefIdeal [hUpWeightIdeal : Cert.UpWeightIdeal.Facts] [hUpWeightRefIdeal : Cert.UpWeightRefIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightRefIdeal.nD Cert.UpWeightRefIdeal.τ Cert.UpWeightRefIdeal.sig) → Buf (Elt Ideal) ℓ) (g' : Dev Cert.UpWeightRefIdeal.nD → PrngReg), Pre_UpWeightIdeal m →
    (∀ c : Dev Cert.UpWeightIdeal.nD,
      m' ((c.tc : Thread Cert.UpWeightRefIdeal.nD Cert.UpWeightRefIdeal.τ).loc Cert.UpWeightRefIdeal.main_arg0) = m ((c.tc : Thread Cert.UpWeightIdeal.nD Cert.UpWeightIdeal.τ).loc Cert.UpWeightIdeal.main_arg0)
      ∧ m' ((c.tc : Thread Cert.UpWeightRefIdeal.nD Cert.UpWeightRefIdeal.τ).loc Cert.UpWeightRefIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v2)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v2) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightRefIdeal.defs (F := Ideal)) (onTc (τ := Cert.UpWeightRefIdeal.τ) (Cert.UpWeightRefIdeal.main (F := Ideal))) ⟨m', fun _ => 0, g'⟩ (fun r => ∀ c : Dev Cert.UpWeightRefIdeal.nD,
          r.2.mem ((c.tc : Thread Cert.UpWeightRefIdeal.nD Cert.UpWeightRefIdeal.τ).loc Cert.UpWeightRefIdeal.main_v13) = v0 c
          ∧ r.2.mem ((c.tc : Thread Cert.UpWeightRefIdeal.nD Cert.UpWeightRefIdeal.τ).loc Cert.UpWeightRefIdeal.main_arg0) = m' ((c.tc : Thread Cert.UpWeightRefIdeal.nD Cert.UpWeightRefIdeal.τ).loc Cert.UpWeightRefIdeal.main_arg0)
          ∧ r.2.mem ((c.tc : Thread Cert.UpWeightRefIdeal.nD Cert.UpWeightRefIdeal.τ).loc Cert.UpWeightRefIdeal.main_arg1) = m' ((c.tc : Thread Cert.UpWeightRefIdeal.nD Cert.UpWeightRefIdeal.τ).loc Cert.UpWeightRefIdeal.main_arg1))

def preserves_UpInput_UpInputIdeal : Prop :=
  True

def algebraic_UpInputIdeal_UpInputRefIdeal [hUpInputIdeal : Cert.UpInputIdeal.Facts] [hUpInputRefIdeal : Cert.UpInputRefIdeal.Facts] : Prop :=
  ∀ (m : (ℓ : Loc Cert.UpInputIdeal.nD Cert.UpInputIdeal.τ Cert.UpInputIdeal.sig) → Buf (Elt Ideal) ℓ) (g : Dev Cert.UpInputIdeal.nD → PrngReg)
    (m' : (ℓ : Loc Cert.UpInputRefIdeal.nD Cert.UpInputRefIdeal.τ Cert.UpInputRefIdeal.sig) → Buf (Elt Ideal) ℓ) (g' : Dev Cert.UpInputRefIdeal.nD → PrngReg), Pre_UpInputIdeal m →
    (∀ c : Dev Cert.UpInputIdeal.nD,
      m' ((c.tc : Thread Cert.UpInputRefIdeal.nD Cert.UpInputRefIdeal.τ).loc Cert.UpInputRefIdeal.main_arg0) = m ((c.tc : Thread Cert.UpInputIdeal.nD Cert.UpInputIdeal.τ).loc Cert.UpInputIdeal.main_arg0)
      ∧ m' ((c.tc : Thread Cert.UpInputRefIdeal.nD Cert.UpInputRefIdeal.τ).loc Cert.UpInputRefIdeal.main_arg1) = m ((c.tc : Thread Cert.UpInputIdeal.nD Cert.UpInputIdeal.τ).loc Cert.UpInputIdeal.main_arg1)) →
    ∃ (v0 : (c : Dev Cert.UpInputIdeal.nD) → Buf (Elt Ideal) ((c.tc : Thread Cert.UpInputIdeal.nD Cert.UpInputIdeal.τ).loc Cert.UpInputIdeal.main_v4)),
      θ_run (Cert.UpInputIdeal.defs (F := Ideal)) (onTc (τ := Cert.UpInputIdeal.τ) (Cert.UpInputIdeal.main (F := Ideal))) ⟨m, fun _ => 0, g⟩ (fun r => ∀ c : Dev Cert.UpInputIdeal.nD,
          r.2.mem ((c.tc : Thread Cert.UpInputIdeal.nD Cert.UpInputIdeal.τ).loc Cert.UpInputIdeal.main_v4) = v0 c
          ∧ r.2.mem ((c.tc : Thread Cert.UpInputIdeal.nD Cert.UpInputIdeal.τ).loc Cert.UpInputIdeal.main_arg0) = m ((c.tc : Thread Cert.UpInputIdeal.nD Cert.UpInputIdeal.τ).loc Cert.UpInputIdeal.main_arg0)
          ∧ r.2.mem ((c.tc : Thread Cert.UpInputIdeal.nD Cert.UpInputIdeal.τ).loc Cert.UpInputIdeal.main_arg1) = m ((c.tc : Thread Cert.UpInputIdeal.nD Cert.UpInputIdeal.τ).loc Cert.UpInputIdeal.main_arg1))
      ∧ θ_run (Cert.UpInputRefIdeal.defs (F := Ideal)) (onTc (τ := Cert.UpInputRefIdeal.τ) (Cert.UpInputRefIdeal.main (F := Ideal))) ⟨m', fun _ => 0, g'⟩ (fun r => ∀ c : Dev Cert.UpInputRefIdeal.nD,
          r.2.mem ((c.tc : Thread Cert.UpInputRefIdeal.nD Cert.UpInputRefIdeal.τ).loc Cert.UpInputRefIdeal.main_v2) = v0 c
          ∧ r.2.mem ((c.tc : Thread Cert.UpInputRefIdeal.nD Cert.UpInputRefIdeal.τ).loc Cert.UpInputRefIdeal.main_arg0) = m' ((c.tc : Thread Cert.UpInputRefIdeal.nD Cert.UpInputRefIdeal.τ).loc Cert.UpInputRefIdeal.main_arg0)
          ∧ r.2.mem ((c.tc : Thread Cert.UpInputRefIdeal.nD Cert.UpInputRefIdeal.τ).loc Cert.UpInputRefIdeal.main_arg1) = m' ((c.tc : Thread Cert.UpInputRefIdeal.nD Cert.UpInputRefIdeal.τ).loc Cert.UpInputRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v4) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v1) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)) (v2 : (c : Dev Cert.NormBackIdeal.nD) → Buf (Elt Ideal) ((c.tc : Thread Cert.NormBackIdeal.nD Cert.NormBackIdeal.τ).loc Cert.NormBackIdeal.main_v0_2)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_v0_2) = v2 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v34) = v0 c
          ∧ r.2.mem ((c.tc : Thread Cert.NormBackRefIdeal.nD Cert.NormBackRefIdeal.τ).loc Cert.NormBackRefIdeal.main_v36) = v1 c
          ∧ r.2.mem ((c.tc : Thread Cert.NormBackRefIdeal.nD Cert.NormBackRefIdeal.τ).loc Cert.NormBackRefIdeal.main_v17) = v2 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)) →
    ∃ (v0 : (c : Dev Cert.TailIdeal.nD) → Buf (Elt Ideal) ((c.tc : Thread Cert.TailIdeal.nD Cert.TailIdeal.τ).loc Cert.TailIdeal.main_v6_0)) (v1 : (c : Dev Cert.TailIdeal.nD) → Buf (Elt Ideal) ((c.tc : Thread Cert.TailIdeal.nD Cert.TailIdeal.τ).loc Cert.TailIdeal.main_v6_1)) (v2 : (c : Dev Cert.TailIdeal.nD) → Buf (Elt Ideal) ((c.tc : Thread Cert.TailIdeal.nD Cert.TailIdeal.τ).loc Cert.TailIdeal.main_v6_2)) (v3 : (c : Dev Cert.TailIdeal.nD) → Buf (Elt Ideal) ((c.tc : Thread Cert.TailIdeal.nD Cert.TailIdeal.τ).loc Cert.TailIdeal.main_v6_3)) (v4 : (c : Dev Cert.TailIdeal.nD) → Buf (Elt Ideal) ((c.tc : Thread Cert.TailIdeal.nD Cert.TailIdeal.τ).loc Cert.TailIdeal.main_v6_4)) (v5 : (c : Dev Cert.TailIdeal.nD) → Buf (Elt Ideal) ((c.tc : Thread Cert.TailIdeal.nD Cert.TailIdeal.τ).loc Cert.TailIdeal.main_v6_5)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v6_0) = v0 c
          ∧ r.2.mem ((c.tc : Thread Cert.TailIdeal.nD Cert.TailIdeal.τ).loc Cert.TailIdeal.main_v6_1) = v1 c
          ∧ r.2.mem ((c.tc : Thread Cert.TailIdeal.nD Cert.TailIdeal.τ).loc Cert.TailIdeal.main_v6_2) = v2 c
          ∧ r.2.mem ((c.tc : Thread Cert.TailIdeal.nD Cert.TailIdeal.τ).loc Cert.TailIdeal.main_v6_3) = v3 c
          ∧ r.2.mem ((c.tc : Thread Cert.TailIdeal.nD Cert.TailIdeal.τ).loc Cert.TailIdeal.main_v6_4) = v4 c
          ∧ r.2.mem ((c.tc : Thread Cert.TailIdeal.nD Cert.TailIdeal.τ).loc Cert.TailIdeal.main_v6_5) = v5 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v74) = v0 c
          ∧ r.2.mem ((c.tc : Thread Cert.TailRefIdeal.nD Cert.TailRefIdeal.τ).loc Cert.TailRefIdeal.main_v97) = v1 c
          ∧ r.2.mem ((c.tc : Thread Cert.TailRefIdeal.nD Cert.TailRefIdeal.τ).loc Cert.TailRefIdeal.main_v98) = v2 c
          ∧ r.2.mem ((c.tc : Thread Cert.TailRefIdeal.nD Cert.TailRefIdeal.τ).loc Cert.TailRefIdeal.main_v58) = v3 c
          ∧ r.2.mem ((c.tc : Thread Cert.TailRefIdeal.nD Cert.TailRefIdeal.τ).loc Cert.TailRefIdeal.main_v79) = v4 c
          ∧ r.2.mem ((c.tc : Thread Cert.TailRefIdeal.nD Cert.TailRefIdeal.τ).loc Cert.TailRefIdeal.main_v99) = v5 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5))

def preserves_GateInput_GateInputIdeal : Prop :=
  True

def algebraic_GateInputIdeal_GateInputRefIdeal [hGateInputIdeal : Cert.GateInputIdeal.Facts] [hGateInputRefIdeal : Cert.GateInputRefIdeal.Facts] : Prop :=
  ∀ (m : (ℓ : Loc Cert.GateInputIdeal.nD Cert.GateInputIdeal.τ Cert.GateInputIdeal.sig) → Buf (Elt Ideal) ℓ) (g : Dev Cert.GateInputIdeal.nD → PrngReg)
    (m' : (ℓ : Loc Cert.GateInputRefIdeal.nD Cert.GateInputRefIdeal.τ Cert.GateInputRefIdeal.sig) → Buf (Elt Ideal) ℓ) (g' : Dev Cert.GateInputRefIdeal.nD → PrngReg), Pre_GateInputIdeal m →
    (∀ c : Dev Cert.GateInputIdeal.nD,
      m' ((c.tc : Thread Cert.GateInputRefIdeal.nD Cert.GateInputRefIdeal.τ).loc Cert.GateInputRefIdeal.main_arg0) = m ((c.tc : Thread Cert.GateInputIdeal.nD Cert.GateInputIdeal.τ).loc Cert.GateInputIdeal.main_arg0)
      ∧ m' ((c.tc : Thread Cert.GateInputRefIdeal.nD Cert.GateInputRefIdeal.τ).loc Cert.GateInputRefIdeal.main_arg1) = m ((c.tc : Thread Cert.GateInputIdeal.nD Cert.GateInputIdeal.τ).loc Cert.GateInputIdeal.main_arg1)) →
    ∃ (v0 : (c : Dev Cert.GateInputIdeal.nD) → Buf (Elt Ideal) ((c.tc : Thread Cert.GateInputIdeal.nD Cert.GateInputIdeal.τ).loc Cert.GateInputIdeal.main_v2)),
      θ_run (Cert.GateInputIdeal.defs (F := Ideal)) (onTc (τ := Cert.GateInputIdeal.τ) (Cert.GateInputIdeal.main (F := Ideal))) ⟨m, fun _ => 0, g⟩ (fun r => ∀ c : Dev Cert.GateInputIdeal.nD,
          r.2.mem ((c.tc : Thread Cert.GateInputIdeal.nD Cert.GateInputIdeal.τ).loc Cert.GateInputIdeal.main_v2) = v0 c
          ∧ r.2.mem ((c.tc : Thread Cert.GateInputIdeal.nD Cert.GateInputIdeal.τ).loc Cert.GateInputIdeal.main_arg0) = m ((c.tc : Thread Cert.GateInputIdeal.nD Cert.GateInputIdeal.τ).loc Cert.GateInputIdeal.main_arg0)
          ∧ r.2.mem ((c.tc : Thread Cert.GateInputIdeal.nD Cert.GateInputIdeal.τ).loc Cert.GateInputIdeal.main_arg1) = m ((c.tc : Thread Cert.GateInputIdeal.nD Cert.GateInputIdeal.τ).loc Cert.GateInputIdeal.main_arg1))
      ∧ θ_run (Cert.GateInputRefIdeal.defs (F := Ideal)) (onTc (τ := Cert.GateInputRefIdeal.τ) (Cert.GateInputRefIdeal.main (F := Ideal))) ⟨m', fun _ => 0, g'⟩ (fun r => ∀ c : Dev Cert.GateInputRefIdeal.nD,
          r.2.mem ((c.tc : Thread Cert.GateInputRefIdeal.nD Cert.GateInputRefIdeal.τ).loc Cert.GateInputRefIdeal.main_v2) = v0 c
          ∧ r.2.mem ((c.tc : Thread Cert.GateInputRefIdeal.nD Cert.GateInputRefIdeal.τ).loc Cert.GateInputRefIdeal.main_arg0) = m' ((c.tc : Thread Cert.GateInputRefIdeal.nD Cert.GateInputRefIdeal.τ).loc Cert.GateInputRefIdeal.main_arg0)
          ∧ r.2.mem ((c.tc : Thread Cert.GateInputRefIdeal.nD Cert.GateInputRefIdeal.τ).loc Cert.GateInputRefIdeal.main_arg1) = m' ((c.tc : Thread Cert.GateInputRefIdeal.nD Cert.GateInputRefIdeal.τ).loc Cert.GateInputRefIdeal.main_arg1))

def preserves_GateWeight_GateWeightIdeal : Prop :=
  True

def algebraic_GateWeightIdeal_GateWeightRefIdeal [hGateWeightIdeal : Cert.GateWeightIdeal.Facts] [hGateWeightRefIdeal : Cert.GateWeightRefIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightRefIdeal.nD Cert.GateWeightRefIdeal.τ Cert.GateWeightRefIdeal.sig) → Buf (Elt Ideal) ℓ) (g' : Dev Cert.GateWeightRefIdeal.nD → PrngReg), Pre_GateWeightIdeal m →
    (∀ c : Dev Cert.GateWeightIdeal.nD,
      m' ((c.tc : Thread Cert.GateWeightRefIdeal.nD Cert.GateWeightRefIdeal.τ).loc Cert.GateWeightRefIdeal.main_arg0) = m ((c.tc : Thread Cert.GateWeightIdeal.nD Cert.GateWeightIdeal.τ).loc Cert.GateWeightIdeal.main_arg0)
      ∧ m' ((c.tc : Thread Cert.GateWeightRefIdeal.nD Cert.GateWeightRefIdeal.τ).loc Cert.GateWeightRefIdeal.main_arg1) = m ((c.tc : Thread Cert.GateWeightIdeal.nD Cert.GateWeightIdeal.τ).loc Cert.GateWeightIdeal.main_arg1)) →
    ∃ (v0 : (c : Dev Cert.GateWeightIdeal.nD) → Buf (Elt Ideal) ((c.tc : Thread Cert.GateWeightIdeal.nD Cert.GateWeightIdeal.τ).loc Cert.GateWeightIdeal.main_v2)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v2) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ θ_run (Cert.GateWeightRefIdeal.defs (F := Ideal)) (onTc (τ := Cert.GateWeightRefIdeal.τ) (Cert.GateWeightRefIdeal.main (F := Ideal))) ⟨m', fun _ => 0, g'⟩ (fun r => ∀ c : Dev Cert.GateWeightRefIdeal.nD,
          r.2.mem ((c.tc : Thread Cert.GateWeightRefIdeal.nD Cert.GateWeightRefIdeal.τ).loc Cert.GateWeightRefIdeal.main_v4) = v0 c
          ∧ r.2.mem ((c.tc : Thread Cert.GateWeightRefIdeal.nD Cert.GateWeightRefIdeal.τ).loc Cert.GateWeightRefIdeal.main_arg0) = m' ((c.tc : Thread Cert.GateWeightRefIdeal.nD Cert.GateWeightRefIdeal.τ).loc Cert.GateWeightRefIdeal.main_arg0)
          ∧ r.2.mem ((c.tc : Thread Cert.GateWeightRefIdeal.nD Cert.GateWeightRefIdeal.τ).loc Cert.GateWeightRefIdeal.main_arg1) = m' ((c.tc : Thread Cert.GateWeightRefIdeal.nD Cert.GateWeightRefIdeal.τ).loc Cert.GateWeightRefIdeal.main_arg1))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v2)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v2) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v13) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v1) = v0 c
          ∧ r.2.mem ((c.tc : Thread Cert.OutRefIdeal.nD Cert.OutRefIdeal.τ).loc Cert.OutRefIdeal.main_v14) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v4) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v0) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_Attend_AttendIdeal : Prop :=
  True

def algebraic_AttendIdeal_AttendRefIdeal_pre_finite_projection [hAttendIdeal : Cert.AttendIdeal.Facts] [hAttendRefIdeal : Cert.AttendRefIdeal.Facts] [hPre_finite_projection : Cert.Pre_finite_projection.Facts] : Prop :=
  ∀ (m : (ℓ : Loc Cert.AttendIdeal.nD Cert.AttendIdeal.τ Cert.AttendIdeal.sig) → Buf (Elt Ideal) ℓ) (g : Dev Cert.AttendIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttendIdeal_finite_projection m →
    (∀ c : Dev Cert.AttendIdeal.nD,
      m' ((c.tc : Thread Cert.AttendRefIdeal.nD Cert.AttendRefIdeal.τ).loc Cert.AttendRefIdeal.main_arg0) = m ((c.tc : Thread Cert.AttendIdeal.nD Cert.AttendIdeal.τ).loc Cert.AttendIdeal.main_arg0)) →
    ∃ (v0 : (c : Dev Cert.AttendIdeal.nD) → Buf (Elt Ideal) ((c.tc : Thread Cert.AttendIdeal.nD Cert.AttendIdeal.τ).loc Cert.AttendIdeal.main_v10)) (v1 : (c : Dev Cert.AttendIdeal.nD) → Buf (Elt Ideal) ((c.tc : Thread Cert.AttendIdeal.nD Cert.AttendIdeal.τ).loc Cert.AttendIdeal.main_v9_1)),
      θ_run (Cert.AttendIdeal.defs (F := Ideal)) (onTc (τ := Cert.AttendIdeal.τ) (Cert.AttendIdeal.main (F := Ideal))) ⟨m, fun _ => 0, g⟩ (fun r => ∀ c : Dev Cert.AttendIdeal.nD,
          r.2.mem ((c.tc : Thread Cert.AttendIdeal.nD Cert.AttendIdeal.τ).loc Cert.AttendIdeal.main_v10) = v0 c
          ∧ r.2.mem ((c.tc : Thread Cert.AttendIdeal.nD Cert.AttendIdeal.τ).loc Cert.AttendIdeal.main_v9_1) = v1 c
          ∧ r.2.mem ((c.tc : Thread Cert.AttendIdeal.nD Cert.AttendIdeal.τ).loc Cert.AttendIdeal.main_arg0) = m ((c.tc : Thread Cert.AttendIdeal.nD Cert.AttendIdeal.τ).loc Cert.AttendIdeal.main_arg0))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v41) = v0 c
          ∧ r.2.mem ((c.tc : Thread Cert.AttendRefIdeal.nD Cert.AttendRefIdeal.τ).loc Cert.AttendRefIdeal.main_v43) = v1 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)) →
    ∃ (v0 : (c : Dev Cert.UpdateIdeal.nD) → Buf (Elt Ideal) ((c.tc : Thread Cert.UpdateIdeal.nD Cert.UpdateIdeal.τ).loc Cert.UpdateIdeal.main_v1_0)) (v1 : (c : Dev Cert.UpdateIdeal.nD) → Buf (Elt Ideal) ((c.tc : Thread Cert.UpdateIdeal.nD Cert.UpdateIdeal.τ).loc Cert.UpdateIdeal.main_v1_1)) (v2 : (c : Dev Cert.UpdateIdeal.nD) → Buf (Elt Ideal) ((c.tc : Thread Cert.UpdateIdeal.nD Cert.UpdateIdeal.τ).loc Cert.UpdateIdeal.main_v1_2)) (v3 : (c : Dev Cert.UpdateIdeal.nD) → Buf (Elt Ideal) ((c.tc : Thread Cert.UpdateIdeal.nD Cert.UpdateIdeal.τ).loc Cert.UpdateIdeal.main_v1_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v1_0) = v0 c
          ∧ r.2.mem ((c.tc : Thread Cert.UpdateIdeal.nD Cert.UpdateIdeal.τ).loc Cert.UpdateIdeal.main_v1_1) = v1 c
          ∧ r.2.mem ((c.tc : Thread Cert.UpdateIdeal.nD Cert.UpdateIdeal.τ).loc Cert.UpdateIdeal.main_v1_2) = v2 c
          ∧ r.2.mem ((c.tc : Thread Cert.UpdateIdeal.nD Cert.UpdateIdeal.τ).loc Cert.UpdateIdeal.main_v1_3) = v3 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v0) = v0 c
          ∧ r.2.mem ((c.tc : Thread Cert.UpdateRefIdeal.nD Cert.UpdateRefIdeal.τ).loc Cert.UpdateRefIdeal.main_v24) = v1 c
          ∧ r.2.mem ((c.tc : Thread Cert.UpdateRefIdeal.nD Cert.UpdateRefIdeal.τ).loc Cert.UpdateRefIdeal.main_v5) = v2 c
          ∧ r.2.mem ((c.tc : Thread Cert.UpdateRefIdeal.nD Cert.UpdateRefIdeal.τ).loc Cert.UpdateRefIdeal.main_v11) = v3 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3))

def preserves_UpdateSmall_UpdateSmallIdeal : Prop :=
  True

def algebraic_UpdateSmallIdeal_UpdateSmallRefIdeal [hUpdateSmallIdeal : Cert.UpdateSmallIdeal.Facts] [hUpdateSmallRefIdeal : Cert.UpdateSmallRefIdeal.Facts] : Prop :=
  ∀ (m : (ℓ : Loc Cert.UpdateSmallIdeal.nD Cert.UpdateSmallIdeal.τ Cert.UpdateSmallIdeal.sig) → Buf (Elt Ideal) ℓ) (g : Dev Cert.UpdateSmallIdeal.nD → PrngReg)
    (m' : (ℓ : Loc Cert.UpdateSmallRefIdeal.nD Cert.UpdateSmallRefIdeal.τ Cert.UpdateSmallRefIdeal.sig) → Buf (Elt Ideal) ℓ) (g' : Dev Cert.UpdateSmallRefIdeal.nD → PrngReg), Pre_UpdateSmallIdeal m →
    (∀ c : Dev Cert.UpdateSmallIdeal.nD,
      m' ((c.tc : Thread Cert.UpdateSmallRefIdeal.nD Cert.UpdateSmallRefIdeal.τ).loc Cert.UpdateSmallRefIdeal.main_arg0) = m ((c.tc : Thread Cert.UpdateSmallIdeal.nD Cert.UpdateSmallIdeal.τ).loc Cert.UpdateSmallIdeal.main_arg0)
      ∧ m' ((c.tc : Thread Cert.UpdateSmallRefIdeal.nD Cert.UpdateSmallRefIdeal.τ).loc Cert.UpdateSmallRefIdeal.main_arg1) = m ((c.tc : Thread Cert.UpdateSmallIdeal.nD Cert.UpdateSmallIdeal.τ).loc Cert.UpdateSmallIdeal.main_arg1)
      ∧ m' ((c.tc : Thread Cert.UpdateSmallRefIdeal.nD Cert.UpdateSmallRefIdeal.τ).loc Cert.UpdateSmallRefIdeal.main_arg2) = m ((c.tc : Thread Cert.UpdateSmallIdeal.nD Cert.UpdateSmallIdeal.τ).loc Cert.UpdateSmallIdeal.main_arg2)
      ∧ m' ((c.tc : Thread Cert.UpdateSmallRefIdeal.nD Cert.UpdateSmallRefIdeal.τ).loc Cert.UpdateSmallRefIdeal.main_arg3) = m ((c.tc : Thread Cert.UpdateSmallIdeal.nD Cert.UpdateSmallIdeal.τ).loc Cert.UpdateSmallIdeal.main_arg3)) →
    ∃ (v0 : (c : Dev Cert.UpdateSmallIdeal.nD) → Buf (Elt Ideal) ((c.tc : Thread Cert.UpdateSmallIdeal.nD Cert.UpdateSmallIdeal.τ).loc Cert.UpdateSmallIdeal.main_v0_0)) (v1 : (c : Dev Cert.UpdateSmallIdeal.nD) → Buf (Elt Ideal) ((c.tc : Thread Cert.UpdateSmallIdeal.nD Cert.UpdateSmallIdeal.τ).loc Cert.UpdateSmallIdeal.main_v0_1)) (v2 : (c : Dev Cert.UpdateSmallIdeal.nD) → Buf (Elt Ideal) ((c.tc : Thread Cert.UpdateSmallIdeal.nD Cert.UpdateSmallIdeal.τ).loc Cert.UpdateSmallIdeal.main_v0_2)),
      θ_run (Cert.UpdateSmallIdeal.defs (F := Ideal)) (onTc (τ := Cert.UpdateSmallIdeal.τ) (Cert.UpdateSmallIdeal.main (F := Ideal))) ⟨m, fun _ => 0, g⟩ (fun r => ∀ c : Dev Cert.UpdateSmallIdeal.nD,
          r.2.mem ((c.tc : Thread Cert.UpdateSmallIdeal.nD Cert.UpdateSmallIdeal.τ).loc Cert.UpdateSmallIdeal.main_v0_0) = v0 c
          ∧ r.2.mem ((c.tc : Thread Cert.UpdateSmallIdeal.nD Cert.UpdateSmallIdeal.τ).loc Cert.UpdateSmallIdeal.main_v0_1) = v1 c
          ∧ r.2.mem ((c.tc : Thread Cert.UpdateSmallIdeal.nD Cert.UpdateSmallIdeal.τ).loc Cert.UpdateSmallIdeal.main_v0_2) = v2 c
          ∧ r.2.mem ((c.tc : Thread Cert.UpdateSmallIdeal.nD Cert.UpdateSmallIdeal.τ).loc Cert.UpdateSmallIdeal.main_arg0) = m ((c.tc : Thread Cert.UpdateSmallIdeal.nD Cert.UpdateSmallIdeal.τ).loc Cert.UpdateSmallIdeal.main_arg0)
          ∧ r.2.mem ((c.tc : Thread Cert.UpdateSmallIdeal.nD Cert.UpdateSmallIdeal.τ).loc Cert.UpdateSmallIdeal.main_arg1) = m ((c.tc : Thread Cert.UpdateSmallIdeal.nD Cert.UpdateSmallIdeal.τ).loc Cert.UpdateSmallIdeal.main_arg1)
          ∧ r.2.mem ((c.tc : Thread Cert.UpdateSmallIdeal.nD Cert.UpdateSmallIdeal.τ).loc Cert.UpdateSmallIdeal.main_arg2) = m ((c.tc : Thread Cert.UpdateSmallIdeal.nD Cert.UpdateSmallIdeal.τ).loc Cert.UpdateSmallIdeal.main_arg2)
          ∧ r.2.mem ((c.tc : Thread Cert.UpdateSmallIdeal.nD Cert.UpdateSmallIdeal.τ).loc Cert.UpdateSmallIdeal.main_arg3) = m ((c.tc : Thread Cert.UpdateSmallIdeal.nD Cert.UpdateSmallIdeal.τ).loc Cert.UpdateSmallIdeal.main_arg3))
      ∧ θ_run (Cert.UpdateSmallRefIdeal.defs (F := Ideal)) (onTc (τ := Cert.UpdateSmallRefIdeal.τ) (Cert.UpdateSmallRefIdeal.main (F := Ideal))) ⟨m', fun _ => 0, g'⟩ (fun r => ∀ c : Dev Cert.UpdateSmallRefIdeal.nD,
          r.2.mem ((c.tc : Thread Cert.UpdateSmallRefIdeal.nD Cert.UpdateSmallRefIdeal.τ).loc Cert.UpdateSmallRefIdeal.main_v23) = v0 c
          ∧ r.2.mem ((c.tc : Thread Cert.UpdateSmallRefIdeal.nD Cert.UpdateSmallRefIdeal.τ).loc Cert.UpdateSmallRefIdeal.main_v4) = v1 c
          ∧ r.2.mem ((c.tc : Thread Cert.UpdateSmallRefIdeal.nD Cert.UpdateSmallRefIdeal.τ).loc Cert.UpdateSmallRefIdeal.main_v10) = v2 c
          ∧ r.2.mem ((c.tc : Thread Cert.UpdateSmallRefIdeal.nD Cert.UpdateSmallRefIdeal.τ).loc Cert.UpdateSmallRefIdeal.main_arg0) = m' ((c.tc : Thread Cert.UpdateSmallRefIdeal.nD Cert.UpdateSmallRefIdeal.τ).loc Cert.UpdateSmallRefIdeal.main_arg0)
          ∧ r.2.mem ((c.tc : Thread Cert.UpdateSmallRefIdeal.nD Cert.UpdateSmallRefIdeal.τ).loc Cert.UpdateSmallRefIdeal.main_arg1) = m' ((c.tc : Thread Cert.UpdateSmallRefIdeal.nD Cert.UpdateSmallRefIdeal.τ).loc Cert.UpdateSmallRefIdeal.main_arg1)
          ∧ r.2.mem ((c.tc : Thread Cert.UpdateSmallRefIdeal.nD Cert.UpdateSmallRefIdeal.τ).loc Cert.UpdateSmallRefIdeal.main_arg2) = m' ((c.tc : Thread Cert.UpdateSmallRefIdeal.nD Cert.UpdateSmallRefIdeal.τ).loc Cert.UpdateSmallRefIdeal.main_arg2)
          ∧ r.2.mem ((c.tc : Thread Cert.UpdateSmallRefIdeal.nD Cert.UpdateSmallRefIdeal.τ).loc Cert.UpdateSmallRefIdeal.main_arg3) = m' ((c.tc : Thread Cert.UpdateSmallRefIdeal.nD Cert.UpdateSmallRefIdeal.τ).loc Cert.UpdateSmallRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_InputBack_InputBackIdeal : Prop :=
  True

def algebraic_InputBackIdeal_InputBackRefIdeal [hInputBackIdeal : Cert.InputBackIdeal.Facts] [hInputBackRefIdeal : Cert.InputBackRefIdeal.Facts] : Prop :=
  ∀ (m : (ℓ : Loc Cert.InputBackIdeal.nD Cert.InputBackIdeal.τ Cert.InputBackIdeal.sig) → Buf (Elt Ideal) ℓ) (g : Dev Cert.InputBackIdeal.nD → PrngReg)
    (m' : (ℓ : Loc Cert.InputBackRefIdeal.nD Cert.InputBackRefIdeal.τ Cert.InputBackRefIdeal.sig) → Buf (Elt Ideal) ℓ) (g' : Dev Cert.InputBackRefIdeal.nD → PrngReg), Pre_InputBackIdeal m →
    (∀ c : Dev Cert.InputBackIdeal.nD,
      m' ((c.tc : Thread Cert.InputBackRefIdeal.nD Cert.InputBackRefIdeal.τ).loc Cert.InputBackRefIdeal.main_arg0) = m ((c.tc : Thread Cert.InputBackIdeal.nD Cert.InputBackIdeal.τ).loc Cert.InputBackIdeal.main_arg0)
      ∧ m' ((c.tc : Thread Cert.InputBackRefIdeal.nD Cert.InputBackRefIdeal.τ).loc Cert.InputBackRefIdeal.main_arg1) = m ((c.tc : Thread Cert.InputBackIdeal.nD Cert.InputBackIdeal.τ).loc Cert.InputBackIdeal.main_arg1)
      ∧ m' ((c.tc : Thread Cert.InputBackRefIdeal.nD Cert.InputBackRefIdeal.τ).loc Cert.InputBackRefIdeal.main_arg2) = m ((c.tc : Thread Cert.InputBackIdeal.nD Cert.InputBackIdeal.τ).loc Cert.InputBackIdeal.main_arg2)
      ∧ m' ((c.tc : Thread Cert.InputBackRefIdeal.nD Cert.InputBackRefIdeal.τ).loc Cert.InputBackRefIdeal.main_arg3) = m ((c.tc : Thread Cert.InputBackIdeal.nD Cert.InputBackIdeal.τ).loc Cert.InputBackIdeal.main_arg3)) →
    ∃ (v0 : (c : Dev Cert.InputBackIdeal.nD) → Buf (Elt Ideal) ((c.tc : Thread Cert.InputBackIdeal.nD Cert.InputBackIdeal.τ).loc Cert.InputBackIdeal.main_v0_0)) (v1 : (c : Dev Cert.InputBackIdeal.nD) → Buf (Elt Ideal) ((c.tc : Thread Cert.InputBackIdeal.nD Cert.InputBackIdeal.τ).loc Cert.InputBackIdeal.main_v0_1)),
      θ_run (Cert.InputBackIdeal.defs (F := Ideal)) (onTc (τ := Cert.InputBackIdeal.τ) (Cert.InputBackIdeal.main (F := Ideal))) ⟨m, fun _ => 0, g⟩ (fun r => ∀ c : Dev Cert.InputBackIdeal.nD,
          r.2.mem ((c.tc : Thread Cert.InputBackIdeal.nD Cert.InputBackIdeal.τ).loc Cert.InputBackIdeal.main_v0_0) = v0 c
          ∧ r.2.mem ((c.tc : Thread Cert.InputBackIdeal.nD Cert.InputBackIdeal.τ).loc Cert.InputBackIdeal.main_v0_1) = v1 c
          ∧ r.2.mem ((c.tc : Thread Cert.InputBackIdeal.nD Cert.InputBackIdeal.τ).loc Cert.InputBackIdeal.main_arg0) = m ((c.tc : Thread Cert.InputBackIdeal.nD Cert.InputBackIdeal.τ).loc Cert.InputBackIdeal.main_arg0)
          ∧ r.2.mem ((c.tc : Thread Cert.InputBackIdeal.nD Cert.InputBackIdeal.τ).loc Cert.InputBackIdeal.main_arg1) = m ((c.tc : Thread Cert.InputBackIdeal.nD Cert.InputBackIdeal.τ).loc Cert.InputBackIdeal.main_arg1)
          ∧ r.2.mem ((c.tc : Thread Cert.InputBackIdeal.nD Cert.InputBackIdeal.τ).loc Cert.InputBackIdeal.main_arg2) = m ((c.tc : Thread Cert.InputBackIdeal.nD Cert.InputBackIdeal.τ).loc Cert.InputBackIdeal.main_arg2)
          ∧ r.2.mem ((c.tc : Thread Cert.InputBackIdeal.nD Cert.InputBackIdeal.τ).loc Cert.InputBackIdeal.main_arg3) = m ((c.tc : Thread Cert.InputBackIdeal.nD Cert.InputBackIdeal.τ).loc Cert.InputBackIdeal.main_arg3))
      ∧ θ_run (Cert.InputBackRefIdeal.defs (F := Ideal)) (onTc (τ := Cert.InputBackRefIdeal.τ) (Cert.InputBackRefIdeal.main (F := Ideal))) ⟨m', fun _ => 0, g'⟩ (fun r => ∀ c : Dev Cert.InputBackRefIdeal.nD,
          r.2.mem ((c.tc : Thread Cert.InputBackRefIdeal.nD Cert.InputBackRefIdeal.τ).loc Cert.InputBackRefIdeal.main_v34) = v0 c
          ∧ r.2.mem ((c.tc : Thread Cert.InputBackRefIdeal.nD Cert.InputBackRefIdeal.τ).loc Cert.InputBackRefIdeal.main_v17) = v1 c
          ∧ r.2.mem ((c.tc : Thread Cert.InputBackRefIdeal.nD Cert.InputBackRefIdeal.τ).loc Cert.InputBackRefIdeal.main_arg0) = m' ((c.tc : Thread Cert.InputBackRefIdeal.nD Cert.InputBackRefIdeal.τ).loc Cert.InputBackRefIdeal.main_arg0)
          ∧ r.2.mem ((c.tc : Thread Cert.InputBackRefIdeal.nD Cert.InputBackRefIdeal.τ).loc Cert.InputBackRefIdeal.main_arg1) = m' ((c.tc : Thread Cert.InputBackRefIdeal.nD Cert.InputBackRefIdeal.τ).loc Cert.InputBackRefIdeal.main_arg1)
          ∧ r.2.mem ((c.tc : Thread Cert.InputBackRefIdeal.nD Cert.InputBackRefIdeal.τ).loc Cert.InputBackRefIdeal.main_arg2) = m' ((c.tc : Thread Cert.InputBackRefIdeal.nD Cert.InputBackRefIdeal.τ).loc Cert.InputBackRefIdeal.main_arg2)
          ∧ r.2.mem ((c.tc : Thread Cert.InputBackRefIdeal.nD Cert.InputBackRefIdeal.τ).loc Cert.InputBackRefIdeal.main_arg3) = m' ((c.tc : Thread Cert.InputBackRefIdeal.nD Cert.InputBackRefIdeal.τ).loc Cert.InputBackRefIdeal.main_arg3))

def preserves_Embed_EmbedIdeal : Prop :=
  True

def algebraic_EmbedIdeal_EmbedRefIdeal [hEmbedIdeal : Cert.EmbedIdeal.Facts] [hEmbedRefIdeal : Cert.EmbedRefIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedRefIdeal.nD Cert.EmbedRefIdeal.τ Cert.EmbedRefIdeal.sig) → Buf (Elt Ideal) ℓ) (g' : Dev Cert.EmbedRefIdeal.nD → PrngReg), Pre_EmbedIdeal m →
    (∀ c : Dev Cert.EmbedIdeal.nD,
      m' ((c.tc : Thread Cert.EmbedRefIdeal.nD Cert.EmbedRefIdeal.τ).loc Cert.EmbedRefIdeal.main_arg0) = m ((c.tc : Thread Cert.EmbedIdeal.nD Cert.EmbedIdeal.τ).loc Cert.EmbedIdeal.main_arg0)
      ∧ m' ((c.tc : Thread Cert.EmbedRefIdeal.nD Cert.EmbedRefIdeal.τ).loc Cert.EmbedRefIdeal.main_arg1) = m ((c.tc : Thread Cert.EmbedIdeal.nD Cert.EmbedIdeal.τ).loc Cert.EmbedIdeal.main_arg1)) →
    ∃ (v0 : (c : Dev Cert.EmbedIdeal.nD) → Buf (Elt Ideal) ((c.tc : Thread Cert.EmbedIdeal.nD Cert.EmbedIdeal.τ).loc Cert.EmbedIdeal.main_v4)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v4) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1))
      ∧ θ_run (Cert.EmbedRefIdeal.defs (F := Ideal)) (onTc (τ := Cert.EmbedRefIdeal.τ) (Cert.EmbedRefIdeal.main (F := Ideal))) ⟨m', fun _ => 0, g'⟩ (fun r => ∀ c : Dev Cert.EmbedRefIdeal.nD,
          r.2.mem ((c.tc : Thread Cert.EmbedRefIdeal.nD Cert.EmbedRefIdeal.τ).loc Cert.EmbedRefIdeal.main_v0) = v0 c
          ∧ r.2.mem ((c.tc : Thread Cert.EmbedRefIdeal.nD Cert.EmbedRefIdeal.τ).loc Cert.EmbedRefIdeal.main_arg0) = m' ((c.tc : Thread Cert.EmbedRefIdeal.nD Cert.EmbedRefIdeal.τ).loc Cert.EmbedRefIdeal.main_arg0)
          ∧ r.2.mem ((c.tc : Thread Cert.EmbedRefIdeal.nD Cert.EmbedRefIdeal.τ).loc Cert.EmbedRefIdeal.main_arg1) = m' ((c.tc : Thread Cert.EmbedRefIdeal.nD Cert.EmbedRefIdeal.τ).loc Cert.EmbedRefIdeal.main_arg1))

def preserves_EmbedWeight_EmbedWeightIdeal : Prop :=
  True

def algebraic_EmbedWeightIdeal_EmbedWeightRefIdeal [hEmbedWeightIdeal : Cert.EmbedWeightIdeal.Facts] [hEmbedWeightRefIdeal : Cert.EmbedWeightRefIdeal.Facts] : Prop :=
  ∀ (m : (ℓ : Loc Cert.EmbedWeightIdeal.nD Cert.EmbedWeightIdeal.τ Cert.EmbedWeightIdeal.sig) → Buf (Elt Ideal) ℓ) (g : Dev Cert.EmbedWeightIdeal.nD → PrngReg)
    (m' : (ℓ : Loc Cert.EmbedWeightRefIdeal.nD Cert.EmbedWeightRefIdeal.τ Cert.EmbedWeightRefIdeal.sig) → Buf (Elt Ideal) ℓ) (g' : Dev Cert.EmbedWeightRefIdeal.nD → PrngReg), Pre_EmbedWeightIdeal m →
    (∀ c : Dev Cert.EmbedWeightIdeal.nD,
      m' ((c.tc : Thread Cert.EmbedWeightRefIdeal.nD Cert.EmbedWeightRefIdeal.τ).loc Cert.EmbedWeightRefIdeal.main_arg0) = m ((c.tc : Thread Cert.EmbedWeightIdeal.nD Cert.EmbedWeightIdeal.τ).loc Cert.EmbedWeightIdeal.main_arg0)
      ∧ m' ((c.tc : Thread Cert.EmbedWeightRefIdeal.nD Cert.EmbedWeightRefIdeal.τ).loc Cert.EmbedWeightRefIdeal.main_arg1) = m ((c.tc : Thread Cert.EmbedWeightIdeal.nD Cert.EmbedWeightIdeal.τ).loc Cert.EmbedWeightIdeal.main_arg1)) →
    ∃ (v0 : (c : Dev Cert.EmbedWeightIdeal.nD) → Buf (Elt Ideal) ((c.tc : Thread Cert.EmbedWeightIdeal.nD Cert.EmbedWeightIdeal.τ).loc Cert.EmbedWeightIdeal.main_v2)),
      θ_run (Cert.EmbedWeightIdeal.defs (F := Ideal)) (onTc (τ := Cert.EmbedWeightIdeal.τ) (Cert.EmbedWeightIdeal.main (F := Ideal))) ⟨m, fun _ => 0, g⟩ (fun r => ∀ c : Dev Cert.EmbedWeightIdeal.nD,
          r.2.mem ((c.tc : Thread Cert.EmbedWeightIdeal.nD Cert.EmbedWeightIdeal.τ).loc Cert.EmbedWeightIdeal.main_v2) = v0 c
          ∧ r.2.mem ((c.tc : Thread Cert.EmbedWeightIdeal.nD Cert.EmbedWeightIdeal.τ).loc Cert.EmbedWeightIdeal.main_arg0) = m ((c.tc : Thread Cert.EmbedWeightIdeal.nD Cert.EmbedWeightIdeal.τ).loc Cert.EmbedWeightIdeal.main_arg0)
          ∧ r.2.mem ((c.tc : Thread Cert.EmbedWeightIdeal.nD Cert.EmbedWeightIdeal.τ).loc Cert.EmbedWeightIdeal.main_arg1) = m ((c.tc : Thread Cert.EmbedWeightIdeal.nD Cert.EmbedWeightIdeal.τ).loc Cert.EmbedWeightIdeal.main_arg1))
      ∧ θ_run (Cert.EmbedWeightRefIdeal.defs (F := Ideal)) (onTc (τ := Cert.EmbedWeightRefIdeal.τ) (Cert.EmbedWeightRefIdeal.main (F := Ideal))) ⟨m', fun _ => 0, g'⟩ (fun r => ∀ c : Dev Cert.EmbedWeightRefIdeal.nD,
          r.2.mem ((c.tc : Thread Cert.EmbedWeightRefIdeal.nD Cert.EmbedWeightRefIdeal.τ).loc Cert.EmbedWeightRefIdeal.main_v13) = v0 c
          ∧ r.2.mem ((c.tc : Thread Cert.EmbedWeightRefIdeal.nD Cert.EmbedWeightRefIdeal.τ).loc Cert.EmbedWeightRefIdeal.main_arg0) = m' ((c.tc : Thread Cert.EmbedWeightRefIdeal.nD Cert.EmbedWeightRefIdeal.τ).loc Cert.EmbedWeightRefIdeal.main_arg0)
          ∧ r.2.mem ((c.tc : Thread Cert.EmbedWeightRefIdeal.nD Cert.EmbedWeightRefIdeal.τ).loc Cert.EmbedWeightRefIdeal.main_arg1) = m' ((c.tc : Thread Cert.EmbedWeightRefIdeal.nD Cert.EmbedWeightRefIdeal.τ).loc Cert.EmbedWeightRefIdeal.main_arg1))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v1_0)) (v1 : (c : Dev Cert.UpdateInIdeal.nD) → Buf (Elt Ideal) ((c.tc : Thread Cert.UpdateInIdeal.nD Cert.UpdateInIdeal.τ).loc Cert.UpdateInIdeal.main_v1_1)) (v2 : (c : Dev Cert.UpdateInIdeal.nD) → Buf (Elt Ideal) ((c.tc : Thread Cert.UpdateInIdeal.nD Cert.UpdateInIdeal.τ).loc Cert.UpdateInIdeal.main_v1_2)) (v3 : (c : Dev Cert.UpdateInIdeal.nD) → Buf (Elt Ideal) ((c.tc : Thread Cert.UpdateInIdeal.nD Cert.UpdateInIdeal.τ).loc Cert.UpdateInIdeal.main_v1_3)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v1_0) = v0 c
          ∧ r.2.mem ((c.tc : Thread Cert.UpdateInIdeal.nD Cert.UpdateInIdeal.τ).loc Cert.UpdateInIdeal.main_v1_1) = v1 c
          ∧ r.2.mem ((c.tc : Thread Cert.UpdateInIdeal.nD Cert.UpdateInIdeal.τ).loc Cert.UpdateInIdeal.main_v1_2) = v2 c
          ∧ r.2.mem ((c.tc : Thread Cert.UpdateInIdeal.nD Cert.UpdateInIdeal.τ).loc Cert.UpdateInIdeal.main_v1_3) = v3 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v0) = v0 c
          ∧ r.2.mem ((c.tc : Thread Cert.UpdateInRefIdeal.nD Cert.UpdateInRefIdeal.τ).loc Cert.UpdateInRefIdeal.main_v24) = v1 c
          ∧ r.2.mem ((c.tc : Thread Cert.UpdateInRefIdeal.nD Cert.UpdateInRefIdeal.τ).loc Cert.UpdateInRefIdeal.main_v5) = v2 c
          ∧ r.2.mem ((c.tc : Thread Cert.UpdateInRefIdeal.nD Cert.UpdateInRefIdeal.τ).loc Cert.UpdateInRefIdeal.main_v11) = v3 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3))

def preserves_UpdateOut_UpdateOutIdeal : Prop :=
  True

def algebraic_UpdateOutIdeal_UpdateOutRefIdeal [hUpdateOutIdeal : Cert.UpdateOutIdeal.Facts] [hUpdateOutRefIdeal : Cert.UpdateOutRefIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutRefIdeal.nD Cert.UpdateOutRefIdeal.τ Cert.UpdateOutRefIdeal.sig) → Buf (Elt Ideal) ℓ) (g' : Dev Cert.UpdateOutRefIdeal.nD → PrngReg), Pre_UpdateOutIdeal m →
    (∀ c : Dev Cert.UpdateOutIdeal.nD,
      m' ((c.tc : Thread Cert.UpdateOutRefIdeal.nD Cert.UpdateOutRefIdeal.τ).loc Cert.UpdateOutRefIdeal.main_arg0) = m ((c.tc : Thread Cert.UpdateOutIdeal.nD Cert.UpdateOutIdeal.τ).loc Cert.UpdateOutIdeal.main_arg0)
      ∧ m' ((c.tc : Thread Cert.UpdateOutRefIdeal.nD Cert.UpdateOutRefIdeal.τ).loc Cert.UpdateOutRefIdeal.main_arg1) = m ((c.tc : Thread Cert.UpdateOutIdeal.nD Cert.UpdateOutIdeal.τ).loc Cert.UpdateOutIdeal.main_arg1)
      ∧ m' ((c.tc : Thread Cert.UpdateOutRefIdeal.nD Cert.UpdateOutRefIdeal.τ).loc Cert.UpdateOutRefIdeal.main_arg2) = m ((c.tc : Thread Cert.UpdateOutIdeal.nD Cert.UpdateOutIdeal.τ).loc Cert.UpdateOutIdeal.main_arg2)
      ∧ m' ((c.tc : Thread Cert.UpdateOutRefIdeal.nD Cert.UpdateOutRefIdeal.τ).loc Cert.UpdateOutRefIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v1_0)) (v1 : (c : Dev Cert.UpdateOutIdeal.nD) → Buf (Elt Ideal) ((c.tc : Thread Cert.UpdateOutIdeal.nD Cert.UpdateOutIdeal.τ).loc Cert.UpdateOutIdeal.main_v1_1)) (v2 : (c : Dev Cert.UpdateOutIdeal.nD) → Buf (Elt Ideal) ((c.tc : Thread Cert.UpdateOutIdeal.nD Cert.UpdateOutIdeal.τ).loc Cert.UpdateOutIdeal.main_v1_2)) (v3 : (c : Dev Cert.UpdateOutIdeal.nD) → Buf (Elt Ideal) ((c.tc : Thread Cert.UpdateOutIdeal.nD Cert.UpdateOutIdeal.τ).loc Cert.UpdateOutIdeal.main_v1_3)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v1_0) = v0 c
          ∧ r.2.mem ((c.tc : Thread Cert.UpdateOutIdeal.nD Cert.UpdateOutIdeal.τ).loc Cert.UpdateOutIdeal.main_v1_1) = v1 c
          ∧ r.2.mem ((c.tc : Thread Cert.UpdateOutIdeal.nD Cert.UpdateOutIdeal.τ).loc Cert.UpdateOutIdeal.main_v1_2) = v2 c
          ∧ r.2.mem ((c.tc : Thread Cert.UpdateOutIdeal.nD Cert.UpdateOutIdeal.τ).loc Cert.UpdateOutIdeal.main_v1_3) = v3 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutRefIdeal.defs (F := Ideal)) (onTc (τ := Cert.UpdateOutRefIdeal.τ) (Cert.UpdateOutRefIdeal.main (F := Ideal))) ⟨m', fun _ => 0, g'⟩ (fun r => ∀ c : Dev Cert.UpdateOutRefIdeal.nD,
          r.2.mem ((c.tc : Thread Cert.UpdateOutRefIdeal.nD Cert.UpdateOutRefIdeal.τ).loc Cert.UpdateOutRefIdeal.main_v0) = v0 c
          ∧ r.2.mem ((c.tc : Thread Cert.UpdateOutRefIdeal.nD Cert.UpdateOutRefIdeal.τ).loc Cert.UpdateOutRefIdeal.main_v24) = v1 c
          ∧ r.2.mem ((c.tc : Thread Cert.UpdateOutRefIdeal.nD Cert.UpdateOutRefIdeal.τ).loc Cert.UpdateOutRefIdeal.main_v5) = v2 c
          ∧ r.2.mem ((c.tc : Thread Cert.UpdateOutRefIdeal.nD Cert.UpdateOutRefIdeal.τ).loc Cert.UpdateOutRefIdeal.main_v11) = v3 c
          ∧ r.2.mem ((c.tc : Thread Cert.UpdateOutRefIdeal.nD Cert.UpdateOutRefIdeal.τ).loc Cert.UpdateOutRefIdeal.main_arg0) = m' ((c.tc : Thread Cert.UpdateOutRefIdeal.nD Cert.UpdateOutRefIdeal.τ).loc Cert.UpdateOutRefIdeal.main_arg0)
          ∧ r.2.mem ((c.tc : Thread Cert.UpdateOutRefIdeal.nD Cert.UpdateOutRefIdeal.τ).loc Cert.UpdateOutRefIdeal.main_arg1) = m' ((c.tc : Thread Cert.UpdateOutRefIdeal.nD Cert.UpdateOutRefIdeal.τ).loc Cert.UpdateOutRefIdeal.main_arg1)
          ∧ r.2.mem ((c.tc : Thread Cert.UpdateOutRefIdeal.nD Cert.UpdateOutRefIdeal.τ).loc Cert.UpdateOutRefIdeal.main_arg2) = m' ((c.tc : Thread Cert.UpdateOutRefIdeal.nD Cert.UpdateOutRefIdeal.τ).loc Cert.UpdateOutRefIdeal.main_arg2)
          ∧ r.2.mem ((c.tc : Thread Cert.UpdateOutRefIdeal.nD Cert.UpdateOutRefIdeal.τ).loc Cert.UpdateOutRefIdeal.main_arg3) = m' ((c.tc : Thread Cert.UpdateOutRefIdeal.nD Cert.UpdateOutRefIdeal.τ).loc Cert.UpdateOutRefIdeal.main_arg3))

def preserves_UpdateEmbed_UpdateEmbedIdeal : Prop :=
  True

def algebraic_UpdateEmbedIdeal_UpdateEmbedRefIdeal [hUpdateEmbedIdeal : Cert.UpdateEmbedIdeal.Facts] [hUpdateEmbedRefIdeal : Cert.UpdateEmbedRefIdeal.Facts] : Prop :=
  ∀ (m : (ℓ : Loc Cert.UpdateEmbedIdeal.nD Cert.UpdateEmbedIdeal.τ Cert.UpdateEmbedIdeal.sig) → Buf (Elt Ideal) ℓ) (g : Dev Cert.UpdateEmbedIdeal.nD → PrngReg)
    (m' : (ℓ : Loc Cert.UpdateEmbedRefIdeal.nD Cert.UpdateEmbedRefIdeal.τ Cert.UpdateEmbedRefIdeal.sig) → Buf (Elt Ideal) ℓ) (g' : Dev Cert.UpdateEmbedRefIdeal.nD → PrngReg), Pre_UpdateEmbedIdeal m →
    (∀ c : Dev Cert.UpdateEmbedIdeal.nD,
      m' ((c.tc : Thread Cert.UpdateEmbedRefIdeal.nD Cert.UpdateEmbedRefIdeal.τ).loc Cert.UpdateEmbedRefIdeal.main_arg0) = m ((c.tc : Thread Cert.UpdateEmbedIdeal.nD Cert.UpdateEmbedIdeal.τ).loc Cert.UpdateEmbedIdeal.main_arg0)
      ∧ m' ((c.tc : Thread Cert.UpdateEmbedRefIdeal.nD Cert.UpdateEmbedRefIdeal.τ).loc Cert.UpdateEmbedRefIdeal.main_arg1) = m ((c.tc : Thread Cert.UpdateEmbedIdeal.nD Cert.UpdateEmbedIdeal.τ).loc Cert.UpdateEmbedIdeal.main_arg1)
      ∧ m' ((c.tc : Thread Cert.UpdateEmbedRefIdeal.nD Cert.UpdateEmbedRefIdeal.τ).loc Cert.UpdateEmbedRefIdeal.main_arg2) = m ((c.tc : Thread Cert.UpdateEmbedIdeal.nD Cert.UpdateEmbedIdeal.τ).loc Cert.UpdateEmbedIdeal.main_arg2)
      ∧ m' ((c.tc : Thread Cert.UpdateEmbedRefIdeal.nD Cert.UpdateEmbedRefIdeal.τ).loc Cert.UpdateEmbedRefIdeal.main_arg3) = m ((c.tc : Thread Cert.UpdateEmbedIdeal.nD Cert.UpdateEmbedIdeal.τ).loc Cert.UpdateEmbedIdeal.main_arg3)) →
    ∃ (v0 : (c : Dev Cert.UpdateEmbedIdeal.nD) → Buf (Elt Ideal) ((c.tc : Thread Cert.UpdateEmbedIdeal.nD Cert.UpdateEmbedIdeal.τ).loc Cert.UpdateEmbedIdeal.main_v1_0)) (v1 : (c : Dev Cert.UpdateEmbedIdeal.nD) → Buf (Elt Ideal) ((c.tc : Thread Cert.UpdateEmbedIdeal.nD Cert.UpdateEmbedIdeal.τ).loc Cert.UpdateEmbedIdeal.main_v1_1)) (v2 : (c : Dev Cert.UpdateEmbedIdeal.nD) → Buf (Elt Ideal) ((c.tc : Thread Cert.UpdateEmbedIdeal.nD Cert.UpdateEmbedIdeal.τ).loc Cert.UpdateEmbedIdeal.main_v1_2)) (v3 : (c : Dev Cert.UpdateEmbedIdeal.nD) → Buf (Elt Ideal) ((c.tc : Thread Cert.UpdateEmbedIdeal.nD Cert.UpdateEmbedIdeal.τ).loc Cert.UpdateEmbedIdeal.main_v1_3)),
      θ_run (Cert.UpdateEmbedIdeal.defs (F := Ideal)) (onTc (τ := Cert.UpdateEmbedIdeal.τ) (Cert.UpdateEmbedIdeal.main (F := Ideal))) ⟨m, fun _ => 0, g⟩ (fun r => ∀ c : Dev Cert.UpdateEmbedIdeal.nD,
          r.2.mem ((c.tc : Thread Cert.UpdateEmbedIdeal.nD Cert.UpdateEmbedIdeal.τ).loc Cert.UpdateEmbedIdeal.main_v1_0) = v0 c
          ∧ r.2.mem ((c.tc : Thread Cert.UpdateEmbedIdeal.nD Cert.UpdateEmbedIdeal.τ).loc Cert.UpdateEmbedIdeal.main_v1_1) = v1 c
          ∧ r.2.mem ((c.tc : Thread Cert.UpdateEmbedIdeal.nD Cert.UpdateEmbedIdeal.τ).loc Cert.UpdateEmbedIdeal.main_v1_2) = v2 c
          ∧ r.2.mem ((c.tc : Thread Cert.UpdateEmbedIdeal.nD Cert.UpdateEmbedIdeal.τ).loc Cert.UpdateEmbedIdeal.main_v1_3) = v3 c
          ∧ r.2.mem ((c.tc : Thread Cert.UpdateEmbedIdeal.nD Cert.UpdateEmbedIdeal.τ).loc Cert.UpdateEmbedIdeal.main_arg0) = m ((c.tc : Thread Cert.UpdateEmbedIdeal.nD Cert.UpdateEmbedIdeal.τ).loc Cert.UpdateEmbedIdeal.main_arg0)
          ∧ r.2.mem ((c.tc : Thread Cert.UpdateEmbedIdeal.nD Cert.UpdateEmbedIdeal.τ).loc Cert.UpdateEmbedIdeal.main_arg1) = m ((c.tc : Thread Cert.UpdateEmbedIdeal.nD Cert.UpdateEmbedIdeal.τ).loc Cert.UpdateEmbedIdeal.main_arg1)
          ∧ r.2.mem ((c.tc : Thread Cert.UpdateEmbedIdeal.nD Cert.UpdateEmbedIdeal.τ).loc Cert.UpdateEmbedIdeal.main_arg2) = m ((c.tc : Thread Cert.UpdateEmbedIdeal.nD Cert.UpdateEmbedIdeal.τ).loc Cert.UpdateEmbedIdeal.main_arg2)
          ∧ r.2.mem ((c.tc : Thread Cert.UpdateEmbedIdeal.nD Cert.UpdateEmbedIdeal.τ).loc Cert.UpdateEmbedIdeal.main_arg3) = m ((c.tc : Thread Cert.UpdateEmbedIdeal.nD Cert.UpdateEmbedIdeal.τ).loc Cert.UpdateEmbedIdeal.main_arg3))
      ∧ θ_run (Cert.UpdateEmbedRefIdeal.defs (F := Ideal)) (onTc (τ := Cert.UpdateEmbedRefIdeal.τ) (Cert.UpdateEmbedRefIdeal.main (F := Ideal))) ⟨m', fun _ => 0, g'⟩ (fun r => ∀ c : Dev Cert.UpdateEmbedRefIdeal.nD,
          r.2.mem ((c.tc : Thread Cert.UpdateEmbedRefIdeal.nD Cert.UpdateEmbedRefIdeal.τ).loc Cert.UpdateEmbedRefIdeal.main_v0) = v0 c
          ∧ r.2.mem ((c.tc : Thread Cert.UpdateEmbedRefIdeal.nD Cert.UpdateEmbedRefIdeal.τ).loc Cert.UpdateEmbedRefIdeal.main_v24) = v1 c
          ∧ r.2.mem ((c.tc : Thread Cert.UpdateEmbedRefIdeal.nD Cert.UpdateEmbedRefIdeal.τ).loc Cert.UpdateEmbedRefIdeal.main_v5) = v2 c
          ∧ r.2.mem ((c.tc : Thread Cert.UpdateEmbedRefIdeal.nD Cert.UpdateEmbedRefIdeal.τ).loc Cert.UpdateEmbedRefIdeal.main_v11) = v3 c
          ∧ r.2.mem ((c.tc : Thread Cert.UpdateEmbedRefIdeal.nD Cert.UpdateEmbedRefIdeal.τ).loc Cert.UpdateEmbedRefIdeal.main_arg0) = m' ((c.tc : Thread Cert.UpdateEmbedRefIdeal.nD Cert.UpdateEmbedRefIdeal.τ).loc Cert.UpdateEmbedRefIdeal.main_arg0)
          ∧ r.2.mem ((c.tc : Thread Cert.UpdateEmbedRefIdeal.nD Cert.UpdateEmbedRefIdeal.τ).loc Cert.UpdateEmbedRefIdeal.main_arg1) = m' ((c.tc : Thread Cert.UpdateEmbedRefIdeal.nD Cert.UpdateEmbedRefIdeal.τ).loc Cert.UpdateEmbedRefIdeal.main_arg1)
          ∧ r.2.mem ((c.tc : Thread Cert.UpdateEmbedRefIdeal.nD Cert.UpdateEmbedRefIdeal.τ).loc Cert.UpdateEmbedRefIdeal.main_arg2) = m' ((c.tc : Thread Cert.UpdateEmbedRefIdeal.nD Cert.UpdateEmbedRefIdeal.τ).loc Cert.UpdateEmbedRefIdeal.main_arg2)
          ∧ r.2.mem ((c.tc : Thread Cert.UpdateEmbedRefIdeal.nD Cert.UpdateEmbedRefIdeal.τ).loc Cert.UpdateEmbedRefIdeal.main_arg3) = m' ((c.tc : Thread Cert.UpdateEmbedRefIdeal.nD Cert.UpdateEmbedRefIdeal.τ).loc Cert.UpdateEmbedRefIdeal.main_arg3))

def Claim : Prop :=
  ∃ (hKernel : Cert.Kernel.Facts) (hKernelIdeal : Cert.KernelIdeal.Facts) (hReferenceIdeal : Cert.ReferenceIdeal.Facts) (hDownWeight : Cert.DownWeight.Facts) (hDownWeightIdeal : Cert.DownWeightIdeal.Facts) (hDownWeightRefIdeal : Cert.DownWeightRefIdeal.Facts) (hUpWeight : Cert.UpWeight.Facts) (hUpWeightIdeal : Cert.UpWeightIdeal.Facts) (hUpWeightRefIdeal : Cert.UpWeightRefIdeal.Facts) (hUpInput : Cert.UpInput.Facts) (hUpInputIdeal : Cert.UpInputIdeal.Facts) (hUpInputRefIdeal : Cert.UpInputRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNormBack : Cert.NormBack.Facts) (hNormBackIdeal : Cert.NormBackIdeal.Facts) (hNormBackRefIdeal : Cert.NormBackRefIdeal.Facts) (hTail : Cert.Tail.Facts) (hTailIdeal : Cert.TailIdeal.Facts) (hTailRefIdeal : Cert.TailRefIdeal.Facts) (hGateInput : Cert.GateInput.Facts) (hGateInputIdeal : Cert.GateInputIdeal.Facts) (hGateInputRefIdeal : Cert.GateInputRefIdeal.Facts) (hGateWeight : Cert.GateWeight.Facts) (hGateWeightIdeal : Cert.GateWeightIdeal.Facts) (hGateWeightRefIdeal : Cert.GateWeightRefIdeal.Facts) (hInWeight : Cert.InWeight.Facts) (hInWeightIdeal : Cert.InWeightIdeal.Facts) (hInWeightRefIdeal : Cert.InWeightRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hProject : Cert.Project.Facts) (hProjectIdeal : Cert.ProjectIdeal.Facts) (hProjectRefIdeal : Cert.ProjectRefIdeal.Facts) (hAttend : Cert.Attend.Facts) (hAttendIdeal : Cert.AttendIdeal.Facts) (hAttendRefIdeal : Cert.AttendRefIdeal.Facts) (hUpdate : Cert.Update.Facts) (hUpdateIdeal : Cert.UpdateIdeal.Facts) (hUpdateRefIdeal : Cert.UpdateRefIdeal.Facts) (hUpdateSmall : Cert.UpdateSmall.Facts) (hUpdateSmallIdeal : Cert.UpdateSmallIdeal.Facts) (hUpdateSmallRefIdeal : Cert.UpdateSmallRefIdeal.Facts) (hNorm : Cert.Norm.Facts) (hNormIdeal : Cert.NormIdeal.Facts) (hNormRefIdeal : Cert.NormRefIdeal.Facts) (hInputBack : Cert.InputBack.Facts) (hInputBackIdeal : Cert.InputBackIdeal.Facts) (hInputBackRefIdeal : Cert.InputBackRefIdeal.Facts) (hEmbed : Cert.Embed.Facts) (hEmbedIdeal : Cert.EmbedIdeal.Facts) (hEmbedRefIdeal : Cert.EmbedRefIdeal.Facts) (hEmbedWeight : Cert.EmbedWeight.Facts) (hEmbedWeightIdeal : Cert.EmbedWeightIdeal.Facts) (hEmbedWeightRefIdeal : Cert.EmbedWeightRefIdeal.Facts) (hUpdateIn : Cert.UpdateIn.Facts) (hUpdateInIdeal : Cert.UpdateInIdeal.Facts) (hUpdateInRefIdeal : Cert.UpdateInRefIdeal.Facts) (hUpdateOut : Cert.UpdateOut.Facts) (hUpdateOutIdeal : Cert.UpdateOutIdeal.Facts) (hUpdateOutRefIdeal : Cert.UpdateOutRefIdeal.Facts) (hUpdateEmbed : Cert.UpdateEmbed.Facts) (hUpdateEmbedIdeal : Cert.UpdateEmbedIdeal.Facts) (hUpdateEmbedRefIdeal : Cert.UpdateEmbedRefIdeal.Facts) (hPre_finite : Cert.Pre_finite.Facts) (hPre_finite_projection : Cert.Pre_finite_projection.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_UpWeight (hUpWeight := hUpWeight)
    ∧ quiescent_UpWeightIdeal (hUpWeightIdeal := hUpWeightIdeal)
    ∧ quiescent_UpWeightRefIdeal (hUpWeightRefIdeal := hUpWeightRefIdeal)
    ∧ quiescent_UpInput (hUpInput := hUpInput)
    ∧ quiescent_UpInputIdeal (hUpInputIdeal := hUpInputIdeal)
    ∧ quiescent_UpInputRefIdeal (hUpInputRefIdeal := hUpInputRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_Tail (hTail := hTail)
    ∧ quiescent_TailIdeal (hTailIdeal := hTailIdeal)
    ∧ quiescent_TailRefIdeal (hTailRefIdeal := hTailRefIdeal)
    ∧ quiescent_GateInput (hGateInput := hGateInput)
    ∧ quiescent_GateInputIdeal (hGateInputIdeal := hGateInputIdeal)
    ∧ quiescent_GateInputRefIdeal (hGateInputRefIdeal := hGateInputRefIdeal)
    ∧ quiescent_GateWeight (hGateWeight := hGateWeight)
    ∧ quiescent_GateWeightIdeal (hGateWeightIdeal := hGateWeightIdeal)
    ∧ quiescent_GateWeightRefIdeal (hGateWeightRefIdeal := hGateWeightRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_Project (hProject := hProject)
    ∧ quiescent_ProjectIdeal (hProjectIdeal := hProjectIdeal)
    ∧ quiescent_ProjectRefIdeal (hProjectRefIdeal := hProjectRefIdeal)
    ∧ quiescent_Attend (hAttend := hAttend)
    ∧ quiescent_AttendIdeal (hAttendIdeal := hAttendIdeal)
    ∧ quiescent_AttendIdeal_pre_finite_projection (hAttendIdeal := hAttendIdeal) (hPre_finite_projection := hPre_finite_projection)
    ∧ quiescent_AttendRefIdeal (hAttendRefIdeal := hAttendRefIdeal)
    ∧ quiescent_AttendRefIdeal_pre_finite_projection (hAttendRefIdeal := hAttendRefIdeal) (hPre_finite_projection := hPre_finite_projection)
    ∧ quiescent_Update (hUpdate := hUpdate)
    ∧ quiescent_UpdateIdeal (hUpdateIdeal := hUpdateIdeal)
    ∧ quiescent_UpdateRefIdeal (hUpdateRefIdeal := hUpdateRefIdeal)
    ∧ quiescent_UpdateSmall (hUpdateSmall := hUpdateSmall)
    ∧ quiescent_UpdateSmallIdeal (hUpdateSmallIdeal := hUpdateSmallIdeal)
    ∧ quiescent_UpdateSmallRefIdeal (hUpdateSmallRefIdeal := hUpdateSmallRefIdeal)
    ∧ quiescent_Norm (hNorm := hNorm)
    ∧ quiescent_NormIdeal (hNormIdeal := hNormIdeal)
    ∧ quiescent_NormRefIdeal (hNormRefIdeal := hNormRefIdeal)
    ∧ quiescent_InputBack (hInputBack := hInputBack)
    ∧ quiescent_InputBackIdeal (hInputBackIdeal := hInputBackIdeal)
    ∧ quiescent_InputBackRefIdeal (hInputBackRefIdeal := hInputBackRefIdeal)
    ∧ quiescent_Embed (hEmbed := hEmbed)
    ∧ quiescent_EmbedIdeal (hEmbedIdeal := hEmbedIdeal)
    ∧ quiescent_EmbedRefIdeal (hEmbedRefIdeal := hEmbedRefIdeal)
    ∧ quiescent_EmbedWeight (hEmbedWeight := hEmbedWeight)
    ∧ quiescent_EmbedWeightIdeal (hEmbedWeightIdeal := hEmbedWeightIdeal)
    ∧ quiescent_EmbedWeightRefIdeal (hEmbedWeightRefIdeal := hEmbedWeightRefIdeal)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateOut (hUpdateOut := hUpdateOut)
    ∧ quiescent_UpdateOutIdeal (hUpdateOutIdeal := hUpdateOutIdeal)
    ∧ quiescent_UpdateOutRefIdeal (hUpdateOutRefIdeal := hUpdateOutRefIdeal)
    ∧ quiescent_UpdateEmbed (hUpdateEmbed := hUpdateEmbed)
    ∧ quiescent_UpdateEmbedIdeal (hUpdateEmbedIdeal := hUpdateEmbedIdeal)
    ∧ quiescent_UpdateEmbedRefIdeal (hUpdateEmbedRefIdeal := hUpdateEmbedRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownWeight_DownWeightIdeal
    ∧ algebraic_DownWeightIdeal_DownWeightRefIdeal (hDownWeightIdeal := hDownWeightIdeal) (hDownWeightRefIdeal := hDownWeightRefIdeal)
    ∧ preserves_UpWeight_UpWeightIdeal
    ∧ algebraic_UpWeightIdeal_UpWeightRefIdeal (hUpWeightIdeal := hUpWeightIdeal) (hUpWeightRefIdeal := hUpWeightRefIdeal)
    ∧ preserves_UpInput_UpInputIdeal
    ∧ algebraic_UpInputIdeal_UpInputRefIdeal (hUpInputIdeal := hUpInputIdeal) (hUpInputRefIdeal := hUpInputRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_NormBack_NormBackIdeal
    ∧ algebraic_NormBackIdeal_NormBackRefIdeal (hNormBackIdeal := hNormBackIdeal) (hNormBackRefIdeal := hNormBackRefIdeal)
    ∧ preserves_Tail_TailIdeal
    ∧ algebraic_TailIdeal_TailRefIdeal (hTailIdeal := hTailIdeal) (hTailRefIdeal := hTailRefIdeal)
    ∧ preserves_GateInput_GateInputIdeal
    ∧ algebraic_GateInputIdeal_GateInputRefIdeal (hGateInputIdeal := hGateInputIdeal) (hGateInputRefIdeal := hGateInputRefIdeal)
    ∧ preserves_GateWeight_GateWeightIdeal
    ∧ algebraic_GateWeightIdeal_GateWeightRefIdeal (hGateWeightIdeal := hGateWeightIdeal) (hGateWeightRefIdeal := hGateWeightRefIdeal)
    ∧ preserves_InWeight_InWeightIdeal
    ∧ algebraic_InWeightIdeal_InWeightRefIdeal (hInWeightIdeal := hInWeightIdeal) (hInWeightRefIdeal := hInWeightRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_Project_ProjectIdeal
    ∧ algebraic_ProjectIdeal_ProjectRefIdeal (hProjectIdeal := hProjectIdeal) (hProjectRefIdeal := hProjectRefIdeal)
    ∧ preserves_Attend_AttendIdeal
    ∧ algebraic_AttendIdeal_AttendRefIdeal_pre_finite_projection (hAttendIdeal := hAttendIdeal) (hAttendRefIdeal := hAttendRefIdeal) (hPre_finite_projection := hPre_finite_projection)
    ∧ preserves_Update_UpdateIdeal
    ∧ algebraic_UpdateIdeal_UpdateRefIdeal (hUpdateIdeal := hUpdateIdeal) (hUpdateRefIdeal := hUpdateRefIdeal)
    ∧ preserves_UpdateSmall_UpdateSmallIdeal
    ∧ algebraic_UpdateSmallIdeal_UpdateSmallRefIdeal (hUpdateSmallIdeal := hUpdateSmallIdeal) (hUpdateSmallRefIdeal := hUpdateSmallRefIdeal)
    ∧ preserves_Norm_NormIdeal
    ∧ algebraic_NormIdeal_NormRefIdeal (hNormIdeal := hNormIdeal) (hNormRefIdeal := hNormRefIdeal)
    ∧ preserves_InputBack_InputBackIdeal
    ∧ algebraic_InputBackIdeal_InputBackRefIdeal (hInputBackIdeal := hInputBackIdeal) (hInputBackRefIdeal := hInputBackRefIdeal)
    ∧ preserves_Embed_EmbedIdeal
    ∧ algebraic_EmbedIdeal_EmbedRefIdeal (hEmbedIdeal := hEmbedIdeal) (hEmbedRefIdeal := hEmbedRefIdeal)
    ∧ preserves_EmbedWeight_EmbedWeightIdeal
    ∧ algebraic_EmbedWeightIdeal_EmbedWeightRefIdeal (hEmbedWeightIdeal := hEmbedWeightIdeal) (hEmbedWeightRefIdeal := hEmbedWeightRefIdeal)
    ∧ preserves_UpdateIn_UpdateInIdeal
    ∧ algebraic_UpdateInIdeal_UpdateInRefIdeal (hUpdateInIdeal := hUpdateInIdeal) (hUpdateInRefIdeal := hUpdateInRefIdeal)
    ∧ preserves_UpdateOut_UpdateOutIdeal
    ∧ algebraic_UpdateOutIdeal_UpdateOutRefIdeal (hUpdateOutIdeal := hUpdateOutIdeal) (hUpdateOutRefIdeal := hUpdateOutRefIdeal)
    ∧ preserves_UpdateEmbed_UpdateEmbedIdeal
    ∧ algebraic_UpdateEmbedIdeal_UpdateEmbedRefIdeal (hUpdateEmbedIdeal := hUpdateEmbedIdeal) (hUpdateEmbedRefIdeal := hUpdateEmbedRefIdeal)
-- ==== Pre_finite.lean ====
abbrev S4096x3072 : Shape := ⟨2, ![4096, 3072]⟩
abbrev S4096x2048 : Shape := ⟨2, ![4096, 2048]⟩
abbrev S_ : Shape := ⟨0, ![]⟩

class Facts : Prop where
  bcast_S_S4096x3072 : S_.BroadcastsInDim S4096x3072 (![] : Fin 0 → Fin S4096x3072.rank)
  bcast_S_S4096x2048 : S_.BroadcastsInDim S4096x2048 (![] : Fin 0 → Fin S4096x2048.rank)

variable [Facts]

def fn {F : FTy → Type} [FloatOps F] (main_arg0 : FVec F S4096x3072 .f32) (main_arg1 : FVec F S4096x2048 .f32) : IVec S4096x3072 1 × IVec S4096x2048 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== Pre_finite_projection.lean ====
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)

variable [Facts]

def fn {F : FTy → Type} [FloatOps F] (main_arg0 : FVec F S4096x3072 .f32) : IVec S4096x3072 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  main_v2
-- ==== Kernel.lean ====
abbrev S4096x3072 : Shape := ⟨2, ![4096, 3072]⟩
abbrev S4096x2048 : Shape := ⟨2, ![4096, 2048]⟩
abbrev S4096x1024 : Shape := ⟨2, ![4096, 1024]⟩
abbrev S4096x256 : Shape := ⟨2, ![4096, 256]⟩
abbrev S_ : Shape := ⟨0, ![]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S8x4096 : Shape := ⟨2, ![8, 4096]⟩
abbrev S8x4096x1 : Shape := ⟨3, ![8, 4096, 1]⟩
abbrev S8x4096x128 : Shape := ⟨3, ![8, 4096, 128]⟩
abbrev S1024x128 : Shape := ⟨2, ![1024, 128]⟩
abbrev S4096x128 : Shape := ⟨2, ![4096, 128]⟩
abbrev S1x1024x128 : Shape := ⟨3, ![1, 1024, 128]⟩
abbrev S256x128 : Shape := ⟨2, ![256, 128]⟩
abbrev S256x4096 : Shape := ⟨2, ![256, 4096]⟩
abbrev S1x256x128 : Shape := ⟨3, ![1, 256, 128]⟩
abbrev S256x1 : Shape := ⟨2, ![256, 1]⟩
abbrev S256 : Shape := ⟨1, ![256]⟩

abbrev nBuf : Space → Nat
  | .hbm => 54
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x2048, .f32⟩
  | .hbm, ⟨13, _⟩ => ⟨S4096x3072, .f32⟩
  | .hbm, ⟨14, _⟩ => ⟨S4096x3072, .bf16⟩
  | .hbm, ⟨15, _⟩ => ⟨S4096x2x4x128, .f32⟩
  | .hbm, ⟨16, _⟩ => ⟨S4096x2x128, .f32⟩
  | .hbm, ⟨17, _⟩ => ⟨S2x4096x4096x4, .f32⟩
  | .hbm, ⟨18, _⟩ => ⟨S2x4x4096x4096, .f32⟩
  | .hbm, ⟨19, _⟩ => ⟨S_, .f32⟩
  | .hbm, ⟨20, _⟩ => ⟨S2x4x4096x4096, .f32⟩
  | .hbm, ⟨21, _⟩ => ⟨S2x4x4096x4096, .f32⟩
  | .hbm, ⟨22, _⟩ => ⟨S_, .f32⟩
  | .hbm, ⟨23, _⟩ => ⟨S2x4x4096, .f32⟩
  | .hbm, ⟨24, _⟩ => ⟨S2x4x4096x1, .f32⟩
  | .hbm, ⟨25, _⟩ => ⟨S2x4x4096x4096, .f32⟩
  | .hbm, ⟨26, _⟩ => ⟨S2x4x4096x4096, .f32⟩
  | .hbm, ⟨27, _⟩ => ⟨S2x4x4096x4096, .f32⟩
  | .hbm, ⟨28, _⟩ => ⟨S_, .f32⟩
  | .hbm, ⟨29, _⟩ => ⟨S2x4x4096, .f32⟩
  | .hbm, ⟨30, _⟩ => ⟨S2x4x4096x1, .f32⟩
  | .hbm, ⟨31, _⟩ => ⟨S2x4x4096x4096, .f32⟩
  | .hbm, ⟨32, _⟩ => ⟨S2x4x4096x4096, .f32⟩
  | .hbm, ⟨33, _⟩ => ⟨S4096x2x128, .f32⟩
  | .hbm, ⟨34, _⟩ => ⟨S2x128x4x4096, .f32⟩
  | .hbm, ⟨35, _⟩ => ⟨S4096x2x4x128, .f32⟩
  | .hbm, ⟨36, _⟩ => ⟨S2x4x4096x1, .f32⟩
  | .hbm, ⟨37, _⟩ => ⟨S2x4x4096x1, .f32⟩
  | .hbm, ⟨38, _⟩ => ⟨S_, .f32⟩
  | .hbm, ⟨39, _⟩ => ⟨S_, .f32⟩
  | .hbm, ⟨40, _⟩ => ⟨S2x4x4096x1, .f32⟩
  | .hbm, ⟨41, _⟩ => ⟨S2x4x4096x1, .f32⟩
  | .hbm, ⟨42, _⟩ => ⟨S4096x1024, .f32⟩
  | .hbm, ⟨43, _⟩ => ⟨S8x4096, .f32⟩
  | .hbm, ⟨44, _⟩ => ⟨S_, .f32⟩
  | .hbm, ⟨45, _⟩ => ⟨S4096x1024, .f32⟩
  | .hbm, ⟨46, _⟩ => ⟨S4096x2048, .f32⟩
  | .hbm, ⟨47, _⟩ => ⟨S4096x2048, .bf16⟩
  | .hbm, ⟨48, _⟩ => ⟨S8x4096x1, .f32⟩
  | .hbm, ⟨49, _⟩ => ⟨S8x4096x128, .f32⟩
  | .hbm, ⟨50, _⟩ => ⟨S4096x2048, .bf16⟩
  | .hbm, ⟨51, _⟩ => ⟨S4096x1024, .f32⟩
  | .hbm, ⟨52, _⟩ => ⟨S4096x256, .f32⟩
  | .hbm, ⟨53, _⟩ => ⟨S4096x256, .f32⟩
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1024x128, .f32⟩
  | .local _ .vmem, ⟨11, _⟩ => ⟨S1x1024x128, .f32⟩
  | .local _ .vmem, ⟨12, _⟩ => ⟨S1024x128, .f32⟩
  | .local _ .vmem, ⟨13, _⟩ => ⟨S1024x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42_0 : Ref sig .tc := ⟨.hbm, 51, rfl⟩
abbrev main_v42_1 : Ref sig .tc := ⟨.hbm, 52, rfl⟩
abbrev main_v42_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v125 : BitVec 32 := Scalar.extui v2
  let c0_i32_68 : BitVec 32 := 0#32
  let v126 : BitVec 1 := Scalar.cmpi .ne v125 c0_i32_68
  v126

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v_true : BitVec 1 := 1#1
  let v127 : BitVec 1 := Scalar.xori v2 v_true
  let v128 : BitVec 32 := Scalar.extui v127
  let c0_i32_69 : BitVec 32 := 0#32
  let v129 : BitVec 1 := Scalar.cmpi .ne v128 c0_i32_69
  v129

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![arg2.toNat, v1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceIdeal.lean ====
abbrev S4096x3072 : Shape := ⟨2, ![4096, 3072]⟩
abbrev S4096x2048 : Shape := ⟨2, ![4096, 2048]⟩
abbrev S4096x1024 : Shape := ⟨2, ![4096, 1024]⟩
abbrev S4096x256 : Shape := ⟨2, ![4096, 256]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S2x128x4096 : Shape := ⟨3, ![2, 128, 4096]⟩
abbrev S2x4096x4x128 : Shape := ⟨4, ![2, 4096, 4, 128]⟩
abbrev S2x4096x128 : Shape := ⟨3, ![2, 4096, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x2048, .f32⟩
  | .hbm, ⟨2, _⟩ => ⟨S4096x1024, .f32⟩
  | .hbm, ⟨3, _⟩ => ⟨S4096x256, .f32⟩
  | .hbm, ⟨4, _⟩ => ⟨S4096x256, .f32⟩
  | .hbm, ⟨5, _⟩ => ⟨S4096x2x4x128, .f32⟩
  | .hbm, ⟨6, _⟩ => ⟨S4096x2x128, .f32⟩
  | .hbm, ⟨7, _⟩ => ⟨S4096x2x128, .f32⟩
  | .hbm, ⟨8, _⟩ => ⟨S2x4096x4096x4, .f32⟩
  | .hbm, ⟨9, _⟩ => ⟨S2x4x4096x4096, .f32⟩
  | .hbm, ⟨10, _⟩ => ⟨S_, .f32⟩
  | .hbm, ⟨11, _⟩ => ⟨S2x4x4096x4096, .f32⟩
  | .hbm, ⟨12, _⟩ => ⟨S2x4x4096x4096, .f32⟩
  | .hbm, ⟨13, _⟩ => ⟨S_, .f32⟩
  | .hbm, ⟨14, _⟩ => ⟨S2x4x4096, .f32⟩
  | .hbm, ⟨15, _⟩ => ⟨S2x4x4096x1, .f32⟩
  | .hbm, ⟨16, _⟩ => ⟨S2x4x4096x4096, .f32⟩
  | .hbm, ⟨17, _⟩ => ⟨S2x4x4096x4096, .i1⟩
  | .hbm, ⟨18, _⟩ => ⟨S2x4x4096x4096, .f32⟩
  | .hbm, ⟨19, _⟩ => ⟨S_, .f32⟩
  | .hbm, ⟨20, _⟩ => ⟨S2x4x4096, .f32⟩
  | .hbm, ⟨21, _⟩ => ⟨S_, .f32⟩
  | .hbm, ⟨22, _⟩ => ⟨S2x4x4096, .f32⟩
  | .hbm, ⟨23, _⟩ => ⟨S2x4x4096, .f32⟩
  | .hbm, ⟨24, _⟩ => ⟨S_, .f32⟩
  | .hbm, ⟨25, _⟩ => ⟨S2x4x4096, .f32⟩
  | .hbm, ⟨26, _⟩ => ⟨S2x4x4096, .i1⟩
  | .hbm, ⟨27, _⟩ => ⟨S_, .f32⟩
  | .hbm, ⟨28, _⟩ => ⟨S2x4x4096, .f32⟩
  | .hbm, ⟨29, _⟩ => ⟨S2x4x4096, .i1⟩
  | .hbm, ⟨30, _⟩ => ⟨S_, .f32⟩
  | .hbm, ⟨31, _⟩ => ⟨S2x4x4096, .f32⟩
  | .hbm, ⟨32, _⟩ => ⟨S_, .f32⟩
  | .hbm, ⟨33, _⟩ => ⟨S2x4x4096, .f32⟩
  | .hbm, ⟨34, _⟩ => ⟨S_, .f32⟩
  | .hbm, ⟨35, _⟩ => ⟨S2x4x4096, .f32⟩
  | .hbm, ⟨36, _⟩ => ⟨S2x4x4096, .f32⟩
  | .hbm, ⟨37, _⟩ => ⟨S2x4x4096, .f32⟩
  | .hbm, ⟨38, _⟩ => ⟨S2x4x4096x1, .f32⟩
  | .hbm, ⟨39, _⟩ => ⟨S2x4x4096x4096, .f32⟩
  | .hbm, ⟨40, _⟩ => ⟨S2x4x4096x4096, .f32⟩
  | .hbm, ⟨41, _⟩ => ⟨S2x4x4096x4096, .f32⟩
  | .hbm, ⟨42, _⟩ => ⟨S_, .f32⟩
  | .hbm, ⟨43, _⟩ => ⟨S2x4x4096, .f32⟩
  | .hbm, ⟨44, _⟩ => ⟨S2x4x4096x1, .f32⟩
  | .hbm, ⟨45, _⟩ => ⟨S2x4x4096x4096, .f32⟩
  | .hbm, ⟨46, _⟩ => ⟨S2x4x4096x4096, .f32⟩
  | .hbm, ⟨47, _⟩ => ⟨S2x4x4096x1, .f32⟩
  | .hbm, ⟨48, _⟩ => ⟨S_, .f32⟩
  | .hbm, ⟨49, _⟩ => ⟨S2x4x4096x1, .f32⟩
  | .hbm, ⟨50, _⟩ => ⟨S2x4x4096x1, .f32⟩
  | .hbm, ⟨51, _⟩ => ⟨S2x128x4x4096, .f32⟩
  | .hbm, ⟨52, _⟩ => ⟨S4096x2x4x128, .f32⟩
  | .hbm, ⟨53, _⟩ => ⟨S4096x1024, .f32⟩
  | .hbm, ⟨54, _⟩ => ⟨S4096x1024, .f32⟩
  | .hbm, ⟨55, _⟩ => ⟨S4096x2x4x128, .f32⟩
  | .hbm, ⟨56, _⟩ => ⟨S2x128x4x4096, .f32⟩
  | .hbm, ⟨57, _⟩ => ⟨S2x4x4096x4096, .f32⟩
  | .hbm, ⟨58, _⟩ => ⟨S2x128x4096, .f32⟩
  | .hbm, ⟨59, _⟩ => ⟨S4096x2x128, .f32⟩
  | .hbm, ⟨60, _⟩ => ⟨S2x4x4096x4096, .f32⟩
  | .hbm, ⟨61, _⟩ => ⟨S2x4x4096x4096, .f32⟩
  | .hbm, ⟨62, _⟩ => ⟨S2x4x4096x4096, .f32⟩
  | .hbm, ⟨63, _⟩ => ⟨S_, .f32⟩
  | .hbm, ⟨64, _⟩ => ⟨S2x4x4096, .f32⟩
  | .hbm, ⟨65, _⟩ => ⟨S2x4x4096x1, .f32⟩
  | .hbm, ⟨66, _⟩ => ⟨S2x4x4096x1, .f32⟩
  | .hbm, ⟨67, _⟩ => ⟨S2x4x4096x4096, .f32⟩
  | .hbm, ⟨68, _⟩ => ⟨S2x4x4096x4096, .f32⟩
  | .hbm, ⟨69, _⟩ => ⟨S_, .f32⟩
  | .hbm, ⟨70, _⟩ => ⟨S2x4x4096, .f32⟩
  | .hbm, ⟨71, _⟩ => ⟨S2x4x4096x4096, .f32⟩
  | .hbm, ⟨72, _⟩ => ⟨S2x4x4096x4096, .f32⟩
  | .hbm, ⟨73, _⟩ => ⟨S2x4x4096x4096, .f32⟩
  | .hbm, ⟨74, _⟩ => ⟨S_, .f32⟩
  | .hbm, ⟨75, _⟩ => ⟨S2x4x4096x4096, .f32⟩
  | .hbm, ⟨76, _⟩ => ⟨S2x4x4096x4096, .f32⟩
  | .hbm, ⟨77, _⟩ => ⟨S2x4096x4096x4, .f32⟩
  | .hbm, ⟨78, _⟩ => ⟨S2x4096x4x128, .f32⟩
  | .hbm, ⟨79, _⟩ => ⟨S4096x2x4x128, .f32⟩
  | .hbm, ⟨80, _⟩ => ⟨S2x4096x128, .f32⟩
  | .hbm, ⟨81, _⟩ => ⟨S4096x2x128, .f32⟩
  | .hbm, ⟨82, _⟩ => ⟨S4096x256, .f32⟩
  | .hbm, ⟨83, _⟩ => ⟨S4096x256, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S_, .f32⟩
  | .hbm, ⟨90, _⟩ => ⟨S4096x256, .f32⟩
  | .hbm, ⟨91, _⟩ => ⟨S4096x256, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_10 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_11 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_13 : Ref sig .tc := ⟨.hbm, 85, rfl⟩
abbrev main_v69 : Ref sig .tc := ⟨.hbm, 86, rfl⟩
abbrev main_v70 : Ref sig .tc := ⟨.hbm, 87, rfl⟩
abbrev main_cst_14 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== DownWeight.lean ====
abbrev S4096x8192 : Shape := ⟨2, ![4096, 8192]⟩
abbrev S4096x2048 : Shape := ⟨2, ![4096, 2048]⟩
abbrev S8192x2048 : Shape := ⟨2, ![8192, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S4096x8192, .bf16⟩
  | .hbm, ⟨3, _⟩ => ⟨S4096x2048, .bf16⟩
  | .hbm, ⟨4, _⟩ => ⟨S8192x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 8
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x2048, .f32⟩
  | .hbm, ⟨2, _⟩ => ⟨S_, .f32⟩
  | .hbm, ⟨3, _⟩ => ⟨S8192x2048, .f32⟩
  | .hbm, ⟨4, _⟩ => ⟨S4096x2048, .f32⟩
  | .hbm, ⟨5, _⟩ => ⟨S2048x8192, .f32⟩
  | .hbm, ⟨6, _⟩ => ⟨S8192x2048, .f32⟩
  | .hbm, ⟨7, _⟩ => ⟨S8192x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpWeight.lean ====
abbrev S4096x2048 : Shape := ⟨2, ![4096, 2048]⟩
abbrev S4096x8192 : Shape := ⟨2, ![4096, 8192]⟩
abbrev S4x2048x2048 : Shape := ⟨3, ![4, 2048, 2048]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S4096x2048, .bf16⟩
  | .hbm, ⟨3, _⟩ => ⟨S4096x8192, .bf16⟩
  | .hbm, ⟨4, _⟩ => ⟨S4x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S_, .f32⟩
  | .hbm, ⟨3, _⟩ => ⟨S2048x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048x2048, .f32⟩
  | .hbm, ⟨12, _⟩ => ⟨S1x2048x2048, .f32⟩
  | .hbm, ⟨13, _⟩ => ⟨S1x2048x2048, .f32⟩
  | .hbm, ⟨14, _⟩ => ⟨S1x2048x2048, .f32⟩
  | .hbm, ⟨15, _⟩ => ⟨S4x2048x2048, .f32⟩
  | .hbm, ⟨16, _⟩ => ⟨S4x2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== UpInput.lean ====
abbrev S2048x8192 : Shape := ⟨2, ![2048, 8192]⟩
abbrev S4096x8192 : Shape := ⟨2, ![4096, 8192]⟩
abbrev S2048x4x2048 : Shape := ⟨3, ![2048, 4, 2048]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S4096x8192, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpInputRefIdeal.lean ====
abbrev S2048x8192 : Shape := ⟨2, ![2048, 8192]⟩
abbrev S4096x8192 : Shape := ⟨2, ![4096, 8192]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S4096x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4096x8192 : Shape := ⟨2, ![4096, 8192]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x2048, .bf16⟩
  | .hbm, ⟨3, _⟩ => ⟨S2048x8192, .bf16⟩
  | .hbm, ⟨4, _⟩ => ⟨S2048x4x2048, .bf16⟩
  | .hbm, ⟨5, _⟩ => ⟨S4x2048x2048, .bf16⟩
  | .hbm, ⟨6, _⟩ => ⟨S4096x8192, .bf16⟩
  | .hbm, ⟨7, _⟩ => ⟨S4096x8192, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .bf16⟩
  | .hbm, ⟨8, _⟩ => ⟨S4096x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x8192, .bf16⟩
  | .hbm, ⟨4, _⟩ => ⟨S8192x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== NormBack.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBackRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Tail.lean ====
abbrev S4096x2048 : Shape := ⟨2, ![4096, 2048]⟩
abbrev S1x2048 : Shape := ⟨2, ![1, 2048]⟩
abbrev S_ : Shape := ⟨0, ![]⟩
abbrev S1x128 : Shape := ⟨2, ![1, 128]⟩
abbrev S128x2048 : Shape := ⟨2, ![128, 2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S2048 : Shape := ⟨1, ![2048]⟩

abbrev nBuf : Space → Nat
  | .hbm => 20
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S4096x2048, .bf16⟩
  | .hbm, ⟨17, _⟩ => ⟨S1x2048, .f32⟩
  | .hbm, ⟨18, _⟩ => ⟨S1x2048, .f32⟩
  | .hbm, ⟨19, _⟩ => ⟨S1x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x2048, .f32⟩
  | .local _ .vmem, ⟨9, _⟩ => ⟨S1x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S1x2048, .f32⟩
  | .local _ .vmem, ⟨17, _⟩ => ⟨S1x2048, .f32⟩
  | .local _ .vmem, ⟨18, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_38 : BitVec 32 := 0#32
  let v92 : BitVec 1 := Scalar.cmpi .ne v91 c0_i32_38
  v92

def k0_cond2 (i : grid0.Coords) : BitVec 1 :=
  let arg0 : BitVec 32 := BitVec.ofNat 32 (i 0).val
  let c0_i32_39 : BitVec 32 := 0#32
  let v93 : BitVec 1 := Scalar.cmpi .sgt arg0 c0_i32_39
  let v94 : BitVec 32 := Scalar.extui v93
  let c0_i32_40 : BitVec 32 := 0#32
  let v95 : BitVec 1 := Scalar.cmpi .ne v94 c0_i32_40
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== TailRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S4096x2048, .f32⟩
  | 1 => ⟨S4096x2048, .f32⟩
  | 2 => ⟨S4096x2048, .f32⟩
  | 3 => ⟨S4096x2048, .f32⟩
  | 4 => ⟨S1x2048, .f32⟩
  | 5 => ⟨S1x2048, .f32⟩
  | 6 => ⟨S4096x2048, .f32⟩
  | 7 => ⟨S4096x2048, .f32⟩
  | 8 => ⟨S_, .f32⟩
  | 9 => ⟨S4096x2048, .f32⟩
  | 10 => ⟨S4096x2048, .f32⟩
  | 11 => ⟨S_, .f32⟩
  | 12 => ⟨S4096x2048, .f32⟩
  | 13 => ⟨S4096x2048, .f32⟩
  | 14 => ⟨S_, .f32⟩
  | 15 => ⟨S4096x2048, .f32⟩
  | 16 => ⟨S4096x2048, .f32⟩
  | 17 => ⟨S4096x2048, .f32⟩
  | 18 => ⟨S4096x2048, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x2048, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x2048, .f32⟩
  | 55 => ⟨S4096x2048, .f32⟩
  | 56 => ⟨S4096x2048, .f32⟩
  | 57 => ⟨S4096x2048, .f32⟩
  | 58 => ⟨S4096x2048, .f32⟩
  | 59 => ⟨S4096x2048, .f32⟩
  | 60 => ⟨S_, .f32⟩
  | 61 => ⟨S4096x2048, .f32⟩
  | 62 => ⟨S4096x2048, .f32⟩
  | 63 => ⟨S_, .f32⟩
  | 64 => ⟨S4096, .f32⟩
  | 65 => ⟨S_, .f32⟩
  | 66 => ⟨S4096, .f32⟩
  | 67 => ⟨S4096, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S4096, .f32⟩
  | 76 => ⟨S_, .f32⟩
  | 77 => ⟨S4096, .f32⟩
  | 78 => ⟨S4096, .f32⟩
  | 79 => ⟨S4096x2048, .f32⟩
  | 80 => ⟨S4096x2048, .f32⟩
  | 81 => ⟨S4096x2048, .f32⟩
  | 82 => ⟨S_, .f32⟩
  | 83 => ⟨S2048, .f32⟩
  | 84 => ⟨S1x2048, .f32⟩
  | 85 => ⟨S4096x2048, .f32⟩
  | 86 => ⟨S4096x2048, .f32⟩
  | 87 => ⟨S4096x2048, .f32⟩
  | 88 => ⟨S_, .f32⟩
  | 89 => ⟨S4096, .f32⟩
  | 90 => ⟨S4096x1, .f32⟩
  | 91 => ⟨S4096x2048, .f32⟩
  | 92 => ⟨S4096x2048, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x2048, .f32⟩
  | 100 => ⟨S4096x2048, .f32⟩
  | 101 => ⟨S4096x2048, .f32⟩
  | 102 => ⟨S4096x2048, .f32⟩
  | 103 => ⟨S4096x2048, .f32⟩
  | 104 => ⟨S4096x2048, .f32⟩
  | 105 => ⟨S4096x2048, .f32⟩
  | 106 => ⟨S4096x2048, .f32⟩
  | 107 => ⟨S_, .f32⟩
  | 108 => ⟨S2048, .f32⟩
  | 109 => ⟨S1x2048, .f32⟩
  | 110 => ⟨S4096x2048, .f32⟩
  | 111 => ⟨S4096x2048, .f32⟩
  | 112 => ⟨S4096x2048, .f32⟩
  | 113 => ⟨S_, .f32⟩
  | 114 => ⟨S4096, .f32⟩
  | 115 => ⟨S4096x1, .f32⟩
  | 116 => ⟨S4096x2048, .f32⟩
  | 117 => ⟨S4096x2048, .f32⟩
  | 118 => ⟨S4096x1, .f32⟩
  | 119 => ⟨S_, .f32⟩
  | 120 => ⟨S4096x1, .f32⟩
  | 121 => ⟨S4096x1, .f32⟩
  | 122 => ⟨S_, .f32⟩
  | 123 => ⟨S4096, .f32⟩
  | 124 => ⟨S4096x2048, .f32⟩
  | 125 => ⟨S4096x2048, .f32⟩
  | 126 => ⟨S4096x2048, .f32⟩
  | 127 => ⟨S4096x2048, .f32⟩
  | _ => ⟨S4096x2048, .f32⟩

abbrev hbmTy0_1 (i : Nat) : BufTy := match i % 128 with
  | 0 => ⟨S4096x2048, .f32⟩
  | 1 => ⟨S4096x2048, .f32⟩
  | 2 => ⟨S4096x2048, .bf16⟩
  | 3 => ⟨S4096x2048, .bf16⟩
  | 4 => ⟨S1x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_cst_15 : Ref sig .tc := ⟨.hbm, 72, rfl⟩
abbrev main_cst_16 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_19 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_20 : Ref sig .tc := ⟨.hbm, 94, rfl⟩
abbrev main_v67 : Ref sig .tc := ⟨.hbm, 95, rfl⟩
abbrev main_v68 : Ref sig .tc := ⟨.hbm, 96, rfl⟩
abbrev main_cst_21 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_22 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_23 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_24 : Ref sig .tc := ⟨.hbm, 119, rfl⟩
abbrev main_v88 : Ref sig .tc := ⟨.hbm, 120, rfl⟩
abbrev main_v89 : Ref sig .tc := ⟨.hbm, 121, rfl⟩
abbrev main_cst_25 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== GateInput.lean ====
abbrev S2048x2048 : Shape := ⟨2, ![2048, 2048]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateInputRefIdeal.lean ====
abbrev S2048x2048 : Shape := ⟨2, ![2048, 2048]⟩
abbrev S4096x2048 : Shape := ⟨2, ![4096, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S4096x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GateWeight.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateWeightRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeight.lean ====
abbrev S4096x2048 : Shape := ⟨2, ![4096, 2048]⟩
abbrev S4096x3072 : Shape := ⟨2, ![4096, 3072]⟩
abbrev S4x2048x768 : Shape := ⟨3, ![4, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S4096x2048, .bf16⟩
  | .hbm, ⟨3, _⟩ => ⟨S4096x3072, .bf16⟩
  | .hbm, ⟨4, _⟩ => ⟨S4x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightRefIdeal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩
abbrev S2048x768 : Shape := ⟨2, ![2048, 768]⟩
abbrev S1x2048x768 : Shape := ⟨3, ![1, 2048, 768]⟩
abbrev S4x2048x768 : Shape := ⟨3, ![4, 2048, 768]⟩

abbrev nBuf : Space → Nat
  | .hbm => 17
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3072, .f32⟩
  | .hbm, ⟨2, _⟩ => ⟨S_, .f32⟩
  | .hbm, ⟨3, _⟩ => ⟨S2048x3072, .f32⟩
  | .hbm, ⟨4, _⟩ => ⟨S4096x3072, .f32⟩
  | .hbm, ⟨5, _⟩ => ⟨S3072x2048, .f32⟩
  | .hbm, ⟨6, _⟩ => ⟨S2048x3072, .f32⟩
  | .hbm, ⟨7, _⟩ => ⟨S2048x768, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S1x2048x768, .f32⟩
  | .hbm, ⟨12, _⟩ => ⟨S1x2048x768, .f32⟩
  | .hbm, ⟨13, _⟩ => ⟨S1x2048x768, .f32⟩
  | .hbm, ⟨14, _⟩ => ⟨S1x2048x768, .f32⟩
  | .hbm, ⟨15, _⟩ => ⟨S4x2048x768, .f32⟩
  | .hbm, ⟨16, _⟩ => ⟨S4x2048x768, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Gate.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S2048x2048, .bf16⟩
  | .hbm, ⟨6, _⟩ => ⟨S4096x2048, .f32⟩
  | .hbm, ⟨7, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Project.lean ====
abbrev S4096x2048 : Shape := ⟨2, ![4096, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S4096x3072 : Shape := ⟨2, ![4096, 3072]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x2048, .bf16⟩
  | .hbm, ⟨3, _⟩ => ⟨S2048x3072, .bf16⟩
  | .hbm, ⟨4, _⟩ => ⟨S2048x4x768, .bf16⟩
  | .hbm, ⟨5, _⟩ => ⟨S4x2048x768, .bf16⟩
  | .hbm, ⟨6, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjectRefIdeal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Attend.lean ====
abbrev S4096x3072 : Shape := ⟨2, ![4096, 3072]⟩
abbrev S4096x1024 : Shape := ⟨2, ![4096, 1024]⟩
abbrev S_ : Shape := ⟨0, ![]⟩
abbrev S4096x2048 : Shape := ⟨2, ![4096, 2048]⟩
abbrev S8x4096x128 : Shape := ⟨3, ![8, 4096, 128]⟩
abbrev S4096x128 : Shape := ⟨2, ![4096, 128]⟩
abbrev S1x4096x128 : Shape := ⟨3, ![1, 4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x128 : Shape := ⟨3, ![1, 256, 128]⟩

abbrev nBuf : Space → Nat
  | .hbm => 15
  | .vmem => 10
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x2048, .f32⟩
  | .hbm, ⟨10, _⟩ => ⟨S4096x3072, .f32⟩
  | .hbm, ⟨11, _⟩ => ⟨S4096x3072, .bf16⟩
  | .hbm, ⟨12, _⟩ => ⟨S4096x2048, .bf16⟩
  | .hbm, ⟨13, _⟩ => ⟨S8x4096x128, .f32⟩
  | .hbm, ⟨14, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x4096x128, .f32⟩
  | .local _ .vmem, ⟨9, _⟩ => ⟨S1x4096x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.addi c8_i32 v16
  let c0_i32_4 : BitVec 32 := 0#32
  let c0_i32_5 : BitVec 32 := 0#32
  ![c0_i32_4.toNat, v17.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c10_i32 : BitVec 32 := 10#32
  let v17 : BitVec 32 := Scalar.addi c10_i32 v16
  let c0_i32_4 : BitVec 32 := 0#32
  let c0_i32_5 : BitVec 32 := 0#32
  ![c0_i32_4.toNat, v17.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttendRefIdeal.lean ====
abbrev S4096x3072 : Shape := ⟨2, ![4096, 3072]⟩
abbrev S4096x1024 : Shape := ⟨2, ![4096, 1024]⟩
abbrev S4096x256 : Shape := ⟨2, ![4096, 256]⟩
abbrev S4096x2x4x128 : Shape := ⟨4, ![4096, 2, 4, 128]⟩
abbrev S4096x2x128 : Shape := ⟨3, ![4096, 2, 128]⟩
abbrev S2x4096x4096x4 : Shape := ⟨4, ![2, 4096, 4096, 4]⟩
abbrev S2x4x4096x4096 : Shape := ⟨4, ![2, 4, 4096, 4096]⟩
abbrev S_ : Shape := ⟨0, ![]⟩
abbrev S2x4x4096 : Shape := ⟨3, ![2, 4, 4096]⟩
abbrev S2x4x4096x1 : Shape := ⟨4, ![2, 4, 4096, 1]⟩
abbrev S2x128x4x4096 : Shape := ⟨4, ![2, 128, 4, 4096]⟩
abbrev S8x4096x1 : Shape := ⟨3, ![8, 4096, 1]⟩
abbrev S8x4096x128 : Shape := ⟨3, ![8, 4096, 128]⟩

abbrev nBuf : Space → Nat
  | .hbm => 53
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x256, .f32⟩
  | .hbm, ⟨3, _⟩ => ⟨S4096x256, .f32⟩
  | .hbm, ⟨4, _⟩ => ⟨S4096x2x4x128, .f32⟩
  | .hbm, ⟨5, _⟩ => ⟨S4096x2x128, .f32⟩
  | .hbm, ⟨6, _⟩ => ⟨S2x4096x4096x4, .f32⟩
  | .hbm, ⟨7, _⟩ => ⟨S2x4x4096x4096, .f32⟩
  | .hbm, ⟨8, _⟩ => ⟨S_, .f32⟩
  | .hbm, ⟨9, _⟩ => ⟨S2x4x4096x4096, .f32⟩
  | .hbm, ⟨10, _⟩ => ⟨S2x4x4096x4096, .f32⟩
  | .hbm, ⟨11, _⟩ => ⟨S_, .f32⟩
  | .hbm, ⟨12, _⟩ => ⟨S2x4x4096, .f32⟩
  | .hbm, ⟨13, _⟩ => ⟨S2x4x4096x1, .f32⟩
  | .hbm, ⟨14, _⟩ => ⟨S2x4x4096x4096, .f32⟩
  | .hbm, ⟨15, _⟩ => ⟨S2x4x4096x4096, .f32⟩
  | .hbm, ⟨16, _⟩ => ⟨S2x4x4096x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S2x4x4096, .f32⟩
  | .hbm, ⟨21, _⟩ => ⟨S_, .f32⟩
  | .hbm, ⟨22, _⟩ => ⟨S_, .f32⟩
  | .hbm, ⟨23, _⟩ => ⟨S2x4x4096, .f32⟩
  | .hbm, ⟨24, _⟩ => ⟨S2x4x4096, .f32⟩
  | .hbm, ⟨25, _⟩ => ⟨S4096x2x4x128, .f32⟩
  | .hbm, ⟨26, _⟩ => ⟨S4096x2x128, .f32⟩
  | .hbm, ⟨27, _⟩ => ⟨S4096x2x128, .f32⟩
  | .hbm, ⟨28, _⟩ => ⟨S2x4096x4096x4, .f32⟩
  | .hbm, ⟨29, _⟩ => ⟨S2x4x4096x4096, .f32⟩
  | .hbm, ⟨30, _⟩ => ⟨S_, .f32⟩
  | .hbm, ⟨31, _⟩ => ⟨S2x4x4096x4096, .f32⟩
  | .hbm, ⟨32, _⟩ => ⟨S2x4x4096x4096, .f32⟩
  | .hbm, ⟨33, _⟩ => ⟨S_, .f32⟩
  | .hbm, ⟨34, _⟩ => ⟨S2x4x4096, .f32⟩
  | .hbm, ⟨35, _⟩ => ⟨S_, .f32⟩
  | .hbm, ⟨36, _⟩ => ⟨S2x4x4096, .f32⟩
  | .hbm, ⟨37, _⟩ => ⟨S2x4x4096, .f32⟩
  | .hbm, ⟨38, _⟩ => ⟨S2x4x4096x1, .f32⟩
  | .hbm, ⟨39, _⟩ => ⟨S2x4x4096x4096, .f32⟩
  | .hbm, ⟨40, _⟩ => ⟨S2x4x4096x4096, .f32⟩
  | .hbm, ⟨41, _⟩ => ⟨S2x4x4096x4096, .f32⟩
  | .hbm, ⟨42, _⟩ => ⟨S_, .f32⟩
  | .hbm, ⟨43, _⟩ => ⟨S2x4x4096, .f32⟩
  | .hbm, ⟨44, _⟩ => ⟨S2x4x4096x1, .f32⟩
  | .hbm, ⟨45, _⟩ => ⟨S2x4x4096x4096, .f32⟩
  | .hbm, ⟨46, _⟩ => ⟨S2x4x4096x4096, .f32⟩
  | .hbm, ⟨47, _⟩ => ⟨S2x128x4x4096, .f32⟩
  | .hbm, ⟨48, _⟩ => ⟨S4096x2x4x128, .f32⟩
  | .hbm, ⟨49, _⟩ => ⟨S4096x1024, .f32⟩
  | .hbm, ⟨50, _⟩ => ⟨S4096x1024, .bf16⟩
  | .hbm, ⟨51, _⟩ => ⟨S8x4096x1, .f32⟩
  | .hbm, ⟨52, _⟩ => ⟨S8x4096x128, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_cst_5 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_6 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩

abbrev nD : Nat := 1
abbrev τ : Topo := Topo.v7x

variable {F : FTy → Type} [FloatOps F]
-- ==== Update.lean ====
abbrev S8x2048x2048 : Shape := ⟨3, ![8, 2048, 2048]⟩
abbrev S2048x2048 : Shape := ⟨2, ![2048, 2048]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S8x2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpdateRefIdeal.lean ====
abbrev S8x2048x2048 : Shape := ⟨3, ![8, 2048, 2048]⟩
abbrev S2048x2048 : Shape := ⟨2, ![2048, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateSmall.lean ====
abbrev S8x2048 : Shape := ⟨2, ![8, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== UpdateSmallRefIdeal.lean ====
abbrev S8x2048 : Shape := ⟨2, ![8, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== InputBack.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== InputBackRefIdeal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Embed.lean ====
abbrev S4096x256 : Shape := ⟨2, ![4096, 256]⟩
abbrev S256x2048 : Shape := ⟨2, ![256, 2048]⟩
abbrev S256x4x512 : Shape := ⟨3, ![256, 4, 512]⟩
abbrev S4x256x512 : Shape := ⟨3, ![4, 256, 512]⟩
abbrev S4096x2048 : Shape := ⟨2, ![4096, 2048]⟩
abbrev S1024x256 : Shape := ⟨2, ![1024, 256]⟩
abbrev S1x256x512 : Shape := ⟨3, ![1, 256, 512]⟩
abbrev S1024x512 : Shape := ⟨2, ![1024, 512]⟩
abbrev S256x512 : Shape := ⟨2, ![256, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x256, .bf16⟩
  | .hbm, ⟨3, _⟩ => ⟨S256x2048, .bf16⟩
  | .hbm, ⟨4, _⟩ => ⟨S256x4x512, .bf16⟩
  | .hbm, ⟨5, _⟩ => ⟨S4x256x512, .bf16⟩
  | .hbm, ⟨6, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1x256x512, .bf16⟩
  | .local _ .vmem, ⟨3, _⟩ => ⟨S1x256x512, .bf16⟩
  | .local _ .vmem, ⟨4, _⟩ => ⟨S1024x512, .f32⟩
  | .local _ .vmem, ⟨5, _⟩ => ⟨S1024x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EmbedRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EmbedWeight.lean ====
abbrev S4096x256 : Shape := ⟨2, ![4096, 256]⟩
abbrev S4096x2048 : Shape := ⟨2, ![4096, 2048]⟩
abbrev S4x256x512 : Shape := ⟨3, ![4, 256, 512]⟩
abbrev S2048x256 : Shape := ⟨2, ![2048, 256]⟩
abbrev S2048x512 : Shape := ⟨2, ![2048, 512]⟩
abbrev S1x256x512 : Shape := ⟨3, ![1, 256, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S4096x256, .bf16⟩
  | .hbm, ⟨3, _⟩ => ⟨S4096x2048, .bf16⟩
  | .hbm, ⟨4, _⟩ => ⟨S4x256x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x256x512, .bf16⟩
  | .local _ .vmem, ⟨5, _⟩ => ⟨S1x256x512, .bf16⟩
  | .local _ .vmem, ⟨6, _⟩ => ⟨S256x512, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EmbedWeightRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩
abbrev S256x512 : Shape := ⟨2, ![256, 512]⟩
abbrev S1x256x512 : Shape := ⟨3, ![1, 256, 512]⟩
abbrev S4x256x512 : Shape := ⟨3, ![4, 256, 512]⟩

abbrev nBuf : Space → Nat
  | .hbm => 17
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S_, .f32⟩
  | .hbm, ⟨3, _⟩ => ⟨S256x2048, .f32⟩
  | .hbm, ⟨4, _⟩ => ⟨S4096x2048, .f32⟩
  | .hbm, ⟨5, _⟩ => ⟨S2048x256, .f32⟩
  | .hbm, ⟨6, _⟩ => ⟨S256x2048, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S1x256x512, .f32⟩
  | .hbm, ⟨12, _⟩ => ⟨S1x256x512, .f32⟩
  | .hbm, ⟨13, _⟩ => ⟨S1x256x512, .f32⟩
  | .hbm, ⟨14, _⟩ => ⟨S1x256x512, .f32⟩
  | .hbm, ⟨15, _⟩ => ⟨S4x256x512, .f32⟩
  | .hbm, ⟨16, _⟩ => ⟨S4x256x512, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== UpdateIn.lean ====
abbrev S8x2048x768 : Shape := ⟨3, ![8, 2048, 768]⟩
abbrev S2048x768 : Shape := ⟨2, ![2048, 768]⟩
abbrev S8x256x768 : Shape := ⟨3, ![8, 256, 768]⟩
abbrev S256x768 : Shape := ⟨2, ![256, 768]⟩
abbrev S1x256x768 : Shape := ⟨3, ![1, 256, 768]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S8x2048x768, .bf16⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S8x256x768, .bf16⟩
  | .local _ .vmem, ⟨1, _⟩ => ⟨S8x256x768, .bf16⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpdateInRefIdeal.lean ====
abbrev S8x2048x768 : Shape := ⟨3, ![8, 2048, 768]⟩
abbrev S2048x768 : Shape := ⟨2, ![2048, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S_, .f32⟩
  | .hbm, ⟨7, _⟩ => ⟨S2048x768, .f32⟩
  | .hbm, ⟨8, _⟩ => ⟨S2048x768, .f32⟩
  | .hbm, ⟨9, _⟩ => ⟨S_, .f32⟩
  | .hbm, ⟨10, _⟩ => ⟨S2048x768, .f32⟩
  | .hbm, ⟨11, _⟩ => ⟨S2048x768, .f32⟩
  | .hbm, ⟨12, _⟩ => ⟨S2048x768, .f32⟩
  | .hbm, ⟨13, _⟩ => ⟨S_, .f32⟩
  | .hbm, ⟨14, _⟩ => ⟨S2048x768, .f32⟩
  | .hbm, ⟨15, _⟩ => ⟨S2048x768, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S2048x768, .f32⟩
  | .hbm, ⟨21, _⟩ => ⟨S_, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S2048x768, .f32⟩
  | .hbm, ⟨36, _⟩ => ⟨S_, .f32⟩
  | .hbm, ⟨37, _⟩ => ⟨S2048x768, .f32⟩
  | .hbm, ⟨38, _⟩ => ⟨S2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateOut.lean ====
abbrev S8x512x2048 : Shape := ⟨3, ![8, 512, 2048]⟩
abbrev S512x2048 : Shape := ⟨2, ![512, 2048]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .bf16⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpdateOutRefIdeal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== UpdateEmbed.lean ====
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 9
  | .vmem => 8
  | .smem => 0
  | _ => 0

abbrev bufTy : (tb : Table) → Fin (tcTables nBuf tb) → BufTy
  | .hbm, ⟨0, _⟩ => ⟨S8x256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S8x256x512, .bf16⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .local _ .vmem, ⟨0, _⟩ => ⟨S8x256x512, .bf16⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== UpdateEmbedRefIdeal.lean ====
abbrev S8x256x512 : Shape := ⟨3, ![8, 256, 512]⟩
abbrev S256x512 : Shape := ⟨2, ![256, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S_, .f32⟩
  | .hbm, ⟨7, _⟩ => ⟨S256x512, .f32⟩
  | .hbm, ⟨8, _⟩ => ⟨S256x512, .f32⟩
  | .hbm, ⟨9, _⟩ => ⟨S_, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S256x512, .f32⟩
  | .hbm, ⟨21, _⟩ => ⟨S_, .f32⟩
  | .hbm, ⟨22, _⟩ => ⟨S256x512, .f32⟩
  | .hbm, ⟨23, _⟩ => ⟨S256x512, .f32⟩
  | .hbm, ⟨24, _⟩ => ⟨S_, .f32⟩
  | .hbm, ⟨25, _⟩ => ⟨S256x512, .f32⟩
  | .hbm, ⟨26, _⟩ => ⟨S256x512, .f32⟩
  | .hbm, ⟨27, _⟩ => ⟨S256x512, .f32⟩
  | .hbm, ⟨28, _⟩ => ⟨S_, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S_, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S_, .f32⟩
  | .hbm, ⟨37, _⟩ => ⟨S256x512, .f32⟩
  | .hbm, ⟨38, _⟩ => ⟨S256x512, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.RealIdeal.lean ====
/-
  Extended reals that are real numbers: the operations of the two programs on them, and the literals the programs use.
  Every lemma here says that an operation applied to real numbers gives the real number one expects.
-/
module

public import Idealize.ShloMosaic.Lib.Pointwise

@[expose] public section

noncomputable section

namespace Cert.RealIdeal

open Idealize.ShloMosaic

/-- The factor `128 ^ (-1/2)` as the programs have it: the real number of its `f32` literal. -/
def scale : ℝ := 11863283 / 134217728

theorem scale_ne_zero : scale ≠ 0 := by unfold scale; norm_num

theorem ofBits_scale : Ideal.ofBits .f32 0x3DB504F3#32 = (scale : EReal) := by
  have h : (8388608 + 3474675 : ℝ) * (2 : ℝ) ^ (-27 : Int) = scale := by unfold scale; norm_num
  rw [← h]
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

theorem exp_coe (r : ℝ) : Ideal.exp (r : EReal) = (Real.exp r : EReal) := rfl

theorem exp2_coe (r : ℝ) : Ideal.exp2 (r : EReal) = ((2 : ℝ) ^ r : ℝ) := rfl

theorem log_coe {r : ℝ} (h : 0 < r) : Ideal.log (r : EReal) = (Real.log r : EReal) := by
  show (if r ≤ 0 then (⊥ : EReal) else (Real.log r : EReal)) = _
  rw [if_neg (not_le.mpr h)]

theorem div_coe (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

/-- A finite sum of real numbers, taken among the extended reals, is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The greatest of finitely many real numbers (at least one), with `-∞` for the start value, is a real number. -/
theorem fold_max_coe {n : ℕ} (hn : 0 < n) (f : Fin n → ℝ) :
    ∃ M : ℝ, Finset.fold max (⊥ : EReal) (fun i => (f i : EReal)) Finset.univ = (M : EReal) := by
  have key : ∀ s : Finset (Fin n), s.Nonempty →
      ∃ M : ℝ, Finset.fold max (⊥ : EReal) (fun i => (f i : EReal)) s = (M : EReal) := by
    classical
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact key _ ⟨⟨0, hn⟩, Finset.mem_univ _⟩

/-- The real number that the greatest of finitely many real numbers is. -/
def rowMax {n : ℕ} (f : Fin n → ℝ) : ℝ := (Finset.fold max (⊥ : EReal) (fun i => (f i : EReal)) Finset.univ).toReal

theorem fold_max_eq {n : ℕ} [NeZero n] (f : Fin n → ℝ) :
    Finset.fold max (⊥ : EReal) (fun i => (f i : EReal)) Finset.univ = (rowMax f : EReal) := by
  obtain ⟨M, hM⟩ := fold_max_coe (Nat.pos_of_ne_zero (NeZero.ne n)) f
  unfold rowMax
  rw [hM, EReal.toReal_coe]

theorem sum_exp_pos {n : ℕ} [NeZero n] (f : Fin n → ℝ) : 0 < ∑ i, Real.exp (f i) :=
  Finset.sum_pos (fun i _ => Real.exp_pos _) ⟨⟨0, Nat.pos_of_ne_zero (NeZero.ne n)⟩, Finset.mem_univ _⟩

theorem sum_exp_ne_zero {n : ℕ} [NeZero n] (f : Fin n → ℝ) : ∑ i, Real.exp (f i) ≠ 0 := (sum_exp_pos f).ne'

theorem log_two_ne_zero : Real.log 2 ≠ 0 := (Real.log_pos (by norm_num)).ne'

/-- `2 ^ (t / log 2)` is `e ^ t`. -/
theorem two_rpow_div_log (t : ℝ) : (2 : ℝ) ^ (t / Real.log 2) = Real.exp t := by
  rw [Real.rpow_def_of_pos (by norm_num), mul_div_cancel₀ _ log_two_ne_zero]

/-- A number whose absolute value (the greater of it and its negative) is below `+∞` is a real number. -/
theorem eq_coe_of_abs_lt (x : EReal) (h : max x (-x) < ⊤) : x = ((x.toReal : ℝ) : EReal) := by
  induction x using EReal.rec with
  | bot => simp at h
  | top => simp at h
  | coe r => simp

end Cert.RealIdeal

end
-- ==== Proof.AttnMath.lean ====
/-
  The mathematics of the gradient of grouped attention, over the real numbers: the softmax weights of one query, the
  gradient of its scores, and the gradients of the queries, the keys and the values. `x` holds the queries, the keys and the
  values side by side, one row per position; `y` holds the gradient of the attention's result. `qb` is the first column of
  one query head, `kb` the distance from the first key column (1024), and from the first value column (1280), to the columns of the head
  that the query head reads.
-/
module

public import proofs.«01_k».proof.Proof.RealIdeal

@[expose] public section

noncomputable section

namespace Cert.AttnMath

open Cert.RealIdeal

variable (x y : ℕ → ℕ → ℝ) (kb qb : ℕ)

/-- The score of query `i` against key `s`. -/
def score (i s : ℕ) : ℝ := (∑ d : Fin 128, x s (1024 + (kb + d)) * x i (qb + d)) * scale

/-- The softmax weight of key `s` for query `i`. -/
def weight (i s : ℕ) : ℝ := Real.exp (score x kb qb i s) / ∑ s' : Fin 4096, Real.exp (score x kb qb i s')

/-- The gradient of the weight of key `s` for query `i`. -/
def weightGrad (i s : ℕ) : ℝ := ∑ d : Fin 128, y i (qb + d) * x s (1280 + (kb + d))

/-- The gradient of the score of query `i` against key `s`. -/
def scoreGrad (i s : ℕ) : ℝ :=
  weight x kb qb i s * (weightGrad x y kb qb i s - ∑ s' : Fin 4096, weight x kb qb i s' * weightGrad x y kb qb i s')

/-- The gradient of the queries, divided by the scale. -/
def queryGrad (i d : ℕ) : ℝ := ∑ s : Fin 4096, scoreGrad x y kb qb i s * x s (1024 + (kb + d))

/-- The gradient of the keys, divided by `log 2`. -/
def keyGrad (kv s d : ℕ) : ℝ := ∑ i : Fin 4096, ∑ g : Fin 4,
  scoreGrad x y (kv * 128) (kv * 512 + g * 128) i s * (x i (kv * 512 + g * 128 + d) * scale / Real.log 2)

/-- The gradient of the values. -/
def valueGrad (kv s d : ℕ) : ℝ := ∑ i : Fin 4096, ∑ g : Fin 4,
  weight x (kv * 128) (kv * 512 + g * 128) i s * y i (kv * 512 + g * 128 + d)

/-- The attention's result. -/
def attended (i d : ℕ) : ℝ := ∑ s : Fin 4096, x s (1280 + (kb + d)) * weight x kb qb i s

/-- The logarithm to base 2 of the sum of the exponentials of the scores, as it is computed. -/
def logSum (i : ℕ) : ℝ :=
  ((rowMax fun s : Fin 4096 => score x kb qb i s) + Real.log (∑ s : Fin 4096, Real.exp (score x kb qb i s
      - rowMax fun s : Fin 4096 => score x kb qb i s))) / Real.log 2

/-! ### The weights do not depend on the number taken from the scores first -/

theorem softmax_shift (f : Fin 4096 → ℝ) (M t : ℝ) :
    Real.exp (t - M) / ∑ s, Real.exp (f s - M) = Real.exp t / ∑ s, Real.exp (f s) := by
  simp only [Real.exp_sub]
  rw [← Finset.sum_div, div_div_div_cancel_right₀ (Real.exp_pos M).ne']

theorem weight_shift (M : ℝ) (i s : ℕ) :
    Real.exp (score x kb qb i s - M) / ∑ s' : Fin 4096, Real.exp (score x kb qb i s' - M) = weight x kb qb i s :=
  softmax_shift (fun s' => score x kb qb i s') M _

/-- The weight as a power of 2, the logarithm of the sum taken to base 2. -/
theorem weight_rpow (M : ℝ) (i s : ℕ) :
    (2 : ℝ) ^ (score x kb qb i s / Real.log 2
        - (M + Real.log (∑ s' : Fin 4096, Real.exp (score x kb qb i s' - M))) / Real.log 2) = weight x kb qb i s := by
  rw [← sub_div, two_rpow_div_log, ← sub_sub, Real.exp_sub, Real.exp_log (sum_exp_pos _), weight_shift]

/-- The gradient of a score, the way differentiating a quotient gives it: `e` the exponentials, `Z` their sum. -/
theorem scoreGrad_quotient (M : ℝ) (i s : ℕ) :
    (weightGrad x y kb qb i s / (∑ s' : Fin 4096, Real.exp (score x kb qb i s' - M))
        + -∑ s' : Fin 4096, weightGrad x y kb qb i s'
            * (1 / ((∑ s' : Fin 4096, Real.exp (score x kb qb i s' - M)) * ∑ s' : Fin 4096, Real.exp (score x kb qb i s' - M)))
            * Real.exp (score x kb qb i s' - M))
      * Real.exp (score x kb qb i s - M) = scoreGrad x y kb qb i s := by
  unfold scoreGrad
  simp only [← weight_shift x kb qb M]
  have hZ := sum_exp_ne_zero (fun s' : Fin 4096 => score x kb qb i s' - M)
  generalize (∑ s' : Fin 4096, Real.exp (score x kb qb i s' - M)) = Z at hZ ⊢
  have e : (∑ s' : Fin 4096, Real.exp (score x kb qb i s' - M) / Z * weightGrad x y kb qb i s')
      = Z * ∑ s' : Fin 4096, weightGrad x y kb qb i s' * (1 / (Z * Z)) * Real.exp (score x kb qb i s' - M) := by
    rw [Finset.mul_sum]
    refine Finset.sum_congr rfl fun s' _ => ?_
    field_simp
  rw [e]
  field_simp
  ring

/-! ### The kernel's forms -/

/-- The score from the queries scaled and divided by `log 2`. -/
theorem score_div_log (i s : ℕ) :
    ∑ d : Fin 128, x i (qb + d) * scale / Real.log 2 * x s (1024 + (kb + d)) = score x kb qb i s / Real.log 2 := by
  rw [score, Finset.sum_mul, Finset.sum_div]
  exact Finset.sum_congr rfl fun d _ => by ring

/-- The weight, the way the kernel computes it. -/
theorem weight_logSum (i s : ℕ) :
    (2 : ℝ) ^ (∑ d : Fin 128, x i (qb + d) * scale / Real.log 2 * x s (1024 + (kb + d)) - logSum x kb qb i) = weight x kb qb i s := by
  rw [score_div_log, logSum, weight_rpow]

/-- The row sum of the result's gradient times the result is the mean of the gradients of the weights. -/
theorem sum_grad_attended (i : ℕ) :
    ∑ d : Fin 128, y i (qb + d) * attended x kb qb i d = ∑ s : Fin 4096, weight x kb qb i s * weightGrad x y kb qb i s := by
  simp only [attended, weightGrad, Finset.mul_sum]
  rw [Finset.sum_comm]
  exact Finset.sum_congr rfl fun s _ => Finset.sum_congr rfl fun d _ => by ring

/-- What `n` rows of queries from row `b` on add to the gradient of the keys. -/
def keyPart (b n s d : ℕ) : ℝ :=
  ∑ r : Fin n, scoreGrad x y kb qb (b + r) s * (x (b + r) (qb + d) * scale / Real.log 2)

/-- What `n` rows of queries from row `b` on add to the gradient of the values. -/
def valuePart (b n s d : ℕ) : ℝ := ∑ r : Fin n, weight x kb qb (b + r) s * y (b + r) (qb + d)

/-- A sum over rows cut in four equal runs. -/
theorem sum_four (f : ℕ → ℝ) (b n : ℕ) :
    ∑ r : Fin n, f (b + r) + ∑ r : Fin n, f (b + n + r) + ∑ r : Fin n, f (b + 2 * n + r) + ∑ r : Fin n, f (b + 3 * n + r)
      = ∑ r : Fin (4 * n), f (b + r) := by
  simp only [Finset.sum_range fun r => f (b + r), ← Fin.sum_univ_eq_sum_range fun r => f (b + r), add_assoc]
  have h (k : ℕ) : ∑ r : Fin n, f (b + (k + r)) = ∑ r ∈ Finset.range n, f (b + (k + r)) := Fin.sum_univ_eq_sum_range (fun r => f (b + (k + r))) n
  rw [Fin.sum_univ_eq_sum_range (fun r => f (b + r)), Fin.sum_univ_eq_sum_range (fun r => f (b + r)), Fin.sum_univ_eq_sum_range (fun r => f (b + (n + r))), h, h,
    show 4 * n = n + n + n + n by ring, Finset.sum_range_add, Finset.sum_range_add, Finset.sum_range_add]
  simp only [two_mul, show 3 * n = n + n + n by ring, add_assoc]

theorem keyPart_four (b n s d : ℕ) :
    keyPart x y kb qb b n s d + keyPart x y kb qb (b + n) n s d + keyPart x y kb qb (b + 2 * n) n s d + keyPart x y kb qb (b + 3 * n) n s d
      = keyPart x y kb qb b (4 * n) s d :=
  sum_four (fun r => scoreGrad x y kb qb r s * (x r (qb + d) * scale / Real.log 2)) b n

theorem valuePart_four (b n s d : ℕ) :
    valuePart x y kb qb b n s d + valuePart x y kb qb (b + n) n s d + valuePart x y kb qb (b + 2 * n) n s d + valuePart x y kb qb (b + 3 * n) n s d
      = valuePart x y kb qb b (4 * n) s d :=
  sum_four (fun r => weight x kb qb r s * y r (qb + d)) b n

/-- Sixteen parts, four row tiles for each of four query heads, are the sum over all rows and query heads. -/
theorem sum_sixteen (f : ℕ → ℕ → ℝ) :
    ∑ k ∈ Finset.range 16, ∑ r : Fin 1024, f (k / 4) (k % 4 * 1024 + r) = ∑ i : Fin 4096, ∑ g : Fin 4, f g i := by
  have h (g : ℕ) : ∑ i : Fin 4096, f g i = ∑ r : Fin 1024, f g (0 * 1024 + r) + ∑ r : Fin 1024, f g (1 * 1024 + r)
      + ∑ r : Fin 1024, f g (2 * 1024 + r) + ∑ r : Fin 1024, f g (3 * 1024 + r) := by
    have := sum_four (f g) 0 1024
    simp only [zero_add] at this
    simp only [zero_mul, zero_add, one_mul]
    exact this.symm
  have e : ∑ i : Fin 4096, ∑ g : Fin 4, f g i = ∑ g : Fin 4, ∑ i : Fin 4096, f g i := Finset.sum_comm
  rw [e, Fin.sum_univ_four]
  simp only [h, Finset.sum_range_succ, Finset.sum_range_zero]
  norm_num
  ring

theorem keyGrad_eq (kv s d : ℕ) :
    ∑ k ∈ Finset.range 16, keyPart x y (kv * 128) (kv * 512 + k / 4 * 128) (k % 4 * 1024) 1024 s d = keyGrad x y kv s d :=
  sum_sixteen fun g i => scoreGrad x y (kv * 128) (kv * 512 + g * 128) i s * (x i (kv * 512 + g * 128 + d) * scale / Real.log 2)

theorem valueGrad_eq (kv s d : ℕ) :
    ∑ k ∈ Finset.range 16, valuePart x y (kv * 128) (kv * 512 + k / 4 * 128) (k % 4 * 1024) 1024 s d = valueGrad x y kv s d :=
  sum_sixteen fun g i => weight x (kv * 128) (kv * 512 + g * 128) i s * y i (kv * 512 + g * 128 + d)

end Cert.AttnMath

end
-- ==== Proof.KernelRead.lean ====
/-
  The arrays that the host lines prepare for the kernel's region, element by element, as real numbers, when the two arguments
  hold real numbers: the packed queries, keys and values, the attention's result, and the logarithms of the sums of exponentials.
-/
module

public import proofs.«01_k».proof.Proof.Gen.KernelIdeal.Value
public import proofs.«01_k».proof.Proof.AttnMath
public import Idealize.ShloMosaic.Lib.Pipeline.ValueKit.Point
public import Idealize.ShloMosaic.Lib.Pointwise

@[expose] public section

noncomputable section

namespace Cert.KernelRead

open Idealize.ShloMosaic Idealize.ShloMosaic.TcCoe Idealize.SL.Sem Cert.KernelIdeal Cert.KernelIdeal.Gen
open Cert.RealIdeal Cert.AttnMath

section arrays

variable (a : FVec Ideal S4096x3072 .f32)

/-- The queries, by key head and query head within it. -/
def qs : FVec Ideal S4096x2x4x128 .f32 :=
  shapeCast _ (extractStridedSlice S4096x1024 ![0, 0] a slices_S4096x3072_S4096x1024_0_0) shapeCasts_S4096x1024_S4096x2x4x128

/-- The keys, by head. -/
def ks : FVec Ideal S4096x2x128 .f32 :=
  shapeCast _ (extractStridedSlice S4096x256 ![0, 1024] a slices_S4096x3072_S4096x256_0_1024) shapeCasts_S4096x256_S4096x2x128

/-- The values, by head. -/
def vs : FVec Ideal S4096x2x128 .f32 :=
  shapeCast _ (extractStridedSlice S4096x256 ![0, 1280] a slices_S4096x3072_S4096x256_0_1280) shapeCasts_S4096x256_S4096x2x128

/-- The scores. -/
def scores : FVec Ideal S2x4x4096x4096 .f32 :=
  mulf (transpose S2x4x4096x4096 [0, 3, 2, 1] (Host.dotGeneral dot_S4096x2x128_S4096x2x4x128_S2x4096x4096x4_2_3_0_02_1_1 none (ks a) (qs a)) transposes_S2x4096x4096x4_S2x4x4096x4096_0_3_2_1) (broadcastInDim S2x4x4096x4096 ![] bcast_S_S2x4x4096x4096 (constant S_ .f32 0x3DB504F3#32))

/-- The greatest score of each query. -/
def tops : FVec Ideal S2x4x4096 .f32 :=
  Host.reduce FloatOps.maximumf (scores a) (constant S_ .f32 0xFF800000#32) reducesTo_S2x4x4096x4096_S2x4x4096_d3 h_S_

/-- The exponentials of the scores less the greatest. -/
def exps : FVec Ideal S2x4x4096x4096 .f32 :=
  Host.exp (subf (scores a) (broadcastInDim S2x4x4096x4096 ![0, 1, 2, 3] bcast_S2x4x4096x1_S2x4x4096x4096_0_1_2_3 (broadcastInDim S2x4x4096x1 ![0, 1, 2] bcast_S2x4x4096_S2x4x4096x1_0_1_2 (tops a))))

/-- The sum of the exponentials of each query. -/
def sums : FVec Ideal S2x4x4096 .f32 :=
  Host.reduceAdd (exps a) (constant S_ .f32 0x00000000#32) reducesTo_S2x4x4096x4096_S2x4x4096_d3 h_S_

/-- The logarithm to base 2 of the sum of the exponentials of the scores, from the greatest score and the sum taken with it. -/
def logs4 (t u : FVec Ideal S2x4x4096 .f32) : FVec Ideal S2x4x4096x1 .f32 :=
  Host.divf (addf (broadcastInDim S2x4x4096x1 ![0, 1, 2] bcast_S2x4x4096_S2x4x4096x1_0_1_2 t) (Host.log (broadcastInDim S2x4x4096x1 ![0, 1, 2] bcast_S2x4x4096_S2x4x4096x1_0_1_2 u))) (broadcastInDim S2x4x4096x1 ![] bcast_S_S2x4x4096x1 (Host.log (constant S_ .f32 0x40000000#32)))

/-- The same with one axis for the heads, along 128 lanes. -/
def logs : FVec Ideal S8x4096x128 .f32 :=
  broadcastInDim S8x4096x128 ![0, 1, 2] bcast_S8x4096x1_S8x4096x128_0_1_2 (broadcastInDim S8x4096x1 ![0, 1] bcast_S8x4096_S8x4096x1_0_1 (shapeCast _ (logs4 (tops a) (sums a)) shapeCasts_S2x4x4096x1_S8x4096))

/-- The attention's result, and zeros where the other heads' result would be. -/
def atts : FVec Ideal S4096x2048 .bf16 :=
  truncf .bf16 (concatenate S4096x2048 1 [⟨S4096x1024, (shapeCast _ (transpose S4096x2x4x128 [3, 0, 2, 1] (Host.dotGeneral dot_S4096x2x128_S2x4x4096x4096_S2x128x4x4096_0_3_2_12_1_0 none (vs a) (Host.divf (exps a) (broadcastInDim S2x4x4096x4096 ![0, 1, 2, 3] bcast_S2x4x4096x1_S2x4x4096x4096_0_1_2_3 (broadcastInDim S2x4x4096x1 ![0, 1, 2] bcast_S2x4x4096_S2x4x4096x1_0_1_2 (sums a))))) transposes_S2x128x4x4096_S4096x2x4x128_3_0_2_1) shapeCasts_S4096x2x4x128_S4096x1024 : FVec Ideal S4096x1024 .f32)⟩, ⟨S4096x1024, broadcastInDim S4096x1024 ![] bcast_S_S4096x1024 (constant S_ .f32 0x00000000#32)⟩] concatenates_S4096x1024_S4096x1024_S4096x2048_d1) bitsLt_bf16_f32

/-- The queries, scaled, followed by the keys and values and the rest. -/
def packed : FVec Ideal S4096x3072 .bf16 :=
  truncf .bf16 (concatenate S4096x3072 1 [⟨S4096x1024, Host.divf (mulf (extractStridedSlice S4096x1024 ![0, 0] a slices_S4096x3072_S4096x1024_0_0) (broadcastInDim S4096x1024 ![] bcast_S_S4096x1024 (constant S_ .f32 0x3DB504F3#32))) (broadcastInDim S4096x1024 ![] bcast_S_S4096x1024 (Host.log (constant S_ .f32 0x40000000#32)))⟩, ⟨S4096x2048, extractStridedSlice S4096x2048 ![0, 1024] a slices_S4096x3072_S4096x2048_0_1024⟩] concatenates_S4096x1024_S4096x2048_S4096x3072_d1) bitsLt_bf16_f32

variable {a} {x : ℕ → ℕ → ℝ} (hx : ∀ (i : Fin 4096) (j : Fin 3072), (a (ix2 i j) : EReal) = (x i j : EReal))
include hx

theorem qs_apply (i : Fin 4096) (kv : Fin 2) (g : Fin 4) (d : Fin 128) :
    (qs a (ix4 i kv g d) : EReal) = (x i (kv * 512 + g * 128 + d) : EReal) := by
  pointwise [qs]
  rw [hx]

theorem ks_apply (i : Fin 4096) (kv : Fin 2) (d : Fin 128) :
    (ks a (ix3 i kv d) : EReal) = (x i (1024 + (kv * 128 + d)) : EReal) := by
  pointwise [ks]
  rw [hx]

theorem vs_apply (i : Fin 4096) (kv : Fin 2) (d : Fin 128) :
    (vs a (ix3 i kv d) : EReal) = (x i (1280 + (kv * 128 + d)) : EReal) := by
  pointwise [vs]
  rw [hx]

theorem scores_apply (kv : Fin 2) (g : Fin 4) (i s : Fin 4096) :
    (scores a (ix4 kv g i s) : EReal) = (score x (kv * 128) (kv * 512 + g * 128) i s : EReal) := by
  pointwise [scores]
  simp only [qs_apply hx, ks_apply hx, ofBits_scale, ← EReal.coe_mul, sum_coe]
  rfl

omit hx in
/-- The greatest over the last of four axes, with any extents, at a position. -/
theorem reduce_max_apply {n0 n1 n2 n3 : ℕ} (v : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (i : Fin n0) (j : Fin n1) (k : Fin n2) :
    ((Host.reduce FloatOps.maximumf v init h hu : FVec Ideal _ .f32) (ix3 i j k) : EReal)
      = Finset.fold max (init (Shape.Idx.first hu) : EReal) (fun l => (v (ix4 i j k l) : EReal)) Finset.univ := by
  pointwise

omit hx in
theorem lowest (j : S_.Idx) : ((constant S_ .f32 0xFF800000#32 : FVec Ideal S_ .f32) j : EReal) = ⊥ := ofBits_neg_inf

theorem tops_apply (kv : Fin 2) (g : Fin 4) (i : Fin 4096) :
    (tops a (ix3 kv g i) : EReal) = (rowMax fun s : Fin 4096 => score x (kv * 128) (kv * 512 + g * 128) i s : ℝ) := by
  unfold tops
  rw [reduce_max_apply, lowest, ← fold_max_eq]
  simp only [scores_apply hx]

theorem exps_apply (kv : Fin 2) (g : Fin 4) (i s : Fin 4096) :
    (exps a (ix4 kv g i s) : EReal) = (Real.exp (score x (kv * 128) (kv * 512 + g * 128) i s
      - rowMax fun s : Fin 4096 => score x (kv * 128) (kv * 512 + g * 128) i s) : ℝ) := by
  pointwise [exps]
  rw [scores_apply hx, tops_apply hx, ← EReal.coe_sub, exp_coe]

theorem sums_apply (kv : Fin 2) (g : Fin 4) (i : Fin 4096) :
    (sums a (ix3 kv g i) : EReal) = (∑ s : Fin 4096, Real.exp (score x (kv * 128) (kv * 512 + g * 128) i s
      - rowMax fun s : Fin 4096 => score x (kv * 128) (kv * 512 + g * 128) i s) : ℝ) := by
  pointwise [sums]
  simp only [exps_apply hx, sum_coe]

omit hx in
theorem logs4_apply (t u : FVec Ideal S2x4x4096 .f32) (kv : Fin 2) (g : Fin 4) (i : Fin 4096) (z : Fin 1) :
    (logs4 t u (ix4 kv g i z) : EReal)
      = Ideal.div (t (ix3 kv g i) + Ideal.log (u (ix3 kv g i))) (Ideal.log (Ideal.ofBits .f32 0x40000000#32)) := by
  pointwise [logs4]

omit hx in
theorem spread_apply (v : FVec Ideal S2x4x4096x1 .f32) (h : Fin 8) (i : Fin 4096) (l : Fin 128) :
    (broadcastInDim S8x4096x128 ![0, 1, 2] bcast_S8x4096x1_S8x4096x128_0_1_2 (broadcastInDim S8x4096x1 ![0, 1] bcast_S8x4096_S8x4096x1_0_1
      (shapeCast _ v shapeCasts_S2x4x4096x1_S8x4096)) (ix3 h i l) : EReal)
      = v (ix4 (⟨h / 4, by omega⟩ : Fin 2) (⟨h % 4, by omega⟩ : Fin 4) i (0 : Fin 1)) := by
  pointwise

theorem logs_apply (h : Fin 8) (i : Fin 4096) (l : Fin 128) :
    (logs a (ix3 h i l) : EReal) = (logSum x (h / 4 * 128) (h / 4 * 512 + h % 4 * 128) i : ℝ) := by
  unfold logs
  rw [spread_apply, logs4_apply, tops_apply hx, sums_apply hx, ofBits_two, log_coe two_pos, log_coe (sum_exp_pos _), ← EReal.coe_add, div_coe _ log_two_ne_zero, logSum]

theorem atts_apply (i : Fin 4096) (j : Fin 2048) (h : j.val < 1024) :
    (atts a (ix2 i j) : EReal) = (attended x (j / 512 * 128) (j / 512 * 512 + j / 128 % 4 * 128) i (j % 128) : EReal) := by
  pointwise [atts]
  rw [dif_pos h]
  simp only [exps_apply hx, sums_apply hx, vs_apply hx, div_coe _ (sum_exp_ne_zero _), ← EReal.coe_mul, sum_coe, weight_shift]
  rfl

theorem packed_query (i : Fin 4096) (j : Fin 3072) (h : j.val < 1024) :
    (packed a (ix2 i j) : EReal) = (x i j * scale / Real.log 2 : ℝ) := by
  pointwise [packed]
  rw [dif_pos h, hx, ofBits_scale, ofBits_two, log_coe two_pos, ← EReal.coe_mul, div_coe _ log_two_ne_zero]

theorem packed_rest (i : Fin 4096) (j : Fin 3072) (h : 1024 ≤ j.val) : (packed a (ix2 i j) : EReal) = (x i j : EReal) := by
  pointwise [packed]
  rw [dif_neg (Nat.not_lt.mpr h), hx]
  simp only [Nat.add_sub_cancel' h]

end arrays

variable (m : (ℓ : Loc nD τ sig) → Buf (Elt Ideal) ℓ) (c : Dev nD)

theorem packed_eq (i : Fin 4096) (j : Fin 3072) :
    (V m c main_v10 (ix2 i j) : EReal) = packed (m ((c.tc : Thread nD τ).loc main_arg0)) (ix2 i j) := by
  entry_read
  rfl

theorem logs_eq (h : Fin 8) (i : Fin 4096) (l : Fin 128) :
    (V m c main_v40 (ix3 h i l) : EReal) = logs (m ((c.tc : Thread nD τ).loc main_arg0)) (ix3 h i l) := by
  entry_read
  rfl

theorem atts_eq (i : Fin 4096) (j : Fin 2048) :
    (V m c main_v38 (ix2 i j) : EReal) = atts (m ((c.tc : Thread nD τ).loc main_arg0)) (ix2 i j) := by
  entry_read
  rfl

theorem grads_eq (i : Fin 4096) (j : Fin 2048) :
    (V m c main_v41 (ix2 i j) : EReal) = m ((c.tc : Thread nD τ).loc main_arg1) (ix2 i j) := by
  entry_read
  pointwise

end Cert.KernelRead

end
-- ==== Proof.Blocks.lean ====
/-
  The blocks that the kernel's body reads at a grid point, element by element, as real numbers. Grid point `t` is key head
  `t / 16`, query head `t / 4 % 4` of that key head, and row tile `t % 4`.
-/
module

public import proofs.«01_k».proof.Proof.KernelRead

@[expose] public section

noncomputable section

namespace Cert.Blocks

open Idealize.ShloMosaic Idealize.ShloMosaic.TcCoe Idealize.SL.Sem Cert.KernelIdeal Cert.KernelIdeal.Gen
open Cert.RealIdeal Cert.AttnMath Cert.KernelRead

theorem lt32 (t : Fin cfg0.N) : t.val < 32 := t.isLt.trans_eq (by decide)

theorem index0 : ∀ t : Fin cfg0.N, win0_0.index t = ![t.val % 4, t.val / 16 * 4 + t.val / 4 % 4] := (by decide +kernel : ∀ t : Fin grid0.N, _)
theorem index1 : ∀ t : Fin cfg0.N, win0_1.index t = ![0, 8 + t.val / 16] := (by decide +kernel : ∀ t : Fin grid0.N, _)
theorem index2 : ∀ t : Fin cfg0.N, win0_2.index t = ![0, 10 + t.val / 16] := (by decide +kernel : ∀ t : Fin grid0.N, _)
theorem index3 : ∀ t : Fin cfg0.N, win0_3.index t = ![t.val % 4, t.val / 16 * 4 + t.val / 4 % 4] := (by decide +kernel : ∀ t : Fin grid0.N, _)
theorem index4 : ∀ t : Fin cfg0.N, win0_4.index t = ![t.val % 4, t.val / 16 * 4 + t.val / 4 % 4] := (by decide +kernel : ∀ t : Fin grid0.N, _)
theorem index5 : ∀ t : Fin cfg0.N, win0_5.index t = ![t.val / 16 * 4 + t.val / 4 % 4, t.val % 4, 0] := (by decide +kernel : ∀ t : Fin grid0.N, _)

/-- 256 rows of a block, from row `o` on. -/
theorem rows_apply {α : EltTy → Type} {e : EltTy} (X : S1024x128.Idx → α e) (o : ℕ) (inb) (r : Fin 256) (d : Fin 128) (h : o + r.val < 1024) :
    View.ld X (Rect.unit ![o, 0] ![256, 128] inb) (ix2 r d) = X (ix2 (⟨o + r, h⟩ : Fin 1024) d) := by
  refine View.ld_unit_apply_of X _ _ _ _ _ fun a => ?_
  match a with
  | 0 => rfl
  | 1 => exact (Nat.zero_add _).symm

/-- 256 rows of a block with a leading axis of one, from row `o` on. -/
theorem rows1_apply {α : EltTy → Type} {e : EltTy} (X : S1x1024x128.Idx → α e) (o : ℕ) (inb) (z : Fin 1) (r : Fin 256) (d : Fin 128) (h : o + r.val < 1024) :
    View.ld X (Rect.unit ![0, o, 0] ![1, 256, 128] inb) (ix3 z r d) = X (ix3 z (⟨o + r, h⟩ : Fin 1024) d) := by
  refine View.ld_unit_apply_of X _ _ _ _ _ fun a => ?_
  match a with
  | 0 => exact (Nat.zero_add _).symm
  | 1 => rfl
  | 2 => exact (Nat.zero_add _).symm

variable (m : (ℓ : Loc nD τ sig) → Buf (Elt Ideal) ℓ) (c : Dev nD) (t : Fin cfg0.N)

theorem query_block (r : Fin 1024) (d : Fin 128) : (iblk m c 0 t (ix2 r d) : EReal)
    = V m c main_v10 (ix2 (⟨t.val % 4 * 1024 + r, by omega⟩ : Fin 4096) (⟨(t.val / 16 * 4 + t.val / 4 % 4) * 128 + d, by have := lt32 t; omega⟩ : Fin 3072)) := by
  have := lt32 t
  blk_simp [iblk, index0 t]
  refine congrArg (V m c main_v10) ?_
  blk_ext [index0 t]

theorem key_block (s : Fin 4096) (d : Fin 128) : (iblk m c 1 t (ix2 s d) : EReal)
    = V m c main_v10 (ix2 s (⟨(8 + t.val / 16) * 128 + d, by have := lt32 t; omega⟩ : Fin 3072)) := by
  have := lt32 t
  blk_simp [iblk, index1 t]
  refine congrArg (V m c main_v10) ?_
  blk_ext [index1 t]

theorem value_block (s : Fin 4096) (d : Fin 128) : (iblk m c 2 t (ix2 s d) : EReal)
    = V m c main_v10 (ix2 s (⟨(10 + t.val / 16) * 128 + d, by have := lt32 t; omega⟩ : Fin 3072)) := by
  have := lt32 t
  blk_simp [iblk, index2 t]
  refine congrArg (V m c main_v10) ?_
  blk_ext [index2 t]

theorem att_block (r : Fin 1024) (d : Fin 128) : (iblk m c 3 t (ix2 r d) : EReal)
    = V m c main_v38 (ix2 (⟨t.val % 4 * 1024 + r, by omega⟩ : Fin 4096) (⟨(t.val / 16 * 4 + t.val / 4 % 4) * 128 + d, by have := lt32 t; omega⟩ : Fin 2048)) := by
  have := lt32 t
  blk_simp [iblk, index3 t]
  refine congrArg (V m c main_v38) ?_
  blk_ext [index3 t]

theorem grad_block (r : Fin 1024) (d : Fin 128) : (iblk m c 4 t (ix2 r d) : EReal)
    = V m c main_v41 (ix2 (⟨t.val % 4 * 1024 + r, by omega⟩ : Fin 4096) (⟨(t.val / 16 * 4 + t.val / 4 % 4) * 128 + d, by have := lt32 t; omega⟩ : Fin 2048)) := by
  have := lt32 t
  blk_simp [iblk, index4 t]
  refine congrArg (V m c main_v41) ?_
  blk_ext [index4 t]

theorem log_block (z : Fin 1) (r : Fin 1024) (d : Fin 128) : (iblk m c 5 t (ix3 z r d) : EReal)
    = V m c main_v40 (ix3 (⟨t.val / 16 * 4 + t.val / 4 % 4, by have := lt32 t; omega⟩ : Fin 8) (⟨t.val % 4 * 1024 + r, by omega⟩ : Fin 4096) d) := by
  have := lt32 t
  blk_simp [iblk, index5 t]
  refine congrArg (V m c main_v40) ?_
  blk_ext [index5 t]

/-! ### As real numbers -/

variable {m c} {x y : ℕ → ℕ → ℝ}
  (hx : ∀ (i : Fin 4096) (j : Fin 3072), (m ((c.tc : Thread nD τ).loc main_arg0) (ix2 i j) : EReal) = (x i j : EReal))
  (hy : ∀ (i : Fin 4096) (j : Fin 2048), (m ((c.tc : Thread nD τ).loc main_arg1) (ix2 i j) : EReal) = (y i j : EReal))

include hx in
theorem key_apply (s : Fin 4096) (d : Fin 128) : (iblk m c 1 t (ix2 s d) : EReal) = (x s (1024 + (t / 16 * 128 + d)) : EReal) := by
  have := lt32 t
  rw [key_block, packed_eq, packed_rest hx _ _ (by show 1024 ≤ (8 + t.val / 16) * 128 + d.val; omega)]
  congr 2
  show (8 + t.val / 16) * 128 + d.val = _
  omega

include hx in
theorem value_apply (s : Fin 4096) (d : Fin 128) : (iblk m c 2 t (ix2 s d) : EReal) = (x s (1280 + (t / 16 * 128 + d)) : EReal) := by
  have := lt32 t
  rw [value_block, packed_eq, packed_rest hx _ _ (by show 1024 ≤ (10 + t.val / 16) * 128 + d.val; omega)]
  congr 2
  show (10 + t.val / 16) * 128 + d.val = _
  omega

include hx in
theorem query_apply (r : Fin 1024) (d : Fin 128) : (iblk m c 0 t (ix2 r d) : EReal)
    = ((x (t % 4 * 1024 + r) (t / 16 * 512 + t / 4 % 4 * 128 + d) * scale / Real.log 2 : ℝ) : EReal) := by
  have := lt32 t
  rw [query_block, packed_eq, packed_query hx _ _ (by show (t.val / 16 * 4 + t.val / 4 % 4) * 128 + d.val < 1024; omega)]
  congr 4
  show (t.val / 16 * 4 + t.val / 4 % 4) * 128 + d.val = _
  omega

include hx in
theorem att_apply (r : Fin 1024) (d : Fin 128) : (iblk m c 3 t (ix2 r d) : EReal)
    = ((attended x (t / 16 * 128) (t / 16 * 512 + t / 4 % 4 * 128) (t % 4 * 1024 + r) d : ℝ) : EReal) := by
  have := lt32 t
  rw [att_block, atts_eq, atts_apply hx _ _ (by show (t.val / 16 * 4 + t.val / 4 % 4) * 128 + d.val < 1024; omega)]
  have e1 : ((t.val / 16 * 4 + t.val / 4 % 4) * 128 + d.val) / 512 = t.val / 16 := by omega
  have e2 : ((t.val / 16 * 4 + t.val / 4 % 4) * 128 + d.val) / 128 % 4 = t.val / 4 % 4 := by omega
  have e3 : ((t.val / 16 * 4 + t.val / 4 % 4) * 128 + d.val) % 128 = d.val := by omega
  simp only [e1, e2, e3]

include hx in
theorem log_apply (z : Fin 1) (r : Fin 1024) (d : Fin 128) : (iblk m c 5 t (ix3 z r d) : EReal)
    = ((logSum x (t / 16 * 128) (t / 16 * 512 + t / 4 % 4 * 128) (t % 4 * 1024 + r) : ℝ) : EReal) := by
  have := lt32 t
  rw [log_block, logs_eq, logs_apply hx]
  have e1 : (t.val / 16 * 4 + t.val / 4 % 4) / 4 = t.val / 16 := by omega
  have e2 : (t.val / 16 * 4 + t.val / 4 % 4) % 4 = t.val / 4 % 4 := by omega
  simp only [e1, e2]

include hy in
theorem grad_apply (r : Fin 1024) (d : Fin 128) : (iblk m c 4 t (ix2 r d) : EReal)
    = ((y (t % 4 * 1024 + r) (t / 16 * 512 + t / 4 % 4 * 128 + d) : ℝ) : EReal) := by
  have := lt32 t
  rw [grad_block, grads_eq, hy]
  congr 2
  show (t.val / 16 * 4 + t.val / 4 % 4) * 128 + d.val = _
  omega

end Cert.Blocks

end
-- ==== Proof.Payload.lean ====
/-
  The kernel's payloads at the extended reals. The body treats four runs of 256 rows alike; what it computes for each is one of five
  functions of the blocks: the weights, the gradients of the scores, and what the run gives for the queries, the keys and the values.
-/
module

public import proofs.«01_k».proof.Proof.Gen.KernelIdeal.Skeleton
public import proofs.«01_k».proof.Proof.AttnMath
public import Idealize.ShloMosaic.Lib.Pointwise

@[expose] public section

noncomputable section

namespace Cert.Payload

open Idealize.ShloMosaic Idealize.ShloMosaic.TcCoe Idealize.SL.Sem Cert.KernelIdeal Cert.KernelIdeal.Gen
open Cert.RealIdeal Cert.AttnMath

variable (k v : FVec Ideal S4096x128 .bf16) (q o z : FVec Ideal S256x128 .bf16) (l : FVec Ideal S1x256x128 .f32)
  (acc prev : FVec Ideal S4096x128 .f32)

/-- What one run of rows adds to the gradient of the values. -/
def valueRun : FVec Ideal S4096x128 .f32 :=
  matmul dot_S256x4096_S256x128_S4096x128_0_0_1_1_n_n none (k0_pay15 (F := Ideal) k q l) (k0_pay10 (F := Ideal) o) (constant S4096x128 .f32 0x00000000#32)

theorem queryRun1 : k0_pay20 (F := Ideal) (k0_pay7 (F := Ideal) k) (k0_pay8 (F := Ideal) v) q o l z = k0_pay13 (F := Ideal) k v q o l z := rfl
theorem queryRun2 : k0_pay28 (F := Ideal) (k0_pay7 (F := Ideal) k) (k0_pay8 (F := Ideal) v) (k0_pay24 (F := Ideal) o) (k0_pay25 (F := Ideal) (k0_pay7 (F := Ideal) k) q) l z = k0_pay13 (F := Ideal) k v q o l z := rfl
theorem queryRun3 : k0_pay2 (F := Ideal) (k0_pay7 (F := Ideal) k) (k0_pay33 (F := Ideal) (k0_pay7 (F := Ideal) k) q l) (k0_pay34 (F := Ideal) (k0_pay8 (F := Ideal) v) o) (k0_pay35 (F := Ideal) o) z = k0_pay13 (F := Ideal) k v q o l z := rfl

theorem keyRun1 : k0_pay21 (F := Ideal) (k0_pay7 (F := Ideal) k) (k0_pay8 (F := Ideal) v) acc q o l z = addf acc (k0_pay14 (F := Ideal) k v q o l z) := rfl
theorem keyRun2 : k0_pay29 (F := Ideal) (k0_pay8 (F := Ideal) v) acc (k0_pay23 (F := Ideal) q) (k0_pay24 (F := Ideal) o) (k0_pay25 (F := Ideal) (k0_pay7 (F := Ideal) k) q) l z = addf acc (k0_pay14 (F := Ideal) k v q o l z) := rfl
theorem keyRun3 : k0_pay3 (F := Ideal) acc (k0_pay31 (F := Ideal) q) (k0_pay33 (F := Ideal) (k0_pay7 (F := Ideal) k) q l) (k0_pay34 (F := Ideal) (k0_pay8 (F := Ideal) v) o) (k0_pay35 (F := Ideal) o) z = addf acc (k0_pay14 (F := Ideal) k v q o l z) := rfl
theorem keyRun4 : k0_pay5 (F := Ideal) acc (k0_pay31 (F := Ideal) q) (k0_pay33 (F := Ideal) (k0_pay7 (F := Ideal) k) q l) (k0_pay34 (F := Ideal) (k0_pay8 (F := Ideal) v) o) (k0_pay35 (F := Ideal) o) z prev
    = addf (shapeCast S4096x128 prev shapeCasts_S4096x128_S4096x128) (addf acc (k0_pay14 (F := Ideal) k v q o l z)) := rfl

theorem valueRun1 (q' o' : FVec Ideal S256x128 .bf16) (l' : FVec Ideal S1x256x128 .f32) :
    k0_pay22 (F := Ideal) (k0_pay7 (F := Ideal) k) (k0_pay10 (F := Ideal) o) (k0_pay15 (F := Ideal) k q l) q' o' l' = addf (valueRun k q o l) (valueRun k q' o' l') := rfl
theorem valueRun2 : k0_pay30 (F := Ideal) acc (k0_pay24 (F := Ideal) o) (k0_pay25 (F := Ideal) (k0_pay7 (F := Ideal) k) q) l = addf acc (valueRun k q o l) := rfl
theorem valueRun3 : k0_pay4 (F := Ideal) acc (k0_pay32 (F := Ideal) o) (k0_pay33 (F := Ideal) (k0_pay7 (F := Ideal) k) q l) = addf acc (valueRun k q o l) := rfl
theorem valueRun4 : k0_pay6 (F := Ideal) acc (k0_pay32 (F := Ideal) o) (k0_pay33 (F := Ideal) (k0_pay7 (F := Ideal) k) q l) prev
    = addf (shapeCast S4096x128 prev shapeCasts_S4096x128_S4096x128) (addf acc (valueRun k q o l)) := rfl

/-! ### The payloads at a position, over the extended reals -/

theorem weight_at (r : Fin 256) (s : Fin 4096) :
    (k0_pay11 (F := Ideal) k q l (ix2 r s) : EReal) = Ideal.exp2 ((∑ d : Fin 128, (q (ix2 r d) : EReal) * k (ix2 s d)) - l (ix3 (0 : Fin 1) r (0 : Fin 128))) := by
  pointwise [k0_pay11, k0_pay9, k0_pay7]
  rfl

/-- The gradients of the scores from the weights, whatever these are. -/
def scoreRun (w : FVec Ideal S256x4096 .f32) : FVec Ideal S256x4096 .bf16 :=
  truncf .bf16 (mulf w (subf (matmul dot_S256x128_S4096x128_S256x4096_1_1_0_0_n_n none (k0_pay10 (F := Ideal) o) (k0_pay8 (F := Ideal) v) (constant S256x4096 .f32 0x00000000#32))
    (broadcastTo S256x4096 (shapeCast S256x1 (multiReduction .add [1] S256 (mulf (extf .f32 (k0_pay10 (F := Ideal) o) bitsLt_bf16_f32)
      (extf .f32 (shapeCast S256x128 z shapeCasts_S256x128_S256x128) bitsLt_bf16_f32)) 0x00000000#32 reduces_S256x128_S256 (.inl rfl) rfl) shapeCasts_S256_S256x1) broadcasts_S256x1_S256x4096))) bitsLt_bf16_f32

theorem scoreRun_eq : k0_pay12 (F := Ideal) k v q o l z = scoreRun v o z (k0_pay11 (F := Ideal) k q l) := rfl

theorem scoreRun_at (w : FVec Ideal S256x4096 .f32) (r : Fin 256) (s : Fin 4096) :
    (scoreRun v o z w (ix2 r s) : EReal) = (w (ix2 r s) : EReal)
      * ((∑ d : Fin 128, (o (ix2 r d) : EReal) * v (ix2 s d)) - ∑ d : Fin 128, (o (ix2 r d) : EReal) * z (ix2 r d)) := by
  pointwise [scoreRun, k0_pay10, k0_pay8]

theorem rows_at (w : FVec Ideal S256x4096 .bf16) (r : Fin 256) (d : Fin 128) :
    (matmul dot_S256x4096_S4096x128_S256x128_1_0_0_1_n_n none w (k0_pay7 (F := Ideal) k) (constant S256x128 .f32 0x00000000#32) (ix2 r d) : EReal)
      = ∑ s : Fin 4096, (w (ix2 r s) : EReal) * k (ix2 s d) := by
  pointwise [k0_pay7]

theorem cols_at (w : FVec Ideal S256x4096 .bf16) (s : Fin 4096) (d : Fin 128) :
    (matmul dot_S256x4096_S256x128_S4096x128_0_0_1_1_n_n none w (k0_pay9 (F := Ideal) q) (constant S4096x128 .f32 0x00000000#32) (ix2 s d) : EReal)
      = ∑ r : Fin 256, (w (ix2 r s) : EReal) * q (ix2 r d) := by
  pointwise [k0_pay9]

/-! ### The payloads as real numbers -/

variable {k v q o z l} {x y : ℕ → ℕ → ℝ} {kb qb b : ℕ}
  (hk : ∀ (s : Fin 4096) (d : Fin 128), (k (ix2 s d) : EReal) = (x s (1024 + (kb + d)) : EReal))
  (hv : ∀ (s : Fin 4096) (d : Fin 128), (v (ix2 s d) : EReal) = (x s (1280 + (kb + d)) : EReal))
  (hq : ∀ (r : Fin 256) (d : Fin 128), (q (ix2 r d) : EReal) = (x (b + r) (qb + d) * scale / Real.log 2 : ℝ))
  (hl : ∀ (r : Fin 256) (e : Fin 128), (l (ix3 (0 : Fin 1) r e) : EReal) = (logSum x kb qb (b + r) : ℝ))
  (ho : ∀ (r : Fin 256) (d : Fin 128), (o (ix2 r d) : EReal) = (y (b + r) (qb + d) : ℝ))
  (hz : ∀ (r : Fin 256) (d : Fin 128), (z (ix2 r d) : EReal) = (attended x kb qb (b + r) d : ℝ))

include hk hq hl in
theorem weight_apply (r : Fin 256) (s : Fin 4096) : (k0_pay11 (F := Ideal) k q l (ix2 r s) : EReal) = (weight x kb qb (b + r) s : ℝ) := by
  rw [weight_at, hl]
  simp only [hk, hq, ← EReal.coe_mul, sum_coe, ← EReal.coe_sub, exp2_coe]
  rw [weight_logSum]

include hk hq hl in
theorem valueRun_apply (ho : ∀ (r : Fin 256) (d : Fin 128), (o (ix2 r d) : EReal) = (y (b + r) (qb + d) : ℝ)) (s : Fin 4096) (d : Fin 128) :
    (valueRun k q o l (ix2 s d) : EReal) = (valuePart x y kb qb b 256 s d : ℝ) := by
  refine (cols_at o (k0_pay15 (F := Ideal) k q l) s d).trans ?_
  have e (r : Fin 256) : (k0_pay15 (F := Ideal) k q l (ix2 r s) : EReal) = (weight x kb qb (b + r) s : ℝ) := weight_apply hk hq hl r s
  simp only [e, ho, ← EReal.coe_mul, sum_coe]
  rfl

include hk hv hq hl ho hz

theorem score_apply (r : Fin 256) (s : Fin 4096) :
    (k0_pay12 (F := Ideal) k v q o l z (ix2 r s) : EReal) = (scoreGrad x y kb qb (b + r) s : ℝ) := by
  rw [scoreRun_eq, scoreRun_at, weight_apply hk hq hl]
  simp only [hv, ho, hz, ← EReal.coe_mul, sum_coe, ← EReal.coe_sub]
  rw [sum_grad_attended]
  rfl

theorem query_apply (r : Fin 256) (d : Fin 128) :
    (k0_pay13 (F := Ideal) k v q o l z (ix2 r d) : EReal) = (queryGrad x y kb qb (b + r) d : ℝ) := by
  refine (rows_at k (k0_pay12 (F := Ideal) k v q o l z) r d).trans ?_
  simp only [score_apply hk hv hq hl ho hz, hk, ← EReal.coe_mul, sum_coe]
  rfl

theorem key_apply (s : Fin 4096) (d : Fin 128) :
    (k0_pay14 (F := Ideal) k v q o l z (ix2 s d) : EReal) = (keyPart x y kb qb b 256 s d : ℝ) := by
  refine (cols_at q (k0_pay12 (F := Ideal) k v q o l z) s d).trans ?_
  simp only [score_apply hk hv hq hl ho hz, hq, ← EReal.coe_mul, sum_coe]
  rfl

end Cert.Payload

end
-- ==== Proof.Points.lean ====
/-
  What the kernel's body leaves in its three output blocks at each grid point, as real numbers: the gradient of a row tile's queries,
  and, accumulated over the 16 points of one key head, the gradients of its keys and values.
-/
module

public import proofs.«01_k».proof.Proof.Blocks
public import proofs.«01_k».proof.Proof.Payload

@[expose] public section

noncomputable section

namespace Cert.Points

open Idealize.ShloMosaic Idealize.ShloMosaic.TcCoe Idealize.SL.Sem Cert.KernelIdeal Cert.KernelIdeal.Gen
open Cert.RealIdeal Cert.AttnMath Cert.Blocks

theorem index6 : ∀ t : Fin cfg0.N, win0_6.index t = ![t.val % 4, t.val / 16 * 4 + t.val / 4 % 4] := (by decide +kernel : ∀ t : Fin grid0.N, _)
theorem index7 : ∀ t : Fin cfg0.N, win0_7.index t = ![0, t.val / 16] := (by decide +kernel : ∀ t : Fin grid0.N, _)
theorem index8 : ∀ t : Fin cfg0.N, win0_8.index t = ![0, t.val / 16] := (by decide +kernel : ∀ t : Fin grid0.N, _)

/-- A sum of four arrays, at a position. -/
theorem four_apply (a b c d : FVec Ideal S4096x128 .f32) (j : S4096x128.Idx) {A B C D : ℝ} (ha : (a j : EReal) = (A : EReal))
    (hb : (b j : EReal) = (B : EReal)) (hc : (c j : EReal) = (C : EReal)) (hd : (d j : EReal) = (D : EReal)) :
    (addf (addf (addf a b) c) d j : EReal) = ((A + B + C + D : ℝ) : EReal) := by
  show (a j + b j + c j + d j : EReal) = _
  rw [ha, hb, hc, hd]
  norm_cast

/-- A sum of what was there before and of a new array, at a position. -/
theorem prev_apply (p a : FVec Ideal S4096x128 .f32) (s : Fin 4096) (d : Fin 128) :
    (addf (shapeCast S4096x128 p shapeCasts_S4096x128_S4096x128) a (ix2 s d) : EReal) = (p (ix2 s d) : EReal) + a (ix2 s d) := by
  pointwise

variable {m : (ℓ : Loc nD τ sig) → Buf (Elt Ideal) ℓ} {c : Dev nD} (t : Fin cfg0.N) {x y : ℕ → ℕ → ℝ}
  (hx : ∀ (i : Fin 4096) (j : Fin 3072), (m ((c.tc : Thread nD τ).loc main_arg0) (ix2 i j) : EReal) = (x i j : EReal))
  (hy : ∀ (i : Fin 4096) (j : Fin 2048), (m ((c.tc : Thread nD τ).loc main_arg1) (ix2 i j) : EReal) = (y i j : EReal))

/-! ### The 256 rows of a block from row `o` on -/

include hx in
theorem query_run (o : ℕ) (inb) (h : o ≤ 768) (r : Fin 256) (d : Fin 128) :
    (View.ld (iblk m c 0 t) (Rect.unit ![o, 0] ![256, 128] inb) (ix2 r d) : EReal)
      = ((x (t % 4 * 1024 + o + r) (t / 16 * 512 + t / 4 % 4 * 128 + d) * scale / Real.log 2 : ℝ) : EReal) := by
  rw [add_assoc (t.val % 4 * 1024)]
  exact (rows_apply (iblk m c 0 t) o inb r d (by omega)).trans (query_apply t hx _ d)

include hx in
theorem att_run (o : ℕ) (inb) (h : o ≤ 768) (r : Fin 256) (d : Fin 128) :
    (View.ld (iblk m c 3 t) (Rect.unit ![o, 0] ![256, 128] inb) (ix2 r d) : EReal)
      = ((attended x (t / 16 * 128) (t / 16 * 512 + t / 4 % 4 * 128) (t % 4 * 1024 + o + r) d : ℝ) : EReal) := by
  rw [add_assoc (t.val % 4 * 1024)]
  exact (rows_apply (iblk m c 3 t) o inb r d (by omega)).trans (att_apply t hx _ d)

include hy in
theorem grad_run (o : ℕ) (inb) (h : o ≤ 768) (r : Fin 256) (d : Fin 128) :
    (View.ld (iblk m c 4 t) (Rect.unit ![o, 0] ![256, 128] inb) (ix2 r d) : EReal)
      = ((y (t % 4 * 1024 + o + r) (t / 16 * 512 + t / 4 % 4 * 128 + d) : ℝ) : EReal) := by
  rw [add_assoc (t.val % 4 * 1024)]
  exact (rows_apply (iblk m c 4 t) o inb r d (by omega)).trans (grad_apply t hy _ d)

include hx in
theorem log_run (o : ℕ) (inb) (h : o ≤ 768) (r : Fin 256) (d : Fin 128) :
    (View.ld (iblk m c 5 t) (Rect.unit ![0, o, 0] ![1, 256, 128] inb) (ix3 (0 : Fin 1) r d) : EReal)
      = ((logSum x (t / 16 * 128) (t / 16 * 512 + t / 4 % 4 * 128) (t % 4 * 1024 + o + r) : ℝ) : EReal) := by
  rw [add_assoc (t.val % 4 * 1024)]
  exact (rows1_apply (iblk m c 5 t) o inb 0 r d (by omega)).trans (log_apply t hx 0 _ d)

include hx hy

theorem queryGrad_run (o : ℕ) (inb inb3 inb4 inb5) (h : o ≤ 768) (r : Fin 256) (d : Fin 128) :
    (k0_pay13 (F := Ideal) (iblk m c 1 t) (iblk m c 2 t) (View.ld (iblk m c 0 t) (Rect.unit ![o, 0] ![256, 128] inb))
        (View.ld (iblk m c 4 t) (Rect.unit ![o, 0] ![256, 128] inb4)) (View.ld (iblk m c 5 t) (Rect.unit ![0, o, 0] ![1, 256, 128] inb5))
        (View.ld (iblk m c 3 t) (Rect.unit ![o, 0] ![256, 128] inb3)) (ix2 r d) : EReal)
      = ((queryGrad x y (t / 16 * 128) (t / 16 * 512 + t / 4 % 4 * 128) (t % 4 * 1024 + o + r) d : ℝ) : EReal) :=
  Payload.query_apply (key_apply t hx) (value_apply t hx) (query_run t hx o inb h) (log_run t hx o inb5 h) (grad_run t hy o inb4 h)
    (att_run t hx o inb3 h) r d

theorem keyPart_run (o : ℕ) (inb inb3 inb4 inb5) (h : o ≤ 768) (s : Fin 4096) (d : Fin 128) :
    (k0_pay14 (F := Ideal) (iblk m c 1 t) (iblk m c 2 t) (View.ld (iblk m c 0 t) (Rect.unit ![o, 0] ![256, 128] inb))
        (View.ld (iblk m c 4 t) (Rect.unit ![o, 0] ![256, 128] inb4)) (View.ld (iblk m c 5 t) (Rect.unit ![0, o, 0] ![1, 256, 128] inb5))
        (View.ld (iblk m c 3 t) (Rect.unit ![o, 0] ![256, 128] inb3)) (ix2 s d) : EReal)
      = ((keyPart x y (t / 16 * 128) (t / 16 * 512 + t / 4 % 4 * 128) (t % 4 * 1024 + o) 256 s d : ℝ) : EReal) :=
  Payload.key_apply (key_apply t hx) (value_apply t hx) (query_run t hx o inb h) (log_run t hx o inb5 h) (grad_run t hy o inb4 h)
    (att_run t hx o inb3 h) s d

theorem valuePart_run (o : ℕ) (inb inb4 inb5) (h : o ≤ 768) (s : Fin 4096) (d : Fin 128) :
    (Payload.valueRun (iblk m c 1 t) (View.ld (iblk m c 0 t) (Rect.unit ![o, 0] ![256, 128] inb))
        (View.ld (iblk m c 4 t) (Rect.unit ![o, 0] ![256, 128] inb4)) (View.ld (iblk m c 5 t) (Rect.unit ![0, o, 0] ![1, 256, 128] inb5)) (ix2 s d) : EReal)
      = ((valuePart x y (t / 16 * 128) (t / 16 * 512 + t / 4 % 4 * 128) (t % 4 * 1024 + o) 256 s d : ℝ) : EReal) :=
  Payload.valueRun_apply (key_apply t hx) (query_run t hx o inb h) (log_run t hx o inb5 h) (grad_run t hy o inb4 h) s d

/-! ### One grid point -/

theorem keys_first (h0 : t.val % 16 = 0) (h1 : ¬1 ≤ t.val / 4 % 4 + t.val % 4) (s : Fin 4096) (d : Fin 128) :
    ((outsAt0 m c t.val t.isLt).2.1 (ix2 s d) : EReal)
      = ((keyPart x y (t / 16 * 128) (t / 16 * 512 + t / 4 % 4 * 128) (t % 4 * 1024) 1024 s d : ℝ) : EReal) := by
  rw [outsAt0_A m c t h0 h1]
  frame_out
  rw [Payload.keyRun3, Payload.keyRun2, Payload.keyRun1, ← keyPart_four x y _ _ _ 256 s d]
  exact four_apply _ _ _ _ _ (keyPart_run t hx hy 0 _ _ _ _ (by omega) s d) (keyPart_run t hx hy 256 _ _ _ _ (by omega) s d)
    (keyPart_run t hx hy 512 _ _ _ _ (by omega) s d) (keyPart_run t hx hy 768 _ _ _ _ (by omega) s d)

theorem keys_next (h0 : ¬t.val % 16 = 0) (h1 : 1 ≤ t.val / 4 % 4 + t.val % 4) (s : Fin 4096) (d : Fin 128) :
    ((outsAt0 m c t.val t.isLt).2.1 (ix2 s d) : EReal) = ((outsAt0 m c (t.val - 1) (by omega)).2.1 (ix2 s d) : EReal)
      + ((keyPart x y (t / 16 * 128) (t / 16 * 512 + t / 4 % 4 * 128) (t % 4 * 1024) 1024 s d : ℝ) : EReal) := by
  rw [outsAt0_B m c t h0 h1]
  frame_out
  rw [Payload.keyRun4, Payload.keyRun2, Payload.keyRun1, ← keyPart_four x y _ _ _ 256 s d]
  refine (prev_apply _ _ s d).trans (congrArg _ ?_)
  exact four_apply _ _ _ _ _ (keyPart_run t hx hy 0 _ _ _ _ (by omega) s d) (keyPart_run t hx hy 256 _ _ _ _ (by omega) s d)
    (keyPart_run t hx hy 512 _ _ _ _ (by omega) s d) (keyPart_run t hx hy 768 _ _ _ _ (by omega) s d)

theorem values_first (h0 : t.val % 16 = 0) (h1 : ¬1 ≤ t.val / 4 % 4 + t.val % 4) (s : Fin 4096) (d : Fin 128) :
    ((outsAt0 m c t.val t.isLt).2.2 (ix2 s d) : EReal)
      = ((valuePart x y (t / 16 * 128) (t / 16 * 512 + t / 4 % 4 * 128) (t % 4 * 1024) 1024 s d : ℝ) : EReal) := by
  rw [outsAt0_A m c t h0 h1]
  frame_out
  rw [Payload.valueRun3, Payload.valueRun2, Payload.valueRun1, ← valuePart_four x y _ _ _ 256 s d]
  exact four_apply _ _ _ _ _ (valuePart_run t hx hy 0 _ _ _ (by omega) s d) (valuePart_run t hx hy 256 _ _ _ (by omega) s d)
    (valuePart_run t hx hy 512 _ _ _ (by omega) s d) (valuePart_run t hx hy 768 _ _ _ (by omega) s d)

theorem values_next (h0 : ¬t.val % 16 = 0) (h1 : 1 ≤ t.val / 4 % 4 + t.val % 4) (s : Fin 4096) (d : Fin 128) :
    ((outsAt0 m c t.val t.isLt).2.2 (ix2 s d) : EReal) = ((outsAt0 m c (t.val - 1) (by omega)).2.2 (ix2 s d) : EReal)
      + ((valuePart x y (t / 16 * 128) (t / 16 * 512 + t / 4 % 4 * 128) (t % 4 * 1024) 1024 s d : ℝ) : EReal) := by
  rw [outsAt0_B m c t h0 h1]
  frame_out
  rw [Payload.valueRun4, Payload.valueRun2, Payload.valueRun1, ← valuePart_four x y _ _ _ 256 s d]
  refine (prev_apply _ _ s d).trans (congrArg _ ?_)
  exact four_apply _ _ _ _ _ (valuePart_run t hx hy 0 _ _ _ (by omega) s d) (valuePart_run t hx hy 256 _ _ _ (by omega) s d)
    (valuePart_run t hx hy 512 _ _ _ (by omega) s d) (valuePart_run t hx hy 768 _ _ _ (by omega) s d)

/-- A tile of 256 rows of the queries' gradient, at the block's own position. -/
theorem query_tile (o : ℕ) (inb inb3 inb4 inb5) (h : o ≤ 768) (r : Fin 1024) (d : Fin 128) (j : S256x128.Idx)
    (h0 : r.val = o + (j 0).val) (h1 : d.val = (j 1).val) :
    (k0_pay13 (F := Ideal) (iblk m c 1 t) (iblk m c 2 t) (View.ld (iblk m c 0 t) (Rect.unit ![o, 0] ![256, 128] inb))
        (View.ld (iblk m c 4 t) (Rect.unit ![o, 0] ![256, 128] inb4)) (View.ld (iblk m c 5 t) (Rect.unit ![0, o, 0] ![1, 256, 128] inb5))
        (View.ld (iblk m c 3 t) (Rect.unit ![o, 0] ![256, 128] inb3)) j : EReal)
      = ((queryGrad x y (t / 16 * 128) (t / 16 * 512 + t / 4 % 4 * 128) (t % 4 * 1024 + r) d : ℝ) : EReal) := by
  obtain ⟨r', d', rfl⟩ : ∃ (r' : Fin 256) (d' : Fin 128), j = ix2 r' d' := ⟨j 0, j 1, eq_ix2 j⟩
  have e0 : t.val % 4 * 1024 + r.val = t.val % 4 * 1024 + o + r'.val := by rw [h0, ← add_assoc]; rfl
  have e1 : d.val = d'.val := h1
  rw [e0, e1]
  exact queryGrad_run t hx hy o inb inb3 inb4 inb5 h r' d'

theorem queries_at (r : Fin 1024) (d : Fin 128) :
    ((outsAt0 m c t.val t.isLt).1 (ix2 r d) : EReal)
      = ((queryGrad x y (t / 16 * 128) (t / 16 * 512 + t / 4 % 4 * 128) (t % 4 * 1024 + r) d : ℝ) : EReal) := by
  by_cases h0 : t.val % 16 = 0
  · rw [outsAt0_A m c t h0 (by omega)]
    frame_out
    rw [Payload.queryRun1, Payload.queryRun2, Payload.queryRun3]
    canon_tiles j h
    case piece0 => exact query_tile t hx hy 768 _ _ _ _ (by omega) r d j h0 h1
    case piece1 => exact query_tile t hx hy 512 _ _ _ _ (by omega) r d j h0 h1
    case piece2 => exact query_tile t hx hy 256 _ _ _ _ (by omega) r d j h0 h1
    case piece3 => exact query_tile t hx hy 0 _ _ _ _ (by omega) r d j (h0.trans (Nat.zero_add _).symm) h1
  · rw [outsAt0_B m c t h0 (by omega)]
    frame_out
    rw [Payload.queryRun1, Payload.queryRun2, Payload.queryRun3]
    canon_tiles j h
    case piece0 => exact query_tile t hx hy 768 _ _ _ _ (by omega) r d j h0 h1
    case piece1 => exact query_tile t hx hy 512 _ _ _ _ (by omega) r d j h0 h1
    case piece2 => exact query_tile t hx hy 256 _ _ _ _ (by omega) r d j h0 h1
    case piece3 => exact query_tile t hx hy 0 _ _ _ _ (by omega) r d j (h0.trans (Nat.zero_add _).symm) h1

/-! ### The accumulated gradients -/

theorem keys_at (n : ℕ) (hn : n < cfg0.N) (s : Fin 4096) (d : Fin 128) : ((outsAt0 m c n hn).2.1 (ix2 s d) : EReal)
    = ((∑ k ∈ Finset.range (n % 16 + 1), keyPart x y (n / 16 * 128) (n / 16 * 512 + k / 4 * 128) (k % 4 * 1024) 1024 s d : ℝ) : EReal) := by
  induction n with
  | zero => simpa using keys_first ⟨0, hn⟩ hx hy rfl (by show ¬1 ≤ 0 / 4 % 4 + 0 % 4; omega) s d
  | succ n ih =>
    by_cases h0 : (n + 1) % 16 = 0
    · rw [keys_first ⟨n + 1, hn⟩ hx hy h0 (by show ¬1 ≤ (n + 1) / 4 % 4 + (n + 1) % 4; omega) s d, h0]
      have e1 : (n + 1) / 4 % 4 = 0 := by omega
      have e2 : (n + 1) % 4 = 0 := by omega
      simp [e1, e2]
    · rw [keys_next ⟨n + 1, hn⟩ hx hy h0 (by show 1 ≤ (n + 1) / 4 % 4 + (n + 1) % 4; omega) s d]
      have e1 : (n + 1) / 4 % 4 = (n + 1) % 16 / 4 := by omega
      have e2 : (n + 1) % 4 = (n + 1) % 16 % 4 := by omega
      have e3 : n / 16 = (n + 1) / 16 := by omega
      have e4 : n % 16 + 1 = (n + 1) % 16 := by omega
      simp only [Nat.add_sub_cancel]
      rw [ih (by omega), e3, e4, Finset.sum_range_succ, e1, e2, EReal.coe_add]

theorem values_at (n : ℕ) (hn : n < cfg0.N) (s : Fin 4096) (d : Fin 128) : ((outsAt0 m c n hn).2.2 (ix2 s d) : EReal)
    = ((∑ k ∈ Finset.range (n % 16 + 1), valuePart x y (n / 16 * 128) (n / 16 * 512 + k / 4 * 128) (k % 4 * 1024) 1024 s d : ℝ) : EReal) := by
  induction n with
  | zero => simpa using values_first ⟨0, hn⟩ hx hy rfl (by show ¬1 ≤ 0 / 4 % 4 + 0 % 4; omega) s d
  | succ n ih =>
    by_cases h0 : (n + 1) % 16 = 0
    · rw [values_first ⟨n + 1, hn⟩ hx hy h0 (by show ¬1 ≤ (n + 1) / 4 % 4 + (n + 1) % 4; omega) s d, h0]
      have e1 : (n + 1) / 4 % 4 = 0 := by omega
      have e2 : (n + 1) % 4 = 0 := by omega
      simp [e1, e2]
    · rw [values_next ⟨n + 1, hn⟩ hx hy h0 (by show 1 ≤ (n + 1) / 4 % 4 + (n + 1) % 4; omega) s d]
      have e1 : (n + 1) / 4 % 4 = (n + 1) % 16 / 4 := by omega
      have e2 : (n + 1) % 4 = (n + 1) % 16 % 4 := by omega
      have e3 : n / 16 = (n + 1) / 16 := by omega
      have e4 : n % 16 + 1 = (n + 1) % 16 := by omega
      simp only [Nat.add_sub_cancel]
      rw [ih (by omega), e3, e4, Finset.sum_range_succ, e1, e2, EReal.coe_add]

/-! ### The three results -/

theorem array6 : (dats m 0 c).arrAt 6 cfg0.N = fun i => ((queryGrad x y ((i 1).val / 512 * 128) ((i 1).val / 512 * 512 + (i 1).val / 128 % 4 * 128)
    (i 0) ((i 1).val % 128) : ℝ) : EReal) := by
  refine (dats m 0 c).arrAt_eq_of_covers 6 _ (by decide +kernel) fun t _ j => ?_
  obtain ⟨r, d, rfl⟩ : ∃ (r : Fin 1024) (d : Fin 128), j = ix2 r d := ⟨j 0, j 1, eq_ix2 j⟩
  have h32 := lt32 t
  blk_simp [index6 t]
  rw [after0_6]
  refine (queries_at t hx hy r d).trans ?_
  have e1 : ((t.val / 16 * 4 + t.val / 4 % 4) * 128 + d.val) / 512 = t.val / 16 := by omega
  have e2 : ((t.val / 16 * 4 + t.val / 4 % 4) * 128 + d.val) / 128 % 4 = t.val / 4 % 4 := by omega
  have e3 : ((t.val / 16 * 4 + t.val / 4 % 4) * 128 + d.val) % 128 = d.val := by omega
  simp [e1, e2, e3]

theorem array7 : (dats m 0 c).arrAt 7 cfg0.N = fun i => ((keyGrad x y ((i 1).val / 128) (i 0) ((i 1).val % 128) : ℝ) : EReal) := by
  refine (dats m 0 c).arrAt_eq_of_covers 7 _ (by decide +kernel) fun t hf j => ?_
  obtain ⟨s, d, rfl⟩ : ∃ (s : Fin 4096) (d : Fin 128), j = ix2 s d := ⟨j 0, j 1, eq_ix2 j⟩
  have hl : t.val % 16 = 15 := (flush0_7 t).mp hf
  blk_simp [index7 t]
  rw [after0_7]
  refine (keys_at hx hy t.val t.isLt s d).trans ?_
  rw [hl, keyGrad_eq]
  have e1 : (t.val / 16 * 128 + d.val) / 128 = t.val / 16 := by omega
  have e2 : (t.val / 16 * 128 + d.val) % 128 = d.val := by omega
  simp [e1, e2]

theorem array8 : (dats m 0 c).arrAt 8 cfg0.N = fun i => ((valueGrad x y ((i 1).val / 128) (i 0) ((i 1).val % 128) : ℝ) : EReal) := by
  refine (dats m 0 c).arrAt_eq_of_covers 8 _ (by decide +kernel) fun t hf j => ?_
  obtain ⟨s, d, rfl⟩ : ∃ (s : Fin 4096) (d : Fin 128), j = ix2 s d := ⟨j 0, j 1, eq_ix2 j⟩
  have hl : t.val % 16 = 15 := (flush0_8 t).mp hf
  blk_simp [index8 t]
  rw [after0_8]
  refine (values_at hx hy t.val t.isLt s d).trans ?_
  rw [hl, valueGrad_eq]
  have e1 : (t.val / 16 * 128 + d.val) / 128 = t.val / 16 := by omega
  have e2 : (t.val / 16 * 128 + d.val) % 128 = d.val := by omega
  simp [e1, e2]

end Cert.Points

end
-- ==== Proof.RefRead.lean ====
/-
  The reference's three results, element by element, as real numbers, when the two arguments hold real numbers. The arrays on
  the way (scores, their greatest, exponentials, sums, gradients of the weights and of the scores) are named first, each read from the ones before.
-/
module

public import proofs.«01_k».proof.Proof.Gen.ReferenceIdeal.Run
public import proofs.«01_k».proof.Proof.AttnMath
public import Idealize.ShloMosaic.Lib.Pointwise

@[expose] public section

noncomputable section

namespace Cert.RefRead

open Idealize.ShloMosaic Idealize.ShloMosaic.TcCoe Idealize.SL.Sem Cert.ReferenceIdeal Cert.ReferenceIdeal.Gen Cert.ReferenceIdeal.Value
open Cert.RealIdeal Cert.AttnMath

section arrays

variable (a : FVec Ideal S4096x3072 .f32) (b : FVec Ideal S4096x2048 .f32)

/-- The queries, by key head and query head within it. -/
def qs : FVec Ideal S4096x2x4x128 .f32 :=
  shapeCast _ (extractStridedSlice S4096x1024 ![0, 0] a slices_S4096x3072_S4096x1024_0_0) shapeCasts_S4096x1024_S4096x2x4x128

/-- The keys, by head. -/
def ks : FVec Ideal S4096x2x128 .f32 :=
  shapeCast _ (extractStridedSlice S4096x256 ![0, 1024] a slices_S4096x3072_S4096x256_0_1024) shapeCasts_S4096x256_S4096x2x128

/-- The values, by head. -/
def vs : FVec Ideal S4096x2x128 .f32 :=
  shapeCast _ (extractStridedSlice S4096x256 ![0, 1280] a slices_S4096x3072_S4096x256_0_1280) shapeCasts_S4096x256_S4096x2x128

/-- The gradient of the attention's result, by key head and query head within it. -/
def os : FVec Ideal S4096x2x4x128 .f32 :=
  shapeCast _ (extractStridedSlice S4096x1024 ![0, 0] b slices_S4096x2048_S4096x1024_0_0) shapeCasts_S4096x1024_S4096x2x4x128

/-- The scores. -/
def scores : FVec Ideal S2x4x4096x4096 .f32 :=
  mulf (transpose S2x4x4096x4096 [0, 3, 2, 1] (Host.dotGeneral dot_S4096x2x128_S4096x2x4x128_S2x4096x4096x4_2_3_0_02_1_1 none (ks a) (qs a)) transposes_S2x4096x4096x4_S2x4x4096x4096_0_3_2_1) (broadcastInDim S2x4x4096x4096 ![] bcast_S_S2x4x4096x4096 (constant S_ .f32 0x3DB504F3#32))

/-- The greatest score of each query. -/
def tops : FVec Ideal S2x4x4096 .f32 :=
  maximumf (broadcastInDim S2x4x4096 ![] bcast_S_S2x4x4096 (constant S_ .f32 0xFF800000#32)) (Host.reduce FloatOps.maximumf (scores a) (constant S_ .f32 0xFF800000#32) reducesTo_S2x4x4096x4096_S2x4x4096_d3 h_S_)

/-- The exponentials of the scores less the greatest. -/
def exps : FVec Ideal S2x4x4096x4096 .f32 :=
  Host.exp (subf (scores a) (broadcastInDim S2x4x4096x4096 ![0, 1, 2, 3] bcast_S2x4x4096x1_S2x4x4096x4096_0_1_2_3 (broadcastInDim S2x4x4096x1 ![0, 1, 2] bcast_S2x4x4096_S2x4x4096x1_0_1_2 (tops a))))

/-- The sum of the exponentials of each query. -/
def sums : FVec Ideal S2x4x4096 .f32 :=
  Host.reduceAdd (exps a) (constant S_ .f32 0x00000000#32) reducesTo_S2x4x4096x4096_S2x4x4096_d3 h_S_

/-- The gradients of the weights. -/
def weightGrads : FVec Ideal S2x4x4096x4096 .f32 :=
  Host.dotGeneral dot_S2x128x4x4096_S4096x2x128_S2x4x4096x4096_1_2_23_0_0_1 none (transpose S2x128x4x4096 [1, 3, 2, 0] (os b) transposes_S4096x2x4x128_S2x128x4x4096_1_3_2_0) (vs a)

/-- The gradient of each sum of exponentials. -/
def sumGrads : FVec Ideal S2x4x4096 .f32 :=
  Host.reduceAdd (Host.negf (shapeCast _ (Host.reduceAdd (mulf (mulf (weightGrads a b) (broadcastInDim S2x4x4096x4096 ![0, 1, 2, 3] bcast_S2x4x4096x1_S2x4x4096x4096_0_1_2_3 (Host.divf (broadcastInDim S2x4x4096x1 ![] bcast_S_S2x4x4096x1 (constant S_ .f32 0x3F800000#32)) (mulf (broadcastInDim S2x4x4096x1 ![0, 1, 2] bcast_S2x4x4096_S2x4x4096x1_0_1_2 (sums a)) (broadcastInDim S2x4x4096x1 ![0, 1, 2] bcast_S2x4x4096_S2x4x4096x1_0_1_2 (sums a)))))) (exps a)) (constant S_ .f32 0x00000000#32) reducesTo_S2x4x4096x4096_S2x4x4096_d3 h_S_) shapeCasts_S2x4x4096_S2x4x4096x1)) (constant S_ .f32 0x00000000#32) reducesTo_S2x4x4096x1_S2x4x4096_d3 h_S_

/-- The gradients of the scores before the scaling. -/
def scoreGrads : FVec Ideal S2x4x4096x4096 .f32 :=
  mulf (mulf (addf (Host.divf (weightGrads a b) (broadcastInDim S2x4x4096x4096 ![0, 1, 2, 3] bcast_S2x4x4096x1_S2x4x4096x4096_0_1_2_3 (broadcastInDim S2x4x4096x1 ![0, 1, 2] bcast_S2x4x4096_S2x4x4096x1_0_1_2 (sums a)))) (broadcastInDim S2x4x4096x4096 ![0, 1, 2] bcast_S2x4x4096_S2x4x4096x4096_0_1_2 (sumGrads a b))) (exps a)) (broadcastInDim S2x4x4096x4096 ![] bcast_S_S2x4x4096x4096 (constant S_ .f32 0x3DB504F3#32))

/-- The first result. -/
def out0 : FVec Ideal S4096x1024 .f32 :=
  Host.divf (shapeCast _ (transpose S4096x2x4x128 [1, 0, 2, 3] (Host.dotGeneral dot_S2x4096x4096x4_S4096x2x128_S2x4096x4x128_1_0_23_2_0_1 none (transpose S2x4096x4096x4 [0, 3, 2, 1] (scoreGrads a b) transposes_S2x4x4096x4096_S2x4096x4096x4_0_3_2_1) (ks a)) transposes_S2x4096x4x128_S4096x2x4x128_1_0_2_3) shapeCasts_S4096x2x4x128_S4096x1024) (broadcastInDim S4096x1024 ![] bcast_S_S4096x1024 (constant S_ .f32 0x3DB504F3#32))

/-- The second result. -/
def out1 : FVec Ideal S4096x256 .f32 :=
  Host.divf (shapeCast _ (transpose S4096x2x128 [1, 0, 2] (Host.dotGeneral dot_S2x4096x4096x4_S4096x2x4x128_S2x4096x128_23_02_1_3_0_1 none (transpose S2x4096x4096x4 [0, 3, 2, 1] (scoreGrads a b) transposes_S2x4x4096x4096_S2x4096x4096x4_0_3_2_1) (qs a)) transposes_S2x4096x128_S4096x2x128_1_0_2) shapeCasts_S4096x2x128_S4096x256) (broadcastInDim S4096x256 ![] bcast_S_S4096x256 (Host.log (constant S_ .f32 0x40000000#32)))

/-- The third result. -/
def out2 : FVec Ideal S4096x256 .f32 :=
  shapeCast _ (transpose S4096x2x128 [2, 0, 1] (Host.dotGeneral dot_S2x128x4x4096_S2x4x4096x4096_S2x128x4096_23_12_1_3_0_0 none (transpose S2x128x4x4096 [1, 3, 2, 0] (os b) transposes_S4096x2x4x128_S2x128x4x4096_1_3_2_0) (Host.divf (exps a) (broadcastInDim S2x4x4096x4096 ![0, 1, 2, 3] bcast_S2x4x4096x1_S2x4x4096x4096_0_1_2_3 (broadcastInDim S2x4x4096x1 ![0, 1, 2] bcast_S2x4x4096_S2x4x4096x1_0_1_2 (sums a))))) transposes_S2x128x4096_S4096x2x128_2_0_1) shapeCasts_S4096x2x128_S4096x256

variable {a b} {x y : ℕ → ℕ → ℝ}
  (hx : ∀ (i : Fin 4096) (j : Fin 3072), (a (ix2 i j) : EReal) = (x i j : EReal))
  (hy : ∀ (i : Fin 4096) (j : Fin 2048), (b (ix2 i j) : EReal) = (y i j : EReal))

include hx in
theorem qs_apply (i : Fin 4096) (kv : Fin 2) (g : Fin 4) (d : Fin 128) :
    (qs a (ix4 i kv g d) : EReal) = (x i (kv * 512 + g * 128 + d) : EReal) := by
  pointwise [qs]
  rw [hx]

include hx in
theorem ks_apply (i : Fin 4096) (kv : Fin 2) (d : Fin 128) :
    (ks a (ix3 i kv d) : EReal) = (x i (1024 + (kv * 128 + d)) : EReal) := by
  pointwise [ks]
  rw [hx]

include hx in
theorem vs_apply (i : Fin 4096) (kv : Fin 2) (d : Fin 128) :
    (vs a (ix3 i kv d) : EReal) = (x i (1280 + (kv * 128 + d)) : EReal) := by
  pointwise [vs]
  rw [hx]

include hy in
theorem os_apply (i : Fin 4096) (kv : Fin 2) (g : Fin 4) (d : Fin 128) :
    (os b (ix4 i kv g d) : EReal) = (y i (kv * 512 + g * 128 + d) : EReal) := by
  pointwise [os]
  rw [hy]

include hx in
theorem scores_apply (kv : Fin 2) (g : Fin 4) (i s : Fin 4096) :
    (scores a (ix4 kv g i s) : EReal) = (score x (kv * 128) (kv * 512 + g * 128) i s : EReal) := by
  pointwise [scores]
  simp only [qs_apply hx, ks_apply hx, ofBits_scale, ← EReal.coe_mul, sum_coe]
  rfl

/-- The greatest over the last of four axes, with any extents, and of one more number, at a position. -/
theorem max_reduce_max_apply {n0 n1 n2 n3 : ℕ} (w : FVec Ideal ⟨3, ![n0, n1, n2]⟩ .f32) (v : FVec Ideal ⟨4, ![n0, n1, n2, n3]⟩ .f32) (init : FVec Ideal S_ .f32)
    (h : (⟨4, ![n0, n1, n2, n3]⟩ : Shape).ReducesTo [3] ⟨3, ![n0, n1, n2]⟩) (hu : 0 < S_.numel) (i : Fin n0) (j : Fin n1) (k : Fin n2) :
    (maximumf w (Host.reduce FloatOps.maximumf v init h hu) (ix3 i j k) : EReal)
      = max (w (ix3 i j k) : EReal) (Finset.fold max (init (Shape.Idx.first hu) : EReal) (fun l => (v (ix4 i j k l) : EReal)) Finset.univ) := by
  pointwise

theorem lowest (j : S_.Idx) : ((constant S_ .f32 0xFF800000#32 : FVec Ideal S_ .f32) j : EReal) = ⊥ := ofBits_neg_inf

theorem lowest_spread (j : S2x4x4096.Idx) : ((broadcastInDim S2x4x4096 ![] bcast_S_S2x4x4096 (constant S_ .f32 0xFF800000#32) : FVec Ideal S2x4x4096 .f32) j : EReal) = ⊥ := lowest _

include hx in
theorem tops_apply (kv : Fin 2) (g : Fin 4) (i : Fin 4096) :
    (tops a (ix3 kv g i) : EReal) = (rowMax fun s : Fin 4096 => score x (kv * 128) (kv * 512 + g * 128) i s : ℝ) := by
  unfold tops
  rw [max_reduce_max_apply, lowest_spread, lowest, max_bot_left, ← fold_max_eq]
  simp only [scores_apply hx]

include hx in
theorem exps_apply (kv : Fin 2) (g : Fin 4) (i s : Fin 4096) :
    (exps a (ix4 kv g i s) : EReal) = (Real.exp (score x (kv * 128) (kv * 512 + g * 128) i s
      - rowMax fun s : Fin 4096 => score x (kv * 128) (kv * 512 + g * 128) i s) : ℝ) := by
  pointwise [exps]
  rw [scores_apply hx, tops_apply hx, ← EReal.coe_sub, exp_coe]

include hx in
theorem sums_apply (kv : Fin 2) (g : Fin 4) (i : Fin 4096) :
    (sums a (ix3 kv g i) : EReal) = (∑ s : Fin 4096, Real.exp (score x (kv * 128) (kv * 512 + g * 128) i s
      - rowMax fun s : Fin 4096 => score x (kv * 128) (kv * 512 + g * 128) i s) : ℝ) := by
  pointwise [sums]
  simp only [exps_apply hx, sum_coe]

include hx hy in
theorem weightGrads_apply (kv : Fin 2) (g : Fin 4) (i s : Fin 4096) :
    (weightGrads a b (ix4 kv g i s) : EReal) = (weightGrad x y (kv * 128) (kv * 512 + g * 128) i s : EReal) := by
  pointwise [weightGrads]
  simp only [os_apply hy, vs_apply hx, ← EReal.coe_mul, sum_coe]
  rfl

include hx hy in
theorem scoreGrads_apply (kv : Fin 2) (g : Fin 4) (i s : Fin 4096) :
    (scoreGrads a b (ix4 kv g i s) : EReal) = (scoreGrad x y (kv * 128) (kv * 512 + g * 128) i s * scale : ℝ) := by
  pointwise [scoreGrads, sumGrads]
  have hZ := sum_exp_ne_zero (fun s' : Fin 4096 => score x (kv * 128) (kv * 512 + g * 128) i s'
    - rowMax fun s : Fin 4096 => score x (kv * 128) (kv * 512 + g * 128) i s)
  simp only [exps_apply hx, sums_apply hx, weightGrads_apply hx hy, ofBits_scale, ← EReal.coe_mul]
  rw [← EReal.coe_one]
  simp only [div_coe _ hZ, div_coe _ (mul_ne_zero hZ hZ), ← EReal.coe_mul, sum_coe, ← EReal.coe_neg, Finset.univ_unique, Finset.sum_singleton, ← EReal.coe_add]
  rw [scoreGrad_quotient]

include hx hy in
theorem out0_apply (i : Fin 4096) (j : Fin 1024) :
    (out0 a b (ix2 i j) : EReal) = (queryGrad x y (j / 512 * 128) (j / 512 * 512 + j / 128 % 4 * 128) i (j % 128) : EReal) := by
  pointwise [out0]
  simp only [scoreGrads_apply hx hy, ks_apply hx, ofBits_scale, ← EReal.coe_mul, sum_coe, div_coe _ scale_ne_zero]
  congr 1
  rw [queryGrad, Finset.sum_div]
  refine Finset.sum_congr rfl fun s _ => ?_
  rw [mul_right_comm, mul_div_cancel_right₀ _ scale_ne_zero]

include hx hy in
theorem out1_apply (i : Fin 4096) (j : Fin 256) :
    (out1 a b (ix2 i j) : EReal) = (keyGrad x y (j / 128) i (j % 128) : EReal) := by
  pointwise [out1]
  simp only [scoreGrads_apply hx hy, qs_apply hx, ofBits_two, log_coe two_pos, ← EReal.coe_mul, sum_coe, div_coe _ log_two_ne_zero]
  congr 1
  rw [keyGrad, Finset.sum_div]
  refine Finset.sum_congr rfl fun i _ => ?_
  rw [Finset.sum_div]
  refine Finset.sum_congr rfl fun g _ => ?_
  ring

include hx hy in
theorem out2_apply (i : Fin 4096) (j : Fin 256) :
    (out2 a b (ix2 i j) : EReal) = (valueGrad x y (j / 128) i (j % 128) : EReal) := by
  pointwise [out2]
  simp only [exps_apply hx, sums_apply hx, os_apply hy, div_coe _ (sum_exp_ne_zero _), ← EReal.coe_mul, sum_coe, weight_shift]
  congr 1
  rw [valueGrad, Finset.sum_comm]
  exact Finset.sum_congr rfl fun i _ => Finset.sum_congr rfl fun g _ => mul_comm _ _

end arrays

variable (m : (ℓ : Loc nD τ sig) → Buf (Elt Ideal) ℓ) (c : Dev nD)

theorem out0_eq : res_main_v70 m c = out0 (m ((c.tc : Thread nD τ).loc main_arg0)) (m ((c.tc : Thread nD τ).loc main_arg1)) := rfl

theorem out1_eq : res_main_v73 m c = out1 (m ((c.tc : Thread nD τ).loc main_arg0)) (m ((c.tc : Thread nD τ).loc main_arg1)) := rfl

end Cert.RefRead

end
-- ==== Proof.DownWeight.lean ====
/-
  The gradient of the MLP's second weight at the extended reals: what the kernel's results array ends up holding, and what the reference computes.
  Both are one product, and no entry needs to be finite.
-/
module

public import proofs.«01_k».proof.Proof.Gen.DownWeightIdeal.Value
public import proofs.«01_k».proof.Proof.Gen.DownWeightRefIdeal.Run
public import Idealize.ShloMosaic.Lib.Pipeline.ValueKit.Point
public import Idealize.ShloMosaic.Lib.Pointwise

@[expose] public section

noncomputable section

namespace Cert.DownWeightMath

open Idealize.ShloMosaic Idealize.ShloMosaic.TcCoe Idealize.SL.Sem Cert.DownWeightIdeal Cert.DownWeightIdeal.Gen

/-- The product of the first array, transposed, with the second. -/
def product (a : FVec Ideal S4096x8192 .f32) (b : FVec Ideal S4096x2048 .f32) : FVec Ideal S8192x2048 .bf16 := fun i =>
  (∑ k : Fin 4096, (a (ix2 k (i 0 : Fin 8192)) : EReal) * b (ix2 k (i 1 : Fin 2048)) : EReal)

theorem payload_apply (a : Vec Ideal S4096x512 .bf16) (b : Vec Ideal S4096x1024 .bf16) (r : Fin 512) (d : Fin 1024) :
    (k0_pay1 (F := Ideal) a b (ix2 r d) : EReal) = ∑ k : Fin 4096, (a (ix2 k r) : EReal) * b (ix2 k d) := by
  pointwise [k0_pay1]

theorem index0 : ∀ t : Fin cfg0.N, win0_0.index t = ![0, t.val / 2] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem lt32 (t : Fin cfg0.N) : t.val < 32 := t.isLt

variable (m : (ℓ : Loc nD τ sig) → Buf (Elt Ideal) ℓ) (c : Dev nD)

theorem left_eq (i : Fin 4096) (j : Fin 8192) : (V m c main_v0 (ix2 i j) : EReal) = m ((c.tc : Thread nD τ).loc main_arg0) (ix2 i j) := by
  entry_read
  pointwise

theorem right_eq (i : Fin 4096) (j : Fin 2048) : (V m c main_v1 (ix2 i j) : EReal) = m ((c.tc : Thread nD τ).loc main_arg1) (ix2 i j) := by
  entry_read
  pointwise

theorem left_apply (t : Fin cfg0.N) (k : Fin 4096) (r : Fin 512) : (iblk m c 0 t (ix2 k r) : EReal)
    = m ((c.tc : Thread nD τ).loc main_arg0) (ix2 k (⟨t.val / 2 * 512 + r, by have := lt32 t; omega⟩ : Fin 8192)) := by
  refine Eq.trans ?_ (left_eq m c k _)
  blk_simp [iblk, index0 t]
  refine congrArg (V m c main_v0) ?_
  blk_ext [index0 t]

theorem right_apply (t : Fin cfg0.N) (k : Fin 4096) (d : Fin 1024) : (iblk m c 1 t (ix2 k d) : EReal)
    = m ((c.tc : Thread nD τ).loc main_arg1) (ix2 k (⟨t.val % 2 * 1024 + d, by omega⟩ : Fin 2048)) := by
  refine Eq.trans ?_ (right_eq m c k _)
  blk_simp [iblk, index1 t]
  refine congrArg (V m c main_v1) ?_
  blk_ext [index1 t]

theorem block_apply (t : Fin cfg0.N) (r : Fin 512) (d : Fin 1024) : (out0_2 (F := Ideal) (iblk m c 0 t) (iblk m c 1 t) (ix2 r d) : EReal)
    = product (m ((c.tc : Thread nD τ).loc main_arg0)) (m ((c.tc : Thread nD τ).loc main_arg1))
        (ix2 (⟨t.val / 2 * 512 + r, by have := lt32 t; omega⟩ : Fin 8192) (⟨t.val % 2 * 1024 + d, by omega⟩ : Fin 2048)) := by
  unfold out0_2
  frame_out
  refine (payload_apply _ _ r d).trans ?_
  simp only [left_apply, right_apply]
  rfl

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t _ j => ?_
  obtain ⟨r, d, rfl⟩ : ∃ (r : Fin 512) (d : Fin 1024), j = ix2 r d := ⟨j 0, j 1, eq_ix2 j⟩
  blk_simp [index2 t]
  rw [after0_2]
  refine (block_apply m c t r d).trans ?_
  refine congrArg (product _ _) ?_
  blk_ext [index2 t]

/-- The reference's result. -/
theorem reference (a : FVec Ideal S4096x8192 .f32) (b : FVec Ideal S4096x2048 .f32) (h) (hb) :
    truncf .bf16 (transpose S8192x2048 [1, 0] (Host.dotGeneral Cert.DownWeightRefIdeal.dot_S4096x2048_S4096x8192_S2048x8192_0_0_1_1_n_n none b a) h) hb = product a b := by
  funext j
  obtain ⟨r, d, rfl⟩ : ∃ (r : Fin 8192) (d : Fin 2048), j = ix2 r d := ⟨j 0, j 1, eq_ix2 j⟩
  pointwise
  exact Finset.sum_congr rfl fun k _ => mul_comm _ _

end Cert.DownWeightMath

end
-- ==== Proof.UpWeight.lean ====
/-
  The gradient of the MLP's first weight at the extended reals: what the kernel's results array ends up holding, and what the reference computes.
  Both are one product, stacked in four blocks of columns; no entry needs to be finite.
-/
module

public import proofs.«01_k».proof.Proof.Gen.UpWeightIdeal.Value
public import proofs.«01_k».proof.Proof.Gen.UpWeightRefIdeal.Run
public import Idealize.ShloMosaic.Lib.Pipeline.ValueKit.Point
public import Idealize.ShloMosaic.Lib.Pointwise

@[expose] public section

noncomputable section

namespace Cert.UpWeightMath

open Idealize.ShloMosaic Idealize.ShloMosaic.TcCoe Idealize.SL.Sem Cert.UpWeightIdeal Cert.UpWeightIdeal.Gen

/-- The column of the whole matrix where a block's column lies. -/
def column (q : Fin 4) (j : Fin 2048) : Fin 8192 := ⟨q * 2048 + j, by omega⟩

/-- The product of the first array, transposed, with the second, in four blocks of columns. -/
def product (a : FVec Ideal S4096x2048 .f32) (b : FVec Ideal S4096x8192 .f32) : FVec Ideal S4x2048x2048 .bf16 := fun i =>
  (∑ k : Fin 4096, (a (ix2 k (i 1 : Fin 2048)) : EReal) * b (ix2 k (column (i 0) (i 2))) : EReal)

theorem payload_apply (a : Vec Ideal S4096x512 .bf16) (b : Vec Ideal S4096x1024 .bf16) (z : Fin 1) (r : Fin 512) (d : Fin 1024) :
    (k0_pay1 (F := Ideal) a b (ix3 z r d) : EReal) = ∑ k : Fin 4096, (a (ix2 k r) : EReal) * b (ix2 k d) := by
  pointwise [k0_pay1]

theorem index0 : ∀ t : Fin cfg0.N, win0_0.index t = ![0, t.val / 8] := (by decide +kernel : ∀ t : Fin grid0.N, _)
theorem index1 : ∀ t : Fin cfg0.N, win0_1.index t = ![0, t.val % 8] := (by decide +kernel : ∀ t : Fin grid0.N, _)
theorem index2 : ∀ t : Fin cfg0.N, win0_2.index t = ![t.val % 8 / 2, t.val / 8, t.val % 2] := (by decide +kernel : ∀ t : Fin grid0.N, _)
theorem lt32 (t : Fin cfg0.N) : t.val < 32 := t.isLt

variable (m : (ℓ : Loc nD τ sig) → Buf (Elt Ideal) ℓ) (c : Dev nD)

theorem left_eq (i : Fin 4096) (j : Fin 2048) : (V m c main_v0 (ix2 i j) : EReal) = m ((c.tc : Thread nD τ).loc main_arg0) (ix2 i j) := by
  entry_read
  pointwise

theorem right_eq (i : Fin 4096) (j : Fin 8192) : (V m c main_v1 (ix2 i j) : EReal) = m ((c.tc : Thread nD τ).loc main_arg1) (ix2 i j) := by
  entry_read
  pointwise

theorem left_apply (t : Fin cfg0.N) (k : Fin 4096) (r : Fin 512) : (iblk m c 0 t (ix2 k r) : EReal)
    = m ((c.tc : Thread nD τ).loc main_arg0) (ix2 k (⟨t.val / 8 * 512 + r, by have := lt32 t; omega⟩ : Fin 2048)) := by
  refine Eq.trans ?_ (left_eq m c k _)
  blk_simp [iblk, index0 t]
  refine congrArg (V m c main_v0) ?_
  blk_ext [index0 t]

theorem right_apply (t : Fin cfg0.N) (k : Fin 4096) (d : Fin 1024) : (iblk m c 1 t (ix2 k d) : EReal)
    = m ((c.tc : Thread nD τ).loc main_arg1) (ix2 k (⟨t.val % 8 * 1024 + d, by omega⟩ : Fin 8192)) := by
  refine Eq.trans ?_ (right_eq m c k _)
  blk_simp [iblk, index1 t]
  refine congrArg (V m c main_v1) ?_
  blk_ext [index1 t]

theorem block_apply (t : Fin cfg0.N) (z : Fin 1) (r : Fin 512) (d : Fin 1024) : (out0_2 (F := Ideal) (iblk m c 0 t) (iblk m c 1 t) (ix3 z r d) : EReal)
    = product (m ((c.tc : Thread nD τ).loc main_arg0)) (m ((c.tc : Thread nD τ).loc main_arg1))
        (ix3 (⟨t.val % 8 / 2, by omega⟩ : Fin 4) (⟨t.val / 8 * 512 + r, by have := lt32 t; omega⟩ : Fin 2048) (⟨t.val % 2 * 1024 + d, by omega⟩ : Fin 2048)) := by
  unfold out0_2
  frame_out
  refine (payload_apply _ _ z r d).trans ?_
  simp only [left_apply, right_apply]
  have e : t.val % 8 * 1024 + d.val = t.val % 8 / 2 * 2048 + (t.val % 2 * 1024 + d.val) := by omega
  simp only [e]
  rfl

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t _ j => ?_
  obtain ⟨z, r, d, rfl⟩ : ∃ (z : Fin 1) (r : Fin 512) (d : Fin 1024), j = ix3 z r d := ⟨j 0, j 1, j 2, eq_ix3 j⟩
  blk_simp [index2 t]
  rw [after0_2]
  refine (block_apply m c t z r d).trans ?_
  refine congrArg (product _ _) ?_
  blk_ext [index2 t]

end Cert.UpWeightMath

namespace Cert.UpWeightRefMath

open Idealize.ShloMosaic Idealize.ShloMosaic.TcCoe Idealize.SL.Sem Cert.UpWeightRefIdeal Cert.UpWeightRefIdeal.Gen Cert.UpWeightMath

theorem transposed_apply (a : FVec Ideal S4096x2048 .f32) (b : FVec Ideal S4096x8192 .f32) (i : Fin 2048) (j : Fin 8192) :
    (transpose S2048x8192 [1, 0] (Host.dotGeneral dot_S4096x8192_S4096x2048_S8192x2048_0_0_1_1_n_n none b a)
      transposes_S8192x2048_S2048x8192_1_0 (ix2 i j) : EReal) = ∑ k : Fin 4096, (a (ix2 k i) : EReal) * b (ix2 k j) := by
  pointwise
  exact Finset.sum_congr rfl fun k _ => mul_comm _ _

/-- A matrix's four blocks of columns, stacked as the reference stacks them. -/
def stack (w : FVec Ideal S2048x8192 .f32) : FVec Ideal S4x2048x2048 .bf16 :=
  truncf .bf16 ((concatenate S4x2048x2048 0
    [⟨S1x2048x2048, ((broadcastInDim S1x2048x2048 ![1, 2] bcast_S2048x2048_S1x2048x2048_1_2 (extractStridedSlice S2048x2048 ![0, 0] w slices_S2048x8192_S2048x2048_0_0)) : (⟨S1x2048x2048, .f32⟩ : BufTy).Contents (Elt Ideal))⟩,
     ⟨S1x2048x2048, ((broadcastInDim S1x2048x2048 ![1, 2] bcast_S2048x2048_S1x2048x2048_1_2 (extractStridedSlice S2048x2048 ![0, 2048] w slices_S2048x8192_S2048x2048_0_2048)) : (⟨S1x2048x2048, .f32⟩ : BufTy).Contents (Elt Ideal))⟩,
     ⟨S1x2048x2048, ((broadcastInDim S1x2048x2048 ![1, 2] bcast_S2048x2048_S1x2048x2048_1_2 (extractStridedSlice S2048x2048 ![0, 4096] w slices_S2048x8192_S2048x2048_0_4096)) : (⟨S1x2048x2048, .f32⟩ : BufTy).Contents (Elt Ideal))⟩,
     ⟨S1x2048x2048, ((broadcastInDim S1x2048x2048 ![1, 2] bcast_S2048x2048_S1x2048x2048_1_2 (extractStridedSlice S2048x2048 ![0, 6144] w slices_S2048x8192_S2048x2048_0_6144)) : (⟨S1x2048x2048, .f32⟩ : BufTy).Contents (Elt Ideal))⟩]
    concatenates_S1x2048x2048_S1x2048x2048_S1x2048x2048_S1x2048x2048_S4x2048x2048_d0 : (⟨S4x2048x2048, .f32⟩ : BufTy).Contents (Elt Ideal))) bitsLt_bf16_f32

theorem stack_apply (w : FVec Ideal S2048x8192 .f32) (q : Fin 4) (i j : Fin 2048) : (stack w (ix3 q i j) : EReal) = w (ix2 i (column q j)) := by
  fin_cases q
  all_goals
    pointwise [stack]
    exact congrArg w (congrArg (ix2 i) (Fin.ext (by simp [column] <;> omega)))

/-- The reference's result. -/
theorem reference (a : FVec Ideal S4096x2048 .f32) (b : FVec Ideal S4096x8192 .f32) :
    stack (transpose S2048x8192 [1, 0] (Host.dotGeneral dot_S4096x8192_S4096x2048_S8192x2048_0_0_1_1_n_n none b a)
      transposes_S8192x2048_S2048x8192_1_0) = product a b := by
  funext j
  obtain ⟨q, r, d, rfl⟩ : ∃ (q : Fin 4) (r d : Fin 2048), j = ix3 q r d := ⟨j 0, j 1, j 2, eq_ix3 j⟩
  rw [stack_apply, transposed_apply]
  rfl

end Cert.UpWeightRefMath

end
-- ==== Proof.Entries.lean ====
/-
  Entries of matrices by natural numbers, and sums over them taken in blocks.
-/
module

public import Idealize.ShloMosaic.Lib.Pointwise

@[expose] public section

noncomputable section

namespace Cert.Entries

open Idealize.ShloMosaic

/-- An entry of a matrix, 0 outside it. -/
def entry {n k : ℕ} {e : FTy} (a : FVec Ideal ⟨2, ![n, k]⟩ e) (i j : ℕ) : EReal :=
  if h : i < n ∧ j < k then a (ix2 (⟨i, h.1⟩ : Fin n) (⟨j, h.2⟩ : Fin k)) else 0

theorem entry_fin {n k : ℕ} {e : FTy} (a : FVec Ideal ⟨2, ![n, k]⟩ e) (i : Fin n) (j : Fin k) : (a (ix2 i j) : EReal) = entry a i j := by
  rw [entry, dif_pos ⟨i.isLt, j.isLt⟩]

theorem sum_block (f : ℕ → EReal) (n q : ℕ) :
    ∑ k ∈ Finset.range ((q + 1) * n), f k = ∑ k ∈ Finset.range (q * n), f k + ∑ k : Fin n, f (q * n + k) := by
  rw [add_mul, one_mul, Finset.sum_range_add, Fin.sum_univ_eq_sum_range fun k => f (q * n + k)]

theorem sum_first (f : ℕ → EReal) (n : ℕ) : ∑ k ∈ Finset.range n, f k = ∑ k : Fin n, f k :=
  (Fin.sum_univ_eq_sum_range f n).symm

/-- A sum taken in two blocks. -/
theorem sum_two (f : ℕ → EReal) (n : ℕ) : ∑ k : Fin n, f (0 * n + k) + ∑ k : Fin n, f (1 * n + k) = ∑ k ∈ Finset.range (2 * n), f k := by
  rw [sum_block f n 1, sum_block f n 0]
  simp

end Cert.Entries

end
-- ==== Proof.UpInput.lean ====
/-
  The gradient that goes back through the MLP's first product, at the extended reals: the kernel adds it up over four blocks of columns in
  a scratch array, and the reference computes it at once. No entry needs to be finite.
-/
module

public import proofs.«01_k».proof.Proof.Gen.UpInputIdeal.Value
public import proofs.«01_k».proof.Proof.Gen.UpInputRefIdeal.Run
public import proofs.«01_k».proof.Proof.Entries
public import Idealize.ShloMosaic.Lib.Pipeline.ValueKit.Point
public import Idealize.ShloMosaic.Lib.Pointwise

@[expose] public section

noncomputable section

namespace Cert.UpInputMath

open Idealize.ShloMosaic Idealize.ShloMosaic.TcCoe Idealize.SL.Sem Cert.UpInputIdeal Cert.UpInputIdeal.Gen Cert.Entries

/-- One term of an entry of the product of the gradients with the weight, transposed. -/
def term (w : FVec Ideal S2048x8192 .f32) (a : FVec Ideal S4096x8192 .f32) (i j k : ℕ) : EReal := entry a i k * entry w j k

/-- The product. -/
def product (w : FVec Ideal S2048x8192 .f32) (a : FVec Ideal S4096x8192 .f32) : FVec Ideal S4096x2048 .f32 := fun i =>
  (∑ k ∈ Finset.range 8192, term w a (i 0 : Fin 4096) (i 1 : Fin 2048) k : EReal)

theorem payload1 (v0 : Vec Ideal S1024x2048 .bf16) (v2 : Vec Ideal S1x1024x2048 .bf16) (r d : Fin 1024) :
    (k0_pay1 (F := Ideal) v0 v2 (ix2 r d) : EReal) = ∑ k : Fin 2048, (v0 (ix2 r k) : EReal) * v2 (ix3 (0 : Fin 1) d k) := by
  pointwise [k0_pay1]

theorem payload2 (v0 : Vec Ideal S1024x2048 .bf16) (v2 : Vec Ideal S1x1024x2048 .bf16) (r d : Fin 1024) :
    (k0_pay2 (F := Ideal) v0 v2 (ix2 r d) : EReal) = k0_pay1 (F := Ideal) v0 v2 (ix2 r d) := by
  pointwise [k0_pay2]

theorem payload3 (v0 : Vec Ideal S1024x2048 .bf16) (v2 : Vec Ideal S1x1024x2048 .bf16) (v14 : Vec Ideal S1024x1024 .f32) (r d : Fin 1024) :
    (k0_pay3 (F := Ideal) v0 v2 v14 (ix2 r d) : EReal) = (v14 (ix2 r d) : EReal) + k0_pay1 (F := Ideal) v0 v2 (ix2 r d) := by
  pointwise [k0_pay3]

theorem index0 : ∀ t : Fin cfg0.N, win0_0.index t = ![t.val / 8, t.val % 4] := (by decide +kernel : ∀ t : Fin grid0.N, _)
theorem index1 : ∀ t : Fin cfg0.N, win0_1.index t = ![t.val % 4, t.val / 4 % 2, 0] := (by decide +kernel : ∀ t : Fin grid0.N, _)
theorem index2 : ∀ t : Fin cfg0.N, win0_2.index t = ![t.val / 8, t.val / 4 % 2] := (by decide +kernel : ∀ t : Fin grid0.N, _)
theorem lt32 (t : Fin cfg0.N) : t.val < 32 := t.isLt

variable (m : (ℓ : Loc nD τ sig) → Buf (Elt Ideal) ℓ) (c : Dev nD)

theorem left_eq (i : Fin 4096) (j : Fin 8192) : (V m c main_v0 (ix2 i j) : EReal) = m ((c.tc : Thread nD τ).loc main_arg1) (ix2 i j) := by
  entry_read
  pointwise

theorem right_eq (q : Fin 4) (i : Fin 2048) (j : Fin 2048) : (V m c main_v3 (ix3 q i j) : EReal)
    = m ((c.tc : Thread nD τ).loc main_arg0) (ix2 i (⟨q * 2048 + j, by omega⟩ : Fin 8192)) := by
  entry_read
  pointwise

theorem left_apply (t : Fin cfg0.N) (r : Fin 1024) (k : Fin 2048) : (iblk m c 0 t (ix2 r k) : EReal)
    = entry (e := .f32) (m ((c.tc : Thread nD τ).loc main_arg1)) (t.val / 8 * 1024 + r) (t.val % 4 * 2048 + k) := by
  have := lt32 t
  refine Eq.trans ?_ ((left_eq m c (⟨t.val / 8 * 1024 + r, by omega⟩ : Fin 4096) (⟨t.val % 4 * 2048 + k, by omega⟩ : Fin 8192)).trans (entry_fin _ _ _))
  blk_simp [iblk, index0 t]
  refine congrArg (V m c main_v0) ?_
  blk_ext [index0 t]

theorem right_apply (t : Fin cfg0.N) (z : Fin 1) (d : Fin 1024) (k : Fin 2048) : (iblk m c 1 t (ix3 z d k) : EReal)
    = entry (e := .f32) (m ((c.tc : Thread nD τ).loc main_arg0)) (t.val / 4 % 2 * 1024 + d) (t.val % 4 * 2048 + k) := by
  refine Eq.trans ?_ ((right_eq m c (⟨t.val % 4, by omega⟩ : Fin 4) (⟨t.val / 4 % 2 * 1024 + d, by omega⟩ : Fin 2048) k).trans (entry_fin _ _ _))
  blk_simp [iblk, index1 t]
  refine congrArg (V m c main_v3) ?_
  blk_ext [index1 t]

/-- One term of the entry at a place of the block of a grid point. -/
abbrev here (t : ℕ) (r d : Fin 1024) (k : ℕ) : EReal :=
  term (m ((c.tc : Thread nD τ).loc main_arg0)) (m ((c.tc : Thread nD τ).loc main_arg1)) (t / 8 * 1024 + r) (t / 4 % 2 * 1024 + d) k

theorem step (t : Fin cfg0.N) (r d : Fin 1024) : (k0_pay1 (F := Ideal) (iblk m c 0 t) (iblk m c 1 t) (ix2 r d) : EReal)
    = ∑ k : Fin 2048, here m c t r d (t.val % 4 * 2048 + k) := by
  refine (payload1 _ _ r d).trans ?_
  simp only [left_apply, right_apply]
  rfl

theorem scratch_first (t : Fin cfg0.N) (h0 : t.val % 4 = 0) (r d : Fin 1024) : ((outsAt0 m c t.val t.isLt).2 (ix2 r d) : EReal)
    = ∑ k ∈ Finset.range ((t.val % 4 + 1) * 2048), here m c t r d k := by
  rw [outsAt0_A m c t h0 (by omega) (by omega)]
  frame_out
  refine (payload2 _ _ r d).trans ((step m c t r d).trans ?_)
  rw [sum_block, h0]
  simp

theorem scratch_next (t : Fin cfg0.N) (h0 : ¬t.val % 4 = 0) (r d : Fin 1024) : ((outsAt0 m c t.val t.isLt).2 (ix2 r d) : EReal)
    = ((outsAt0 m c (t.val - 1) (by omega)).2 (ix2 r d) : EReal) + ∑ k : Fin 2048, here m c t r d (t.val % 4 * 2048 + k) := by
  by_cases h2 : t.val % 4 = 3
  · rw [outsAt0_C m c t h0 (by omega) h2]
    frame_out
    exact (payload3 _ _ _ r d).trans (congrArg₂ (· + · : EReal → EReal → EReal) (congrFun (Memref.IsWhole.read_unread _ _) _) (step m c t r d))
  · rw [outsAt0_B m c t h0 (by omega) h2]
    frame_out
    exact (payload3 _ _ _ r d).trans (congrArg₂ (· + · : EReal → EReal → EReal) (congrFun (Memref.IsWhole.read_unread _ _) _) (step m c t r d))

theorem scratch_at (n : ℕ) (hn : n < cfg0.N) (r d : Fin 1024) : ((outsAt0 m c n hn).2 (ix2 r d) : EReal)
    = ∑ k ∈ Finset.range ((n % 4 + 1) * 2048), here m c n r d k := by
  induction n with
  | zero => exact scratch_first m c ⟨0, hn⟩ rfl r d
  | succ n ih =>
    by_cases h0 : (n + 1) % 4 = 0
    · exact scratch_first m c ⟨n + 1, hn⟩ h0 r d
    · refine (scratch_next m c ⟨n + 1, hn⟩ h0 r d).trans ?_
      have e1 : n / 8 = (n + 1) / 8 := by omega
      have e2 : n / 4 = (n + 1) / 4 := by omega
      have e3 : n % 4 + 1 = (n + 1) % 4 := by omega
      simp only [Nat.add_sub_cancel]
      rw [ih (by omega), sum_block _ _ ((n + 1) % 4)]
      unfold here
      rw [e1, e2, e3]

theorem result_at (t : Fin cfg0.N) (h2 : t.val % 4 = 3) (r d : Fin 1024) : ((outsAt0 m c t.val t.isLt).1 (ix2 r d) : EReal)
    = (outsAt0 m c t.val t.isLt).2 (ix2 r d) := by
  rw [outsAt0_C m c t (by omega) (by omega) h2]
  frame_out

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf j => ?_
  obtain ⟨r, d, rfl⟩ : ∃ (r d : Fin 1024), j = ix2 r d := ⟨j 0, j 1, eq_ix2 j⟩
  have h3 : t.val % 4 = 3 := (flush0_2 t).mp hf
  have := lt32 t
  blk_simp [index2 t]
  rw [after0_2]
  refine (result_at m c t h3 r d).trans ((scratch_at m c t.val t.isLt r d).trans ?_)
  rw [h3]
  refine Eq.trans (b := product (m ((c.tc : Thread nD τ).loc main_arg0)) (m ((c.tc : Thread nD τ).loc main_arg1))
    (ix2 (⟨t.val / 8 * 1024 + r, by omega⟩ : Fin 4096) (⟨t.val / 4 % 2 * 1024 + d, by omega⟩ : Fin 2048))) rfl ?_
  refine congrArg (product _ _) ?_
  blk_ext [index2 t]

/-- The reference's result. -/
theorem reference (w : FVec Ideal S2048x8192 .f32) (a : FVec Ideal S4096x8192 .f32) :
    Host.dotGeneral Cert.UpInputRefIdeal.dot_S4096x8192_S2048x8192_S4096x2048_1_1_0_0_n_n none a w = product w a := by
  funext j
  obtain ⟨r, d, rfl⟩ : ∃ (r : Fin 4096) (d : Fin 2048), j = ix2 r d := ⟨j 0, j 1, eq_ix2 j⟩
  have e : (∑ k : Fin 8192, (a (ix2 r k) : EReal) * w (ix2 d k)) = ∑ k : Fin 8192, term w a r d k :=
    Finset.sum_congr rfl fun k _ => congrArg₂ (· * · : EReal → EReal → EReal) (entry_fin a r k) (entry_fin w d k)
  rw [← sum_first] at e
  refine Eq.trans ?_ e
  pointwise

end Cert.UpInputMath

end
-- ==== Proof.Up.lean ====
/-
  The MLP's first product and its squared rectifier at the extended reals: what the kernel's two results arrays end up holding, and what the
  reference computes. No entry needs to be finite.
-/
module

public import proofs.«01_k».proof.Proof.Gen.UpIdeal.Value
public import proofs.«01_k».proof.Proof.Gen.UpRefIdeal.Run
public import Idealize.ShloMosaic.Lib.Pipeline.ValueKit.Point
public import Idealize.ShloMosaic.Lib.Pointwise

@[expose] public section

noncomputable section

namespace Cert.UpMath

open Idealize.ShloMosaic Idealize.ShloMosaic.TcCoe Idealize.SL.Sem Cert.UpIdeal Cert.UpIdeal.Gen

/-- The rectified product of the two arrays. -/
def rectified (a : FVec Ideal S4096x2048 .f32) (b : FVec Ideal S2048x8192 .f32) : FVec Ideal S4096x8192 .bf16 := fun i =>
  (max (∑ k : Fin 2048, (a (ix2 (i 0 : Fin 4096) k) : EReal) * b (ix2 k (i 1 : Fin 8192))) 0 : EReal)

/-- Its square. -/
def squared (a : FVec Ideal S4096x2048 .f32) (b : FVec Ideal S2048x8192 .f32) : FVec Ideal S4096x8192 .bf16 := fun i =>
  ((rectified a b i : EReal) * rectified a b i : EReal)

theorem rectified_payload (a : Vec Ideal S2048x2048 .bf16) (b : Vec Ideal S1x2048x1024 .bf16) (r : Fin 2048) (d : Fin 1024) :
    (k0_pay1 (F := Ideal) a b (ix2 r d) : EReal) = max (∑ k : Fin 2048, (a (ix2 r k) : EReal) * b (ix3 (0 : Fin 1) k d)) 0 := by
  pointwise [k0_pay1]

theorem payload2 (a : Vec Ideal S2048x2048 .bf16) (b : Vec Ideal S1x2048x1024 .bf16) (r : Fin 2048) (d : Fin 1024) :
    (k0_pay2 (F := Ideal) a b (ix2 r d) : EReal) = (k0_pay1 (F := Ideal) a b (ix2 r d) : EReal) * k0_pay1 (F := Ideal) a b (ix2 r d) := rfl

theorem payload3 (a : Vec Ideal S2048x2048 .bf16) (b : Vec Ideal S1x2048x1024 .bf16) (r : Fin 2048) (d : Fin 1024) :
    (k0_pay3 (F := Ideal) a b (ix2 r d) : EReal) = k0_pay1 (F := Ideal) a b (ix2 r d) := rfl

theorem index0 : ∀ t : Fin cfg0.N, win0_0.index t = ![t.val / 8, 0] := (by decide +kernel : ∀ t : Fin grid0.N, _)
theorem index1 : ∀ t : Fin cfg0.N, win0_1.index t = ![t.val % 8 / 2, 0, t.val % 2] := (by decide +kernel : ∀ t : Fin grid0.N, _)
theorem index2 : ∀ t : Fin cfg0.N, win0_2.index t = ![t.val / 8, t.val % 8] := (by decide +kernel : ∀ t : Fin grid0.N, _)
theorem index3 : ∀ t : Fin cfg0.N, win0_3.index t = ![t.val / 8, t.val % 8] := (by decide +kernel : ∀ t : Fin grid0.N, _)
theorem lt16 (t : Fin cfg0.N) : t.val < 16 := t.isLt

variable (m : (ℓ : Loc nD τ sig) → Buf (Elt Ideal) ℓ) (c : Dev nD)

theorem left_eq (i : Fin 4096) (j : Fin 2048) : (V m c main_v0 (ix2 i j) : EReal) = m ((c.tc : Thread nD τ).loc main_arg0) (ix2 i j) := by
  entry_read
  pointwise

theorem right_eq (q : Fin 4) (i : Fin 2048) (j : Fin 2048) : (V m c main_v3 (ix3 q i j) : EReal)
    = m ((c.tc : Thread nD τ).loc main_arg1) (ix2 i (⟨q * 2048 + j, by omega⟩ : Fin 8192)) := by
  entry_read
  pointwise

theorem left_apply (t : Fin cfg0.N) (r : Fin 2048) (k : Fin 2048) : (iblk m c 0 t (ix2 r k) : EReal)
    = m ((c.tc : Thread nD τ).loc main_arg0) (ix2 (⟨t.val / 8 * 2048 + r, by have := lt16 t; omega⟩ : Fin 4096) k) := by
  refine Eq.trans ?_ (left_eq m c _ k)
  blk_simp [iblk, index0 t]
  refine congrArg (V m c main_v0) ?_
  blk_ext [index0 t]

theorem right_apply (t : Fin cfg0.N) (z : Fin 1) (k : Fin 2048) (d : Fin 1024) : (iblk m c 1 t (ix3 z k d) : EReal)
    = m ((c.tc : Thread nD τ).loc main_arg1) (ix2 k (⟨t.val % 8 * 1024 + d, by omega⟩ : Fin 8192)) := by
  have e : (⟨t.val % 8 * 1024 + d, by omega⟩ : Fin 8192) = ⟨t.val % 8 / 2 * 2048 + (t.val % 2 * 1024 + d.val), by omega⟩ := Fin.ext (by show t.val % 8 * 1024 + d.val = t.val % 8 / 2 * 2048 + (t.val % 2 * 1024 + d.val); omega)
  rw [e]
  refine Eq.trans ?_ (right_eq m c (⟨t.val % 8 / 2, by omega⟩ : Fin 4) k (⟨t.val % 2 * 1024 + d.val, by omega⟩ : Fin 2048))
  blk_simp [iblk, index1 t]
  refine congrArg (V m c main_v3) ?_
  blk_ext [index1 t]

theorem block_apply (t : Fin cfg0.N) (r : Fin 2048) (d : Fin 1024) : (k0_pay1 (F := Ideal) (iblk m c 0 t) (iblk m c 1 t) (ix2 r d) : EReal)
    = rectified (m ((c.tc : Thread nD τ).loc main_arg0)) (m ((c.tc : Thread nD τ).loc main_arg1))
        (ix2 (⟨t.val / 8 * 2048 + r, by have := lt16 t; omega⟩ : Fin 4096) (⟨t.val % 8 * 1024 + d, by omega⟩ : Fin 8192)) := by
  refine (rectified_payload _ _ r d).trans ?_
  simp only [left_apply, right_apply]
  rfl

theorem block2 (t : Fin cfg0.N) (r : Fin 2048) (d : Fin 1024) : (out0_2 (F := Ideal) (iblk m c 0 t) (iblk m c 1 t) (ix2 r d) : EReal)
    = squared (m ((c.tc : Thread nD τ).loc main_arg0)) (m ((c.tc : Thread nD τ).loc main_arg1))
        (ix2 (⟨t.val / 8 * 2048 + r, by have := lt16 t; omega⟩ : Fin 4096) (⟨t.val % 8 * 1024 + d, by omega⟩ : Fin 8192)) := by
  unfold out0_2
  frame_out
  refine (payload2 _ _ r d).trans ?_
  rw [block_apply]
  rfl

theorem block3 (t : Fin cfg0.N) (r : Fin 2048) (d : Fin 1024) : (out0_3 (F := Ideal) (iblk m c 0 t) (iblk m c 1 t) (ix2 r d) : EReal)
    = rectified (m ((c.tc : Thread nD τ).loc main_arg0)) (m ((c.tc : Thread nD τ).loc main_arg1))
        (ix2 (⟨t.val / 8 * 2048 + r, by have := lt16 t; omega⟩ : Fin 4096) (⟨t.val % 8 * 1024 + d, by omega⟩ : Fin 8192)) := by
  unfold out0_3
  frame_out
  exact (payload3 _ _ r d).trans (block_apply m c t r d)

theorem final2 : (dats m 0 c).arrAt 2 cfg0.N = squared (m ((c.tc : Thread nD τ).loc main_arg0)) (m ((c.tc : Thread nD τ).loc main_arg1)) := by
  refine (dats m 0 c).arrAt_eq_of_covers 2 _ (by decide +kernel) fun t _ j => ?_
  obtain ⟨r, d, rfl⟩ : ∃ (r : Fin 2048) (d : Fin 1024), j = ix2 r d := ⟨j 0, j 1, eq_ix2 j⟩
  blk_simp [index2 t]
  rw [after0_2]
  refine (block2 m c t r d).trans ?_
  refine congrArg (squared _ _) ?_
  blk_ext [index2 t]

theorem final3 : (dats m 0 c).arrAt 3 cfg0.N = rectified (m ((c.tc : Thread nD τ).loc main_arg0)) (m ((c.tc : Thread nD τ).loc main_arg1)) := by
  refine (dats m 0 c).arrAt_eq_of_covers 3 _ (by decide +kernel) fun t _ j => ?_
  obtain ⟨r, d, rfl⟩ : ∃ (r : Fin 2048) (d : Fin 1024), j = ix2 r d := ⟨j 0, j 1, eq_ix2 j⟩
  blk_simp [index3 t]
  rw [after0_3]
  refine (block3 m c t r d).trans ?_
  refine congrArg (rectified _ _) ?_
  blk_ext [index3 t]

/-- The reference's rectified product. -/
theorem reference (a : FVec Ideal S4096x2048 .f32) (b : FVec Ideal S2048x8192 .f32) (h) (hb) :
    truncf .bf16 (maximumf (Host.dotGeneral Cert.UpRefIdeal.dot_S4096x2048_S2048x8192_S4096x8192_1_0_0_1_n_n none a b)
      (broadcastInDim S4096x8192 ![] h (constant (F := Ideal) Cert.UpRefIdeal.S_ .f32 0x00000000#32))) hb = rectified a b := by
  funext j
  obtain ⟨r, d, rfl⟩ : ∃ (r : Fin 4096) (d : Fin 8192), j = ix2 r d := ⟨j 0, j 1, eq_ix2 j⟩
  pointwise
  rfl

/-- The reference's rectified product, squared. -/
theorem reference_squared (a : FVec Ideal S4096x2048 .f32) (b : FVec Ideal S2048x8192 .f32) (h) (hb) :
    truncf .bf16 (mulf (maximumf (Host.dotGeneral Cert.UpRefIdeal.dot_S4096x2048_S2048x8192_S4096x8192_1_0_0_1_n_n none a b)
        (broadcastInDim S4096x8192 ![] h (constant (F := Ideal) Cert.UpRefIdeal.S_ .f32 0x00000000#32)))
      (maximumf (Host.dotGeneral Cert.UpRefIdeal.dot_S4096x2048_S2048x8192_S4096x8192_1_0_0_1_n_n none a b)
        (broadcastInDim S4096x8192 ![] h (constant (F := Ideal) Cert.UpRefIdeal.S_ .f32 0x00000000#32)))) hb = squared a b := by
  funext j
  exact congrArg (fun y : EReal => y * y) (congrFun (reference a b h hb) j)

end Cert.UpMath

end
-- ==== Proof.Down.lean ====
/-
  The MLP's second product, added to what it goes into, at the extended reals: the kernel adds the product up over four blocks of columns in a
  scratch array, and the reference computes it at once. No entry needs to be finite.
-/
module

public import proofs.«01_k».proof.Proof.Gen.DownIdeal.Value
public import proofs.«01_k».proof.Proof.Gen.DownRefIdeal.Run
public import proofs.«01_k».proof.Proof.Entries
public import Idealize.ShloMosaic.Lib.Pipeline.ValueKit.Point
public import Idealize.ShloMosaic.Lib.Pointwise

@[expose] public section

noncomputable section

namespace Cert.DownMath

open Idealize.ShloMosaic Idealize.ShloMosaic.TcCoe Idealize.SL.Sem Cert.DownIdeal Cert.DownIdeal.Gen Cert.Entries

/-- One term of an entry of the product. -/
def term (a : FVec Ideal S4096x8192 .f32) (w : FVec Ideal S8192x2048 .f32) (i j k : ℕ) : EReal := entry a i k * entry w k j

/-- The product, added to a third array. -/
def result (a : FVec Ideal S4096x8192 .f32) (w : FVec Ideal S8192x2048 .f32) (h : FVec Ideal S4096x2048 .f32) : FVec Ideal S4096x2048 .f32 := fun i =>
  (h i + ∑ k ∈ Finset.range 8192, term a w (i 0 : Fin 4096) (i 1 : Fin 2048) k : EReal)

theorem payload1 (v0 : Vec Ideal S1024x2048 .bf16) (v2 : Vec Ideal S2048x1024 .bf16) (r d : Fin 1024) :
    (k0_pay1 (F := Ideal) v0 v2 (ix2 r d) : EReal) = ∑ k : Fin 2048, (v0 (ix2 r k) : EReal) * v2 (ix2 k d) := by
  pointwise [k0_pay1]

theorem payload2 (v0 : Vec Ideal S1024x2048 .bf16) (v2 : Vec Ideal S2048x1024 .bf16) (r d : Fin 1024) :
    (k0_pay2 (F := Ideal) v0 v2 (ix2 r d) : EReal) = k0_pay1 (F := Ideal) v0 v2 (ix2 r d) := by
  pointwise [k0_pay2]

theorem payload3 (v0 : Vec Ideal S1024x2048 .bf16) (v2 : Vec Ideal S2048x1024 .bf16) (v14 : Vec Ideal S1024x1024 .f32) (r d : Fin 1024) :
    (k0_pay3 (F := Ideal) v0 v2 v14 (ix2 r d) : EReal) = (v14 (ix2 r d) : EReal) + k0_pay1 (F := Ideal) v0 v2 (ix2 r d) := by
  pointwise [k0_pay3]

theorem payload4 (v14 v15 : Vec Ideal S1024x1024 .f32) (r d : Fin 1024) :
    (k0_pay4 (F := Ideal) v14 v15 (ix2 r d) : EReal) = (v14 (ix2 r d) : EReal) + v15 (ix2 r d) := rfl

theorem index0 : ∀ t : Fin cfg0.N, win0_0.index t = ![t.val / 8, t.val % 4] := (by decide +kernel : ∀ t : Fin grid0.N, _)
theorem index1 : ∀ t : Fin cfg0.N, win0_1.index t = ![t.val % 4, t.val / 4 % 2] := (by decide +kernel : ∀ t : Fin grid0.N, _)
theorem index2 : ∀ t : Fin cfg0.N, win0_2.index t = ![t.val / 8, t.val / 4 % 2] := (by decide +kernel : ∀ t : Fin grid0.N, _)
theorem index3 : ∀ t : Fin cfg0.N, win0_3.index t = ![t.val / 8, t.val / 4 % 2] := (by decide +kernel : ∀ t : Fin grid0.N, _)
theorem lt32 (t : Fin cfg0.N) : t.val < 32 := t.isLt

variable (m : (ℓ : Loc nD τ sig) → Buf (Elt Ideal) ℓ) (c : Dev nD)

theorem left_eq (i : Fin 4096) (j : Fin 8192) : (V m c main_v0 (ix2 i j) : EReal) = m ((c.tc : Thread nD τ).loc main_arg0) (ix2 i j) := by
  entry_read
  pointwise

theorem right_eq (i : Fin 8192) (j : Fin 2048) : (V m c main_v1 (ix2 i j) : EReal) = m ((c.tc : Thread nD τ).loc main_arg1) (ix2 i j) := by
  entry_read
  pointwise

theorem added_eq (i : Fin 4096) (j : Fin 2048) : (V m c main_arg2 (ix2 i j) : EReal) = m ((c.tc : Thread nD τ).loc main_arg2) (ix2 i j) := by
  entry_read
  rfl

theorem left_apply (t : Fin cfg0.N) (r : Fin 1024) (k : Fin 2048) : (iblk m c 0 t (ix2 r k) : EReal)
    = entry (e := .f32) (m ((c.tc : Thread nD τ).loc main_arg0)) (t.val / 8 * 1024 + r) (t.val % 4 * 2048 + k) := by
  have := lt32 t
  refine Eq.trans ?_ ((left_eq m c (⟨t.val / 8 * 1024 + r, by omega⟩ : Fin 4096) (⟨t.val % 4 * 2048 + k, by omega⟩ : Fin 8192)).trans (entry_fin _ _ _))
  blk_simp [iblk, index0 t]
  refine congrArg (V m c main_v0) ?_
  blk_ext [index0 t]

theorem right_apply (t : Fin cfg0.N) (k : Fin 2048) (d : Fin 1024) : (iblk m c 1 t (ix2 k d) : EReal)
    = entry (e := .f32) (m ((c.tc : Thread nD τ).loc main_arg1)) (t.val % 4 * 2048 + k) (t.val / 4 % 2 * 1024 + d) := by
  refine Eq.trans ?_ ((right_eq m c (⟨t.val % 4 * 2048 + k, by omega⟩ : Fin 8192) (⟨t.val / 4 % 2 * 1024 + d, by omega⟩ : Fin 2048)).trans (entry_fin _ _ _))
  blk_simp [iblk, index1 t]
  refine congrArg (V m c main_v1) ?_
  blk_ext [index1 t]

theorem added_apply (t : Fin cfg0.N) (r d : Fin 1024) : (iblk m c 2 t (ix2 r d) : EReal)
    = m ((c.tc : Thread nD τ).loc main_arg2) (ix2 (⟨t.val / 8 * 1024 + r, by have := lt32 t; omega⟩ : Fin 4096) (⟨t.val / 4 % 2 * 1024 + d, by omega⟩ : Fin 2048)) := by
  refine Eq.trans ?_ (added_eq m c _ _)
  blk_simp [iblk, index2 t]
  refine congrArg (V m c main_arg2) ?_
  blk_ext [index2 t]

/-- One term of the entry at a place of the block of a grid point. -/
abbrev here (t : ℕ) (r d : Fin 1024) (k : ℕ) : EReal :=
  term (m ((c.tc : Thread nD τ).loc main_arg0)) (m ((c.tc : Thread nD τ).loc main_arg1)) (t / 8 * 1024 + r) (t / 4 % 2 * 1024 + d) k

theorem step (t : Fin cfg0.N) (r d : Fin 1024) : (k0_pay1 (F := Ideal) (iblk m c 0 t) (iblk m c 1 t) (ix2 r d) : EReal)
    = ∑ k : Fin 2048, here m c t r d (t.val % 4 * 2048 + k) := by
  refine (payload1 _ _ r d).trans ?_
  simp only [left_apply, right_apply]
  rfl

theorem scratch_first (t : Fin cfg0.N) (h0 : t.val % 4 = 0) (r d : Fin 1024) : ((outsAt0 m c t.val t.isLt).2 (ix2 r d) : EReal)
    = ∑ k ∈ Finset.range ((t.val % 4 + 1) * 2048), here m c t r d k := by
  rw [outsAt0_A m c t h0 (by omega) (by omega)]
  frame_out
  refine (payload2 _ _ r d).trans ((step m c t r d).trans ?_)
  rw [sum_block, h0]
  simp

theorem scratch_next (t : Fin cfg0.N) (h0 : ¬t.val % 4 = 0) (r d : Fin 1024) : ((outsAt0 m c t.val t.isLt).2 (ix2 r d) : EReal)
    = ((outsAt0 m c (t.val - 1) (by omega)).2 (ix2 r d) : EReal) + ∑ k : Fin 2048, here m c t r d (t.val % 4 * 2048 + k) := by
  by_cases h2 : t.val % 4 = 3
  · rw [outsAt0_C m c t h0 (by omega) h2]
    frame_out
    exact (payload3 _ _ _ r d).trans (congrArg₂ (· + · : EReal → EReal → EReal) (congrFun (Memref.IsWhole.read_unread _ _) _) (step m c t r d))
  · rw [outsAt0_B m c t h0 (by omega) h2]
    frame_out
    exact (payload3 _ _ _ r d).trans (congrArg₂ (· + · : EReal → EReal → EReal) (congrFun (Memref.IsWhole.read_unread _ _) _) (step m c t r d))

theorem scratch_at (n : ℕ) (hn : n < cfg0.N) (r d : Fin 1024) : ((outsAt0 m c n hn).2 (ix2 r d) : EReal)
    = ∑ k ∈ Finset.range ((n % 4 + 1) * 2048), here m c n r d k := by
  induction n with
  | zero => exact scratch_first m c ⟨0, hn⟩ rfl r d
  | succ n ih =>
    by_cases h0 : (n + 1) % 4 = 0
    · exact scratch_first m c ⟨n + 1, hn⟩ h0 r d
    · refine (scratch_next m c ⟨n + 1, hn⟩ h0 r d).trans ?_
      have e1 : n / 8 = (n + 1) / 8 := by omega
      have e2 : n / 4 = (n + 1) / 4 := by omega
      have e3 : n % 4 + 1 = (n + 1) % 4 := by omega
      simp only [Nat.add_sub_cancel]
      rw [ih (by omega), sum_block _ _ ((n + 1) % 4)]
      unfold here
      rw [e1, e2, e3]

theorem result_at (t : Fin cfg0.N) (h2 : t.val % 4 = 3) (r d : Fin 1024) : ((outsAt0 m c t.val t.isLt).1 (ix2 r d) : EReal)
    = ((outsAt0 m c t.val t.isLt).2 (ix2 r d) : EReal) + iblk m c 2 t (ix2 r d) := by
  rw [outsAt0_C m c t (by omega) (by omega) h2]
  frame_out
  exact payload4 _ _ r d

theorem final : (dats m 0 c).arrAt 3 cfg0.N = result (m ((c.tc : Thread nD τ).loc main_arg0)) (m ((c.tc : Thread nD τ).loc main_arg1))
    (m ((c.tc : Thread nD τ).loc main_arg2)) := by
  refine (dats m 0 c).arrAt_eq_of_covers 3 _ (by decide +kernel) fun t hf j => ?_
  obtain ⟨r, d, rfl⟩ : ∃ (r d : Fin 1024), j = ix2 r d := ⟨j 0, j 1, eq_ix2 j⟩
  have h3 : t.val % 4 = 3 := (flush0_3 t).mp hf
  have := lt32 t
  blk_simp [index3 t]
  rw [after0_3]
  refine (result_at m c t h3 r d).trans ((congrArg₂ (· + · : EReal → EReal → EReal) (scratch_at m c t.val t.isLt r d) (added_apply m c t r d)).trans ?_)
  rw [h3]
  refine (add_comm (_ : EReal) _).trans (Eq.trans (b := result (m ((c.tc : Thread nD τ).loc main_arg0)) (m ((c.tc : Thread nD τ).loc main_arg1))
    (m ((c.tc : Thread nD τ).loc main_arg2))
    (ix2 (⟨t.val / 8 * 1024 + r, by omega⟩ : Fin 4096) (⟨t.val / 4 % 2 * 1024 + d, by omega⟩ : Fin 2048))) rfl ?_)
  refine congrArg (result _ _ _) ?_
  blk_ext [index3 t]

/-- The reference's result. -/
theorem reference (a : FVec Ideal S4096x8192 .f32) (w : FVec Ideal S8192x2048 .f32) (h : FVec Ideal S4096x2048 .f32) :
    addf h (Host.dotGeneral Cert.DownRefIdeal.dot_S4096x8192_S8192x2048_S4096x2048_1_0_0_1_n_n none a w) = result a w h := by
  funext j
  obtain ⟨r, d, rfl⟩ : ∃ (r : Fin 4096) (d : Fin 2048), j = ix2 r d := ⟨j 0, j 1, eq_ix2 j⟩
  have e : (∑ k : Fin 8192, (a (ix2 r k) : EReal) * w (ix2 k d)) = ∑ k : Fin 8192, term a w r d k :=
    Finset.sum_congr rfl fun k _ => congrArg₂ (· * · : EReal → EReal → EReal) (entry_fin a r k) (entry_fin w k d)
  rw [← sum_first] at e
  refine Eq.trans ?_ (congrArg ((h (ix2 r d) : EReal) + ·) e)
  pointwise

end Cert.DownMath

end
-- ==== Proof.NormMath.lean ====
/-
  The norm's gradient with respect to one row, at the extended reals: the form that the kernel computes and the form that differentiation gives
  are equal whatever the entries are.
-/
module

public import proofs.«01_k».proof.Proof.RealIdeal

@[expose] public section

noncomputable section

namespace Cert.NormMath

open Idealize.ShloMosaic Cert.RealIdeal

/-- What the norm adds to the mean of the squares. -/
def eps : ℝ := 8796093 / 8796093022208

theorem eps_pos : 0 < eps := by unfold eps; norm_num

theorem ofBits_eps : Ideal.ofBits .f32 0x358637BD#32 = (eps : EReal) := by
  have h : (8388608 + 407485 : ℝ) * (2 : ℝ) ^ (-43 : Int) = eps := by unfold eps; norm_num
  rw [← h]
  simp [Ideal.ofBits, Ideal.ieee, -EReal.coe_mul]
  norm_num

theorem ofBits_width : Ideal.ofBits .f32 0x45000000#32 = ((2048 : ℝ) : EReal) := by
  simp [Ideal.ofBits, Ideal.ieee, -EReal.coe_mul]
  norm_num

theorem ofBits_neg_half : Ideal.ofBits .f32 0xBF000000#32 = ((-1 / 2 : ℝ) : EReal) := by
  simp [Ideal.ofBits, Ideal.ieee, -EReal.coe_mul]
  norm_num

/-- Division by the width. -/
theorem div_width (y : EReal) : Ideal.div y ((2048 : ℝ) : EReal) = y * (((2048 : ℝ)⁻¹ : ℝ) : EReal) := by
  unfold Ideal.div
  rw [if_neg (by norm_num), EReal.coe_inv]

variable {n : ℕ} (x a : Fin n → EReal) (j : Fin n)

/-- The mean of the squares and the small number. -/
def mean : EReal := Ideal.div (∑ k, x k * x k) ((2048 : ℝ) : EReal) + (eps : EReal)

/-- The factor that the norm multiplies a row by. -/
def root : EReal := Ideal.rsqrt (mean x)

/-- The gradient as the kernel computes it. -/
def direct : EReal := root x * (a j - x j * root x * Ideal.div (∑ k, a k * (x k * root x)) ((2048 : ℝ) : EReal))

/-- What differentiation gives for the gradient that goes through the mean. -/
def through : EReal := Ideal.div ((∑ k, x k * a k) * (((-1 / 2 : ℝ) : EReal) * Ideal.div (root x) (mean x))) ((2048 : ℝ) : EReal)

/-- The gradient as differentiation gives it. -/
def derived : EReal := a j * root x + x j * through x a + through x a * x j

/-- Multiplication by a real number at least 0 distributes over a sum. -/
theorem sum_mul_real {ι : Type*} (s : Finset ι) (f : ι → EReal) {r : ℝ} (h : 0 ≤ r) : ∑ k ∈ s, f k * (r : EReal) = (∑ k ∈ s, f k) * (r : EReal) := by
  classical
  induction s using Finset.induction_on with
  | empty => simp
  | insert b s hb ih =>
    rw [Finset.sum_insert hb, Finset.sum_insert hb, ih, EReal.right_distrib_of_nonneg_of_ne_top (by exact_mod_cast h) (EReal.coe_ne_top r)]

theorem mul_self_nonneg (y : EReal) : 0 ≤ y * y := by
  rcases le_total 0 y with h | h
  · exact mul_nonneg h h
  · rw [← neg_mul_neg]
    exact mul_nonneg (EReal.neg_nonneg.mpr h) (EReal.neg_nonneg.mpr h)

theorem mean_infinite (k : Fin n) (h : x k * x k = ⊤) : mean x = ⊤ := by
  have e : (⊤ : EReal) ≤ ∑ k, x k * x k := h ▸ Finset.single_le_sum (fun i _ => mul_self_nonneg (x i)) (Finset.mem_univ k)
  rw [mean, top_le_iff.mp e, div_width, EReal.top_mul_coe_of_pos (by norm_num), EReal.top_add_coe]

theorem eq_of_infinite (k : Fin n) (h : x k * x k = ⊤) : direct x a j = derived x a j := by
  have em := mean_infinite x k h
  have er : root x = 0 := by rw [root, em]; rfl
  have ed : Ideal.div (0 : EReal) ⊤ = 0 := by simp [Ideal.div]
  simp [direct, derived, through, er, em, ed, div_width]

theorem eq_of_real (r : Fin n → ℝ) (hx : ∀ k, x k = (r k : EReal)) : direct x a j = derived x a j := by
  have em : mean x = (((∑ k, r k * r k) / 2048 + eps : ℝ) : EReal) := by
    simp only [mean, hx, ← EReal.coe_mul, sum_coe, div_coe _ (by norm_num : (2048 : ℝ) ≠ 0), ← EReal.coe_add]
  have hp : 0 < (∑ k, r k * r k) / 2048 + eps :=
    add_pos_of_nonneg_of_pos (div_nonneg (Finset.sum_nonneg fun k _ => _root_.mul_self_nonneg (r k)) (by norm_num)) eps_pos
  generalize (∑ k, r k * r k) / 2048 + eps = M at em hp
  have er : root x = (((Real.sqrt M)⁻¹ : ℝ) : EReal) := by
    rw [root, em]
    show (if M < 0 then (⊥ : EReal) else if M = 0 then ⊤ else (((Real.sqrt M)⁻¹ : ℝ) : EReal)) = _
    rw [if_neg (not_lt.mpr hp.le), if_neg hp.ne']
  have hs : 0 < Real.sqrt M := Real.sqrt_pos.mpr hp
  have hsq : Real.sqrt M * Real.sqrt M = M := Real.mul_self_sqrt hp.le
  generalize Real.sqrt M = s at er hs hsq
  have e1 : ∑ k, a k * (x k * root x) = (∑ k, x k * a k) * ((s⁻¹ : ℝ) : EReal) := by
    rw [← sum_mul_real _ _ (inv_nonneg.mpr hs.le), er]
    exact Finset.sum_congr rfl fun k _ => by rw [← mul_assoc, mul_comm (a k)]
  have e2 : through x a = (∑ k, x k * a k) * ((-1 / 2 * (s⁻¹ / M) * 2048⁻¹ : ℝ) : EReal) := by
    rw [through, er, em, div_coe _ hp.ne', div_width, mul_assoc, ← EReal.coe_mul, ← EReal.coe_mul]
  rw [direct, derived, e1, e2, er, hx j, div_width]
  generalize ∑ k, x k * a k = T
  have e3 : (r j : EReal) * (T * ((-1 / 2 * (s⁻¹ / M) * 2048⁻¹ : ℝ) : EReal)) = T * ((r j * (-1 / 2 * (s⁻¹ / M) * 2048⁻¹) : ℝ) : EReal) := by
    rw [EReal.coe_mul (r j)]
    exact mul_left_comm _ _ _
  have e4 : (r j : EReal) * ((s⁻¹ : ℝ) : EReal) * (T * ((s⁻¹ : ℝ) : EReal) * (((2048 : ℝ)⁻¹ : ℝ) : EReal)) = T * ((r j * s⁻¹ * (s⁻¹ * 2048⁻¹) : ℝ) : EReal) := by
    rw [EReal.coe_mul (r j * s⁻¹), EReal.coe_mul (r j), EReal.coe_mul s⁻¹, mul_assoc T]
    exact mul_left_comm _ _ _
  have e5 (y : EReal) : y + y = y * ((2 : ℝ) : EReal) := by
    rw [← one_add_one_eq_two, EReal.coe_add, EReal.coe_one, EReal.left_distrib_of_nonneg zero_le_one zero_le_one, mul_one]
  rw [mul_comm (T * _) (r j : EReal), e3, e4, add_assoc, e5, sub_eq_add_neg, ← mul_neg, ← EReal.coe_neg,
    EReal.left_distrib_of_nonneg_of_ne_top (by exact_mod_cast (inv_nonneg.mpr hs.le)) (EReal.coe_ne_top _), mul_comm ((s⁻¹ : ℝ) : EReal) (a j),
    mul_comm ((s⁻¹ : ℝ) : EReal) (T * _), mul_assoc T, mul_assoc T, ← EReal.coe_mul, ← EReal.coe_mul]
  congr 3
  rw [← hsq]
  field_simp

/-- The two forms are equal. -/
theorem direct_eq : direct x a j = derived x a j := by
  by_cases h : ∃ k, x k * x k = ⊤
  · obtain ⟨k, hk⟩ := h
    exact eq_of_infinite x a j k hk
  · refine eq_of_real x a j (fun k => (x k).toReal) fun k => (EReal.coe_toReal ?_ ?_).symm
    · exact fun e => h ⟨k, by rw [e]; rfl⟩
    · exact fun e => h ⟨k, by rw [e]; rfl⟩

end Cert.NormMath

end
-- ==== Proof.NormBack.lean ====
/-
  The norm's gradient at the extended reals: what the kernel's three results arrays end up holding, and what the reference computes.
  The gradient of the norm's weight is added up over sixteen blocks of rows in its results array. No entry needs to be finite.
-/
module

public import proofs.«01_k».proof.Proof.Gen.NormBackIdeal.Value
public import proofs.«01_k».proof.Proof.Gen.NormBackRefIdeal.Run
public import proofs.«01_k».proof.Proof.NormMath
public import proofs.«01_k».proof.Proof.Entries
public import Idealize.ShloMosaic.Lib.Pipeline.ValueKit.Point
public import Idealize.ShloMosaic.Lib.Pointwise

@[expose] public section

noncomputable section

namespace Cert.NormBackMath

open Idealize.ShloMosaic Idealize.ShloMosaic.TcCoe Idealize.SL.Sem Cert.NormBackIdeal Cert.NormBackIdeal.Gen Cert.Entries Cert.NormMath

/-- A row of a matrix. -/
def row {n : ℕ} (x : FVec Ideal ⟨2, ![n, 2048]⟩ .f32) (i : Fin n) : Fin 2048 → EReal := fun k => x (ix2 i k)

/-- A row of the incoming gradient times the weight. -/
def scaled {n : ℕ} (y : FVec Ideal ⟨2, ![n, 2048]⟩ .f32) (g : FVec Ideal S1x2048 .f32) (i : Fin n) : Fin 2048 → EReal := fun k =>
  (y (ix2 i k) : EReal) * g (ix2 (0 : Fin 1) k)

/-- The gradient with respect to the input, added to a fourth array. -/
def input (x y : FVec Ideal S4096x2048 .f32) (g : FVec Ideal S1x2048 .f32) (a : FVec Ideal S4096x2048 .f32) : FVec Ideal S4096x2048 .f32 := fun i =>
  (a i + direct (row x (i 0 : Fin 4096)) (scaled y g (i 0 : Fin 4096)) (i 1 : Fin 2048) : EReal)

/-- One row's term of the gradient of the weight. -/
def term {n : ℕ} (x y : FVec Ideal ⟨2, ![n, 2048]⟩ .f32) (i : Fin n) (j : Fin 2048) : EReal := (y (ix2 i j) : EReal) * ((x (ix2 i j) : EReal) * root (row x i))

/-- The same by natural numbers. -/
def termAt (x y : FVec Ideal S4096x2048 .f32) (j : Fin 2048) (i : ℕ) : EReal := if h : i < 4096 then term x y (⟨i, h⟩ : Fin 4096) j else 0

/-- The gradient of the weight. -/
def weight (x y : FVec Ideal S4096x2048 .f32) : FVec Ideal S1x2048 .f32 := fun i => (∑ k ∈ Finset.range 4096, termAt x y (i 1 : Fin 2048) k : EReal)

theorem payload2 (v0 : Vec Ideal S256x2048 .f32) (r : Fin 256) (z : Fin 1) : (k0_pay2 (F := Ideal) v0 (ix2 r z) : EReal) = root (row v0 r) := by
  pointwise [k0_pay2]
  rw [ofBits_width, ofBits_eps]
  rfl

theorem payload3 (v0 : Vec Ideal S256x2048 .f32) (r : Fin 256) (d : Fin 2048) :
    (k0_pay3 (F := Ideal) v0 (ix2 r d) : EReal) = (v0 (ix2 r d) : EReal) * root (row v0 r) := by
  refine Eq.trans ?_ (congrArg ((v0 (ix2 r d) : EReal) * ·) (payload2 v0 r 0))
  pointwise [k0_pay3]

theorem payload4 (v0 v1 : Vec Ideal S256x2048 .f32) (v12 : Vec Ideal S1x2048 .f32) (v25 : Vec Ideal S256x2048 .f32) (r : Fin 256) (d : Fin 2048) :
    (k0_pay4 (F := Ideal) v0 v1 v12 v25 (ix2 r d) : EReal) = (v25 (ix2 r d) : EReal) + direct (row v0 r) (scaled v1 v12 r) d := by
  pointwise [k0_pay4]
  simp only [payload2, payload3, ofBits_width]
  rfl

theorem payload5 (v0 v1 : Vec Ideal S256x2048 .f32) (v12 : Vec Ideal S1x2048 .f32) (v25 : Vec Ideal S256x2048 .f32) (r : Fin 256) (d : Fin 2048) :
    (k0_pay5 (F := Ideal) v0 v1 v12 v25 (ix2 r d) : EReal) = k0_pay4 (F := Ideal) v0 v1 v12 v25 (ix2 r d) := by
  pointwise [k0_pay5]

theorem payload6 (v0 v1 : Vec Ideal S256x2048 .f32) (z : Fin 1) (d : Fin 2048) :
    (k0_pay6 (F := Ideal) v0 v1 (ix2 z d) : EReal) = ∑ r : Fin 256, term v0 v1 r d := by
  pointwise [k0_pay6]
  simp only [payload3]
  rfl

theorem payload1 (v32 v39 : Vec Ideal S1x2048 .f32) (z : Fin 1) (d : Fin 2048) :
    (k0_pay1 (F := Ideal) v32 v39 (ix2 z d) : EReal) = (v39 (ix2 z d) : EReal) + v32 (ix2 z d) := by
  pointwise [k0_pay1]

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem lt16 (t : Fin cfg0.N) : t.val < 16 := t.isLt

/-- The row of the whole matrix where a block's row lies. -/
def place (t : Fin cfg0.N) (r : Fin 256) : Fin 4096 := ⟨t.val * 256 + r, by have := lt16 t; omega⟩

variable (m : (ℓ : Loc nD τ sig) → Buf (Elt Ideal) ℓ) (c : Dev nD)

/-- The arguments. -/
abbrev x : FVec Ideal S4096x2048 .f32 := m ((c.tc : Thread nD τ).loc main_arg0)
abbrev y : FVec Ideal S4096x2048 .f32 := m ((c.tc : Thread nD τ).loc main_arg1)
abbrev g : FVec Ideal S1x2048 .f32 := m ((c.tc : Thread nD τ).loc main_arg2)
abbrev a : FVec Ideal S4096x2048 .f32 := m ((c.tc : Thread nD τ).loc main_arg3)

theorem x_eq : V m c main_arg0 = x m c := by entry_read; rfl
theorem y_eq : V m c main_arg1 = y m c := by entry_read; rfl
theorem g_eq : V m c main_arg2 = g m c := by entry_read; rfl
theorem a_eq : V m c main_arg3 = a m c := by entry_read; rfl

theorem x_apply (t : Fin cfg0.N) (r : Fin 256) (d : Fin 2048) : (iblk m c 0 t (ix2 r d) : EReal) = x m c (ix2 (place t r) d) := by
  rw [← x_eq]
  blk_simp [iblk, index0 t]
  refine congrArg (V m c main_arg0) ?_
  blk_ext [index0 t, place]

theorem y_apply (t : Fin cfg0.N) (r : Fin 256) (d : Fin 2048) : (iblk m c 1 t (ix2 r d) : EReal) = y m c (ix2 (place t r) d) := by
  rw [← y_eq]
  blk_simp [iblk, index1 t]
  refine congrArg (V m c main_arg1) ?_
  blk_ext [index1 t, place]

theorem g_apply (t : Fin cfg0.N) (z : Fin 1) (d : Fin 2048) : (iblk m c 2 t (ix2 z d) : EReal) = g m c (ix2 z d) := by
  rw [← g_eq]
  blk_simp [iblk, index2 t]
  refine congrArg (V m c main_arg2) ?_
  blk_ext [index2 t]

theorem a_apply (t : Fin cfg0.N) (r : Fin 256) (d : Fin 2048) : (iblk m c 3 t (ix2 r d) : EReal) = a m c (ix2 (place t r) d) := by
  rw [← a_eq]
  blk_simp [iblk, index3 t]
  refine congrArg (V m c main_arg3) ?_
  blk_ext [index3 t, place]

theorem row_eq (t : Fin cfg0.N) (r : Fin 256) : row (iblk m c 0 t) r = row (x m c) (place t r) := funext fun k => x_apply m c t r k

theorem scaled_eq (t : Fin cfg0.N) (r : Fin 256) : scaled (iblk m c 1 t) (iblk m c 2 t) r = scaled (y m c) (g m c) (place t r) :=
  funext fun k => congrArg₂ (· * · : EReal → EReal → EReal) (y_apply m c t r k) (g_apply m c t 0 k)

theorem input_at (t : Fin cfg0.N) (r : Fin 256) (d : Fin 2048) :
    (k0_pay4 (F := Ideal) (iblk m c 0 t) (iblk m c 1 t) (iblk m c 2 t) (iblk m c 3 t) (ix2 r d) : EReal)
      = input (x m c) (y m c) (g m c) (a m c) (ix2 (place t r) d) := by
  refine (payload4 _ _ _ _ r d).trans ?_
  rw [row_eq, scaled_eq, a_apply]
  rfl

theorem weight_at (t : Fin cfg0.N) (z : Fin 1) (d : Fin 2048) : (k0_pay6 (F := Ideal) (iblk m c 0 t) (iblk m c 1 t) (ix2 z d) : EReal)
    = ∑ r : Fin 256, termAt (x m c) (y m c) d (t.val * 256 + r) := by
  refine (payload6 _ _ z d).trans (Finset.sum_congr rfl fun r _ => ?_)
  have := lt16 t
  rw [termAt, dif_pos (by omega), term, row_eq, x_apply, y_apply]
  rfl

theorem out4 (t : Fin cfg0.N) (r : Fin 256) (d : Fin 2048) : ((outsAt0 m c t.val t.isLt).1 (ix2 r d) : EReal)
    = input (x m c) (y m c) (g m c) (a m c) (ix2 (place t r) d) := by
  have := lt16 t
  by_cases h : t.val % 16 = 0
  · rw [outsAt0_A m c t h (by omega)]
    frame_out
    exact input_at m c t r d
  · rw [outsAt0_B m c t h (by omega)]
    frame_out
    exact input_at m c t r d

theorem out5 (t : Fin cfg0.N) (r : Fin 256) (d : Fin 2048) : ((outsAt0 m c t.val t.isLt).2.1 (ix2 r d) : EReal)
    = input (x m c) (y m c) (g m c) (a m c) (ix2 (place t r) d) := by
  have := lt16 t
  by_cases h : t.val % 16 = 0
  · rw [outsAt0_A m c t h (by omega)]
    frame_out
    exact (payload5 _ _ _ _ r d).trans (input_at m c t r d)
  · rw [outsAt0_B m c t h (by omega)]
    frame_out
    exact (payload5 _ _ _ _ r d).trans (input_at m c t r d)

theorem out6_next (t : Fin cfg0.N) (h : ¬t.val % 16 = 0) (z : Fin 1) (d : Fin 2048) : ((outsAt0 m c t.val t.isLt).2.2 (ix2 z d) : EReal)
    = ((outsAt0 m c (t.val - 1) (by omega)).2.2 (ix2 z d) : EReal) + ∑ r : Fin 256, termAt (x m c) (y m c) d (t.val * 256 + r) := by
  rw [outsAt0_B m c t h (by omega)]
  frame_out
  exact (payload1 _ _ z d).trans (congrArg (_ + · : EReal → EReal) (weight_at m c t z d))

theorem out6 (n : ℕ) (hn : n < cfg0.N) (z : Fin 1) (d : Fin 2048) : ((outsAt0 m c n hn).2.2 (ix2 z d) : EReal)
    = ∑ k ∈ Finset.range ((n + 1) * 256), termAt (x m c) (y m c) d k := by
  induction n with
  | zero =>
    have e := outsAt0_A m c ⟨0, hn⟩ rfl (by show ¬1 ≤ 0; omega)
    simp only at e
    rw [e]
    frame_out
    refine (weight_at m c ⟨0, hn⟩ z d).trans ?_
    rw [sum_block]
    simp
  | succ n ih =>
    have hn' : n + 1 < 16 := hn
    refine (out6_next m c ⟨n + 1, hn⟩ (by show ¬(n + 1) % 16 = 0; omega) z d).trans ?_
    simp only [Nat.add_sub_cancel]
    rw [ih (by omega), sum_block _ _ (n + 1)]

theorem final4 : (dats m 0 c).arrAt 4 cfg0.N = input (x m c) (y m c) (g m c) (a m c) := by
  refine (dats m 0 c).arrAt_eq_of_covers 4 _ (by decide +kernel) fun t _ j => ?_
  obtain ⟨r, d, rfl⟩ : ∃ (r : Fin 256) (d : Fin 2048), j = ix2 r d := ⟨j 0, j 1, eq_ix2 j⟩
  blk_simp [index4 t]
  rw [after0_4]
  refine (out4 m c t r d).trans ?_
  refine congrArg (input _ _ _ _) ?_
  blk_ext [index4 t, place]

theorem final5 : (dats m 0 c).arrAt 5 cfg0.N = input (x m c) (y m c) (g m c) (a m c) := by
  refine (dats m 0 c).arrAt_eq_of_covers 5 _ (by decide +kernel) fun t _ j => ?_
  obtain ⟨r, d, rfl⟩ : ∃ (r : Fin 256) (d : Fin 2048), j = ix2 r d := ⟨j 0, j 1, eq_ix2 j⟩
  blk_simp [index5 t]
  rw [after0_5]
  refine (out5 m c t r d).trans ?_
  refine congrArg (input _ _ _ _) ?_
  blk_ext [index5 t, place]

theorem final6 : (dats m 0 c).arrAt 6 cfg0.N = weight (x m c) (y m c) := by
  refine (dats m 0 c).arrAt_eq_of_covers 6 _ (by decide +kernel) fun t hf j => ?_
  obtain ⟨z, d, rfl⟩ : ∃ (z : Fin 1) (d : Fin 2048), j = ix2 z d := ⟨j 0, j 1, eq_ix2 j⟩
  have h : t.val = 15 := by
    have := (flush0_6 t).mp hf
    have := lt16 t
    omega
  blk_simp [index6 t]
  rw [after0_6]
  refine (out6 m c t.val t.isLt z d).trans ?_
  rw [h]
  refine Eq.trans (b := weight (x m c) (y m c) (ix2 z d)) rfl ?_
  refine congrArg (weight _ _) ?_
  blk_ext [index6 t]

end Cert.NormBackMath

namespace Cert.NormBackRefMath

open Idealize.ShloMosaic Idealize.ShloMosaic.TcCoe Idealize.SL.Sem Cert.NormBackRefIdeal Cert.NormBackRefIdeal.Gen Cert.Entries Cert.NormMath Cert.NormBackMath

variable (x y a : FVec Ideal S4096x2048 .f32) (g : FVec Ideal S1x2048 .f32)

/-- The rows' means of squares, as the reference computes them. -/
def means : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

theorem means_apply (i : Fin 4096) (z : Fin 1) : (means x (ix2 i z) : EReal) = mean (row x i) := by
  pointwise [means]
  rw [ofBits_width, ofBits_eps]
  simp [mean, row]

theorem roots_apply (i : Fin 4096) (z : Fin 1) : (Host.rsqrt (means x) (ix2 i z) : EReal) = root (row x i) :=
  congrArg Ideal.rsqrt (means_apply x i z)

/-- The incoming gradient times the weight. -/
def scaleds : FVec Ideal S4096x2048 .f32 := mulf y (broadcastInDim S4096x2048 ![0, 1] bcast_S1x2048_S4096x2048_0_1 g)

theorem scaleds_apply (i : Fin 4096) (j : Fin 2048) : (scaleds y g (ix2 i j) : EReal) = scaled y g i j := by
  pointwise [scaleds]
  rfl

/-- What goes back through the rows' means. -/
def inners : FVec Ideal S4096 .f32 :=
  Host.reduceAdd (Host.divf (mulf (shapeCast _ (Host.reduceAdd (mulf x (scaleds y g)) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (means x)) (means x)))) (broadcastInDim S4096x1 ![] bcast_S_S4096x1 (constant S_ .f32 0x45000000#32))) (constant S_ .f32 0x00000000#32) reducesTo_S4096x1_S4096_d1 h_S_

theorem inners_apply (i : Fin 4096) : (inners x y g (ix1 i) : EReal) = through (row x i) (scaled y g i) := by
  pointwise [inners]
  simp [means_apply, scaleds_apply, ofBits_width, ofBits_neg_half, through, root, row]

/-- The gradient with respect to the input as the reference computes it. -/
def derivs : FVec Ideal S4096x2048 .f32 :=
  addf (addf (mulf (scaleds y g) (broadcastInDim S4096x2048 ![0, 1] bcast_S4096x1_S4096x2048_0_1 (Host.rsqrt (means x)))) (mulf x (broadcastInDim S4096x2048 ![0] bcast_S4096_S4096x2048_0 (inners x y g)))) (mulf (broadcastInDim S4096x2048 ![0] bcast_S4096_S4096x2048_0 (inners x y g)) x)

theorem derivs_apply (r : Fin 4096) (d : Fin 2048) : (derivs x y g (ix2 r d) : EReal) = direct (row x r) (scaled y g r) d := by
  refine Eq.trans ?_ (direct_eq (row x r) (scaled y g r) d).symm
  pointwise [derivs]
  simp only [scaleds_apply, inners_apply, means_apply]
  rfl

/-- The same, added to a fourth array. -/
def inputs : FVec Ideal S4096x2048 .f32 := addf a (derivs x y g)

theorem inputs_eq : inputs x y a g = input x y g a := by
  funext j
  obtain ⟨r, d, rfl⟩ : ∃ (r : Fin 4096) (d : Fin 2048), j = ix2 r d := ⟨j 0, j 1, eq_ix2 j⟩
  exact congrArg ((a (ix2 r d) : EReal) + ·) (derivs_apply x y g r d)

/-- The gradient of the weight as the reference computes it. -/
def weights : FVec Ideal S1x2048 .f32 :=
  shapeCast _ (Host.reduceAdd (mulf (mulf x (broadcastInDim S4096x2048 ![0, 1] bcast_S4096x1_S4096x2048_0_1 (Host.rsqrt (means x)))) y) (constant S_ .f32 0x00000000#32) reducesTo_S4096x2048_S2048_d0 h_S_) shapeCasts_S2048_S1x2048

theorem weights_apply (z : Fin 1) (d : Fin 2048) : (weights x y (ix2 z d) : EReal) = ∑ i : Fin 4096, term x y i d := by
  have e : (∑ i : Fin 4096, ((x (ix2 i d) : EReal) * root (row x i)) * y (ix2 i d)) = ∑ i : Fin 4096, term x y i d :=
    Finset.sum_congr rfl fun i _ => mul_comm _ _
  refine Eq.trans ?_ e
  pointwise [weights]
  simp [means_apply, root]

theorem weights_eq : weights x y = weight x y := by
  funext j
  obtain ⟨z, d, rfl⟩ : ∃ (z : Fin 1) (d : Fin 2048), j = ix2 z d := ⟨j 0, j 1, eq_ix2 j⟩
  refine (weights_apply x y z d).trans (Eq.trans ?_ (sum_first (termAt x y d) 4096).symm)
  exact Finset.sum_congr rfl fun i _ => by rw [termAt, dif_pos i.isLt]

/-- The norm of a matrix's rows as the reference computes it. -/
def normals : FVec Ideal S4096x2048 .f32 :=
  mulf (mulf x (broadcastInDim S4096x2048 ![0, 1] bcast_S4096x1_S4096x2048_0_1 (Host.rsqrt (means x)))) (broadcastInDim S4096x2048 ![0, 1] bcast_S1x2048_S4096x2048_0_1 g)

theorem normals_apply (r : Fin 4096) (d : Fin 2048) : (normals x g (ix2 r d) : EReal) = (x (ix2 r d) : EReal) * root (row x r) * g (ix2 (0 : Fin 1) d) := by
  pointwise [normals]
  simp only [means_apply]
  rfl

end Cert.NormBackRefMath

end
-- ==== Proof.TailMath.lean ====
/-
  The end of the forward pass and the start of the backward pass for one row, at the extended reals: the gated embedding is added to the residual,
  the sum is normed and compared with the target, and the gradients go back through both norms and the gate.
-/
module

public import proofs.«01_k».proof.Proof.NormMath

@[expose] public section

noncomputable section

namespace Cert.TailMath

open Idealize.ShloMosaic Cert.NormMath

/-- One row of the inputs: the residual, the gate, the projected embedding, the target, and the weights of the two norms. -/
structure Line where
  residual : Fin 2048 → EReal
  gate : Fin 2048 → EReal
  embedding : Fin 2048 → EReal
  target : Fin 2048 → EReal
  first : Fin 2048 → EReal
  last : Fin 2048 → EReal

variable (l : Line) (k : Fin 2048)

/-- The embedding over the root of its mean square. -/
def unit : EReal := l.embedding k * root l.embedding

/-- What the gate multiplies. -/
def gated : EReal := unit l k * l.first k

/-- The input of the last norm. -/
def deep : EReal := l.residual k + l.gate k * gated l k

/-- That input over the root of its mean square. -/
def normed : EReal := deep l k * root (deep l)

/-- The difference from the target. -/
def error : EReal := normed l k * l.last k - l.target k

/-- The gradient with respect to the last norm's output. -/
def head : EReal := Ideal.div (error l k) ((2048 : ℝ) : EReal)

/-- The gradient with respect to the last norm's input. -/
def back : EReal := direct (deep l) (fun k => head l k * l.last k) k

/-- The gradient with respect to the first norm's output. -/
def inner : EReal := back l k * l.gate k

/-- The gradient with respect to the embedding. -/
def outer : EReal := direct l.embedding (fun k => inner l k * l.first k) k

/-- The gradient with respect to what goes into the gate. -/
def turned : EReal := back l k * gated l k * l.gate k * (1 - l.gate k)

/-- The row's terms of the gradients of the two norms' weights. -/
def lastTerm : EReal := head l k * normed l k
def firstTerm : EReal := inner l k * unit l k

/-- The row's part of the loss. -/
def part : EReal := Ideal.div (∑ k, error l k * error l k) ((2048 : ℝ) : EReal)

theorem ofBits_one : Ideal.ofBits .f32 0x3F800000#32 = (1 : EReal) := by
  simp [Ideal.ofBits, Ideal.ieee, -EReal.coe_mul]
  norm_num

theorem ofBits_two : Ideal.ofBits .f32 0x40000000#32 = ((2 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

/-- Half of the mean times twice a number is that number over the width. -/
theorem half_twice (y : EReal) : Ideal.div (((1 / 2 : ℝ) : EReal) * 1) ((2048 : ℝ) : EReal) * (((2 : ℝ) : EReal) * y) = Ideal.div y ((2048 : ℝ) : EReal) := by
  rw [div_width, div_width, mul_one, ← mul_assoc, ← EReal.coe_mul, ← EReal.coe_mul, mul_comm y]
  congr 2
  norm_num

end Cert.TailMath

end
-- ==== Proof.Tail.lean ====
/-
  The end of the forward pass and the start of the backward pass at the extended reals: what the kernel's six results arrays end up holding.
  The gradients of the two norms' weights and the loss are added up over thirty-two blocks of rows in their results arrays. No entry needs to be finite.
-/
module

public import proofs.«01_k».proof.Proof.Gen.TailIdeal.Value
public import proofs.«01_k».proof.Proof.TailMath
public import proofs.«01_k».proof.Proof.NormBack
public import Idealize.ShloMosaic.Lib.Pipeline.ValueKit.Point
public import Idealize.ShloMosaic.Lib.Pointwise

@[expose] public section

noncomputable section

namespace Cert.TailRead

open Idealize.ShloMosaic Idealize.ShloMosaic.TcCoe Idealize.SL.Sem Cert.TailIdeal Cert.TailIdeal.Gen Cert.Entries Cert.NormMath Cert.NormBackMath Cert.TailMath

/-- A row of the six arrays. -/
def line {n : ℕ} (h u p t : FVec Ideal ⟨2, ![n, 2048]⟩ .f32) (gp gf : FVec Ideal S1x2048 .f32) (i : Fin n) : Line :=
  ⟨row h i, row u i, row p i, row t i, row gp 0, row gf 0⟩

section

variable (h u p t : Vec Ideal S128x2048 .f32) (gp gf : Vec Ideal S1x2048 .f32) (r : Fin 128) (z : Fin 1) (d : Fin 2048)

theorem gate_at : (k0_pay6 (F := Ideal) u (ix2 r d) : EReal) = u (ix2 r d) := by
  pointwise [k0_pay6]

theorem root_at : (k0_pay7 (F := Ideal) p (ix2 r z) : EReal) = root (row p r) := by
  pointwise [k0_pay7]
  rw [ofBits_width, ofBits_eps]
  rfl

theorem unit_at : (k0_pay8 (F := Ideal) p (ix2 r d) : EReal) = unit (line h u p t gp gf r) d := by
  refine Eq.trans ?_ (congrArg ((p (ix2 r d) : EReal) * ·) (root_at p r 0))
  pointwise [k0_pay8]

theorem gated_at : (k0_pay9 (F := Ideal) p gp (ix2 r d) : EReal) = gated (line h u p t gp gf r) d := by
  refine Eq.trans ?_ (congrArg (· * (gp (ix2 (0 : Fin 1) d) : EReal)) (unit_at h u p t gp gf r d))
  pointwise [k0_pay9]

theorem deep_at : (k0_pay10 (F := Ideal) p u gp h (ix2 r d) : EReal) = deep (line h u p t gp gf r) d := by
  pointwise [k0_pay10]
  simp only [gate_at, gated_at h u p t gp gf]
  rfl

theorem deep_root_at : (k0_pay11 (F := Ideal) p u gp h (ix2 r z) : EReal) = root (deep (line h u p t gp gf r)) := by
  pointwise [k0_pay11]
  simp only [deep_at h u p t gp gf]
  rw [ofBits_width, ofBits_eps]
  rfl

theorem normed_at : (k0_pay12 (F := Ideal) p u gp h (ix2 r d) : EReal) = normed (line h u p t gp gf r) d := by
  pointwise [k0_pay12]
  simp only [deep_at h u p t gp gf, deep_root_at h u p t gp gf]
  rfl

theorem error_at : (k0_pay13 (F := Ideal) p u gp h gf t (ix2 r d) : EReal) = error (line h u p t gp gf r) d := by
  pointwise [k0_pay13]
  simp only [normed_at h u p t gp gf]
  rfl

theorem part_at : (k0_pay14 (F := Ideal) p u gp h gf t (ix2 r z) : EReal) = part (line h u p t gp gf r) := by
  pointwise [k0_pay14]
  simp only [error_at]
  rw [ofBits_width]
  rfl

theorem head_at : (k0_pay16 (F := Ideal) (k0_pay13 (F := Ideal) p u gp h gf t) (ix2 r d) : EReal) = head (line h u p t gp gf r) d := by
  pointwise [k0_pay16]
  simp only [error_at, ofBits_width]
  rfl

theorem back_at : (k0_pay18 (F := Ideal) (k0_pay11 (F := Ideal) p u gp h) (k0_pay12 (F := Ideal) p u gp h) (k0_pay13 (F := Ideal) p u gp h gf t) gf (ix2 r d) : EReal)
    = back (line h u p t gp gf r) d := by
  pointwise [k0_pay18]
  simp only [head_at, normed_at h u p t gp gf, deep_root_at h u p t gp gf, ofBits_width]
  rfl

theorem inner_at : (k0_pay19 (F := Ideal) (k0_pay6 (F := Ideal) u) (k0_pay11 (F := Ideal) p u gp h) (k0_pay12 (F := Ideal) p u gp h) (k0_pay13 (F := Ideal) p u gp h gf t) gf (ix2 r d) : EReal)
    = inner (line h u p t gp gf r) d := by
  pointwise [k0_pay19]
  simp only [back_at, gate_at]
  rfl

theorem turned_at : (k0_pay20 (F := Ideal) (k0_pay6 (F := Ideal) u) (k0_pay9 (F := Ideal) p gp) (k0_pay11 (F := Ideal) p u gp h) (k0_pay12 (F := Ideal) p u gp h) (k0_pay13 (F := Ideal) p u gp h gf t) gf (ix2 r d) : EReal)
    = turned (line h u p t gp gf r) d := by
  pointwise [k0_pay20]
  simp only [back_at, gate_at, gated_at h u p t gp gf, ofBits_one]
  rfl

theorem outer_at : (k0_pay1 (F := Ideal) (k0_pay7 (F := Ideal) p) (k0_pay8 (F := Ideal) p)
      (k0_pay22 (F := Ideal) (k0_pay6 (F := Ideal) u) (k0_pay11 (F := Ideal) p u gp h) (k0_pay12 (F := Ideal) p u gp h) (k0_pay13 (F := Ideal) p u gp h gf t) gf gp)
      (k0_pay23 (F := Ideal) (k0_pay6 (F := Ideal) u) (k0_pay8 (F := Ideal) p) (k0_pay11 (F := Ideal) p u gp h) (k0_pay12 (F := Ideal) p u gp h) (k0_pay13 (F := Ideal) p u gp h gf t) gf gp)
      (Scalar.ofBits .f32 0x45000000#32) (ix2 r d) : EReal) = outer (line h u p t gp gf r) d := by
  pointwise [k0_pay1, k0_pay22, k0_pay23]
  simp only [inner_at, root_at, unit_at h u p t gp gf, ofBits_width]
  rfl

theorem last_at : (k0_pay17 (F := Ideal) (k0_pay12 (F := Ideal) p u gp h) (k0_pay13 (F := Ideal) p u gp h gf t) (ix2 z d) : EReal)
    = ∑ r : Fin 128, lastTerm (line h u p t gp gf r) d := by
  pointwise [k0_pay17]
  simp only [head_at, normed_at h u p t gp gf]
  rfl

theorem first_at : (k0_pay21 (F := Ideal) (k0_pay6 (F := Ideal) u) (k0_pay8 (F := Ideal) p) (k0_pay11 (F := Ideal) p u gp h) (k0_pay12 (F := Ideal) p u gp h) (k0_pay13 (F := Ideal) p u gp h gf t) gf (ix2 z d) : EReal)
    = ∑ r : Fin 128, firstTerm (line h u p t gp gf r) d := by
  pointwise [k0_pay21]
  simp only [inner_at, unit_at h u p t gp gf]
  rfl

theorem loss_at (e : Fin 128) : (k0_pay2 (F := Ideal) (k0_pay15 (F := Ideal) (k0_pay14 (F := Ideal) p u gp h gf t)) (ix2 z e) : EReal)
    = ∑ r : Fin 128, ((1 / 2 : ℝ) : EReal) * part (line h u p t gp gf r) := by
  have s := sum_mul_real Finset.univ (fun r : Fin 128 => part (line h u p t gp gf r)) (r := 1 / 2) (by norm_num)
  simp only [mul_comm _ ((1 / 2 : ℝ) : EReal)] at s
  rw [s]
  pointwise [k0_pay2, k0_pay15]
  simp only [part_at, ofBits_half]

theorem more3 (a b : Vec Ideal S1x2048 .f32) : (k0_pay3 (F := Ideal) a b (ix2 z d) : EReal) = (b (ix2 z d) : EReal) + a (ix2 z d) := by
  pointwise [k0_pay3]

theorem more4 (a b : Vec Ideal S1x2048 .f32) : (k0_pay4 (F := Ideal) a b (ix2 z d) : EReal) = (b (ix2 z d) : EReal) + a (ix2 z d) := by
  pointwise [k0_pay4]

theorem more5 (a : Vec Ideal S1x1 .f32) (b : Vec Ideal S1x128 .f32) (e : Fin 128) :
    (k0_pay5 (F := Ideal) a b (ix2 z e) : EReal) = (b (ix2 z e) : EReal) + k0_pay2 (F := Ideal) a (ix2 z e) := by
  pointwise [k0_pay5]

end

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem lt32 (t : Fin cfg0.N) : t.val < 32 := t.isLt

/-- The row of the whole matrix where a block's row lies. -/
def place (t : Fin cfg0.N) (r : Fin 128) : Fin 4096 := ⟨t.val * 128 + r, by have := lt32 t; omega⟩

/-- The gate. -/
def gates (z : FVec Ideal S4096x2048 .f32) : FVec Ideal S4096x2048 .f32 := fun i =>
  (Ideal.div 1 (1 + Ideal.exp (-(z i : EReal))) : EReal)

section

variable (h u p t : FVec Ideal S4096x2048 .f32) (gp gf : FVec Ideal S1x2048 .f32)

/-- The results. -/
def backs : FVec Ideal S4096x2048 .f32 := fun i => back (line h u p t gp gf (i 0 : Fin 4096)) (i 1 : Fin 2048)
def turneds : FVec Ideal S4096x2048 .bf16 := fun i => turned (line h u p t gp gf (i 0 : Fin 4096)) (i 1 : Fin 2048)
def outers : FVec Ideal S4096x2048 .bf16 := fun i => outer (line h u p t gp gf (i 0 : Fin 4096)) (i 1 : Fin 2048)
def lasts : FVec Ideal S1x2048 .f32 := fun i => ∑ k : Fin 4096, lastTerm (line h u p t gp gf k) (i 1 : Fin 2048)
def firsts : FVec Ideal S1x2048 .f32 := fun i => ∑ k : Fin 4096, firstTerm (line h u p t gp gf k) (i 1 : Fin 2048)
def losses : FVec Ideal S1x128 .f32 := fun _ => ∑ k : Fin 4096, ((1 / 2 : ℝ) : EReal) * part (line h u p t gp gf k)

end

variable (m : (ℓ : Loc nD τ sig) → Buf (Elt Ideal) ℓ) (c : Dev nD)

/-- The arguments. -/
abbrev residual : FVec Ideal S4096x2048 .f32 := m ((c.tc : Thread nD τ).loc main_arg0)
abbrev turn : FVec Ideal S4096x2048 .f32 := m ((c.tc : Thread nD τ).loc main_arg1)
abbrev embedding : FVec Ideal S4096x2048 .f32 := m ((c.tc : Thread nD τ).loc main_arg2)
abbrev target : FVec Ideal S4096x2048 .f32 := m ((c.tc : Thread nD τ).loc main_arg3)
abbrev first : FVec Ideal S1x2048 .f32 := m ((c.tc : Thread nD τ).loc main_arg4)
abbrev last : FVec Ideal S1x2048 .f32 := m ((c.tc : Thread nD τ).loc main_arg5)

theorem residual_eq : V m c main_arg0 = residual m c := by entry_read; rfl
theorem embedding_eq : V m c main_arg2 = embedding m c := by entry_read; rfl
theorem target_eq : V m c main_arg3 = target m c := by entry_read; rfl
theorem first_eq : V m c main_arg4 = first m c := by entry_read; rfl
theorem last_eq : V m c main_arg5 = last m c := by entry_read; rfl

theorem gate_eq (i : Fin 4096) (j : Fin 2048) : (V m c main_v5 (ix2 i j) : EReal) = gates (turn m c) (ix2 i j) := by
  entry_read
  pointwise
  rfl

theorem residual_apply (t : Fin cfg0.N) (r : Fin 128) (d : Fin 2048) : (iblk m c 0 t (ix2 r d) : EReal) = residual m c (ix2 (place t r) d) := by
  rw [← residual_eq]
  blk_simp [iblk, index0 t]
  refine congrArg (V m c main_arg0) ?_
  blk_ext [index0 t, place]

theorem gate_apply (t : Fin cfg0.N) (r : Fin 128) (d : Fin 2048) : (iblk m c 1 t (ix2 r d) : EReal) = gates (turn m c) (ix2 (place t r) d) := by
  refine Eq.trans ?_ (gate_eq m c (place t r) d)
  blk_simp [iblk, index1 t]
  refine congrArg (V m c main_v5) ?_
  blk_ext [index1 t, place]

theorem embedding_apply (t : Fin cfg0.N) (r : Fin 128) (d : Fin 2048) : (iblk m c 2 t (ix2 r d) : EReal) = embedding m c (ix2 (place t r) d) := by
  rw [← embedding_eq]
  blk_simp [iblk, index2 t]
  refine congrArg (V m c main_arg2) ?_
  blk_ext [index2 t, place]

theorem target_apply (t : Fin cfg0.N) (r : Fin 128) (d : Fin 2048) : (iblk m c 3 t (ix2 r d) : EReal) = target m c (ix2 (place t r) d) := by
  rw [← target_eq]
  blk_simp [iblk, index3 t]
  refine congrArg (V m c main_arg3) ?_
  blk_ext [index3 t, place]

theorem first_apply (t : Fin cfg0.N) (z : Fin 1) (d : Fin 2048) : (iblk m c 4 t (ix2 z d) : EReal) = first m c (ix2 z d) := by
  rw [← first_eq]
  blk_simp [iblk, index4 t]
  refine congrArg (V m c main_arg4) ?_
  blk_ext [index4 t]

theorem last_apply (t : Fin cfg0.N) (z : Fin 1) (d : Fin 2048) : (iblk m c 5 t (ix2 z d) : EReal) = last m c (ix2 z d) := by
  rw [← last_eq]
  blk_simp [iblk, index5 t]
  refine congrArg (V m c main_arg5) ?_
  blk_ext [index5 t]

/-- A row of the whole arrays. -/
abbrev whole (i : Fin 4096) : Line := line (residual m c) (gates (turn m c)) (embedding m c) (target m c) (first m c) (last m c) i

theorem line_eq (t : Fin cfg0.N) (r : Fin 128) : line (iblk m c 0 t) (iblk m c 1 t) (iblk m c 2 t) (iblk m c 3 t) (iblk m c 4 t) (iblk m c 5 t) r = whole m c (place t r) := by
  have e0 : row (iblk m c 0 t) r = row (residual m c) (place t r) := funext fun k => residual_apply m c t r k
  have e1 : row (iblk m c 1 t) r = row (gates (turn m c)) (place t r) := funext fun k => gate_apply m c t r k
  have e2 : row (iblk m c 2 t) r = row (embedding m c) (place t r) := funext fun k => embedding_apply m c t r k
  have e3 : row (iblk m c 3 t) r = row (target m c) (place t r) := funext fun k => target_apply m c t r k
  have e4 : row (iblk m c 4 t) 0 = row (first m c) 0 := funext fun k => first_apply m c t 0 k
  have e5 : row (iblk m c 5 t) 0 = row (last m c) 0 := funext fun k => last_apply m c t 0 k
  rw [line, e0, e1, e2, e3, e4, e5]
  rfl

/-- A quantity of a row by the row's number. -/
def at_row (f : Line → EReal) (i : ℕ) : EReal := if h : i < 4096 then f (whole m c ⟨i, h⟩) else 0

theorem sum_rows (f : Line → EReal) (t : Fin cfg0.N) :
    ∑ r : Fin 128, f (line (iblk m c 0 t) (iblk m c 1 t) (iblk m c 2 t) (iblk m c 3 t) (iblk m c 4 t) (iblk m c 5 t) r) = ∑ r : Fin 128, at_row m c f (t.val * 128 + r) :=
  Finset.sum_congr rfl fun r _ => by
    have := lt32 t
    rw [line_eq, at_row, dif_pos (by omega)]
    rfl

theorem sum_all (f : Line → EReal) : ∑ i ∈ Finset.range 4096, at_row m c f i = ∑ i : Fin 4096, f (whole m c i) :=
  (sum_first _ _).trans (Finset.sum_congr rfl fun i _ => by rw [at_row, dif_pos i.isLt])

/-- What is added up over the blocks of rows. -/
theorem sum_points (f : ℕ → EReal) (s : (n : ℕ) → n < cfg0.N → EReal) (h0 : ∀ h, s 0 h = ∑ r : Fin 128, f (0 * 128 + r))
    (h1 : ∀ n (h : n + 1 < cfg0.N), s (n + 1) h = s n (by omega) + ∑ r : Fin 128, f ((n + 1) * 128 + r)) (n : ℕ) (h : n < cfg0.N) :
    s n h = ∑ k ∈ Finset.range ((n + 1) * 128), f k := by
  induction n with
  | zero => rw [h0, sum_block]; simp
  | succ n ih => rw [h1 n h, ih (by omega), sum_block _ _ (n + 1)]

theorem point_first (t : Fin cfg0.N) (h : t.val % 32 = 0) : ¬1 ≤ t.val := by have := lt32 t; omega
theorem point_next (t : Fin cfg0.N) (h : ¬t.val % 32 = 0) : 1 ≤ t.val := by omega

theorem out6 (t : Fin cfg0.N) (r : Fin 128) (d : Fin 2048) : ((outsAt0 m c t.val t.isLt).1 (ix2 r d) : EReal) = back (whole m c (place t r)) d := by
  rw [← line_eq]
  by_cases h : t.val % 32 = 0
  · rw [outsAt0_A m c t h (point_first t h)]
    frame_out
    exact back_at _ _ _ _ _ _ r d
  · rw [outsAt0_B m c t h (point_next t h)]
    frame_out
    exact back_at _ _ _ _ _ _ r d

theorem out7 (t : Fin cfg0.N) (r : Fin 128) (d : Fin 2048) : ((outsAt0 m c t.val t.isLt).2.1 (ix2 r d) : EReal) = turned (whole m c (place t r)) d := by
  rw [← line_eq]
  by_cases h : t.val % 32 = 0
  · rw [outsAt0_A m c t h (point_first t h)]
    frame_out
    exact turned_at _ _ _ _ _ _ r d
  · rw [outsAt0_B m c t h (point_next t h)]
    frame_out
    exact turned_at _ _ _ _ _ _ r d

theorem out8 (t : Fin cfg0.N) (r : Fin 128) (d : Fin 2048) : ((outsAt0 m c t.val t.isLt).2.2.1 (ix2 r d) : EReal) = outer (whole m c (place t r)) d := by
  rw [← line_eq]
  by_cases h : t.val % 32 = 0
  · rw [outsAt0_A m c t h (point_first t h)]
    frame_out
    exact outer_at _ _ _ _ _ _ r d
  · rw [outsAt0_B m c t h (point_next t h)]
    frame_out
    exact outer_at _ _ _ _ _ _ r d

theorem out9 (n : ℕ) (hn : n < cfg0.N) (z : Fin 1) (d : Fin 2048) : ((outsAt0 m c n hn).2.2.2.1 (ix2 z d) : EReal)
    = ∑ k ∈ Finset.range ((n + 1) * 128), at_row m c (fun l => lastTerm l d) k := by
  refine sum_points _ (fun n hn => ((outsAt0 m c n hn).2.2.2.1 (ix2 z d) : EReal)) (fun h => ?_) (fun n h => ?_) n hn
  · have e := outsAt0_A m c ⟨0, h⟩ rfl (by show ¬1 ≤ 0; omega)
    simp only at e
    rw [e]
    frame_out
    exact (last_at _ _ _ _ _ _ z d).trans (sum_rows m c (fun l => lastTerm l d) ⟨0, h⟩)
  · have hn : n + 1 < 32 := h
    have e := outsAt0_B m c ⟨n + 1, h⟩ (by show ¬(n + 1) % 32 = 0; omega) (by show 1 ≤ n + 1; omega)
    simp only [Nat.add_sub_cancel] at e
    rw [e]
    frame_out
    exact (more3 z d _ _).trans (congrArg (_ + · : EReal → EReal) ((last_at _ _ _ _ _ _ z d).trans (sum_rows m c (fun l => lastTerm l d) ⟨n + 1, h⟩)))

theorem out10 (n : ℕ) (hn : n < cfg0.N) (z : Fin 1) (d : Fin 2048) : ((outsAt0 m c n hn).2.2.2.2.1 (ix2 z d) : EReal)
    = ∑ k ∈ Finset.range ((n + 1) * 128), at_row m c (fun l => firstTerm l d) k := by
  refine sum_points _ (fun n hn => ((outsAt0 m c n hn).2.2.2.2.1 (ix2 z d) : EReal)) (fun h => ?_) (fun n h => ?_) n hn
  · have e := outsAt0_A m c ⟨0, h⟩ rfl (by show ¬1 ≤ 0; omega)
    simp only at e
    rw [e]
    frame_out
    exact (first_at _ _ _ _ _ _ z d).trans (sum_rows m c (fun l => firstTerm l d) ⟨0, h⟩)
  · have hn : n + 1 < 32 := h
    have e := outsAt0_B m c ⟨n + 1, h⟩ (by show ¬(n + 1) % 32 = 0; omega) (by show 1 ≤ n + 1; omega)
    simp only [Nat.add_sub_cancel] at e
    rw [e]
    frame_out
    exact (more4 z d _ _).trans (congrArg (_ + · : EReal → EReal) ((first_at _ _ _ _ _ _ z d).trans (sum_rows m c (fun l => firstTerm l d) ⟨n + 1, h⟩)))

theorem out11 (n : ℕ) (hn : n < cfg0.N) (z : Fin 1) (d : Fin 128) : ((outsAt0 m c n hn).2.2.2.2.2 (ix2 z d) : EReal)
    = ∑ k ∈ Finset.range ((n + 1) * 128), at_row m c (fun l => ((1 / 2 : ℝ) : EReal) * part l) k := by
  refine sum_points _ (fun n hn => ((outsAt0 m c n hn).2.2.2.2.2 (ix2 z d) : EReal)) (fun h => ?_) (fun n h => ?_) n hn
  · have e := outsAt0_A m c ⟨0, h⟩ rfl (by show ¬1 ≤ 0; omega)
    simp only at e
    rw [e]
    frame_out
    exact (loss_at _ _ _ _ _ _ z d).trans (sum_rows m c (fun l => ((1 / 2 : ℝ) : EReal) * part l) ⟨0, h⟩)
  · have hn : n + 1 < 32 := h
    have e := outsAt0_B m c ⟨n + 1, h⟩ (by show ¬(n + 1) % 32 = 0; omega) (by show 1 ≤ n + 1; omega)
    simp only [Nat.add_sub_cancel] at e
    rw [e]
    frame_out
    exact (more5 z _ _ d).trans (congrArg (_ + · : EReal → EReal) ((loss_at _ _ _ _ _ _ z d).trans (sum_rows m c (fun l => ((1 / 2 : ℝ) : EReal) * part l) ⟨n + 1, h⟩)))

theorem final6 : (dats m 0 c).arrAt 6 cfg0.N = backs (residual m c) (gates (turn m c)) (embedding m c) (target m c) (first m c) (last m c) := by
  refine (dats m 0 c).arrAt_eq_of_covers 6 _ (by decide +kernel) fun t _ j => ?_
  obtain ⟨r, d, rfl⟩ : ∃ (r : Fin 128) (d : Fin 2048), j = ix2 r d := ⟨j 0, j 1, eq_ix2 j⟩
  blk_simp [index6 t]
  rw [after0_6]
  refine (out6 m c t r d).trans (Eq.trans (b := backs (residual m c) (gates (turn m c)) (embedding m c) (target m c) (first m c) (last m c) (ix2 (place t r) d)) rfl ?_)
  refine congrArg (backs (residual m c) (gates (turn m c)) (embedding m c) (target m c) (first m c) (last m c)) ?_
  blk_ext [index6 t, place]

theorem final7 : (dats m 0 c).arrAt 7 cfg0.N = turneds (residual m c) (gates (turn m c)) (embedding m c) (target m c) (first m c) (last m c) := by
  refine (dats m 0 c).arrAt_eq_of_covers 7 _ (by decide +kernel) fun t _ j => ?_
  obtain ⟨r, d, rfl⟩ : ∃ (r : Fin 128) (d : Fin 2048), j = ix2 r d := ⟨j 0, j 1, eq_ix2 j⟩
  blk_simp [index7 t]
  rw [after0_7]
  refine (out7 m c t r d).trans (Eq.trans (b := turneds (residual m c) (gates (turn m c)) (embedding m c) (target m c) (first m c) (last m c) (ix2 (place t r) d)) rfl ?_)
  refine congrArg (turneds (residual m c) (gates (turn m c)) (embedding m c) (target m c) (first m c) (last m c)) ?_
  blk_ext [index7 t, place]

theorem final8 : (dats m 0 c).arrAt 8 cfg0.N = outers (residual m c) (gates (turn m c)) (embedding m c) (target m c) (first m c) (last m c) := by
  refine (dats m 0 c).arrAt_eq_of_covers 8 _ (by decide +kernel) fun t _ j => ?_
  obtain ⟨r, d, rfl⟩ : ∃ (r : Fin 128) (d : Fin 2048), j = ix2 r d := ⟨j 0, j 1, eq_ix2 j⟩
  blk_simp [index8 t]
  rw [after0_8]
  refine (out8 m c t r d).trans (Eq.trans (b := outers (residual m c) (gates (turn m c)) (embedding m c) (target m c) (first m c) (last m c) (ix2 (place t r) d)) rfl ?_)
  refine congrArg (outers (residual m c) (gates (turn m c)) (embedding m c) (target m c) (first m c) (last m c)) ?_
  blk_ext [index8 t, place]

theorem final9 : (dats m 0 c).arrAt 9 cfg0.N = lasts (residual m c) (gates (turn m c)) (embedding m c) (target m c) (first m c) (last m c) := by
  refine (dats m 0 c).arrAt_eq_of_covers 9 _ (by decide +kernel) fun t hf j => ?_
  obtain ⟨z, d, rfl⟩ : ∃ (z : Fin 1) (d : Fin 2048), j = ix2 z d := ⟨j 0, j 1, eq_ix2 j⟩
  have h : t.val = 31 := by
    have := (flush0_9 t).mp hf
    have := lt32 t
    omega
  blk_simp [index9 t]
  rw [after0_9]
  refine (out9 m c t.val t.isLt z d).trans ?_
  rw [h]
  refine (sum_all m c (fun l => lastTerm l d)).trans (Eq.trans (b := lasts (residual m c) (gates (turn m c)) (embedding m c) (target m c) (first m c) (last m c) (ix2 z d)) rfl ?_)
  refine congrArg (lasts (residual m c) (gates (turn m c)) (embedding m c) (target m c) (first m c) (last m c)) ?_
  blk_ext [index9 t]

theorem final10 : (dats m 0 c).arrAt 10 cfg0.N = firsts (residual m c) (gates (turn m c)) (embedding m c) (target m c) (first m c) (last m c) := by
  refine (dats m 0 c).arrAt_eq_of_covers 10 _ (by decide +kernel) fun t hf j => ?_
  obtain ⟨z, d, rfl⟩ : ∃ (z : Fin 1) (d : Fin 2048), j = ix2 z d := ⟨j 0, j 1, eq_ix2 j⟩
  have h : t.val = 31 := by
    have := (flush0_10 t).mp hf
    have := lt32 t
    omega
  blk_simp [index10 t]
  rw [after0_10]
  refine (out10 m c t.val t.isLt z d).trans ?_
  rw [h]
  refine (sum_all m c (fun l => firstTerm l d)).trans (Eq.trans (b := firsts (residual m c) (gates (turn m c)) (embedding m c) (target m c) (first m c) (last m c) (ix2 z d)) rfl ?_)
  refine congrArg (firsts (residual m c) (gates (turn m c)) (embedding m c) (target m c) (first m c) (last m c)) ?_
  blk_ext [index10 t]

theorem final11 : (dats m 0 c).arrAt 11 cfg0.N = losses (residual m c) (gates (turn m c)) (embedding m c) (target m c) (first m c) (last m c) := by
  refine (dats m 0 c).arrAt_eq_of_covers 11 _ (by decide +kernel) fun t hf j => ?_
  obtain ⟨z, d, rfl⟩ : ∃ (z : Fin 1) (d : Fin 128), j = ix2 z d := ⟨j 0, j 1, eq_ix2 j⟩
  have h : t.val = 31 := by
    have := (flush0_11 t).mp hf
    have := lt32 t
    omega
  blk_simp [index11 t]
  rw [after0_11]
  refine (out11 m c t.val t.isLt z d).trans ?_
  rw [h]
  exact sum_all m c (fun l => ((1 / 2 : ℝ) : EReal) * part l)

end Cert.TailRead

end
-- ==== Proof.TailRef.lean ====
/-
  The loss and its gradients as the reference computes them on whole arrays, row by row the same as what the kernel computes.
-/
module

public import proofs.«01_k».proof.Proof.Gen.TailRefIdeal.Run
public import proofs.«01_k».proof.Proof.NormBack
public import proofs.«01_k».proof.Proof.Tail

@[expose] public section

noncomputable section

namespace Cert.TailRefRead

open Idealize.ShloMosaic Idealize.ShloMosaic.TcCoe Idealize.SL.Sem Cert.TailRefIdeal Cert.TailRefIdeal.Gen Cert.Entries Cert.NormMath Cert.NormBackRefMath Cert.TailMath
open Cert.NormBackMath (row scaled)

variable (h z p t : FVec Ideal S4096x2048 .f32) (gp gf : FVec Ideal S1x2048 .f32)

/-- A row of the arrays. -/
abbrev entry (i : Fin 4096) : Line := Cert.TailRead.line h (Cert.TailRead.gates z) p t gp gf i

/-- The gate as the reference computes it. -/
def gates : FVec Ideal S4096x2048 .f32 :=
  Host.divf (broadcastInDim S4096x2048 ![] bcast_S_S4096x2048 (constant S_ .f32 0x3F800000#32)) (addf (broadcastInDim S4096x2048 ![] bcast_S_S4096x2048 (constant S_ .f32 0x3F800000#32)) (Host.exp (Host.negf z)))

theorem gates_apply (i : Fin 4096) (k : Fin 2048) : (gates z (ix2 i k) : EReal) = (entry h z p t gp gf i).gate k := by
  pointwise [gates]
  rfl

theorem normals_entry (i : Fin 4096) (k : Fin 2048) : (normals p gp (ix2 i k) : EReal) = gated (entry h z p t gp gf i) k :=
  normals_apply p gp i k

/-- The input of the last norm. -/
def deeps : FVec Ideal S4096x2048 .f32 := addf h (mulf (gates z) (normals p gp))

theorem deeps_apply (i : Fin 4096) (k : Fin 2048) : (deeps h z p gp (ix2 i k) : EReal) = deep (entry h z p t gp gf i) k := by
  pointwise [deeps]
  rw [gates_apply h z p t gp gf, normals_entry h z p t gp gf]
  rfl

theorem deeps_row (i : Fin 4096) : row (deeps h z p gp) i = deep (entry h z p t gp gf i) :=
  funext fun k => deeps_apply h z p t gp gf i k

/-- The difference from the target. -/
def errors : FVec Ideal S4096x2048 .f32 := subf (normals (deeps h z p gp) gf) t

theorem errors_apply (i : Fin 4096) (k : Fin 2048) : (errors h z p t gp gf (ix2 i k) : EReal) = error (entry h z p t gp gf i) k := by
  pointwise [errors]
  rw [normals_apply, deeps_row h z p t gp gf, deeps_apply h z p t gp gf]
  rfl

/-- The gradient with respect to the last norm's output. -/
def heads : FVec Ideal S4096x2048 .f32 :=
  mulf (broadcastInDim S4096x2048 ![0] bcast_S4096_S4096x2048_0 (Host.divf (broadcastInDim S4096 ![] bcast_S_S4096 (mulf (constant S_ .f32 0x3F000000#32) (constant S_ .f32 0x3F800000#32))) (broadcastInDim S4096 ![] bcast_S_S4096 (constant S_ .f32 0x45000000#32)))) (mulf (broadcastInDim S4096x2048 ![] bcast_S_S4096x2048 (constant S_ .f32 0x40000000#32)) (errors h z p t gp gf))

theorem heads_apply (i : Fin 4096) (k : Fin 2048) : (heads h z p t gp gf (ix2 i k) : EReal) = head (entry h z p t gp gf i) k := by
  pointwise [heads]
  rw [errors_apply, ofBits_width, ofBits_two, ofBits_half]
  exact (congrArg (Ideal.div · _ * _) (mul_one _).symm).trans (half_twice _)

/-- The gradient with respect to the last norm's input. -/
def backs : FVec Ideal S4096x2048 .f32 := derivs (deeps h z p gp) (heads h z p t gp gf) gf

theorem backs_apply (i : Fin 4096) (k : Fin 2048) : (backs h z p t gp gf (ix2 i k) : EReal) = back (entry h z p t gp gf i) k := by
  have e : scaled (heads h z p t gp gf) gf i = fun k => head (entry h z p t gp gf i) k * (entry h z p t gp gf i).last k :=
    funext fun k => congrArg (· * (gf (ix2 (0 : Fin 1) k) : EReal)) (heads_apply h z p t gp gf i k)
  refine (derivs_apply _ _ _ i k).trans ?_
  rw [deeps_row h z p t gp gf, e]
  rfl

/-- The gradient with respect to the first norm's output. -/
def plains : FVec Ideal S4096x2048 .f32 := mulf (gates z) (backs h z p t gp gf)

theorem plains_apply (i : Fin 4096) (k : Fin 2048) : (plains h z p t gp gf (ix2 i k) : EReal) = inner (entry h z p t gp gf i) k := by
  refine Eq.trans ?_ (mul_comm ((entry h z p t gp gf i).gate k) (back (entry h z p t gp gf i) k))
  pointwise [plains]
  rw [gates_apply h z p t gp gf, backs_apply]

/-- The gradients as the reference returns them. -/
def turneds : FVec Ideal S4096x2048 .bf16 :=
  truncf .bf16 (mulf (mulf (backs h z p t gp gf) (normals p gp)) (mulf (gates z) (subf (broadcastInDim S4096x2048 ![] bcast_S_S4096x2048 (constant S_ .f32 0x3F800000#32)) (gates z))))

def outers : FVec Ideal S4096x2048 .bf16 := truncf .bf16 (derivs p (plains h z p t gp gf) gp)

/-- The loss as the reference returns it. -/
def losses : FVec Ideal S1x128 .f32 :=
  broadcastInDim S1x128 ![] bcast_S_S1x128 (mulf (constant S_ .f32 0x3F000000#32) (Host.reduceAdd (Host.divf (Host.reduceAdd (mulf (errors h z p t gp gf) (errors h z p t gp gf)) (constant S_ .f32 0x00000000#32) reducesTo_S4096x2048_S4096_d1 h_S_) (broadcastInDim S4096 ![] bcast_S_S4096 (constant S_ .f32 0x45000000#32))) (constant S_ .f32 0x00000000#32) reducesTo_S4096_S_d0 h_S_))

theorem backs_eq : backs h z p t gp gf = Cert.TailRead.backs h (Cert.TailRead.gates z) p t gp gf := by
  funext j
  obtain ⟨r, d, rfl⟩ : ∃ (r : Fin 4096) (d : Fin 2048), j = ix2 r d := ⟨j 0, j 1, eq_ix2 j⟩
  exact backs_apply h z p t gp gf r d

theorem turneds_eq : turneds h z p t gp gf = Cert.TailRead.turneds h (Cert.TailRead.gates z) p t gp gf := by
  funext j
  obtain ⟨r, d, rfl⟩ : ∃ (r : Fin 4096) (d : Fin 2048), j = ix2 r d := ⟨j 0, j 1, eq_ix2 j⟩
  refine Eq.trans ?_ (mul_assoc (back (entry h z p t gp gf r) d * gated (entry h z p t gp gf r) d) ((entry h z p t gp gf r).gate d) (1 - (entry h z p t gp gf r).gate d)).symm
  pointwise [turneds]
  rw [backs_apply, normals_entry h z p t gp gf, gates_apply h z p t gp gf]

theorem outers_eq : outers h z p t gp gf = Cert.TailRead.outers h (Cert.TailRead.gates z) p t gp gf := by
  funext j
  obtain ⟨r, d, rfl⟩ : ∃ (r : Fin 4096) (d : Fin 2048), j = ix2 r d := ⟨j 0, j 1, eq_ix2 j⟩
  have e : scaled (plains h z p t gp gf) gp r = fun k => inner (entry h z p t gp gf r) k * (entry h z p t gp gf r).first k :=
    funext fun k => congrArg (· * (gp (ix2 (0 : Fin 1) k) : EReal)) (plains_apply h z p t gp gf r k)
  refine (derivs_apply p (plains h z p t gp gf) gp r d).trans ?_
  rw [e]
  rfl

theorem lasts_eq : weights (deeps h z p gp) (heads h z p t gp gf) = Cert.TailRead.lasts h (Cert.TailRead.gates z) p t gp gf := by
  funext j
  obtain ⟨i, d, rfl⟩ : ∃ (i : Fin 1) (d : Fin 2048), j = ix2 i d := ⟨j 0, j 1, eq_ix2 j⟩
  refine (weights_apply _ _ i d).trans (Finset.sum_congr rfl fun k _ => ?_)
  show (heads h z p t gp gf (ix2 k d) : EReal) * ((deeps h z p gp (ix2 k d) : EReal) * root (row (deeps h z p gp) k)) = _
  rw [heads_apply, deeps_apply h z p t gp gf, deeps_row h z p t gp gf]
  rfl

theorem firsts_eq : weights p (plains h z p t gp gf) = Cert.TailRead.firsts h (Cert.TailRead.gates z) p t gp gf := by
  funext j
  obtain ⟨i, d, rfl⟩ : ∃ (i : Fin 1) (d : Fin 2048), j = ix2 i d := ⟨j 0, j 1, eq_ix2 j⟩
  refine (weights_apply _ _ i d).trans (Finset.sum_congr rfl fun k _ => ?_)
  show (plains h z p t gp gf (ix2 k d) : EReal) * ((p (ix2 k d) : EReal) * root (row p k)) = _
  rw [plains_apply]
  rfl

theorem losses_eq : losses h z p t gp gf = Cert.TailRead.losses h (Cert.TailRead.gates z) p t gp gf := by
  funext j
  obtain ⟨i, d, rfl⟩ : ∃ (i : Fin 1) (d : Fin 128), j = ix2 i d := ⟨j 0, j 1, eq_ix2 j⟩
  have e : (∑ k : Fin 4096, ((1 / 2 : ℝ) : EReal) * part (entry h z p t gp gf k)) = ((1 / 2 : ℝ) : EReal) * ∑ k : Fin 4096, part (entry h z p t gp gf k) := by
    rw [mul_comm, ← sum_mul_real _ _ (by norm_num)]
    exact Finset.sum_congr rfl fun k _ => mul_comm _ _
  refine Eq.trans ?_ e.symm
  pointwise [losses]
  simp [errors_apply, ofBits_width, ofBits_half, part]

end Cert.TailRefRead

end
-- ==== Proof.GateInput.lean ====
/-
  The gradient that goes back through the gate's product, at the extended reals: both sides are one product with the weight, transposed, and
  no entry needs to be finite.
-/
module

public import proofs.«01_k».proof.Proof.Gen.GateInputIdeal.Value
public import proofs.«01_k».proof.Proof.Gen.GateInputRefIdeal.Run
public import Idealize.ShloMosaic.Lib.Pipeline.ValueKit.Point
public import Idealize.ShloMosaic.Lib.Pointwise

@[expose] public section

noncomputable section

namespace Cert.GateInputMath

open Idealize.ShloMosaic Idealize.ShloMosaic.TcCoe Idealize.SL.Sem Cert.GateInputIdeal Cert.GateInputIdeal.Gen

/-- The product of the second array with the first, transposed. -/
def product (w : FVec Ideal S2048x2048 .f32) (a : FVec Ideal S4096x2048 .f32) : FVec Ideal S4096x2048 .f32 := fun i =>
  (∑ k : Fin 2048, (a (ix2 (i 0 : Fin 4096) k) : EReal) * w (ix2 (i 1 : Fin 2048) k) : EReal)

theorem payload_apply (a b : Vec Ideal S1024x2048 .bf16) (r d : Fin 1024) :
    (k0_pay1 (F := Ideal) a b (ix2 r d) : EReal) = ∑ k : Fin 2048, (a (ix2 r k) : EReal) * b (ix2 d k) := by
  pointwise [k0_pay1]

theorem index0 : ∀ t : Fin cfg0.N, win0_0.index t = ![t.val / 2, 0] := (by decide +kernel : ∀ t : Fin grid0.N, _)
theorem index1 : ∀ t : Fin cfg0.N, win0_1.index t = ![t.val % 2, 0] := (by decide +kernel : ∀ t : Fin grid0.N, _)
theorem index2 : ∀ t : Fin cfg0.N, win0_2.index t = ![t.val / 2, t.val % 2] := (by decide +kernel : ∀ t : Fin grid0.N, _)
theorem lt8 (t : Fin cfg0.N) : t.val < 8 := t.isLt

variable (m : (ℓ : Loc nD τ sig) → Buf (Elt Ideal) ℓ) (c : Dev nD)

theorem left_eq (i : Fin 4096) (j : Fin 2048) : (V m c main_v0 (ix2 i j) : EReal) = m ((c.tc : Thread nD τ).loc main_arg1) (ix2 i j) := by
  entry_read
  pointwise

theorem right_eq (i j : Fin 2048) : (V m c main_v1 (ix2 i j) : EReal) = m ((c.tc : Thread nD τ).loc main_arg0) (ix2 i j) := by
  entry_read
  pointwise

theorem left_apply (t : Fin cfg0.N) (r : Fin 1024) (k : Fin 2048) : (iblk m c 0 t (ix2 r k) : EReal)
    = m ((c.tc : Thread nD τ).loc main_arg1) (ix2 (⟨t.val / 2 * 1024 + r, by have := lt8 t; omega⟩ : Fin 4096) k) := by
  refine Eq.trans ?_ (left_eq m c _ k)
  blk_simp [iblk, index0 t]
  refine congrArg (V m c main_v0) ?_
  blk_ext [index0 t]

theorem right_apply (t : Fin cfg0.N) (d : Fin 1024) (k : Fin 2048) : (iblk m c 1 t (ix2 d k) : EReal)
    = m ((c.tc : Thread nD τ).loc main_arg0) (ix2 (⟨t.val % 2 * 1024 + d, by omega⟩ : Fin 2048) k) := by
  refine Eq.trans ?_ (right_eq m c _ k)
  blk_simp [iblk, index1 t]
  refine congrArg (V m c main_v1) ?_
  blk_ext [index1 t]

theorem block_apply (t : Fin cfg0.N) (r d : Fin 1024) : (out0_2 (F := Ideal) (iblk m c 0 t) (iblk m c 1 t) (ix2 r d) : EReal)
    = product (m ((c.tc : Thread nD τ).loc main_arg0)) (m ((c.tc : Thread nD τ).loc main_arg1))
        (ix2 (⟨t.val / 2 * 1024 + r, by have := lt8 t; omega⟩ : Fin 4096) (⟨t.val % 2 * 1024 + d, by omega⟩ : Fin 2048)) := by
  unfold out0_2
  frame_out
  refine (payload_apply _ _ r d).trans ?_
  simp only [left_apply, right_apply]
  rfl

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t _ j => ?_
  obtain ⟨r, d, rfl⟩ : ∃ (r d : Fin 1024), j = ix2 r d := ⟨j 0, j 1, eq_ix2 j⟩
  blk_simp [index2 t]
  rw [after0_2]
  refine (block_apply m c t r d).trans ?_
  refine congrArg (product _ _) ?_
  blk_ext [index2 t]

/-- The reference's result. -/
theorem reference (w : FVec Ideal S2048x2048 .f32) (a : FVec Ideal S4096x2048 .f32) :
    Host.dotGeneral Cert.GateInputRefIdeal.dot_S4096x2048_S2048x2048_S4096x2048_1_1_0_0_n_n none a w = product w a := by
  funext j
  obtain ⟨r, d, rfl⟩ : ∃ (r : Fin 4096) (d : Fin 2048), j = ix2 r d := ⟨j 0, j 1, eq_ix2 j⟩
  pointwise
  rfl

end Cert.GateInputMath

end
-- ==== Proof.GateWeight.lean ====
/-
  The gradient of the gate's weight at the extended reals: the kernel adds it up over two blocks of rows in a scratch array, and the reference
  computes it at once. No entry needs to be finite.
-/
module

public import proofs.«01_k».proof.Proof.Gen.GateWeightIdeal.Value
public import proofs.«01_k».proof.Proof.Gen.GateWeightRefIdeal.Run
public import proofs.«01_k».proof.Proof.Entries
public import Idealize.ShloMosaic.Lib.Pipeline.ValueKit.Point
public import Idealize.ShloMosaic.Lib.Pointwise

@[expose] public section

noncomputable section

namespace Cert.GateWeightMath

open Idealize.ShloMosaic Idealize.ShloMosaic.TcCoe Idealize.SL.Sem Cert.GateWeightIdeal Cert.GateWeightIdeal.Gen Cert.Entries

/-- One term of an entry of the product of the first array, transposed, with the second. -/
def term (a b : FVec Ideal S4096x2048 .f32) (i j k : ℕ) : EReal := entry a k i * entry b k j

/-- The product. -/
def product (a b : FVec Ideal S4096x2048 .f32) : FVec Ideal S2048x2048 .bf16 := fun i =>
  (∑ k ∈ Finset.range 4096, term a b (i 0 : Fin 2048) (i 1 : Fin 2048) k : EReal)

theorem payload1 (a b : Vec Ideal S2048x1024 .bf16) (r d : Fin 1024) :
    (k0_pay1 (F := Ideal) a b (ix2 r d) : EReal) = ∑ k : Fin 2048, (a (ix2 k r) : EReal) * b (ix2 k d) := by
  pointwise [k0_pay1]

theorem payload2 (a b : Vec Ideal S2048x1024 .bf16) (r d : Fin 1024) :
    (k0_pay2 (F := Ideal) a b (ix2 r d) : EReal) = k0_pay1 (F := Ideal) a b (ix2 r d) := by
  pointwise [k0_pay2]

theorem payload3 (a b : Vec Ideal S2048x1024 .bf16) (s : Vec Ideal S1024x1024 .f32) (r d : Fin 1024) :
    (k0_pay3 (F := Ideal) a b s (ix2 r d) : EReal) = (s (ix2 r d) : EReal) + k0_pay1 (F := Ideal) a b (ix2 r d) := by
  pointwise [k0_pay3]

theorem index0 : ∀ t : Fin cfg0.N, win0_0.index t = ![t.val % 2, t.val / 4] := (by decide +kernel : ∀ t : Fin grid0.N, _)
theorem index1 : ∀ t : Fin cfg0.N, win0_1.index t = ![t.val % 2, t.val / 2 % 2] := (by decide +kernel : ∀ t : Fin grid0.N, _)
theorem index2 : ∀ t : Fin cfg0.N, win0_2.index t = ![t.val / 4, t.val / 2 % 2] := (by decide +kernel : ∀ t : Fin grid0.N, _)
theorem lt8 (t : Fin cfg0.N) : t.val < 8 := t.isLt

variable (m : (ℓ : Loc nD τ sig) → Buf (Elt Ideal) ℓ) (c : Dev nD)

theorem left_eq (i : Fin 4096) (j : Fin 2048) : (V m c main_v0 (ix2 i j) : EReal) = m ((c.tc : Thread nD τ).loc main_arg0) (ix2 i j) := by
  entry_read
  pointwise

theorem right_eq (i : Fin 4096) (j : Fin 2048) : (V m c main_v1 (ix2 i j) : EReal) = m ((c.tc : Thread nD τ).loc main_arg1) (ix2 i j) := by
  entry_read
  pointwise

theorem left_apply (t : Fin cfg0.N) (k : Fin 2048) (r : Fin 1024) : (iblk m c 0 t (ix2 k r) : EReal)
    = entry (e := .f32) (m ((c.tc : Thread nD τ).loc main_arg0)) (t.val % 2 * 2048 + k) (t.val / 4 * 1024 + r) := by
  have := lt8 t
  refine Eq.trans ?_ ((left_eq m c (⟨t.val % 2 * 2048 + k, by omega⟩ : Fin 4096) (⟨t.val / 4 * 1024 + r, by omega⟩ : Fin 2048)).trans (entry_fin _ _ _))
  blk_simp [iblk, index0 t]
  refine congrArg (V m c main_v0) ?_
  blk_ext [index0 t]

theorem right_apply (t : Fin cfg0.N) (k : Fin 2048) (d : Fin 1024) : (iblk m c 1 t (ix2 k d) : EReal)
    = entry (e := .f32) (m ((c.tc : Thread nD τ).loc main_arg1)) (t.val % 2 * 2048 + k) (t.val / 2 % 2 * 1024 + d) := by
  refine Eq.trans ?_ ((right_eq m c (⟨t.val % 2 * 2048 + k, by omega⟩ : Fin 4096) (⟨t.val / 2 % 2 * 1024 + d, by omega⟩ : Fin 2048)).trans (entry_fin _ _ _))
  blk_simp [iblk, index1 t]
  refine congrArg (V m c main_v1) ?_
  blk_ext [index1 t]

/-- One term of the entry at a place of the block of a grid point. -/
abbrev here (t : ℕ) (r d : Fin 1024) (k : ℕ) : EReal :=
  term (m ((c.tc : Thread nD τ).loc main_arg0)) (m ((c.tc : Thread nD τ).loc main_arg1)) (t / 4 * 1024 + r) (t / 2 % 2 * 1024 + d) k

theorem step (t : Fin cfg0.N) (r d : Fin 1024) : (k0_pay1 (F := Ideal) (iblk m c 0 t) (iblk m c 1 t) (ix2 r d) : EReal)
    = ∑ k : Fin 2048, here m c t r d (t.val % 2 * 2048 + k) := by
  refine (payload1 _ _ r d).trans ?_
  simp only [left_apply, right_apply]
  rfl

theorem scratch_first (t : Fin cfg0.N) (h : t.val % 2 = 0) (r d : Fin 1024) : ((outsAt0 m c t.val t.isLt).2 (ix2 r d) : EReal)
    = ∑ k : Fin 2048, here m c t r d (0 * 2048 + k) := by
  rw [outsAt0_A m c t h (by omega) (by omega)]
  frame_out
  refine (payload2 _ _ r d).trans ((step m c t r d).trans ?_)
  rw [h]

theorem result_at (t : Fin cfg0.N) (h : t.val % 2 = 1) (r d : Fin 1024) : ((outsAt0 m c t.val t.isLt).1 (ix2 r d) : EReal)
    = ∑ k ∈ Finset.range 4096, here m c t r d k := by
  have e1 : (t.val - 1) / 4 = t.val / 4 := by omega
  have e2 : (t.val - 1) / 2 = t.val / 2 := by omega
  have e := scratch_first m c ⟨t.val - 1, by omega⟩ (by show (t.val - 1) % 2 = 0; omega) r d
  have e3 := step m c t r d
  simp only [here, e1, e2] at e
  rw [h] at e3
  rw [outsAt0_B m c t (by omega) h h]
  frame_out
  refine ((payload3 _ _ _ r d).trans (congrArg₂ (· + · : EReal → EReal → EReal) ((congrFun (Memref.IsWhole.read_unread _ _) _).trans e) e3)).trans ?_
  exact sum_two (here m c t r d) 2048

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf j => ?_
  obtain ⟨r, d, rfl⟩ : ∃ (r d : Fin 1024), j = ix2 r d := ⟨j 0, j 1, eq_ix2 j⟩
  have := lt8 t
  blk_simp [index2 t]
  rw [after0_2]
  refine (result_at m c t ((flush0_2 t).mp hf) r d).trans ?_
  refine Eq.trans (b := product (m ((c.tc : Thread nD τ).loc main_arg0)) (m ((c.tc : Thread nD τ).loc main_arg1))
    (ix2 (⟨t.val / 4 * 1024 + r, by omega⟩ : Fin 2048) (⟨t.val / 2 % 2 * 1024 + d, by omega⟩ : Fin 2048))) rfl ?_
  refine congrArg (product _ _) ?_
  blk_ext [index2 t]

/-- The reference's result. -/
theorem reference (a b : FVec Ideal S4096x2048 .f32) (h) (hb) :
    truncf .bf16 (transpose S2048x2048 [1, 0] (Host.dotGeneral Cert.GateWeightRefIdeal.dot_S4096x2048_S4096x2048_S2048x2048_0_0_1_1_n_n none b a) h) hb = product a b := by
  funext j
  obtain ⟨r, d, rfl⟩ : ∃ (r d : Fin 2048), j = ix2 r d := ⟨j 0, j 1, eq_ix2 j⟩
  have e : (∑ k : Fin 4096, (b (ix2 k d) : EReal) * a (ix2 k r)) = ∑ k : Fin 4096, term a b r d k :=
    Finset.sum_congr rfl fun k _ => (mul_comm _ _).trans (congrArg₂ (· * · : EReal → EReal → EReal) (entry_fin a k r) (entry_fin b k d))
  rw [← sum_first] at e
  refine Eq.trans ?_ e
  pointwise

end Cert.GateWeightMath

end
-- ==== Proof.InWeight.lean ====
/-
  The gradient of the attention's first weight at the extended reals, in four blocks of columns: the kernel adds each up over two blocks of rows
  in a scratch array, and the reference computes the whole gradient at once and splits it. No entry needs to be finite.
-/
module

public import proofs.«01_k».proof.Proof.Gen.InWeightIdeal.Value
public import proofs.«01_k».proof.Proof.Gen.InWeightRefIdeal.Run
public import proofs.«01_k».proof.Proof.Entries
public import Idealize.ShloMosaic.Lib.Pipeline.ValueKit.Point
public import Idealize.ShloMosaic.Lib.Pointwise

@[expose] public section

noncomputable section

namespace Cert.InWeightMath

open Idealize.ShloMosaic Idealize.ShloMosaic.TcCoe Idealize.SL.Sem Cert.InWeightIdeal Cert.InWeightIdeal.Gen Cert.Entries

/-- One term of an entry of the product of the first array, transposed, with the second. -/
def term (a : FVec Ideal S4096x2048 .f32) (b : FVec Ideal S4096x3072 .f32) (i j k : ℕ) : EReal := entry a k i * entry b k j

/-- The product, in four blocks of columns. -/
def product (a : FVec Ideal S4096x2048 .f32) (b : FVec Ideal S4096x3072 .f32) : FVec Ideal S4x2048x768 .bf16 := fun i =>
  (∑ k ∈ Finset.range 4096, term a b (i 1 : Fin 2048) ((i 0 : Fin 4) * 768 + (i 2 : Fin 768)) k : EReal)

theorem payload1 (a : Vec Ideal S2048x1024 .bf16) (b : Vec Ideal S2048x768 .bf16) (r : Fin 1024) (d : Fin 768) :
    (k0_pay1 (F := Ideal) a b (ix2 r d) : EReal) = ∑ k : Fin 2048, (a (ix2 k r) : EReal) * b (ix2 k d) := by
  pointwise [k0_pay1]

theorem payload2 (a : Vec Ideal S2048x1024 .bf16) (b : Vec Ideal S2048x768 .bf16) (r : Fin 1024) (d : Fin 768) :
    (k0_pay2 (F := Ideal) a b (ix2 r d) : EReal) = k0_pay1 (F := Ideal) a b (ix2 r d) := by
  pointwise [k0_pay2]

theorem payload3 (a : Vec Ideal S2048x1024 .bf16) (b : Vec Ideal S2048x768 .bf16) (s : Vec Ideal S1024x768 .f32) (r : Fin 1024) (d : Fin 768) :
    (k0_pay3 (F := Ideal) a b s (ix2 r d) : EReal) = (s (ix2 r d) : EReal) + k0_pay1 (F := Ideal) a b (ix2 r d) := by
  pointwise [k0_pay3]

theorem payload4 (s : Vec Ideal S1024x768 .f32) (z : Fin 1) (r : Fin 1024) (d : Fin 768) :
    (k0_pay4 (F := Ideal) s (ix3 z r d) : EReal) = s (ix2 r d) := by
  pointwise [k0_pay4]

theorem index0 : ∀ t : Fin cfg0.N, win0_0.index t = ![t.val % 2, t.val / 8] := (by decide +kernel : ∀ t : Fin grid0.N, _)
theorem index1 : ∀ t : Fin cfg0.N, win0_1.index t = ![t.val % 2, t.val / 2 % 4] := (by decide +kernel : ∀ t : Fin grid0.N, _)
theorem index2 : ∀ t : Fin cfg0.N, win0_2.index t = ![t.val / 2 % 4, t.val / 8, 0] := (by decide +kernel : ∀ t : Fin grid0.N, _)
theorem lt16 (t : Fin cfg0.N) : t.val < 16 := t.isLt

variable (m : (ℓ : Loc nD τ sig) → Buf (Elt Ideal) ℓ) (c : Dev nD)

theorem left_eq (i : Fin 4096) (j : Fin 2048) : (V m c main_v0 (ix2 i j) : EReal) = m ((c.tc : Thread nD τ).loc main_arg0) (ix2 i j) := by
  entry_read
  pointwise

theorem right_eq (i : Fin 4096) (j : Fin 3072) : (V m c main_v1 (ix2 i j) : EReal) = m ((c.tc : Thread nD τ).loc main_arg1) (ix2 i j) := by
  entry_read
  pointwise

theorem left_apply (t : Fin cfg0.N) (k : Fin 2048) (r : Fin 1024) : (iblk m c 0 t (ix2 k r) : EReal)
    = entry (e := .f32) (m ((c.tc : Thread nD τ).loc main_arg0)) (t.val % 2 * 2048 + k) (t.val / 8 * 1024 + r) := by
  have := lt16 t
  refine Eq.trans ?_ ((left_eq m c (⟨t.val % 2 * 2048 + k, by omega⟩ : Fin 4096) (⟨t.val / 8 * 1024 + r, by omega⟩ : Fin 2048)).trans (entry_fin _ _ _))
  blk_simp [iblk, index0 t]
  refine congrArg (V m c main_v0) ?_
  blk_ext [index0 t]

theorem right_apply (t : Fin cfg0.N) (k : Fin 2048) (d : Fin 768) : (iblk m c 1 t (ix2 k d) : EReal)
    = entry (e := .f32) (m ((c.tc : Thread nD τ).loc main_arg1)) (t.val % 2 * 2048 + k) (t.val / 2 % 4 * 768 + d) := by
  refine Eq.trans ?_ ((right_eq m c (⟨t.val % 2 * 2048 + k, by omega⟩ : Fin 4096) (⟨t.val / 2 % 4 * 768 + d, by omega⟩ : Fin 3072)).trans (entry_fin _ _ _))
  blk_simp [iblk, index1 t]
  refine congrArg (V m c main_v1) ?_
  blk_ext [index1 t]

/-- One term of the entry at a place of the block of a grid point. -/
abbrev here (t : ℕ) (r : Fin 1024) (d : Fin 768) (k : ℕ) : EReal :=
  term (m ((c.tc : Thread nD τ).loc main_arg0)) (m ((c.tc : Thread nD τ).loc main_arg1)) (t / 8 * 1024 + r) (t / 2 % 4 * 768 + d) k

theorem step (t : Fin cfg0.N) (r : Fin 1024) (d : Fin 768) : (k0_pay1 (F := Ideal) (iblk m c 0 t) (iblk m c 1 t) (ix2 r d) : EReal)
    = ∑ k : Fin 2048, here m c t r d (t.val % 2 * 2048 + k) := by
  refine (payload1 _ _ r d).trans ?_
  simp only [left_apply, right_apply]
  rfl

theorem scratch_first (t : Fin cfg0.N) (h : t.val % 2 = 0) (r : Fin 1024) (d : Fin 768) : ((outsAt0 m c t.val t.isLt).2 (ix2 r d) : EReal)
    = ∑ k : Fin 2048, here m c t r d (0 * 2048 + k) := by
  rw [outsAt0_A m c t h (by omega) (by omega)]
  frame_out
  refine (payload2 _ _ r d).trans ((step m c t r d).trans ?_)
  rw [h]

theorem result_at (t : Fin cfg0.N) (h : t.val % 2 = 1) (z : Fin 1) (r : Fin 1024) (d : Fin 768) : ((outsAt0 m c t.val t.isLt).1 (ix3 z r d) : EReal)
    = ∑ k ∈ Finset.range 4096, here m c t r d k := by
  have e1 : (t.val - 1) / 8 = t.val / 8 := by omega
  have e2 : (t.val - 1) / 2 = t.val / 2 := by omega
  have e := scratch_first m c ⟨t.val - 1, by omega⟩ (by show (t.val - 1) % 2 = 0; omega) r d
  have e3 := step m c t r d
  simp only [here, e1, e2] at e
  rw [h] at e3
  rw [outsAt0_B m c t (by omega) h h]
  frame_out
  refine (payload4 _ z r d).trans (((payload3 _ _ _ r d).trans (congrArg₂ (· + · : EReal → EReal → EReal) ((congrFun (Memref.IsWhole.read_unread _ _) _).trans e) e3)).trans ?_)
  exact sum_two (here m c t r d) 2048

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf j => ?_
  obtain ⟨z, r, d, rfl⟩ : ∃ (z : Fin 1) (r : Fin 1024) (d : Fin 768), j = ix3 z r d := ⟨j 0, j 1, j 2, eq_ix3 j⟩
  have := lt16 t
  blk_simp [index2 t]
  rw [after0_2]
  refine (result_at m c t ((flush0_2 t).mp hf) z r d).trans ?_
  refine Eq.trans (b := product (m ((c.tc : Thread nD τ).loc main_arg0)) (m ((c.tc : Thread nD τ).loc main_arg1))
    (ix3 (⟨t.val / 2 % 4, by omega⟩ : Fin 4) (⟨t.val / 8 * 1024 + r, by omega⟩ : Fin 2048) d)) rfl ?_
  refine congrArg (product _ _) ?_
  blk_ext [index2 t]

end Cert.InWeightMath

namespace Cert.InWeightRefMath

open Idealize.ShloMosaic Idealize.ShloMosaic.TcCoe Idealize.SL.Sem Cert.InWeightRefIdeal Cert.InWeightRefIdeal.Gen Cert.InWeightMath Cert.Entries

/-- The whole gradient as the reference computes it. -/
def whole (a : FVec Ideal S4096x2048 .f32) (b : FVec Ideal S4096x3072 .f32) : FVec Ideal S2048x3072 .f32 :=
  transpose S2048x3072 [1, 0] (Host.dotGeneral dot_S4096x3072_S4096x2048_S3072x2048_0_0_1_1_n_n none b a) transposes_S3072x2048_S2048x3072_1_0

theorem whole_apply (a : FVec Ideal S4096x2048 .f32) (b : FVec Ideal S4096x3072 .f32) (i : Fin 2048) (j : Fin 3072) :
    (whole a b (ix2 i j) : EReal) = ∑ k ∈ Finset.range 4096, term a b i j k := by
  have e : (∑ k : Fin 4096, (b (ix2 k j) : EReal) * a (ix2 k i)) = ∑ k : Fin 4096, term a b i j k :=
    Finset.sum_congr rfl fun k _ => (mul_comm _ _).trans (congrArg₂ (· * · : EReal → EReal → EReal) (entry_fin a k i) (entry_fin b k j))
  rw [← sum_first] at e
  refine Eq.trans ?_ e
  pointwise [whole]

/-- A matrix's four blocks of columns, stacked as the reference stacks them. -/
def stack (w : FVec Ideal S2048x3072 .f32) : FVec Ideal S4x2048x768 .bf16 :=
  truncf .bf16 ((concatenate S4x2048x768 0
    [⟨S1x2048x768, ((broadcastInDim S1x2048x768 ![1, 2] bcast_S2048x768_S1x2048x768_1_2 (extractStridedSlice S2048x768 ![0, 0] w slices_S2048x3072_S2048x768_0_0)) : (⟨S1x2048x768, .f32⟩ : BufTy).Contents (Elt Ideal))⟩,
     ⟨S1x2048x768, ((broadcastInDim S1x2048x768 ![1, 2] bcast_S2048x768_S1x2048x768_1_2 (extractStridedSlice S2048x768 ![0, 768] w slices_S2048x3072_S2048x768_0_768)) : (⟨S1x2048x768, .f32⟩ : BufTy).Contents (Elt Ideal))⟩,
     ⟨S1x2048x768, ((broadcastInDim S1x2048x768 ![1, 2] bcast_S2048x768_S1x2048x768_1_2 (extractStridedSlice S2048x768 ![0, 1536] w slices_S2048x3072_S2048x768_0_1536)) : (⟨S1x2048x768, .f32⟩ : BufTy).Contents (Elt Ideal))⟩,
     ⟨S1x2048x768, ((broadcastInDim S1x2048x768 ![1, 2] bcast_S2048x768_S1x2048x768_1_2 (extractStridedSlice S2048x768 ![0, 2304] w slices_S2048x3072_S2048x768_0_2304)) : (⟨S1x2048x768, .f32⟩ : BufTy).Contents (Elt Ideal))⟩]
    concatenates_S1x2048x768_S1x2048x768_S1x2048x768_S1x2048x768_S4x2048x768_d0 : (⟨S4x2048x768, .f32⟩ : BufTy).Contents (Elt Ideal))) bitsLt_bf16_f32

theorem stack_apply (w : FVec Ideal S2048x3072 .f32) (q : Fin 4) (i : Fin 2048) (j : Fin 768) :
    (stack w (ix3 q i j) : EReal) = w (ix2 i (⟨q * 768 + j, by omega⟩ : Fin 3072)) := by
  fin_cases q
  all_goals
    pointwise [stack]

/-- The reference's result. -/
theorem reference (a : FVec Ideal S4096x2048 .f32) (b : FVec Ideal S4096x3072 .f32) : stack (whole a b) = product a b := by
  funext j
  obtain ⟨q, r, d, rfl⟩ : ∃ (q : Fin 4) (r : Fin 2048) (d : Fin 768), j = ix3 q r d := ⟨j 0, j 1, j 2, eq_ix3 j⟩
  rw [stack_apply, whole_apply]
  rfl

end Cert.InWeightRefMath

end
-- ==== Proof.Gate.lean ====
/-
  The gate at the extended reals: the logistic function of one product, on both sides. No entry needs to be finite.
-/
module

public import proofs.«01_k».proof.Proof.Gen.GateIdeal.Value
public import proofs.«01_k».proof.Proof.Gen.GateRefIdeal.Run
public import proofs.«01_k».proof.Proof.TailMath
public import Idealize.ShloMosaic.Lib.Pipeline.ValueKit.Point
public import Idealize.ShloMosaic.Lib.Pointwise

@[expose] public section

noncomputable section

namespace Cert.GateMath

open Idealize.ShloMosaic Idealize.ShloMosaic.TcCoe Idealize.SL.Sem Cert.GateIdeal Cert.GateIdeal.Gen Cert.TailMath

/-- The logistic function. -/
def logistic (y : EReal) : EReal := Ideal.div 1 (1 + Ideal.exp (-y))

/-- The logistic function of the product of the two arrays. -/
def result (a : FVec Ideal S4096x2048 .f32) (b : FVec Ideal S2048x2048 .f32) : FVec Ideal S4096x2048 .f32 := fun i =>
  logistic (∑ k : Fin 2048, (a (ix2 (i 0 : Fin 4096) k) : EReal) * b (ix2 k (i 1 : Fin 2048)))

theorem payload_apply (a : Vec Ideal S1024x2048 .bf16) (b : Vec Ideal S2048x1024 .bf16) (r d : Fin 1024) :
    (k0_pay1 (F := Ideal) a b (ix2 r d) : EReal) = logistic (∑ k : Fin 2048, (a (ix2 r k) : EReal) * b (ix2 k d)) := by
  pointwise [k0_pay1]
  rw [logistic, ← zero_sub]

theorem index0 : ∀ t : Fin cfg0.N, win0_0.index t = ![t.val / 2, 0] := (by decide +kernel : ∀ t : Fin grid0.N, _)
theorem index1 : ∀ t : Fin cfg0.N, win0_1.index t = ![0, t.val % 2] := (by decide +kernel : ∀ t : Fin grid0.N, _)
theorem index2 : ∀ t : Fin cfg0.N, win0_2.index t = ![t.val / 2, t.val % 2] := (by decide +kernel : ∀ t : Fin grid0.N, _)
theorem lt8 (t : Fin cfg0.N) : t.val < 8 := t.isLt

variable (m : (ℓ : Loc nD τ sig) → Buf (Elt Ideal) ℓ) (c : Dev nD)

theorem left_eq (i : Fin 4096) (j : Fin 2048) : (V m c main_v0 (ix2 i j) : EReal) = m ((c.tc : Thread nD τ).loc main_arg0) (ix2 i j) := by
  entry_read
  pointwise

theorem right_eq (i j : Fin 2048) : (V m c main_v1 (ix2 i j) : EReal) = m ((c.tc : Thread nD τ).loc main_arg1) (ix2 i j) := by
  entry_read
  pointwise

theorem left_apply (t : Fin cfg0.N) (r : Fin 1024) (k : Fin 2048) : (iblk m c 0 t (ix2 r k) : EReal)
    = m ((c.tc : Thread nD τ).loc main_arg0) (ix2 (⟨t.val / 2 * 1024 + r, by have := lt8 t; omega⟩ : Fin 4096) k) := by
  refine Eq.trans ?_ (left_eq m c _ k)
  blk_simp [iblk, index0 t]
  refine congrArg (V m c main_v0) ?_
  blk_ext [index0 t]

theorem right_apply (t : Fin cfg0.N) (k : Fin 2048) (d : Fin 1024) : (iblk m c 1 t (ix2 k d) : EReal)
    = m ((c.tc : Thread nD τ).loc main_arg1) (ix2 k (⟨t.val % 2 * 1024 + d, by omega⟩ : Fin 2048)) := by
  refine Eq.trans ?_ (right_eq m c k _)
  blk_simp [iblk, index1 t]
  refine congrArg (V m c main_v1) ?_
  blk_ext [index1 t]

theorem block_apply (t : Fin cfg0.N) (r d : Fin 1024) : (out0_2 (F := Ideal) (iblk m c 0 t) (iblk m c 1 t) (ix2 r d) : EReal)
    = result (m ((c.tc : Thread nD τ).loc main_arg0)) (m ((c.tc : Thread nD τ).loc main_arg1))
        (ix2 (⟨t.val / 2 * 1024 + r, by have := lt8 t; omega⟩ : Fin 4096) (⟨t.val % 2 * 1024 + d, by omega⟩ : Fin 2048)) := by
  unfold out0_2
  frame_out
  refine (payload_apply _ _ r d).trans ?_
  simp only [left_apply, right_apply]
  rfl

theorem final : (dats m 0 c).arrAt 2 cfg0.N = result (m ((c.tc : Thread nD τ).loc main_arg0)) (m ((c.tc : Thread nD τ).loc main_arg1)) := by
  refine (dats m 0 c).arrAt_eq_of_covers 2 _ (by decide +kernel) fun t _ j => ?_
  obtain ⟨r, d, rfl⟩ : ∃ (r d : Fin 1024), j = ix2 r d := ⟨j 0, j 1, eq_ix2 j⟩
  blk_simp [index2 t]
  rw [after0_2]
  refine (block_apply m c t r d).trans ?_
  refine congrArg (result _ _) ?_
  blk_ext [index2 t]

/-- The reference's result. -/
theorem reference (a : FVec Ideal S4096x2048 .f32) (b : FVec Ideal S2048x2048 .f32) (h) :
    Host.divf (broadcastInDim S4096x2048 ![] h (constant (F := Ideal) Cert.GateRefIdeal.S_ .f32 0x3F800000#32))
      (addf (broadcastInDim S4096x2048 ![] h (constant (F := Ideal) Cert.GateRefIdeal.S_ .f32 0x3F800000#32))
        (Host.exp (Host.negf (Host.dotGeneral Cert.GateRefIdeal.dot_S4096x2048_S2048x2048_S4096x2048_1_0_0_1_n_n none a b)))) = result a b := by
  funext j
  obtain ⟨r, d, rfl⟩ : ∃ (r : Fin 4096) (d : Fin 2048), j = ix2 r d := ⟨j 0, j 1, eq_ix2 j⟩
  pointwise
  rfl

end Cert.GateMath

end
-- ==== Proof.Out.lean ====
/-
  The attention's last product, added to the residual, and the norm of that, at the extended reals: both sides compute the same, and no entry
  needs to be finite.
-/
module

public import proofs.«01_k».proof.Proof.Gen.OutIdeal.Value
public import proofs.«01_k».proof.Proof.Gen.OutRefIdeal.Run
public import proofs.«01_k».proof.Proof.NormBack
public import Idealize.ShloMosaic.Lib.Pipeline.ValueKit.Point
public import Idealize.ShloMosaic.Lib.Pointwise

@[expose] public section

noncomputable section

namespace Cert.OutMath

open Idealize.ShloMosaic Idealize.ShloMosaic.TcCoe Idealize.SL.Sem Cert.OutIdeal Cert.OutIdeal.Gen Cert.NormMath
open Cert.NormBackMath (row)

section

variable (a : FVec Ideal S4096x2048 .f32) (w : FVec Ideal S2048x2048 .f32) (h : FVec Ideal S4096x2048 .f32) (g : FVec Ideal S1x2048 .f32)

/-- The product, added to a third array. -/
def result : FVec Ideal S4096x2048 .f32 := fun i =>
  (h i : EReal) + ∑ k : Fin 2048, (a (ix2 (i 0 : Fin 4096) k) : EReal) * w (ix2 k (i 1 : Fin 2048))

/-- Its norm. -/
def normal : FVec Ideal S4096x2048 .bf16 := fun i =>
  (result a w h i : EReal) * root (row (result a w h) (i 0 : Fin 4096)) * g (ix2 (0 : Fin 1) (i 1 : Fin 2048))

end

theorem payload1 (a : Vec Ideal S512x2048 .bf16) (w : Vec Ideal S2048x2048 .bf16) (h : Vec Ideal S512x2048 .f32) (r : Fin 512) (d : Fin 2048) :
    (k0_pay1 (F := Ideal) a w h (ix2 r d) : EReal) = (h (ix2 r d) : EReal) + ∑ k : Fin 2048, (a (ix2 r k) : EReal) * w (ix2 k d) := by
  refine Eq.trans ?_ (add_comm _ _)
  pointwise [k0_pay1]

theorem payload2 (a : Vec Ideal S512x2048 .bf16) (w : Vec Ideal S2048x2048 .bf16) (h : Vec Ideal S512x2048 .f32) (g : Vec Ideal S1x2048 .f32) (r : Fin 512) (d : Fin 2048) :
    (k0_pay2 (F := Ideal) a w h g (ix2 r d) : EReal)
      = (k0_pay1 (F := Ideal) a w h (ix2 r d) : EReal) * root (fun k => (k0_pay1 (F := Ideal) a w h (ix2 r k) : EReal)) * g (ix2 (0 : Fin 1) d) := by
  pointwise [k0_pay2]
  rw [ofBits_width, ofBits_eps]
  rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem lt8 (t : Fin cfg0.N) : t.val < 8 := t.isLt

/-- The row of the whole matrix where a block's row lies. -/
def place (t : Fin cfg0.N) (r : Fin 512) : Fin 4096 := ⟨t.val * 512 + r, by have := lt8 t; omega⟩

variable (m : (ℓ : Loc nD τ sig) → Buf (Elt Ideal) ℓ) (c : Dev nD)

/-- The arguments. -/
abbrev heads : FVec Ideal S4096x2048 .f32 := m ((c.tc : Thread nD τ).loc main_arg0)
abbrev weight : FVec Ideal S2048x2048 .f32 := m ((c.tc : Thread nD τ).loc main_arg1)
abbrev residual : FVec Ideal S4096x2048 .f32 := m ((c.tc : Thread nD τ).loc main_arg2)
abbrev scale : FVec Ideal S1x2048 .f32 := m ((c.tc : Thread nD τ).loc main_arg3)

theorem left_eq (i : Fin 4096) (j : Fin 2048) : (V m c main_v0 (ix2 i j) : EReal) = heads m c (ix2 i j) := by
  entry_read
  pointwise

theorem right_eq (i j : Fin 2048) : (V m c main_v1 (ix2 i j) : EReal) = weight m c (ix2 i j) := by
  entry_read
  pointwise

theorem residual_eq : V m c main_arg2 = residual m c := by entry_read; rfl
theorem scale_eq : V m c main_arg3 = scale m c := by entry_read; rfl

theorem left_apply (t : Fin cfg0.N) (r : Fin 512) (k : Fin 2048) : (iblk m c 0 t (ix2 r k) : EReal) = heads m c (ix2 (place t r) k) := by
  refine Eq.trans ?_ (left_eq m c (place t r) k)
  blk_simp [iblk, index0 t]
  refine congrArg (V m c main_v0) ?_
  blk_ext [index0 t, place]

theorem right_apply (t : Fin cfg0.N) (k d : Fin 2048) : (iblk m c 1 t (ix2 k d) : EReal) = weight m c (ix2 k d) := by
  refine Eq.trans ?_ (right_eq m c k d)
  blk_simp [iblk, index1 t]
  refine congrArg (V m c main_v1) ?_
  blk_ext [index1 t]

theorem residual_apply (t : Fin cfg0.N) (r : Fin 512) (d : Fin 2048) : (iblk m c 2 t (ix2 r d) : EReal) = residual m c (ix2 (place t r) d) := by
  rw [← residual_eq]
  blk_simp [iblk, index2 t]
  refine congrArg (V m c main_arg2) ?_
  blk_ext [index2 t, place]

theorem scale_apply (t : Fin cfg0.N) (z : Fin 1) (d : Fin 2048) : (iblk m c 3 t (ix2 z d) : EReal) = scale m c (ix2 z d) := by
  rw [← scale_eq]
  blk_simp [iblk, index3 t]
  refine congrArg (V m c main_arg3) ?_
  blk_ext [index3 t]

theorem block_apply (t : Fin cfg0.N) (r : Fin 512) (d : Fin 2048) : (k0_pay1 (F := Ideal) (iblk m c 0 t) (iblk m c 1 t) (iblk m c 2 t) (ix2 r d) : EReal)
    = result (heads m c) (weight m c) (residual m c) (ix2 (place t r) d) := by
  refine (payload1 _ _ _ r d).trans ?_
  simp only [left_apply, right_apply, residual_apply]
  rfl

theorem block4 (t : Fin cfg0.N) (r : Fin 512) (d : Fin 2048) : (out0_4 (F := Ideal) (iblk m c 0 t) (iblk m c 1 t) (iblk m c 2 t) (iblk m c 3 t) (ix2 r d) : EReal)
    = result (heads m c) (weight m c) (residual m c) (ix2 (place t r) d) := by
  unfold out0_4
  frame_out
  exact block_apply m c t r d

theorem block5 (t : Fin cfg0.N) (r : Fin 512) (d : Fin 2048) : (out0_5 (F := Ideal) (iblk m c 0 t) (iblk m c 1 t) (iblk m c 2 t) (iblk m c 3 t) (ix2 r d) : EReal)
    = normal (heads m c) (weight m c) (residual m c) (scale m c) (ix2 (place t r) d) := by
  unfold out0_5
  frame_out
  refine (payload2 _ _ _ _ r d).trans ?_
  simp only [block_apply, scale_apply]
  rfl

theorem final4 : (dats m 0 c).arrAt 4 cfg0.N = result (heads m c) (weight m c) (residual m c) := by
  refine (dats m 0 c).arrAt_eq_of_covers 4 _ (by decide +kernel) fun t _ j => ?_
  obtain ⟨r, d, rfl⟩ : ∃ (r : Fin 512) (d : Fin 2048), j = ix2 r d := ⟨j 0, j 1, eq_ix2 j⟩
  blk_simp [index4 t]
  rw [after0_4]
  refine (block4 m c t r d).trans ?_
  refine congrArg (result _ _ _) ?_
  blk_ext [index4 t, place]

theorem final5 : (dats m 0 c).arrAt 5 cfg0.N = normal (heads m c) (weight m c) (residual m c) (scale m c) := by
  refine (dats m 0 c).arrAt_eq_of_covers 5 _ (by decide +kernel) fun t _ j => ?_
  obtain ⟨r, d, rfl⟩ : ∃ (r : Fin 512) (d : Fin 2048), j = ix2 r d := ⟨j 0, j 1, eq_ix2 j⟩
  blk_simp [index5 t]
  rw [after0_5]
  refine (block5 m c t r d).trans ?_
  refine congrArg (normal _ _ _ _) ?_
  blk_ext [index5 t, place]

/-- The reference's results. -/
theorem reference (a : FVec Ideal S4096x2048 .f32) (w : FVec Ideal S2048x2048 .f32) (h : FVec Ideal S4096x2048 .f32) :
    addf h (Host.dotGeneral Cert.OutRefIdeal.dot_S4096x2048_S2048x2048_S4096x2048_1_0_0_1_n_n none a w) = result a w h := by
  funext j
  obtain ⟨r, d, rfl⟩ : ∃ (r : Fin 4096) (d : Fin 2048), j = ix2 r d := ⟨j 0, j 1, eq_ix2 j⟩
  pointwise
  rfl

theorem reference_normal (a : FVec Ideal S4096x2048 .f32) (w : FVec Ideal S2048x2048 .f32) (h : FVec Ideal S4096x2048 .f32) (g : FVec Ideal S1x2048 .f32) (hb) :
    truncf .bf16 (Cert.NormBackRefMath.normals (addf h (Host.dotGeneral Cert.OutRefIdeal.dot_S4096x2048_S2048x2048_S4096x2048_1_0_0_1_n_n none a w)) g) hb = normal a w h g := by
  rw [reference]
  funext j
  obtain ⟨r, d, rfl⟩ : ∃ (r : Fin 4096) (d : Fin 2048), j = ix2 r d := ⟨j 0, j 1, eq_ix2 j⟩
  exact Cert.NormBackRefMath.normals_apply (result a w h) g r d

end Cert.OutMath

end
-- ==== Proof.Project.lean ====
/-
  The attention's first product at the extended reals: the kernel takes the weight in four blocks of columns, and the reference multiplies by it
  whole. No entry needs to be finite.
-/
module

public import proofs.«01_k».proof.Proof.Gen.ProjectIdeal.Value
public import proofs.«01_k».proof.Proof.Gen.ProjectRefIdeal.Run
public import Idealize.ShloMosaic.Lib.Pipeline.ValueKit.Point
public import Idealize.ShloMosaic.Lib.Pointwise

@[expose] public section

noncomputable section

namespace Cert.ProjectMath

open Idealize.ShloMosaic Idealize.ShloMosaic.TcCoe Idealize.SL.Sem Cert.ProjectIdeal Cert.ProjectIdeal.Gen

/-- The product of the two arrays. -/
def product (a : FVec Ideal S4096x2048 .f32) (b : FVec Ideal S2048x3072 .f32) : FVec Ideal S4096x3072 .f32 := fun i =>
  (∑ k : Fin 2048, (a (ix2 (i 0 : Fin 4096) k) : EReal) * b (ix2 k (i 1 : Fin 3072)) : EReal)

theorem payload_apply (a : Vec Ideal S1024x2048 .bf16) (b : Vec Ideal S1x2048x768 .bf16) (r : Fin 1024) (d : Fin 768) :
    (k0_pay1 (F := Ideal) a b (ix2 r d) : EReal) = ∑ k : Fin 2048, (a (ix2 r k) : EReal) * b (ix3 (0 : Fin 1) k d) := by
  pointwise [k0_pay1]

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)
theorem lt16 (t : Fin cfg0.N) : t.val < 16 := t.isLt

variable (m : (ℓ : Loc nD τ sig) → Buf (Elt Ideal) ℓ) (c : Dev nD)

theorem left_eq (i : Fin 4096) (j : Fin 2048) : (V m c main_v0 (ix2 i j) : EReal) = m ((c.tc : Thread nD τ).loc main_arg0) (ix2 i j) := by
  entry_read
  pointwise

theorem right_eq (q : Fin 4) (i : Fin 2048) (j : Fin 768) : (V m c main_v3 (ix3 q i j) : EReal)
    = m ((c.tc : Thread nD τ).loc main_arg1) (ix2 i (⟨q * 768 + j, by omega⟩ : Fin 3072)) := by
  entry_read
  pointwise

theorem left_apply (t : Fin cfg0.N) (r : Fin 1024) (k : Fin 2048) : (iblk m c 0 t (ix2 r k) : EReal)
    = m ((c.tc : Thread nD τ).loc main_arg0) (ix2 (⟨t.val / 4 * 1024 + r, by have := lt16 t; omega⟩ : Fin 4096) k) := by
  refine Eq.trans ?_ (left_eq m c _ k)
  blk_simp [iblk, index0 t]
  refine congrArg (V m c main_v0) ?_
  blk_ext [index0 t]

theorem right_apply (t : Fin cfg0.N) (z : Fin 1) (k : Fin 2048) (d : Fin 768) : (iblk m c 1 t (ix3 z k d) : EReal)
    = m ((c.tc : Thread nD τ).loc main_arg1) (ix2 k (⟨t.val % 4 * 768 + d, by omega⟩ : Fin 3072)) := by
  refine Eq.trans ?_ (right_eq m c (⟨t.val % 4, by omega⟩ : Fin 4) k d)
  blk_simp [iblk, index1 t]
  refine congrArg (V m c main_v3) ?_
  blk_ext [index1 t]

theorem block_apply (t : Fin cfg0.N) (r : Fin 1024) (d : Fin 768) : (out0_2 (F := Ideal) (iblk m c 0 t) (iblk m c 1 t) (ix2 r d) : EReal)
    = product (m ((c.tc : Thread nD τ).loc main_arg0)) (m ((c.tc : Thread nD τ).loc main_arg1))
        (ix2 (⟨t.val / 4 * 1024 + r, by have := lt16 t; omega⟩ : Fin 4096) (⟨t.val % 4 * 768 + d, by omega⟩ : Fin 3072)) := by
  unfold out0_2
  frame_out
  refine (payload_apply _ _ r d).trans ?_
  simp only [left_apply, right_apply]
  rfl

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t _ j => ?_
  obtain ⟨r, d, rfl⟩ : ∃ (r : Fin 1024) (d : Fin 768), j = ix2 r d := ⟨j 0, j 1, eq_ix2 j⟩
  blk_simp [index2 t]
  rw [after0_2]
  refine (block_apply m c t r d).trans ?_
  refine congrArg (product _ _) ?_
  blk_ext [index2 t]

/-- The reference's result. -/
theorem reference (a : FVec Ideal S4096x2048 .f32) (b : FVec Ideal S2048x3072 .f32) :
    Host.dotGeneral Cert.ProjectRefIdeal.dot_S4096x2048_S2048x3072_S4096x3072_1_0_0_1_n_n none a b = product a b := by
  funext j
  obtain ⟨r, d, rfl⟩ : ∃ (r : Fin 4096) (d : Fin 3072), j = ix2 r d := ⟨j 0, j 1, eq_ix2 j⟩
  pointwise
  rfl

end Cert.ProjectMath

end
-- ==== Proof.AdamMath.lean ====
/-
  One weight's step of the optimizer, at the extended reals: the two running means and the change of the weight, each as one entry's function of the
  gradient, the weight and the running means. Nothing about the constants but their bits is used, and no entry needs to be finite.
-/
module

public import Idealize.ShloMosaic.Lib.Pointwise

@[expose] public section

noncomputable section

namespace Cert.AdamMath

open Idealize.ShloMosaic

/-- The new running mean of the gradient. -/
def first (g m : EReal) : EReal :=
  (Scalar.ofBits (F := Ideal) .f32 0x3F666666#32 : EReal) * m + (Scalar.ofBits (F := Ideal) .f32 0x3DCCCCCD#32 : EReal) * g

/-- The new running mean of the gradient's square. -/
def second (g v : EReal) : EReal :=
  (Scalar.ofBits (F := Ideal) .f32 0x3F7FBE77#32 : EReal) * v + (Scalar.ofBits (F := Ideal) .f32 0x3A83126F#32 : EReal) * (g * g)

/-- The change of the weight. -/
def change (g w m v : EReal) : EReal :=
  (Scalar.ofBits (F := Ideal) .f32 0xBA83126F#32 : EReal)
    * (Ideal.div (Ideal.div (first g m) (Scalar.ofBits (F := Ideal) .f32 0x3F26BD02#32))
        (Ideal.sqrt (Ideal.div (second g v) (Scalar.ofBits (F := Ideal) .f32 0x3C231ACC#32)) + (Scalar.ofBits (F := Ideal) .f32 0x322BCC77#32 : EReal))
      + (Scalar.ofBits (F := Ideal) .f32 0x3C23D70A#32 : EReal) * w)

/-- The same for whole arrays. -/
def firsts {s : Shape} (g m : FVec Ideal s .f32) : FVec Ideal s .f32 := fun i => first (g i) (m i)
def seconds {s : Shape} (g v : FVec Ideal s .f32) : FVec Ideal s .f32 := fun i => second (g i) (v i)
def changes {s : Shape} (g w m v : FVec Ideal s .f32) : FVec Ideal s .f32 := fun i => change (g i) (w i) (m i) (v i)

end Cert.AdamMath

end
-- ==== Proof.Steps.lean ====
/-
  The optimizer's step for a large weight of any shape, at the extended reals: the sum of the eight parts of its gradient, the step's three results at a
  place of a block and at the place of the array where that lies, and what the reference writes for the same.
-/
module

public import proofs.«01_k».proof.Proof.AdamMath
public import Idealize.ShloMosaic.Lib.Pipeline.ValueKit.Point

@[expose] public section

noncomputable section

namespace Cert.Steps

open Idealize.ShloMosaic Idealize.ShloMosaic.TcCoe Cert.AdamMath

/-- The sum of the eight parts. -/
def total {n k : ℕ} (p : FVec Ideal ⟨3, ![8, n, k]⟩ .f32) : FVec Ideal ⟨2, ![n, k]⟩ .f32 := fun i =>
  (∑ q : Fin 8, (p (ix3 q (i 0 : Fin n) (i 1 : Fin k)) : EReal) : EReal)

section place

variable {s s' : Shape} {g w m v : FVec Ideal s .f32} {g' w' m' v' : FVec Ideal s' .f32} {i : s.Idx} {i' : s'.Idx}
  (hg : (g i : EReal) = g' i') (hw : (w i : EReal) = w' i') (hm : (m i : EReal) = m' i') (hv : (v i : EReal) = v' i')

include hg hm in
theorem firsts_at : (firsts g m i : EReal) = firsts g' m' i' := by rw [firsts, firsts, hg, hm]

include hg hv in
theorem seconds_at : (seconds g v i : EReal) = seconds g' v' i' := by rw [seconds, seconds, hg, hv]

include hg hw hm hv in
theorem changes_at : (changes g w m v i : EReal) = changes g' w' m' v' i' := by rw [changes, changes, hg, hw, hm, hv]

end place

section reference

variable {s : Shape} (b : (⟨0, ![]⟩ : Shape).BroadcastsInDim s ![]) (g w m v : FVec Ideal s .f32)

theorem first_eq : addf (mulf (broadcastInDim s ![] b (constant ⟨0, ![]⟩ .f32 0x3F666666#32)) m) (mulf (broadcastInDim s ![] b (constant ⟨0, ![]⟩ .f32 0x3DCCCCCD#32)) g) = firsts g m := rfl

theorem second_eq : addf (mulf (broadcastInDim s ![] b (constant ⟨0, ![]⟩ .f32 0x3F7FBE77#32)) v) (mulf (broadcastInDim s ![] b (constant ⟨0, ![]⟩ .f32 0x3A83126F#32)) (mulf g g)) = seconds g v := rfl

theorem change_eq : mulf (broadcastInDim s ![] b (constant ⟨0, ![]⟩ .f32 0xBA83126F#32)) (addf (Host.divf (Host.divf (firsts g m) (broadcastInDim s ![] b (constant ⟨0, ![]⟩ .f32 0x3F26BD02#32))) (addf (Host.sqrt (Host.divf (seconds g v) (broadcastInDim s ![] b (constant ⟨0, ![]⟩ .f32 0x3C231ACC#32)))) (broadcastInDim s ![] b (constant ⟨0, ![]⟩ .f32 0x322BCC77#32)))) (mulf (broadcastInDim s ![] b (constant ⟨0, ![]⟩ .f32 0x3C23D70A#32)) w)) = changes g w m v := rfl

theorem total_eq {n k : ℕ} (p : FVec Ideal ⟨3, ![8, n, k]⟩ .f32) (r : (⟨3, ![8, n, k]⟩ : Shape).ReducesTo [0] ⟨2, ![n, k]⟩) (h : 0 < (⟨0, ![]⟩ : Shape).numel) :
    Host.reduceAdd p (constant ⟨0, ![]⟩ .f32 0x00000000#32) r h = total p := by
  funext j
  obtain ⟨x, y, rfl⟩ : ∃ (x : Fin n) (y : Fin k), j = ix2 x y := ⟨j 0, j 1, eq_ix2 j⟩
  pointwise
  rfl

end reference

end Cert.Steps

end
-- ==== Proof.Update.lean ====
/-
  The optimizer's step for the MLP's weights, at one device's shapes: what the kernel's four result arrays end up holding.
-/
module

public import proofs.«01_k».proof.Proof.Gen.UpdateIdeal.Value
public import proofs.«01_k».proof.Proof.Steps

@[expose] public section

noncomputable section

namespace Cert.LargeStep

open Idealize.ShloMosaic Idealize.ShloMosaic.TcCoe Idealize.SL.Sem Cert.UpdateIdeal Cert.UpdateIdeal.Gen Cert.AdamMath Cert.Steps

theorem sum_eight (x0 : Vec Ideal S8x256x1024 .bf16) (x1 x2 x3 : Vec Ideal S256x1024 .f32) (r : Fin 256) (d : Fin 1024) :
    (k0_pay5 (F := Ideal) x0 x1 x2 x3 (ix2 r d) : EReal) = ∑ q : Fin 8, (x0 (ix3 q r d) : EReal) := by
  refine Eq.trans ?_ (Fin.sum_univ_eight _).symm
  pointwise [k0_pay5, k0_pay4]

theorem index0 : ∀ t : Fin cfg0.N, win0_0.index t = ![0, win0_4.index t 0, win0_4.index t 1] := (by decide +kernel : ∀ t : Fin grid0.N, _)

variable (m : (ℓ : Loc nD τ sig) → Buf (Elt Ideal) ℓ) (c : Dev nD)

/-- The parts of the gradient, as the argument has them. -/
abbrev parts : FVec Ideal S8x2048x2048 .f32 := m ((c.tc : Thread nD τ).loc main_arg0)

theorem parts_eq (k : Fin 8) (i : Fin 2048) (j : Fin 2048) : (V m c main_v0 (ix3 k i j) : EReal) = parts m c (ix3 k i j) := by
  entry_read
  pointwise

theorem parts_apply (t : Fin cfg0.N) (k : Fin 8) (r : Fin 256) (d : Fin 1024) : (iblk m c 0 t (ix3 k r d) : EReal)
    = parts m c (ix3 k (((cfg0.win 4).blk t).view.emb (ix2 r d) 0 : Fin 2048) (((cfg0.win 4).blk t).view.emb (ix2 r d) 1 : Fin 2048)) := by
  refine Eq.trans ?_ (parts_eq m c k _ _)
  blk_simp [iblk, index0 t]
  refine congrArg (V m c main_v0) ?_
  blk_ext [index0 t]

theorem total_apply (t : Fin cfg0.N) (j : S256x1024.Idx) :
    (k0_pay5 (F := Ideal) (iblk m c 0 t) (iblk m c 1 t) (iblk m c 2 t) (iblk m c 3 t) j : EReal) = total (parts m c) (((cfg0.win 4).blk t).view.emb j) := by
  obtain ⟨r, d, rfl⟩ : ∃ (r : Fin 256) (d : Fin 1024), j = ix2 r d := ⟨j 0, j 1, eq_ix2 j⟩
  refine (sum_eight _ _ _ _ r d).trans ?_
  simp only [parts_apply]
  rfl

/-- The four result arrays. -/
theorem final4 : (dats m 0 c).arrAt 4 cfg0.N = total (parts m c) := by
  refine (dats m 0 c).arrAt_eq_of_covers 4 _ (by decide +kernel) fun t _ j => ?_
  refine (congrFun (after0_4 m c t) j).trans ?_
  unfold out0_4
  frame_out
  exact total_apply m c t j

theorem final5 : (dats m 0 c).arrAt 5 cfg0.N = changes (total (parts m c)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ j => ?_
  refine (congrFun (after0_5 m c t) j).trans ?_
  unfold out0_5
  frame_out
  exact changes_at (total_apply m c t j) (congrFun (V_main_arg1 m c) _) (congrFun (V_main_arg2 m c) _) (congrFun (V_main_arg3 m c) _)

theorem final6 : (dats m 0 c).arrAt 6 cfg0.N = firsts (total (parts m c)) (m ((c.tc : Thread nD τ).loc main_arg2)) := by
  refine (dats m 0 c).arrAt_eq_of_covers 6 _ (by decide +kernel) fun t _ j => ?_
  refine (congrFun (after0_6 m c t) j).trans ?_
  unfold out0_6
  frame_out
  exact firsts_at (total_apply m c t j) (congrFun (V_main_arg2 m c) _)

theorem final7 : (dats m 0 c).arrAt 7 cfg0.N = seconds (total (parts m c)) (m ((c.tc : Thread nD τ).loc main_arg3)) := by
  refine (dats m 0 c).arrAt_eq_of_covers 7 _ (by decide +kernel) fun t _ j => ?_
  refine (congrFun (after0_7 m c t) j).trans ?_
  unfold out0_7
  frame_out
  exact seconds_at (total_apply m c t j) (congrFun (V_main_arg3 m c) _)

end Cert.LargeStep

end
-- ==== Proof.UpdateIn.lean ====
/-
  The optimizer's step for the attention's first weight, at one device's shapes: what the kernel's four result arrays end up holding.
-/
module

public import proofs.«01_k».proof.Proof.Gen.UpdateInIdeal.Value
public import proofs.«01_k».proof.Proof.Steps

@[expose] public section

noncomputable section

namespace Cert.InStep

open Idealize.ShloMosaic Idealize.ShloMosaic.TcCoe Idealize.SL.Sem Cert.UpdateInIdeal Cert.UpdateInIdeal.Gen Cert.AdamMath Cert.Steps

theorem sum_eight (x0 : Vec Ideal S8x256x768 .bf16) (x1 x2 x3 : Vec Ideal S256x768 .f32) (r : Fin 256) (d : Fin 768) :
    (k0_pay5 (F := Ideal) x0 x1 x2 x3 (ix2 r d) : EReal) = ∑ q : Fin 8, (x0 (ix3 q r d) : EReal) := by
  refine Eq.trans ?_ (Fin.sum_univ_eight _).symm
  pointwise [k0_pay5, k0_pay4]

theorem index0 : ∀ t : Fin cfg0.N, win0_0.index t = ![0, win0_4.index t 0, win0_4.index t 1] := (by decide +kernel : ∀ t : Fin grid0.N, _)

variable (m : (ℓ : Loc nD τ sig) → Buf (Elt Ideal) ℓ) (c : Dev nD)

/-- The parts of the gradient, as the argument has them. -/
abbrev parts : FVec Ideal S8x2048x768 .f32 := m ((c.tc : Thread nD τ).loc main_arg0)

theorem parts_eq (k : Fin 8) (i : Fin 2048) (j : Fin 768) : (V m c main_v0 (ix3 k i j) : EReal) = parts m c (ix3 k i j) := by
  entry_read
  pointwise

theorem parts_apply (t : Fin cfg0.N) (k : Fin 8) (r : Fin 256) (d : Fin 768) : (iblk m c 0 t (ix3 k r d) : EReal)
    = parts m c (ix3 k (((cfg0.win 4).blk t).view.emb (ix2 r d) 0 : Fin 2048) (((cfg0.win 4).blk t).view.emb (ix2 r d) 1 : Fin 768)) := by
  refine Eq.trans ?_ (parts_eq m c k _ _)
  blk_simp [iblk, index0 t]
  refine congrArg (V m c main_v0) ?_
  blk_ext [index0 t]

theorem total_apply (t : Fin cfg0.N) (j : S256x768.Idx) :
    (k0_pay5 (F := Ideal) (iblk m c 0 t) (iblk m c 1 t) (iblk m c 2 t) (iblk m c 3 t) j : EReal) = total (parts m c) (((cfg0.win 4).blk t).view.emb j) := by
  obtain ⟨r, d, rfl⟩ : ∃ (r : Fin 256) (d : Fin 768), j = ix2 r d := ⟨j 0, j 1, eq_ix2 j⟩
  refine (sum_eight _ _ _ _ r d).trans ?_
  simp only [parts_apply]
  rfl

/-- The four result arrays. -/
theorem final4 : (dats m 0 c).arrAt 4 cfg0.N = total (parts m c) := by
  refine (dats m 0 c).arrAt_eq_of_covers 4 _ (by decide +kernel) fun t _ j => ?_
  refine (congrFun (after0_4 m c t) j).trans ?_
  unfold out0_4
  frame_out
  exact total_apply m c t j

theorem final5 : (dats m 0 c).arrAt 5 cfg0.N = changes (total (parts m c)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ j => ?_
  refine (congrFun (after0_5 m c t) j).trans ?_
  unfold out0_5
  frame_out
  exact changes_at (total_apply m c t j) (congrFun (V_main_arg1 m c) _) (congrFun (V_main_arg2 m c) _) (congrFun (V_main_arg3 m c) _)

theorem final6 : (dats m 0 c).arrAt 6 cfg0.N = firsts (total (parts m c)) (m ((c.tc : Thread nD τ).loc main_arg2)) := by
  refine (dats m 0 c).arrAt_eq_of_covers 6 _ (by decide +kernel) fun t _ j => ?_
  refine (congrFun (after0_6 m c t) j).trans ?_
  unfold out0_6
  frame_out
  exact firsts_at (total_apply m c t j) (congrFun (V_main_arg2 m c) _)

theorem final7 : (dats m 0 c).arrAt 7 cfg0.N = seconds (total (parts m c)) (m ((c.tc : Thread nD τ).loc main_arg3)) := by
  refine (dats m 0 c).arrAt_eq_of_covers 7 _ (by decide +kernel) fun t _ j => ?_
  refine (congrFun (after0_7 m c t) j).trans ?_
  unfold out0_7
  frame_out
  exact seconds_at (total_apply m c t j) (congrFun (V_main_arg3 m c) _)

end Cert.InStep

end
-- ==== Proof.UpdateOut.lean ====
/-
  The optimizer's step for the attention's last weight, at one device's shapes: what the kernel's four result arrays end up holding.
-/
module

public import proofs.«01_k».proof.Proof.Gen.UpdateOutIdeal.Value
public import proofs.«01_k».proof.Proof.Steps

@[expose] public section

noncomputable section

namespace Cert.OutStep

open Idealize.ShloMosaic Idealize.ShloMosaic.TcCoe Idealize.SL.Sem Cert.UpdateOutIdeal Cert.UpdateOutIdeal.Gen Cert.AdamMath Cert.Steps

theorem sum_eight (x0 : Vec Ideal S8x256x1024 .bf16) (x1 x2 x3 : Vec Ideal S256x1024 .f32) (r : Fin 256) (d : Fin 1024) :
    (k0_pay5 (F := Ideal) x0 x1 x2 x3 (ix2 r d) : EReal) = ∑ q : Fin 8, (x0 (ix3 q r d) : EReal) := by
  refine Eq.trans ?_ (Fin.sum_univ_eight _).symm
  pointwise [k0_pay5, k0_pay4]

theorem index0 : ∀ t : Fin cfg0.N, win0_0.index t = ![0, win0_4.index t 0, win0_4.index t 1] := (by decide +kernel : ∀ t : Fin grid0.N, _)

variable (m : (ℓ : Loc nD τ sig) → Buf (Elt Ideal) ℓ) (c : Dev nD)

/-- The parts of the gradient, as the argument has them. -/
abbrev parts : FVec Ideal S8x512x2048 .f32 := m ((c.tc : Thread nD τ).loc main_arg0)

theorem parts_eq (k : Fin 8) (i : Fin 512) (j : Fin 2048) : (V m c main_v0 (ix3 k i j) : EReal) = parts m c (ix3 k i j) := by
  entry_read
  pointwise

theorem parts_apply (t : Fin cfg0.N) (k : Fin 8) (r : Fin 256) (d : Fin 1024) : (iblk m c 0 t (ix3 k r d) : EReal)
    = parts m c (ix3 k (((cfg0.win 4).blk t).view.emb (ix2 r d) 0 : Fin 512) (((cfg0.win 4).blk t).view.emb (ix2 r d) 1 : Fin 2048)) := by
  refine Eq.trans ?_ (parts_eq m c k _ _)
  blk_simp [iblk, index0 t]
  refine congrArg (V m c main_v0) ?_
  blk_ext [index0 t]

theorem total_apply (t : Fin cfg0.N) (j : S256x1024.Idx) :
    (k0_pay5 (F := Ideal) (iblk m c 0 t) (iblk m c 1 t) (iblk m c 2 t) (iblk m c 3 t) j : EReal) = total (parts m c) (((cfg0.win 4).blk t).view.emb j) := by
  obtain ⟨r, d, rfl⟩ : ∃ (r : Fin 256) (d : Fin 1024), j = ix2 r d := ⟨j 0, j 1, eq_ix2 j⟩
  refine (sum_eight _ _ _ _ r d).trans ?_
  simp only [parts_apply]
  rfl

/-- The four result arrays. -/
theorem final4 : (dats m 0 c).arrAt 4 cfg0.N = total (parts m c) := by
  refine (dats m 0 c).arrAt_eq_of_covers 4 _ (by decide +kernel) fun t _ j => ?_
  refine (congrFun (after0_4 m c t) j).trans ?_
  unfold out0_4
  frame_out
  exact total_apply m c t j

theorem final5 : (dats m 0 c).arrAt 5 cfg0.N = changes (total (parts m c)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ j => ?_
  refine (congrFun (after0_5 m c t) j).trans ?_
  unfold out0_5
  frame_out
  exact changes_at (total_apply m c t j) (congrFun (V_main_arg1 m c) _) (congrFun (V_main_arg2 m c) _) (congrFun (V_main_arg3 m c) _)

theorem final6 : (dats m 0 c).arrAt 6 cfg0.N = firsts (total (parts m c)) (m ((c.tc : Thread nD τ).loc main_arg2)) := by
  refine (dats m 0 c).arrAt_eq_of_covers 6 _ (by decide +kernel) fun t _ j => ?_
  refine (congrFun (after0_6 m c t) j).trans ?_
  unfold out0_6
  frame_out
  exact firsts_at (total_apply m c t j) (congrFun (V_main_arg2 m c) _)

theorem final7 : (dats m 0 c).arrAt 7 cfg0.N = seconds (total (parts m c)) (m ((c.tc : Thread nD τ).loc main_arg3)) := by
  refine (dats m 0 c).arrAt_eq_of_covers 7 _ (by decide +kernel) fun t _ j => ?_
  refine (congrFun (after0_7 m c t) j).trans ?_
  unfold out0_7
  frame_out
  exact seconds_at (total_apply m c t j) (congrFun (V_main_arg3 m c) _)

end Cert.OutStep

end
-- ==== Proof.UpdateEmbed.lean ====
/-
  The optimizer's step for the embedding's weight, at one device's shapes: what the kernel's four result arrays end up holding.
-/
module

public import proofs.«01_k».proof.Proof.Gen.UpdateEmbedIdeal.Value
public import proofs.«01_k».proof.Proof.Steps

@[expose] public section

noncomputable section

namespace Cert.EmbedStep

open Idealize.ShloMosaic Idealize.ShloMosaic.TcCoe Idealize.SL.Sem Cert.UpdateEmbedIdeal Cert.UpdateEmbedIdeal.Gen Cert.AdamMath Cert.Steps

theorem sum_eight (x0 : Vec Ideal S8x256x512 .bf16) (x1 x2 x3 : Vec Ideal S256x512 .f32) (r : Fin 256) (d : Fin 512) :
    (k0_pay5 (F := Ideal) x0 x1 x2 x3 (ix2 r d) : EReal) = ∑ q : Fin 8, (x0 (ix3 q r d) : EReal) := by
  refine Eq.trans ?_ (Fin.sum_univ_eight _).symm
  pointwise [k0_pay5, k0_pay4]

theorem index0 : ∀ t : Fin cfg0.N, win0_0.index t = ![0, win0_4.index t 0, win0_4.index t 1] := (by decide +kernel : ∀ t : Fin grid0.N, _)

variable (m : (ℓ : Loc nD τ sig) → Buf (Elt Ideal) ℓ) (c : Dev nD)

/-- The parts of the gradient, as the argument has them. -/
abbrev parts : FVec Ideal S8x256x512 .f32 := m ((c.tc : Thread nD τ).loc main_arg0)

theorem parts_eq (k : Fin 8) (i : Fin 256) (j : Fin 512) : (V m c main_v0 (ix3 k i j) : EReal) = parts m c (ix3 k i j) := by
  entry_read
  pointwise

theorem parts_apply (t : Fin cfg0.N) (k : Fin 8) (r : Fin 256) (d : Fin 512) : (iblk m c 0 t (ix3 k r d) : EReal)
    = parts m c (ix3 k (((cfg0.win 4).blk t).view.emb (ix2 r d) 0 : Fin 256) (((cfg0.win 4).blk t).view.emb (ix2 r d) 1 : Fin 512)) := by
  refine Eq.trans ?_ (parts_eq m c k _ _)
  blk_simp [iblk, index0 t]
  refine congrArg (V m c main_v0) ?_
  blk_ext [index0 t]

theorem total_apply (t : Fin cfg0.N) (j : S256x512.Idx) :
    (k0_pay5 (F := Ideal) (iblk m c 0 t) (iblk m c 1 t) (iblk m c 2 t) (iblk m c 3 t) j : EReal) = total (parts m c) (((cfg0.win 4).blk t).view.emb j) := by
  obtain ⟨r, d, rfl⟩ : ∃ (r : Fin 256) (d : Fin 512), j = ix2 r d := ⟨j 0, j 1, eq_ix2 j⟩
  refine (sum_eight _ _ _ _ r d).trans ?_
  simp only [parts_apply]
  rfl

/-- The four result arrays. -/
theorem final4 : (dats m 0 c).arrAt 4 cfg0.N = total (parts m c) := by
  refine (dats m 0 c).arrAt_eq_of_covers 4 _ (by decide +kernel) fun t _ j => ?_
  refine (congrFun (after0_4 m c t) j).trans ?_
  unfold out0_4
  frame_out
  exact total_apply m c t j

theorem final5 : (dats m 0 c).arrAt 5 cfg0.N = changes (total (parts m c)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ j => ?_
  refine (congrFun (after0_5 m c t) j).trans ?_
  unfold out0_5
  frame_out
  exact changes_at (total_apply m c t j) (congrFun (V_main_arg1 m c) _) (congrFun (V_main_arg2 m c) _) (congrFun (V_main_arg3 m c) _)

theorem final6 : (dats m 0 c).arrAt 6 cfg0.N = firsts (total (parts m c)) (m ((c.tc : Thread nD τ).loc main_arg2)) := by
  refine (dats m 0 c).arrAt_eq_of_covers 6 _ (by decide +kernel) fun t _ j => ?_
  refine (congrFun (after0_6 m c t) j).trans ?_
  unfold out0_6
  frame_out
  exact firsts_at (total_apply m c t j) (congrFun (V_main_arg2 m c) _)

theorem final7 : (dats m 0 c).arrAt 7 cfg0.N = seconds (total (parts m c)) (m ((c.tc : Thread nD τ).loc main_arg3)) := by
  refine (dats m 0 c).arrAt_eq_of_covers 7 _ (by decide +kernel) fun t _ j => ?_
  refine (congrFun (after0_7 m c t) j).trans ?_
  unfold out0_7
  frame_out
  exact seconds_at (total_apply m c t j) (congrFun (V_main_arg3 m c) _)

end Cert.EmbedStep

end
-- ==== Proof.UpdateSmall.lean ====
/-
  The optimizer's step for the small weights at the extended reals: what the kernel's three result arrays end up holding.
-/
module

public import proofs.«01_k».proof.Proof.Gen.UpdateSmallIdeal.Value
public import proofs.«01_k».proof.Proof.Steps

@[expose] public section

noncomputable section

namespace Cert.SmallStep

open Idealize.ShloMosaic Idealize.ShloMosaic.TcCoe Idealize.SL.Sem Cert.UpdateSmallIdeal Cert.UpdateSmallIdeal.Gen Cert.AdamMath

variable (g w m v : FVec Ideal S8x2048 .f32)

theorem change_eq : Cert.UpdateSmallIdeal.Value.G4 (F := Ideal) w g m v = changes g w m v := rfl
theorem first_eq : Cert.UpdateSmallIdeal.Value.G5 (F := Ideal) g m = firsts g m := rfl
theorem second_eq : Cert.UpdateSmallIdeal.Value.G6 (F := Ideal) g v = seconds g v := rfl

end Cert.SmallStep

end
-- ==== Proof.Norm.lean ====
/-
  The norm of a matrix's rows at the extended reals: what the kernel's results array ends up holding. No entry needs to be finite.
-/
module

public import proofs.«01_k».proof.Proof.Gen.NormIdeal.Value
public import proofs.«01_k».proof.Proof.Gen.NormRefIdeal.Run
public import proofs.«01_k».proof.Proof.NormBack

@[expose] public section

noncomputable section

namespace Cert.NormRows

open Idealize.ShloMosaic Idealize.ShloMosaic.TcCoe Idealize.SL.Sem Cert.NormIdeal Cert.NormIdeal.Gen
open Cert.NormBackMath (row)

/-- A matrix's rows, each over the root of its mean of squares, times a weight. -/
def normal (x : FVec Ideal S4096x2048 .f32) (g : FVec Ideal S1x2048 .f32) : FVec Ideal S4096x2048 .bf16 := fun i =>
  ((x i : EReal) * NormMath.root (row x (i 0 : Fin 4096)) * g (ix2 (0 : Fin 1) (i 1 : Fin 2048)) : EReal)

theorem payload (v0 : Vec Ideal S256x2048 .f32) (v11 : Vec Ideal S1x2048 .f32) (r : Fin 256) (d : Fin 2048) :
    (k0_pay1 (F := Ideal) v0 v11 (ix2 r d) : EReal) = (v0 (ix2 r d) : EReal) * NormMath.root (row v0 r) * v11 (ix2 (0 : Fin 1) d) := by
  pointwise [k0_pay1]
  rw [NormMath.ofBits_width, NormMath.ofBits_eps]
  rfl

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem lt16 (t : Fin cfg0.N) : t.val < 16 := t.isLt

/-- The row of the whole matrix where a block's row lies. -/
def place (t : Fin cfg0.N) (r : Fin 256) : Fin 4096 := ⟨t.val * 256 + r, by have := lt16 t; omega⟩

variable (m : (ℓ : Loc nD τ sig) → Buf (Elt Ideal) ℓ) (c : Dev nD)

/-- The arguments. -/
abbrev x : FVec Ideal S4096x2048 .f32 := m ((c.tc : Thread nD τ).loc main_arg0)
abbrev g : FVec Ideal S1x2048 .f32 := m ((c.tc : Thread nD τ).loc main_arg1)

theorem x_eq : V m c main_arg0 = x m c := by entry_read; rfl
theorem g_eq : V m c main_arg1 = g m c := by entry_read; rfl

theorem x_apply (t : Fin cfg0.N) (r : Fin 256) (d : Fin 2048) : (iblk m c 0 t (ix2 r d) : EReal) = x m c (ix2 (place t r) d) := by
  rw [← x_eq]
  blk_simp [iblk, index0 t]
  refine congrArg (V m c main_arg0) ?_
  blk_ext [index0 t, place]

theorem g_apply (t : Fin cfg0.N) (z : Fin 1) (d : Fin 2048) : (iblk m c 1 t (ix2 z d) : EReal) = g m c (ix2 z d) := by
  rw [← g_eq]
  blk_simp [iblk, index1 t]
  refine congrArg (V m c main_arg1) ?_
  blk_ext [index1 t]

theorem row_eq (t : Fin cfg0.N) (r : Fin 256) : row (iblk m c 0 t) r = row (x m c) (place t r) := funext fun k => x_apply m c t r k

theorem block_apply (t : Fin cfg0.N) (r : Fin 256) (d : Fin 2048) : (out0_2 (F := Ideal) (iblk m c 0 t) (iblk m c 1 t) (ix2 r d) : EReal)
    = normal (x m c) (g m c) (ix2 (place t r) d) := by
  unfold out0_2
  frame_out
  refine (payload _ _ r d).trans ?_
  rw [row_eq, x_apply, g_apply]
  rfl

theorem final : (dats m 0 c).arrAt 2 cfg0.N = normal (x m c) (g m c) := by
  refine (dats m 0 c).arrAt_eq_of_covers 2 _ (by decide +kernel) fun t _ j => ?_
  obtain ⟨r, d, rfl⟩ : ∃ (r : Fin 256) (d : Fin 2048), j = ix2 r d := ⟨j 0, j 1, eq_ix2 j⟩
  blk_simp [index2 t]
  rw [after0_2]
  refine (block_apply m c t r d).trans ?_
  refine congrArg (normal _ _) ?_
  blk_ext [index2 t, place]

/-- The reference's result. -/
theorem reference (x : FVec Ideal S4096x2048 .f32) (g : FVec Ideal S1x2048 .f32) (hb) : truncf .bf16 (Cert.NormBackRefMath.normals x g) hb = normal x g := by
  funext j
  obtain ⟨r, d, rfl⟩ : ∃ (r : Fin 4096) (d : Fin 2048), j = ix2 r d := ⟨j 0, j 1, eq_ix2 j⟩
  exact Cert.NormBackRefMath.normals_apply x g r d

end Cert.NormRows

end
-- ==== Proof.InputBack.lean ====
/-
  The attention's first norm's gradient at the extended reals: what the kernel's two results arrays end up holding.
  Its blocks compute what the other norm's gradient computes, so the lemmas of that one are used again. No entry needs to be finite.
-/
module

public import proofs.«01_k».proof.Proof.Gen.InputBackIdeal.Value
public import proofs.«01_k».proof.Proof.NormBack

@[expose] public section

noncomputable section

namespace Cert.InputBackMath

open Idealize.ShloMosaic Idealize.ShloMosaic.TcCoe Idealize.SL.Sem Cert.InputBackIdeal Cert.InputBackIdeal.Gen Cert.Entries
open Cert.NormBackMath (row scaled input term termAt weight)

theorem payload4 (v0 v1 : Vec Ideal S256x2048 .f32) (v12 : Vec Ideal S1x2048 .f32) (v25 : Vec Ideal S256x2048 .f32) (r : Fin 256) (d : Fin 2048) :
    (k0_pay4 (F := Ideal) v0 v1 v12 v25 (ix2 r d) : EReal) = (v25 (ix2 r d) : EReal) + NormMath.direct (row v0 r) (scaled v1 v12 r) d :=
  Eq.trans (b := Cert.NormBackIdeal.Gen.k0_pay4 (F := Ideal) v0 v1 v12 v25 (ix2 r d)) rfl (Cert.NormBackMath.payload4 v0 v1 v12 v25 r d)

theorem payload6 (v0 v1 : Vec Ideal S256x2048 .f32) (z : Fin 1) (d : Fin 2048) :
    (k0_pay5 (F := Ideal) v0 v1 (ix2 z d) : EReal) = ∑ r : Fin 256, term v0 v1 r d :=
  Eq.trans (b := Cert.NormBackIdeal.Gen.k0_pay6 (F := Ideal) v0 v1 (ix2 z d)) rfl (Cert.NormBackMath.payload6 v0 v1 z d)

theorem payload1 (v32 v39 : Vec Ideal S1x2048 .f32) (z : Fin 1) (d : Fin 2048) :
    (k0_pay1 (F := Ideal) v32 v39 (ix2 z d) : EReal) = (v39 (ix2 z d) : EReal) + v32 (ix2 z d) :=
  Eq.trans (b := Cert.NormBackIdeal.Gen.k0_pay1 (F := Ideal) v32 v39 (ix2 z d)) rfl (Cert.NormBackMath.payload1 v32 v39 z d)

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem lt16 (t : Fin cfg0.N) : t.val < 16 := t.isLt

/-- The row of the whole matrix where a block's row lies. -/
def place (t : Fin cfg0.N) (r : Fin 256) : Fin 4096 := ⟨t.val * 256 + r, by have := lt16 t; omega⟩

variable (m : (ℓ : Loc nD τ sig) → Buf (Elt Ideal) ℓ) (c : Dev nD)

/-- The arguments. -/
abbrev x : FVec Ideal S4096x2048 .f32 := m ((c.tc : Thread nD τ).loc main_arg0)
abbrev y : FVec Ideal S4096x2048 .f32 := m ((c.tc : Thread nD τ).loc main_arg1)
abbrev g : FVec Ideal S1x2048 .f32 := m ((c.tc : Thread nD τ).loc main_arg2)
abbrev a : FVec Ideal S4096x2048 .f32 := m ((c.tc : Thread nD τ).loc main_arg3)

theorem x_eq : V m c main_arg0 = x m c := by entry_read; rfl
theorem y_eq : V m c main_arg1 = y m c := by entry_read; rfl
theorem g_eq : V m c main_arg2 = g m c := by entry_read; rfl
theorem a_eq : V m c main_arg3 = a m c := by entry_read; rfl

theorem x_apply (t : Fin cfg0.N) (r : Fin 256) (d : Fin 2048) : (iblk m c 0 t (ix2 r d) : EReal) = x m c (ix2 (place t r) d) := by
  rw [← x_eq]
  blk_simp [iblk, index0 t]
  refine congrArg (V m c main_arg0) ?_
  blk_ext [index0 t, place]

theorem y_apply (t : Fin cfg0.N) (r : Fin 256) (d : Fin 2048) : (iblk m c 1 t (ix2 r d) : EReal) = y m c (ix2 (place t r) d) := by
  rw [← y_eq]
  blk_simp [iblk, index1 t]
  refine congrArg (V m c main_arg1) ?_
  blk_ext [index1 t, place]

theorem g_apply (t : Fin cfg0.N) (z : Fin 1) (d : Fin 2048) : (iblk m c 2 t (ix2 z d) : EReal) = g m c (ix2 z d) := by
  rw [← g_eq]
  blk_simp [iblk, index2 t]
  refine congrArg (V m c main_arg2) ?_
  blk_ext [index2 t]

theorem a_apply (t : Fin cfg0.N) (r : Fin 256) (d : Fin 2048) : (iblk m c 3 t (ix2 r d) : EReal) = a m c (ix2 (place t r) d) := by
  rw [← a_eq]
  blk_simp [iblk, index3 t]
  refine congrArg (V m c main_arg3) ?_
  blk_ext [index3 t, place]

theorem row_eq (t : Fin cfg0.N) (r : Fin 256) : row (iblk m c 0 t) r = row (x m c) (place t r) := funext fun k => x_apply m c t r k

theorem scaled_eq (t : Fin cfg0.N) (r : Fin 256) : scaled (iblk m c 1 t) (iblk m c 2 t) r = scaled (y m c) (g m c) (place t r) :=
  funext fun k => congrArg₂ (· * · : EReal → EReal → EReal) (y_apply m c t r k) (g_apply m c t 0 k)

theorem input_at (t : Fin cfg0.N) (r : Fin 256) (d : Fin 2048) :
    (k0_pay4 (F := Ideal) (iblk m c 0 t) (iblk m c 1 t) (iblk m c 2 t) (iblk m c 3 t) (ix2 r d) : EReal)
      = input (x m c) (y m c) (g m c) (a m c) (ix2 (place t r) d) := by
  refine (payload4 _ _ _ _ r d).trans ?_
  rw [row_eq, scaled_eq, a_apply]
  rfl

theorem weight_at (t : Fin cfg0.N) (z : Fin 1) (d : Fin 2048) : (k0_pay5 (F := Ideal) (iblk m c 0 t) (iblk m c 1 t) (ix2 z d) : EReal)
    = ∑ r : Fin 256, termAt (x m c) (y m c) d (t.val * 256 + r) := by
  refine (payload6 _ _ z d).trans (Finset.sum_congr rfl fun r _ => ?_)
  have := lt16 t
  rw [termAt, dif_pos (by omega), term, row_eq, x_apply, y_apply]
  rfl

theorem out4 (t : Fin cfg0.N) (r : Fin 256) (d : Fin 2048) : ((outsAt0 m c t.val t.isLt).1 (ix2 r d) : EReal)
    = input (x m c) (y m c) (g m c) (a m c) (ix2 (place t r) d) := by
  have := lt16 t
  by_cases h : t.val % 16 = 0
  · rw [outsAt0_A m c t h (by omega)]
    frame_out
    exact input_at m c t r d
  · rw [outsAt0_B m c t h (by omega)]
    frame_out
    exact input_at m c t r d

theorem out5_next (t : Fin cfg0.N) (h : ¬t.val % 16 = 0) (z : Fin 1) (d : Fin 2048) : ((outsAt0 m c t.val t.isLt).2 (ix2 z d) : EReal)
    = ((outsAt0 m c (t.val - 1) (by omega)).2 (ix2 z d) : EReal) + ∑ r : Fin 256, termAt (x m c) (y m c) d (t.val * 256 + r) := by
  rw [outsAt0_B m c t h (by omega)]
  frame_out
  exact (payload1 _ _ z d).trans (congrArg (_ + · : EReal → EReal) (weight_at m c t z d))

theorem out5 (n : ℕ) (hn : n < cfg0.N) (z : Fin 1) (d : Fin 2048) : ((outsAt0 m c n hn).2 (ix2 z d) : EReal)
    = ∑ k ∈ Finset.range ((n + 1) * 256), termAt (x m c) (y m c) d k := by
  induction n with
  | zero =>
    have e := outsAt0_A m c ⟨0, hn⟩ rfl (by show ¬1 ≤ 0; omega)
    simp only at e
    rw [e]
    frame_out
    refine (weight_at m c ⟨0, hn⟩ z d).trans ?_
    rw [sum_block]
    simp
  | succ n ih =>
    have hn' : n + 1 < 16 := hn
    refine (out5_next m c ⟨n + 1, hn⟩ (by show ¬(n + 1) % 16 = 0; omega) z d).trans ?_
    simp only [Nat.add_sub_cancel]
    rw [ih (by omega), sum_block _ _ (n + 1)]

theorem final4 : (dats m 0 c).arrAt 4 cfg0.N = input (x m c) (y m c) (g m c) (a m c) := by
  refine (dats m 0 c).arrAt_eq_of_covers 4 _ (by decide +kernel) fun t _ j => ?_
  obtain ⟨r, d, rfl⟩ : ∃ (r : Fin 256) (d : Fin 2048), j = ix2 r d := ⟨j 0, j 1, eq_ix2 j⟩
  blk_simp [index4 t]
  rw [after0_4]
  refine (out4 m c t r d).trans ?_
  refine congrArg (input _ _ _ _) ?_
  blk_ext [index4 t, place]

theorem final5 : (dats m 0 c).arrAt 5 cfg0.N = weight (x m c) (y m c) := by
  refine (dats m 0 c).arrAt_eq_of_covers 5 _ (by decide +kernel) fun t hf j => ?_
  obtain ⟨z, d, rfl⟩ : ∃ (z : Fin 1) (d : Fin 2048), j = ix2 z d := ⟨j 0, j 1, eq_ix2 j⟩
  have h : t.val = 15 := by
    have := (flush0_5 t).mp hf
    have := lt16 t
    omega
  blk_simp [index5 t]
  rw [after0_5]
  refine (out5 m c t.val t.isLt z d).trans ?_
  rw [h]
  refine Eq.trans (b := weight (x m c) (y m c) (ix2 z d)) rfl ?_
  refine congrArg (weight _ _) ?_
  blk_ext [index5 t]

end Cert.InputBackMath

end
-- ==== Proof.Embed.lean ====
/-
  The per-layer embedding's product at the extended reals: the kernel takes the weight in four blocks of columns, and the reference multiplies by it
  whole. No entry needs to be finite.
-/
module

public import proofs.«01_k».proof.Proof.Gen.EmbedIdeal.Value
public import proofs.«01_k».proof.Proof.Gen.EmbedRefIdeal.Run
public import Idealize.ShloMosaic.Lib.Pipeline.ValueKit.Point
public import Idealize.ShloMosaic.Lib.Pointwise

@[expose] public section

noncomputable section

namespace Cert.EmbedMath

open Idealize.ShloMosaic Idealize.ShloMosaic.TcCoe Idealize.SL.Sem Cert.EmbedIdeal Cert.EmbedIdeal.Gen

/-- The product of the two arrays. -/
def product (a : FVec Ideal S4096x256 .f32) (b : FVec Ideal S256x2048 .f32) : FVec Ideal S4096x2048 .f32 := fun i =>
  (∑ k : Fin 256, (a (ix2 (i 0 : Fin 4096) k) : EReal) * b (ix2 k (i 1 : Fin 2048)) : EReal)

theorem payload_apply (a : Vec Ideal S1024x256 .bf16) (b : Vec Ideal S1x256x512 .bf16) (r : Fin 1024) (d : Fin 512) :
    (k0_pay1 (F := Ideal) a b (ix2 r d) : EReal) = ∑ k : Fin 256, (a (ix2 r k) : EReal) * b (ix3 (0 : Fin 1) k d) := by
  pointwise [k0_pay1]

theorem index0 : ∀ t : Fin cfg0.N, win0_0.index t = ![t.val / 4, 0] := (by decide +kernel : ∀ t : Fin grid0.N, _)
theorem index1 : ∀ t : Fin cfg0.N, win0_1.index t = ![t.val % 4, 0, 0] := (by decide +kernel : ∀ t : Fin grid0.N, _)
theorem index2 : ∀ t : Fin cfg0.N, win0_2.index t = ![t.val / 4, t.val % 4] := (by decide +kernel : ∀ t : Fin grid0.N, _)
theorem lt16 (t : Fin cfg0.N) : t.val < 16 := t.isLt

variable (m : (ℓ : Loc nD τ sig) → Buf (Elt Ideal) ℓ) (c : Dev nD)

theorem left_eq (i : Fin 4096) (j : Fin 256) : (V m c main_v0 (ix2 i j) : EReal) = m ((c.tc : Thread nD τ).loc main_arg0) (ix2 i j) := by
  entry_read
  pointwise

theorem right_eq (q : Fin 4) (i : Fin 256) (j : Fin 512) : (V m c main_v3 (ix3 q i j) : EReal)
    = m ((c.tc : Thread nD τ).loc main_arg1) (ix2 i (⟨q * 512 + j, by omega⟩ : Fin 2048)) := by
  entry_read
  pointwise

theorem left_apply (t : Fin cfg0.N) (r : Fin 1024) (k : Fin 256) : (iblk m c 0 t (ix2 r k) : EReal)
    = m ((c.tc : Thread nD τ).loc main_arg0) (ix2 (⟨t.val / 4 * 1024 + r, by have := lt16 t; omega⟩ : Fin 4096) k) := by
  refine Eq.trans ?_ (left_eq m c _ k)
  blk_simp [iblk, index0 t]
  refine congrArg (V m c main_v0) ?_
  blk_ext [index0 t]

theorem right_apply (t : Fin cfg0.N) (z : Fin 1) (k : Fin 256) (d : Fin 512) : (iblk m c 1 t (ix3 z k d) : EReal)
    = m ((c.tc : Thread nD τ).loc main_arg1) (ix2 k (⟨t.val % 4 * 512 + d, by omega⟩ : Fin 2048)) := by
  refine Eq.trans ?_ (right_eq m c (⟨t.val % 4, by omega⟩ : Fin 4) k d)
  blk_simp [iblk, index1 t]
  refine congrArg (V m c main_v3) ?_
  blk_ext [index1 t]

theorem block_apply (t : Fin cfg0.N) (r : Fin 1024) (d : Fin 512) : (out0_2 (F := Ideal) (iblk m c 0 t) (iblk m c 1 t) (ix2 r d) : EReal)
    = product (m ((c.tc : Thread nD τ).loc main_arg0)) (m ((c.tc : Thread nD τ).loc main_arg1))
        (ix2 (⟨t.val / 4 * 1024 + r, by have := lt16 t; omega⟩ : Fin 4096) (⟨t.val % 4 * 512 + d, by omega⟩ : Fin 2048)) := by
  unfold out0_2
  frame_out
  refine (payload_apply _ _ r d).trans ?_
  simp only [left_apply, right_apply]
  rfl

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t _ j => ?_
  obtain ⟨r, d, rfl⟩ : ∃ (r : Fin 1024) (d : Fin 512), j = ix2 r d := ⟨j 0, j 1, eq_ix2 j⟩
  blk_simp [index2 t]
  rw [after0_2]
  refine (block_apply m c t r d).trans ?_
  refine congrArg (product _ _) ?_
  blk_ext [index2 t]

/-- The reference's result. -/
theorem reference (a : FVec Ideal S4096x256 .f32) (b : FVec Ideal S256x2048 .f32) :
    Host.dotGeneral Cert.EmbedRefIdeal.dot_S4096x256_S256x2048_S4096x2048_1_0_0_1_n_n none a b = product a b := by
  funext j
  obtain ⟨r, d, rfl⟩ : ∃ (r : Fin 4096) (d : Fin 2048), j = ix2 r d := ⟨j 0, j 1, eq_ix2 j⟩
  pointwise
  rfl

end Cert.EmbedMath

end
-- ==== Proof.EmbedWeight.lean ====
/-
  The gradient of the per-layer embedding's weight at the extended reals, in four blocks of columns: the kernel adds each up over two blocks of rows
  in a scratch array, and the reference computes the whole gradient at once and splits it. No entry needs to be finite.
-/
module

public import proofs.«01_k».proof.Proof.Gen.EmbedWeightIdeal.Value
public import proofs.«01_k».proof.Proof.Gen.EmbedWeightRefIdeal.Run
public import proofs.«01_k».proof.Proof.Entries
public import Idealize.ShloMosaic.Lib.Pipeline.ValueKit.Point
public import Idealize.ShloMosaic.Lib.Pointwise

@[expose] public section

noncomputable section

namespace Cert.EmbedWeightMath

open Idealize.ShloMosaic Idealize.ShloMosaic.TcCoe Idealize.SL.Sem Cert.EmbedWeightIdeal Cert.EmbedWeightIdeal.Gen Cert.Entries

/-- One term of an entry of the product of the first array, transposed, with the second. -/
def term (a : FVec Ideal S4096x256 .f32) (b : FVec Ideal S4096x2048 .f32) (i j k : ℕ) : EReal := entry a k i * entry b k j

/-- The product, in four blocks of columns. -/
def product (a : FVec Ideal S4096x256 .f32) (b : FVec Ideal S4096x2048 .f32) : FVec Ideal S4x256x512 .bf16 := fun i =>
  (∑ k ∈ Finset.range 4096, term a b (i 1 : Fin 256) ((i 0 : Fin 4) * 512 + (i 2 : Fin 512)) k : EReal)

theorem payload1 (a : Vec Ideal S2048x256 .bf16) (b : Vec Ideal S2048x512 .bf16) (r : Fin 256) (d : Fin 512) :
    (k0_pay1 (F := Ideal) a b (ix2 r d) : EReal) = ∑ k : Fin 2048, (a (ix2 k r) : EReal) * b (ix2 k d) := by
  pointwise [k0_pay1]

theorem payload2 (a : Vec Ideal S2048x256 .bf16) (b : Vec Ideal S2048x512 .bf16) (r : Fin 256) (d : Fin 512) :
    (k0_pay2 (F := Ideal) a b (ix2 r d) : EReal) = k0_pay1 (F := Ideal) a b (ix2 r d) := by
  pointwise [k0_pay2]

theorem payload3 (a : Vec Ideal S2048x256 .bf16) (b : Vec Ideal S2048x512 .bf16) (s : Vec Ideal S256x512 .f32) (r : Fin 256) (d : Fin 512) :
    (k0_pay3 (F := Ideal) a b s (ix2 r d) : EReal) = (s (ix2 r d) : EReal) + k0_pay1 (F := Ideal) a b (ix2 r d) := by
  pointwise [k0_pay3]

theorem payload4 (s : Vec Ideal S256x512 .f32) (z : Fin 1) (r : Fin 256) (d : Fin 512) :
    (k0_pay4 (F := Ideal) s (ix3 z r d) : EReal) = s (ix2 r d) := by
  pointwise [k0_pay4]

theorem index0 : ∀ t : Fin cfg0.N, win0_0.index t = ![t.val % 2, 0] := (by decide +kernel : ∀ t : Fin grid0.N, _)
theorem index1 : ∀ t : Fin cfg0.N, win0_1.index t = ![t.val % 2, t.val / 2] := (by decide +kernel : ∀ t : Fin grid0.N, _)
theorem index2 : ∀ t : Fin cfg0.N, win0_2.index t = ![t.val / 2, 0, 0] := (by decide +kernel : ∀ t : Fin grid0.N, _)
theorem lt8 (t : Fin cfg0.N) : t.val < 8 := t.isLt

variable (m : (ℓ : Loc nD τ sig) → Buf (Elt Ideal) ℓ) (c : Dev nD)

theorem left_eq (i : Fin 4096) (j : Fin 256) : (V m c main_v0 (ix2 i j) : EReal) = m ((c.tc : Thread nD τ).loc main_arg0) (ix2 i j) := by
  entry_read
  pointwise

theorem right_eq (i : Fin 4096) (j : Fin 2048) : (V m c main_v1 (ix2 i j) : EReal) = m ((c.tc : Thread nD τ).loc main_arg1) (ix2 i j) := by
  entry_read
  pointwise

theorem left_apply (t : Fin cfg0.N) (k : Fin 2048) (r : Fin 256) : (iblk m c 0 t (ix2 k r) : EReal)
    = entry (e := .f32) (m ((c.tc : Thread nD τ).loc main_arg0)) (t.val % 2 * 2048 + k) (r) := by
  have := lt8 t
  refine Eq.trans ?_ ((left_eq m c (⟨t.val % 2 * 2048 + k, by omega⟩ : Fin 4096) r).trans (entry_fin _ _ _))
  blk_simp [iblk, index0 t]
  refine congrArg (V m c main_v0) ?_
  blk_ext [index0 t]

theorem right_apply (t : Fin cfg0.N) (k : Fin 2048) (d : Fin 512) : (iblk m c 1 t (ix2 k d) : EReal)
    = entry (e := .f32) (m ((c.tc : Thread nD τ).loc main_arg1)) (t.val % 2 * 2048 + k) (t.val / 2 * 512 + d) := by
  have := lt8 t
  refine Eq.trans ?_ ((right_eq m c (⟨t.val % 2 * 2048 + k, by omega⟩ : Fin 4096) (⟨t.val / 2 * 512 + d, by omega⟩ : Fin 2048)).trans (entry_fin _ _ _))
  blk_simp [iblk, index1 t]
  refine congrArg (V m c main_v1) ?_
  blk_ext [index1 t]

/-- One term of the entry at a place of the block of a grid point. -/
abbrev here (t : ℕ) (r : Fin 256) (d : Fin 512) (k : ℕ) : EReal :=
  term (m ((c.tc : Thread nD τ).loc main_arg0)) (m ((c.tc : Thread nD τ).loc main_arg1)) (r) (t / 2 * 512 + d) k

theorem step (t : Fin cfg0.N) (r : Fin 256) (d : Fin 512) : (k0_pay1 (F := Ideal) (iblk m c 0 t) (iblk m c 1 t) (ix2 r d) : EReal)
    = ∑ k : Fin 2048, here m c t r d (t.val % 2 * 2048 + k) := by
  refine (payload1 _ _ r d).trans ?_
  simp only [left_apply, right_apply]
  rfl

theorem scratch_first (t : Fin cfg0.N) (h : t.val % 2 = 0) (r : Fin 256) (d : Fin 512) : ((outsAt0 m c t.val t.isLt).2 (ix2 r d) : EReal)
    = ∑ k : Fin 2048, here m c t r d (0 * 2048 + k) := by
  rw [outsAt0_A m c t h (by omega) (by omega)]
  frame_out
  refine (payload2 _ _ r d).trans ((step m c t r d).trans ?_)
  rw [h]

theorem result_at (t : Fin cfg0.N) (h : t.val % 2 = 1) (z : Fin 1) (r : Fin 256) (d : Fin 512) : ((outsAt0 m c t.val t.isLt).1 (ix3 z r d) : EReal)
    = ∑ k ∈ Finset.range 4096, here m c t r d k := by
  have e2 : (t.val - 1) / 2 = t.val / 2 := by omega
  have e := scratch_first m c ⟨t.val - 1, by omega⟩ (by show (t.val - 1) % 2 = 0; omega) r d
  have e3 := step m c t r d
  simp only [here, e2] at e
  rw [h] at e3
  rw [outsAt0_B m c t (by omega) h h]
  frame_out
  refine (payload4 _ z r d).trans (((payload3 _ _ _ r d).trans (congrArg₂ (· + · : EReal → EReal → EReal) ((congrFun (Memref.IsWhole.read_unread _ _) _).trans e) e3)).trans ?_)
  exact sum_two (here m c t r d) 2048

theorem final : (dats m 0 c).arrAt 2 cfg0.N = product (m ((c.tc : Thread nD τ).loc main_arg0)) (m ((c.tc : Thread nD τ).loc main_arg1)) := by
  refine (dats m 0 c).arrAt_eq_of_covers 2 _ (by decide +kernel) fun t hf j => ?_
  obtain ⟨z, r, d, rfl⟩ : ∃ (z : Fin 1) (r : Fin 256) (d : Fin 512), j = ix3 z r d := ⟨j 0, j 1, j 2, eq_ix3 j⟩
  have := lt8 t
  blk_simp [index2 t]
  rw [after0_2]
  refine (result_at m c t ((flush0_2 t).mp hf) z r d).trans ?_
  refine Eq.trans (b := product (m ((c.tc : Thread nD τ).loc main_arg0)) (m ((c.tc : Thread nD τ).loc main_arg1))
    (ix3 (⟨t.val / 2, by omega⟩ : Fin 4) r d)) rfl ?_
  refine congrArg (product _ _) ?_
  blk_ext [index2 t]

end Cert.EmbedWeightMath

namespace Cert.EmbedWeightRefMath

open Idealize.ShloMosaic Idealize.ShloMosaic.TcCoe Idealize.SL.Sem Cert.EmbedWeightRefIdeal Cert.EmbedWeightRefIdeal.Gen Cert.EmbedWeightMath Cert.Entries

/-- The whole gradient as the reference computes it. -/
def whole (a : FVec Ideal S4096x256 .f32) (b : FVec Ideal S4096x2048 .f32) : FVec Ideal S256x2048 .f32 :=
  transpose S256x2048 [1, 0] (Host.dotGeneral dot_S4096x2048_S4096x256_S2048x256_0_0_1_1_n_n none b a) transposes_S2048x256_S256x2048_1_0

theorem whole_apply (a : FVec Ideal S4096x256 .f32) (b : FVec Ideal S4096x2048 .f32) (i : Fin 256) (j : Fin 2048) :
    (whole a b (ix2 i j) : EReal) = ∑ k ∈ Finset.range 4096, term a b i j k := by
  have e : (∑ k : Fin 4096, (b (ix2 k j) : EReal) * a (ix2 k i)) = ∑ k : Fin 4096, term a b i j k :=
    Finset.sum_congr rfl fun k _ => (mul_comm _ _).trans (congrArg₂ (· * · : EReal → EReal → EReal) (entry_fin a k i) (entry_fin b k j))
  rw [← sum_first] at e
  refine Eq.trans ?_ e
  pointwise [whole]

/-- A matrix's four blocks of columns, stacked as the reference stacks them. -/
def stack (w : FVec Ideal S256x2048 .f32) : FVec Ideal S4x256x512 .bf16 :=
  truncf .bf16 ((concatenate S4x256x512 0
    [⟨S1x256x512, ((broadcastInDim S1x256x512 ![1, 2] bcast_S256x512_S1x256x512_1_2 (extractStridedSlice S256x512 ![0, 0] w slices_S256x2048_S256x512_0_0)) : (⟨S1x256x512, .f32⟩ : BufTy).Contents (Elt Ideal))⟩,
     ⟨S1x256x512, ((broadcastInDim S1x256x512 ![1, 2] bcast_S256x512_S1x256x512_1_2 (extractStridedSlice S256x512 ![0, 512] w slices_S256x2048_S256x512_0_512)) : (⟨S1x256x512, .f32⟩ : BufTy).Contents (Elt Ideal))⟩,
     ⟨S1x256x512, ((broadcastInDim S1x256x512 ![1, 2] bcast_S256x512_S1x256x512_1_2 (extractStridedSlice S256x512 ![0, 1024] w slices_S256x2048_S256x512_0_1024)) : (⟨S1x256x512, .f32⟩ : BufTy).Contents (Elt Ideal))⟩,
     ⟨S1x256x512, ((broadcastInDim S1x256x512 ![1, 2] bcast_S256x512_S1x256x512_1_2 (extractStridedSlice S256x512 ![0, 1536] w slices_S256x2048_S256x512_0_1536)) : (⟨S1x256x512, .f32⟩ : BufTy).Contents (Elt Ideal))⟩]
    concatenates_S1x256x512_S1x256x512_S1x256x512_S1x256x512_S4x256x512_d0 : (⟨S4x256x512, .f32⟩ : BufTy).Contents (Elt Ideal))) bitsLt_bf16_f32

theorem stack_apply (w : FVec Ideal S256x2048 .f32) (q : Fin 4) (i : Fin 256) (j : Fin 512) :
    (stack w (ix3 q i j) : EReal) = w (ix2 i (⟨q * 512 + j, by omega⟩ : Fin 2048)) := by
  fin_cases q
  all_goals
    pointwise [stack]

/-- The reference's result. -/
theorem reference (a : FVec Ideal S4096x256 .f32) (b : FVec Ideal S4096x2048 .f32) : stack (whole a b) = product a b := by
  funext j
  obtain ⟨q, r, d, rfl⟩ : ∃ (q : Fin 4) (r : Fin 256) (d : Fin 512), j = ix3 q r d := ⟨j 0, j 1, j 2, eq_ix3 j⟩
  rw [stack_apply, whole_apply]
  rfl

end Cert.EmbedWeightRefMath

end
-- ==== Proof.Calls.lean ====
/-
  The step's products, the norm and its gradients, the loss with its gradients, and the optimizer's steps: each reference leaves its arguments as they were, and each kernel computes what its reference does.
-/
module

public import proofs.«01_k».proof.Defs
public import proofs.«01_k».proof.Proof.DownWeight
public import proofs.«01_k».proof.Proof.UpWeight
public import proofs.«01_k».proof.Proof.UpInput
public import proofs.«01_k».proof.Proof.Up
public import proofs.«01_k».proof.Proof.Down
public import proofs.«01_k».proof.Proof.NormBack
public import proofs.«01_k».proof.Proof.TailRef
public import proofs.«01_k».proof.Proof.GateInput
public import proofs.«01_k».proof.Proof.GateWeight
public import proofs.«01_k».proof.Proof.InWeight
public import proofs.«01_k».proof.Proof.Gate
public import proofs.«01_k».proof.Proof.Out
public import proofs.«01_k».proof.Proof.Project
public import proofs.«01_k».proof.Proof.Update
public import proofs.«01_k».proof.Proof.UpdateIn
public import proofs.«01_k».proof.Proof.UpdateOut
public import proofs.«01_k».proof.Proof.UpdateEmbed
public import proofs.«01_k».proof.Proof.Gen.UpdateRefIdeal.Run
public import proofs.«01_k».proof.Proof.Gen.UpdateInRefIdeal.Run
public import proofs.«01_k».proof.Proof.Gen.UpdateOutRefIdeal.Run
public import proofs.«01_k».proof.Proof.Gen.UpdateEmbedRefIdeal.Run
public import proofs.«01_k».proof.Proof.Gen.UpdateSmallRefIdeal.Run
public import proofs.«01_k».proof.Proof.UpdateSmall
public import proofs.«01_k».proof.Proof.Norm
public import proofs.«01_k».proof.Proof.InputBack
public import proofs.«01_k».proof.Proof.Embed
public import proofs.«01_k».proof.Proof.EmbedWeight
public import Idealize.ShloMosaic.Adequacy
public import Idealize.ShloMosaic.Init
public import Idealize.ShloMosaic.Lib.StableHlo.RunHlo

@[expose] public section

noncomputable section

namespace Cert.Calls

open Idealize.ShloMosaic Idealize.ShloMosaic.TcCoe Idealize.SL.Sem

section

variable {nD : Nat} {τ : Topo} {sig : RefSig} {Val : EltTy → Type} {Λ : Labels} {D : Defs nD τ sig Val Λ}
  {p : (c : Thread nD τ) → Prog (TpuEff nD τ sig Val Λ c.2) PUnit} {s : MemSt nD τ sig Val}

/-- A program without semaphores ends with none of them counting. -/
theorem quiet {A K : PUnit × MemSt nD τ sig Val → Dev nD → Prop} (h : sig.nSem + sig.nDmaSem = 0) (k : ∀ r c, A r c → K r c)
    (run : θ_run D p s fun r => ∀ c, A r c) : θ_run D p s fun r => (∀ c, K r c) ∧ r.2.sem = fun _ => 0 :=
  θ_run_mono run fun r hr => ⟨fun c => k r c (hr c), sem_eq_zero_of_no_sems h r.2⟩

/-- What a run's array holds may be named otherwise. -/
theorem named {ℓ : Dev nD → Loc nD τ sig} {v w : (c : Dev nD) → Buf Val (ℓ c)} {K L : PUnit × MemSt nD τ sig Val → Dev nD → Prop}
    (run : θ_run D p s fun r => ∀ c, r.2.mem (ℓ c) = v c ∧ K r c) (e : ∀ c, v c = w c) (k : ∀ r c, K r c → L r c) :
    θ_run D p s fun r => ∀ c, r.2.mem (ℓ c) = w c ∧ L r c :=
  θ_run_mono run fun r h c => ⟨(h c).1.trans (e c), k r c (h c).2⟩

end

theorem frame_down_weight : Cert.quiescent_DownWeightRefIdeal := fun m ρ _ =>
  quiet (by decide) (fun _ _ h => h.2) (Cert.DownWeightRefIdeal.Value.run (F := Ideal) m ρ)

theorem frame_up_weight : Cert.quiescent_UpWeightRefIdeal := fun m ρ _ =>
  quiet (by decide) (fun _ _ h => h.2) (Cert.UpWeightRefIdeal.Value.run (F := Ideal) m ρ)

theorem frame_up_input : Cert.quiescent_UpInputRefIdeal := fun m ρ _ =>
  quiet (by decide) (fun _ _ h => h.2) (Cert.UpInputRefIdeal.Value.run (F := Ideal) m ρ)

theorem frame_up : Cert.quiescent_UpRefIdeal := fun m ρ _ =>
  quiet (by decide) (fun _ _ h => h.2.2) (Cert.UpRefIdeal.Value.run (F := Ideal) m ρ)

theorem frame_down : Cert.quiescent_DownRefIdeal := fun m ρ _ =>
  quiet (by decide) (fun _ _ h => h.2) (Cert.DownRefIdeal.Value.run (F := Ideal) m ρ)

theorem frame_norm_back : Cert.quiescent_NormBackRefIdeal := fun m ρ _ =>
  quiet (by decide) (fun _ _ h => h.2.2.2) (Cert.NormBackRefIdeal.Value.run (F := Ideal) m ρ)

theorem frame_tail : Cert.quiescent_TailRefIdeal := fun m ρ _ =>
  quiet (by decide) (fun _ _ h => h.2.2.2.2.2.2) (Cert.TailRefIdeal.Value.run (F := Ideal) m ρ)

theorem frame_gate_input : Cert.quiescent_GateInputRefIdeal := fun m ρ _ =>
  quiet (by decide) (fun _ _ h => h.2) (Cert.GateInputRefIdeal.Value.run (F := Ideal) m ρ)

theorem frame_gate_weight : Cert.quiescent_GateWeightRefIdeal := fun m ρ _ =>
  quiet (by decide) (fun _ _ h => h.2) (Cert.GateWeightRefIdeal.Value.run (F := Ideal) m ρ)

theorem frame_in_weight : Cert.quiescent_InWeightRefIdeal := fun m ρ _ =>
  quiet (by decide) (fun _ _ h => h.2) (Cert.InWeightRefIdeal.Value.run (F := Ideal) m ρ)

theorem frame_gate : Cert.quiescent_GateRefIdeal := fun m ρ _ =>
  quiet (by decide) (fun _ _ h => h.2) (Cert.GateRefIdeal.Value.run (F := Ideal) m ρ)

theorem frame_out : Cert.quiescent_OutRefIdeal := fun m ρ _ =>
  quiet (by decide) (fun _ _ h => h.2.2) (Cert.OutRefIdeal.Value.run (F := Ideal) m ρ)

theorem frame_project : Cert.quiescent_ProjectRefIdeal := fun m ρ _ =>
  quiet (by decide) (fun _ _ h => h.2) (Cert.ProjectRefIdeal.Value.run (F := Ideal) m ρ)

theorem frame_update : Cert.quiescent_UpdateRefIdeal := fun m ρ _ =>
  quiet (by decide) (fun _ _ h => h.2.2.2.2) (Cert.UpdateRefIdeal.Value.run (F := Ideal) m ρ)

theorem frame_update_in : Cert.quiescent_UpdateInRefIdeal := fun m ρ _ =>
  quiet (by decide) (fun _ _ h => h.2.2.2.2) (Cert.UpdateInRefIdeal.Value.run (F := Ideal) m ρ)

theorem frame_update_out : Cert.quiescent_UpdateOutRefIdeal := fun m ρ _ =>
  quiet (by decide) (fun _ _ h => h.2.2.2.2) (Cert.UpdateOutRefIdeal.Value.run (F := Ideal) m ρ)

theorem frame_update_embed : Cert.quiescent_UpdateEmbedRefIdeal := fun m ρ _ =>
  quiet (by decide) (fun _ _ h => h.2.2.2.2) (Cert.UpdateEmbedRefIdeal.Value.run (F := Ideal) m ρ)

theorem frame_update_small : Cert.quiescent_UpdateSmallRefIdeal := fun m ρ _ =>
  quiet (by decide) (fun _ _ h => h.2.2.2) (Cert.UpdateSmallRefIdeal.Value.run (F := Ideal) m ρ)

theorem frame_norm : Cert.quiescent_NormRefIdeal := fun m ρ _ =>
  quiet (by decide) (fun _ _ h => h.2) (Cert.NormRefIdeal.Value.run (F := Ideal) m ρ)

theorem frame_input_back : Cert.quiescent_InputBackRefIdeal := fun m ρ _ =>
  quiet (by decide) (fun _ _ h => h.2.2) (Cert.InputBackRefIdeal.Value.run (F := Ideal) m ρ)

theorem frame_embed : Cert.quiescent_EmbedRefIdeal := fun m ρ _ =>
  quiet (by decide) (fun _ _ h => h.2) (Cert.EmbedRefIdeal.Value.run (F := Ideal) m ρ)

theorem frame_embed_weight : Cert.quiescent_EmbedWeightRefIdeal := fun m ρ _ =>
  quiet (by decide) (fun _ _ h => h.2) (Cert.EmbedWeightRefIdeal.Value.run (F := Ideal) m ρ)

/-- The gradient of the MLP's second weight. -/
theorem down_weight : Cert.algebraic_DownWeightIdeal_DownWeightRefIdeal := fun m g m' g' _ hagree =>
  ⟨_, named (Cert.DownWeightIdeal.Value.run_blocks (F := Ideal) m g) (Cert.DownWeightMath.final m) fun _ _ h => h,
    named (Cert.DownWeightRefIdeal.Value.run (F := Ideal) m' g') (fun c => by
      rw [(hagree c).1, (hagree c).2]
      exact Cert.DownWeightMath.reference _ _ _ _) fun _ _ h => h⟩

/-- The gradient of the MLP's first weight. -/
theorem up_weight : Cert.algebraic_UpWeightIdeal_UpWeightRefIdeal := fun m g m' g' _ hagree =>
  ⟨_, named (Cert.UpWeightIdeal.Value.run_blocks (F := Ideal) m g) (Cert.UpWeightMath.final m) fun _ _ h => h,
    named (Cert.UpWeightRefIdeal.Value.run (F := Ideal) m' g') (fun c => by
      rw [(hagree c).1, (hagree c).2]
      exact Eq.trans (b := Cert.UpWeightRefMath.stack _) rfl (Cert.UpWeightRefMath.reference _ _)) fun _ _ h => h⟩

/-- The gradient of the MLP's input. -/
theorem up_input : Cert.algebraic_UpInputIdeal_UpInputRefIdeal := fun m g m' g' _ hagree =>
  ⟨_, named (Cert.UpInputIdeal.Value.run_blocks (F := Ideal) m g) (Cert.UpInputMath.final m) fun _ _ h => h,
    named (Cert.UpInputRefIdeal.Value.run (F := Ideal) m' g') (fun c => by
      rw [(hagree c).1, (hagree c).2]
      exact Cert.UpInputMath.reference _ _) fun _ _ h => h⟩

/-- The MLP's first product, rectified, and its square. -/
theorem up : Cert.algebraic_UpIdeal_UpRefIdeal := fun m g m' g' _ hagree =>
  ⟨_, _, named (Cert.UpIdeal.Value.run_blocks (F := Ideal) m g) (Cert.UpMath.final2 m) fun _ c h => ⟨h.1.trans (Cert.UpMath.final3 m c), h.2⟩,
    named (Cert.UpRefIdeal.Value.run (F := Ideal) m' g') (fun c => by
      rw [(hagree c).1, (hagree c).2]
      exact Cert.UpMath.reference_squared _ _ _ _) fun _ c h => ⟨h.1.trans (by
      rw [(hagree c).1, (hagree c).2]
      exact Cert.UpMath.reference _ _ _ _), h.2⟩⟩

/-- The MLP's second product, added to what it goes into. -/
theorem down : Cert.algebraic_DownIdeal_DownRefIdeal := fun m g m' g' _ hagree =>
  ⟨_, named (Cert.DownIdeal.Value.run_blocks (F := Ideal) m g) (Cert.DownMath.final m) fun _ _ h => h,
    named (Cert.DownRefIdeal.Value.run (F := Ideal) m' g') (fun c => by
      rw [(hagree c).1, (hagree c).2.1, (hagree c).2.2]
      exact Cert.DownMath.reference _ _ _) fun _ _ h => h⟩

/-- The gradients of the norm's input, in two formats, and of its weight. -/
theorem norm_back : Cert.algebraic_NormBackIdeal_NormBackRefIdeal := fun m g m' g' _ hagree => by
  have input (c : Dev Cert.NormBackIdeal.nD) : Cert.NormBackRefMath.inputs (m' ((c.tc : Thread Cert.NormBackRefIdeal.nD Cert.NormBackRefIdeal.τ).loc Cert.NormBackRefIdeal.main_arg0))
      (m' ((c.tc : Thread Cert.NormBackRefIdeal.nD Cert.NormBackRefIdeal.τ).loc Cert.NormBackRefIdeal.main_arg1))
      (m' ((c.tc : Thread Cert.NormBackRefIdeal.nD Cert.NormBackRefIdeal.τ).loc Cert.NormBackRefIdeal.main_arg3))
      (m' ((c.tc : Thread Cert.NormBackRefIdeal.nD Cert.NormBackRefIdeal.τ).loc Cert.NormBackRefIdeal.main_arg2))
      = Cert.NormBackMath.input (Cert.NormBackMath.x m c) (Cert.NormBackMath.y m c) (Cert.NormBackMath.g m c) (Cert.NormBackMath.a m c) := by
    rw [(hagree c).1, (hagree c).2.1, (hagree c).2.2.1, (hagree c).2.2.2]
    exact Cert.NormBackRefMath.inputs_eq _ _ _ _
  refine ⟨_, _, _, named (Cert.NormBackIdeal.Value.run_blocks (F := Ideal) m g) (Cert.NormBackMath.final4 m)
      fun _ c h => ⟨h.1.trans (Cert.NormBackMath.final5 m c), h.2.1.trans (Cert.NormBackMath.final6 m c), h.2.2⟩,
    named (Cert.NormBackRefIdeal.Value.run (F := Ideal) m' g') input fun _ c h => ⟨h.1.trans (input c), h.2.1.trans ?_, h.2.2⟩⟩
  refine Eq.trans (b := Cert.NormBackRefMath.weights _ _) rfl ?_
  rw [(hagree c).1, (hagree c).2.1]
  exact Cert.NormBackRefMath.weights_eq _ _

/-- The loss, and its gradients. -/
theorem tail : Cert.algebraic_TailIdeal_TailRefIdeal := fun m g m' g' _ hagree => by
  refine ⟨_, _, _, _, _, _, named (Cert.TailIdeal.Value.run_blocks (F := Ideal) m g) (Cert.TailRead.final6 m)
      fun _ c h => ⟨h.1.trans (Cert.TailRead.final7 m c), h.2.1.trans (Cert.TailRead.final8 m c), h.2.2.1.trans (Cert.TailRead.final9 m c),
        h.2.2.2.1.trans (Cert.TailRead.final10 m c), h.2.2.2.2.1.trans (Cert.TailRead.final11 m c), h.2.2.2.2.2⟩,
    named (Cert.TailRefIdeal.Value.run (F := Ideal) m' g') (fun c => ?_)
      fun _ c h => ⟨h.1.trans ?_, h.2.1.trans ?_, h.2.2.1.trans ?_, h.2.2.2.1.trans ?_, h.2.2.2.2.1.trans ?_, h.2.2.2.2.2⟩⟩
  · refine Eq.trans (b := Cert.TailRefRead.backs _ _ _ _ _ _) rfl ?_
    rw [(hagree c).1, (hagree c).2.1, (hagree c).2.2.1, (hagree c).2.2.2.1, (hagree c).2.2.2.2.1, (hagree c).2.2.2.2.2]
    exact Cert.TailRefRead.backs_eq _ _ _ _ _ _
  · refine Eq.trans (b := Cert.TailRefRead.turneds _ _ _ _ _ _) rfl ?_
    rw [(hagree c).1, (hagree c).2.1, (hagree c).2.2.1, (hagree c).2.2.2.1, (hagree c).2.2.2.2.1, (hagree c).2.2.2.2.2]
    exact Cert.TailRefRead.turneds_eq _ _ _ _ _ _
  · refine Eq.trans (b := Cert.TailRefRead.outers _ _ _ _ _ _) rfl ?_
    rw [(hagree c).1, (hagree c).2.1, (hagree c).2.2.1, (hagree c).2.2.2.1, (hagree c).2.2.2.2.1, (hagree c).2.2.2.2.2]
    exact Cert.TailRefRead.outers_eq _ _ _ _ _ _
  · refine Eq.trans (b := Cert.NormBackRefMath.weights (Cert.TailRefRead.deeps _ _ _ _) (Cert.TailRefRead.heads _ _ _ _ _ _)) rfl ?_
    rw [(hagree c).1, (hagree c).2.1, (hagree c).2.2.1, (hagree c).2.2.2.1, (hagree c).2.2.2.2.1, (hagree c).2.2.2.2.2]
    exact Cert.TailRefRead.lasts_eq _ _ _ _ _ _
  · refine Eq.trans (b := Cert.NormBackRefMath.weights _ (Cert.TailRefRead.plains _ _ _ _ _ _)) rfl ?_
    rw [(hagree c).1, (hagree c).2.1, (hagree c).2.2.1, (hagree c).2.2.2.1, (hagree c).2.2.2.2.1, (hagree c).2.2.2.2.2]
    exact Cert.TailRefRead.firsts_eq _ _ _ _ _ _
  · refine Eq.trans (b := Cert.TailRefRead.losses _ _ _ _ _ _) rfl ?_
    rw [(hagree c).1, (hagree c).2.1, (hagree c).2.2.1, (hagree c).2.2.2.1, (hagree c).2.2.2.2.1, (hagree c).2.2.2.2.2]
    exact Cert.TailRefRead.losses_eq _ _ _ _ _ _

/-- The gradient that goes back through the gate's product. -/
theorem gate_input : Cert.algebraic_GateInputIdeal_GateInputRefIdeal := fun m g m' g' _ hagree =>
  ⟨_, named (Cert.GateInputIdeal.Value.run_blocks (F := Ideal) m g) (Cert.GateInputMath.final m) fun _ _ h => h,
    named (Cert.GateInputRefIdeal.Value.run (F := Ideal) m' g') (fun c => by
      rw [(hagree c).1, (hagree c).2]
      exact Cert.GateInputMath.reference _ _) fun _ _ h => h⟩

/-- The gradient of the gate's weight. -/
theorem gate_weight : Cert.algebraic_GateWeightIdeal_GateWeightRefIdeal := fun m g m' g' _ hagree =>
  ⟨_, named (Cert.GateWeightIdeal.Value.run_blocks (F := Ideal) m g) (Cert.GateWeightMath.final m) fun _ _ h => h,
    named (Cert.GateWeightRefIdeal.Value.run (F := Ideal) m' g') (fun c => by
      rw [(hagree c).1, (hagree c).2]
      exact Cert.GateWeightMath.reference _ _ _ _) fun _ _ h => h⟩

/-- The gradient of the attention's first weight. -/
theorem in_weight : Cert.algebraic_InWeightIdeal_InWeightRefIdeal := fun m g m' g' _ hagree =>
  ⟨_, named (Cert.InWeightIdeal.Value.run_blocks (F := Ideal) m g) (Cert.InWeightMath.final m) fun _ _ h => h,
    named (Cert.InWeightRefIdeal.Value.run (F := Ideal) m' g') (fun c => by
      rw [(hagree c).1, (hagree c).2]
      exact Eq.trans (b := Cert.InWeightRefMath.stack (Cert.InWeightRefMath.whole _ _)) rfl (Cert.InWeightRefMath.reference _ _)) fun _ _ h => h⟩

/-- The gate. -/
theorem gate : Cert.algebraic_GateIdeal_GateRefIdeal := fun m g m' g' _ hagree =>
  ⟨_, named (Cert.GateIdeal.Value.run_blocks (F := Ideal) m g) (Cert.GateMath.final m) fun _ _ h => h,
    named (Cert.GateRefIdeal.Value.run (F := Ideal) m' g') (fun c => by
      rw [(hagree c).1, (hagree c).2]
      exact Cert.GateMath.reference _ _ _) fun _ _ h => h⟩

/-- The attention's last product, added to the residual, and the norm of that. -/
theorem out : Cert.algebraic_OutIdeal_OutRefIdeal := fun m g m' g' _ hagree =>
  ⟨_, _, named (Cert.OutIdeal.Value.run_blocks (F := Ideal) m g) (Cert.OutMath.final4 m) fun _ c h => ⟨h.1.trans (Cert.OutMath.final5 m c), h.2⟩,
    named (Cert.OutRefIdeal.Value.run (F := Ideal) m' g') (fun c => by
      rw [(hagree c).1, (hagree c).2.1, (hagree c).2.2.1]
      exact Cert.OutMath.reference _ _ _) fun _ c h => ⟨h.1.trans (by
      rw [(hagree c).1, (hagree c).2.1, (hagree c).2.2.1, (hagree c).2.2.2]
      exact Eq.trans (by rfl) (Cert.OutMath.reference_normal _ _ _ _ _)), h.2⟩⟩

/-- The attention's first product. -/
theorem project : Cert.algebraic_ProjectIdeal_ProjectRefIdeal := fun m g m' g' _ hagree =>
  ⟨_, named (Cert.ProjectIdeal.Value.run_blocks (F := Ideal) m g) (Cert.ProjectMath.final m) fun _ _ h => h,
    named (Cert.ProjectRefIdeal.Value.run (F := Ideal) m' g') (fun c => by
      rw [(hagree c).1, (hagree c).2]
      exact Cert.ProjectMath.reference _ _) fun _ _ h => h⟩

/-- The step of the MLP's weights, from the parts of their gradient. -/
theorem update : Cert.algebraic_UpdateIdeal_UpdateRefIdeal := fun m g m' g' _ hagree =>
  ⟨_, _, _, _, named (Cert.UpdateIdeal.Value.run_blocks (F := Ideal) m g) (Cert.LargeStep.final4 m) fun _ c h =>
      ⟨h.1.trans (Cert.LargeStep.final5 m c), h.2.1.trans (Cert.LargeStep.final6 m c), h.2.2.1.trans (Cert.LargeStep.final7 m c), h.2.2.2⟩,
    named (Cert.UpdateRefIdeal.Value.run (F := Ideal) m' g') (fun c => by
      rw [(hagree c).1]
      exact Cert.Steps.total_eq _ _ _) fun _ c h => by
        rw [Cert.Steps.total_eq, Cert.Steps.first_eq, Cert.Steps.second_eq, Cert.Steps.change_eq,
          (hagree c).1, (hagree c).2.1, (hagree c).2.2.1, (hagree c).2.2.2] at h
        rw [(hagree c).1, (hagree c).2.1, (hagree c).2.2.1, (hagree c).2.2.2]
        exact h⟩

/-- The step of the attention's first weight. -/
theorem update_in : Cert.algebraic_UpdateInIdeal_UpdateInRefIdeal := fun m g m' g' _ hagree =>
  ⟨_, _, _, _, named (Cert.UpdateInIdeal.Value.run_blocks (F := Ideal) m g) (Cert.InStep.final4 m) fun _ c h =>
      ⟨h.1.trans (Cert.InStep.final5 m c), h.2.1.trans (Cert.InStep.final6 m c), h.2.2.1.trans (Cert.InStep.final7 m c), h.2.2.2⟩,
    named (Cert.UpdateInRefIdeal.Value.run (F := Ideal) m' g') (fun c => by
      rw [(hagree c).1]
      exact Cert.Steps.total_eq _ _ _) fun _ c h => by
        rw [Cert.Steps.total_eq, Cert.Steps.first_eq, Cert.Steps.second_eq, Cert.Steps.change_eq,
          (hagree c).1, (hagree c).2.1, (hagree c).2.2.1, (hagree c).2.2.2] at h
        rw [(hagree c).1, (hagree c).2.1, (hagree c).2.2.1, (hagree c).2.2.2]
        exact h⟩

/-- The step of the attention's last weight and of the gate's. -/
theorem update_out : Cert.algebraic_UpdateOutIdeal_UpdateOutRefIdeal := fun m g m' g' _ hagree =>
  ⟨_, _, _, _, named (Cert.UpdateOutIdeal.Value.run_blocks (F := Ideal) m g) (Cert.OutStep.final4 m) fun _ c h =>
      ⟨h.1.trans (Cert.OutStep.final5 m c), h.2.1.trans (Cert.OutStep.final6 m c), h.2.2.1.trans (Cert.OutStep.final7 m c), h.2.2.2⟩,
    named (Cert.UpdateOutRefIdeal.Value.run (F := Ideal) m' g') (fun c => by
      rw [(hagree c).1]
      exact Cert.Steps.total_eq _ _ _) fun _ c h => by
        rw [Cert.Steps.total_eq, Cert.Steps.first_eq, Cert.Steps.second_eq, Cert.Steps.change_eq,
          (hagree c).1, (hagree c).2.1, (hagree c).2.2.1, (hagree c).2.2.2] at h
        rw [(hagree c).1, (hagree c).2.1, (hagree c).2.2.1, (hagree c).2.2.2]
        exact h⟩

/-- The step of the embedding's weight. -/
theorem update_embed : Cert.algebraic_UpdateEmbedIdeal_UpdateEmbedRefIdeal := fun m g m' g' _ hagree =>
  ⟨_, _, _, _, named (Cert.UpdateEmbedIdeal.Value.run_blocks (F := Ideal) m g) (Cert.EmbedStep.final4 m) fun _ c h =>
      ⟨h.1.trans (Cert.EmbedStep.final5 m c), h.2.1.trans (Cert.EmbedStep.final6 m c), h.2.2.1.trans (Cert.EmbedStep.final7 m c), h.2.2.2⟩,
    named (Cert.UpdateEmbedRefIdeal.Value.run (F := Ideal) m' g') (fun c => by
      rw [(hagree c).1]
      exact Cert.Steps.total_eq _ _ _) fun _ c h => by
        rw [Cert.Steps.total_eq, Cert.Steps.first_eq, Cert.Steps.second_eq, Cert.Steps.change_eq,
          (hagree c).1, (hagree c).2.1, (hagree c).2.2.1, (hagree c).2.2.2] at h
        rw [(hagree c).1, (hagree c).2.1, (hagree c).2.2.1, (hagree c).2.2.2]
        exact h⟩

/-- The step of the small weights. -/
theorem update_small : Cert.algebraic_UpdateSmallIdeal_UpdateSmallRefIdeal := fun m g m' g' _ hagree =>
  ⟨_, _, _, named (Cert.UpdateSmallIdeal.Value.run (F := Ideal) m g) (fun _ => Cert.SmallStep.change_eq _ _ _ _) fun _ _ h =>
      ⟨h.1.trans (Cert.SmallStep.first_eq _ _), h.2.1.trans (Cert.SmallStep.second_eq _ _), h.2.2⟩,
    named (Cert.UpdateSmallRefIdeal.Value.run (F := Ideal) m' g') (fun c => by
      rw [(hagree c).1, (hagree c).2.1, (hagree c).2.2.1, (hagree c).2.2.2, Cert.Steps.first_eq, Cert.Steps.second_eq]
      exact Cert.Steps.change_eq _ _ _ _ _) fun _ c h => by
        rw [Cert.Steps.first_eq, Cert.Steps.second_eq, (hagree c).1, (hagree c).2.1, (hagree c).2.2.1, (hagree c).2.2.2] at h
        rw [(hagree c).1, (hagree c).2.1, (hagree c).2.2.1, (hagree c).2.2.2]
        exact h⟩

/-- The norm of a matrix's rows. -/
theorem norm : Cert.algebraic_NormIdeal_NormRefIdeal := fun m g m' g' _ hagree =>
  ⟨_, named (Cert.NormIdeal.Value.run_blocks (F := Ideal) m g) (Cert.NormRows.final m) fun _ _ h => h,
    named (Cert.NormRefIdeal.Value.run (F := Ideal) m' g') (fun c => by
      rw [(hagree c).1, (hagree c).2]
      exact Eq.trans (by rfl) (Cert.NormRows.reference _ _ _)) fun _ _ h => h⟩

/-- The gradient of the attention's norm, with respect to the layer's input and to the norm's weight. -/
theorem input_back : Cert.algebraic_InputBackIdeal_InputBackRefIdeal := fun m g m' g' _ hagree =>
  ⟨_, _, named (Cert.InputBackIdeal.Value.run_blocks (F := Ideal) m g) (Cert.InputBackMath.final4 m) fun _ c h =>
      ⟨h.1.trans (Cert.InputBackMath.final5 m c), h.2⟩,
    named (Cert.InputBackRefIdeal.Value.run (F := Ideal) m' g') (fun c => by
      rw [(hagree c).1, (hagree c).2.1, (hagree c).2.2.1, (hagree c).2.2.2]
      exact Eq.trans (b := Cert.NormBackRefMath.inputs _ _ _ _) rfl (Cert.NormBackRefMath.inputs_eq _ _ _ _)) fun _ c h =>
      ⟨h.1.trans (by
        rw [(hagree c).1, (hagree c).2.1]
        exact Eq.trans (b := Cert.NormBackRefMath.weights _ _) rfl (Cert.NormBackRefMath.weights_eq _ _)), h.2⟩⟩

/-- The per-layer embedding's product. -/
theorem embed : Cert.algebraic_EmbedIdeal_EmbedRefIdeal := fun m g m' g' _ hagree =>
  ⟨_, named (Cert.EmbedIdeal.Value.run_blocks (F := Ideal) m g) (Cert.EmbedMath.final m) fun _ _ h => h,
    named (Cert.EmbedRefIdeal.Value.run (F := Ideal) m' g') (fun c => by
      rw [(hagree c).1, (hagree c).2]
      exact Cert.EmbedMath.reference _ _) fun _ _ h => h⟩

/-- The gradient of the per-layer embedding's weight. -/
theorem embed_weight : Cert.algebraic_EmbedWeightIdeal_EmbedWeightRefIdeal := fun m g m' g' _ hagree =>
  ⟨_, named (Cert.EmbedWeightIdeal.Value.run_blocks (F := Ideal) m g) (Cert.EmbedWeightMath.final m) fun _ _ h => h,
    named (Cert.EmbedWeightRefIdeal.Value.run (F := Ideal) m' g') (fun c => by
      rw [(hagree c).1, (hagree c).2]
      exact Eq.trans (b := Cert.EmbedWeightRefMath.stack (Cert.EmbedWeightRefMath.whole _ _)) rfl (Cert.EmbedWeightRefMath.reference _ _)) fun _ _ h => h⟩

end Cert.Calls

end
-- ==== Proof.Attend.lean ====
/-
  The attention's forward call: what its body computes for a run of 256 queries, its two output blocks at a grid point, and its two
  results after the last host line, as real numbers. Grid point `t` is key head `t / 4` and query head `t % 4` of that key head.
-/
module

public import proofs.«01_k».proof.Proof.Gen.AttendIdeal.Frame
public import proofs.«01_k».proof.Proof.KernelRead

@[expose] public section

noncomputable section

namespace Cert.AttendRead

open Idealize.ShloMosaic Idealize.ShloMosaic.TcCoe Idealize.SL.Sem Cert.AttendIdeal Cert.AttendIdeal.Gen
open Cert.RealIdeal Cert.AttnMath

/-! ### The mathematics -/

/-- The logarithm of the sum of exponentials does not depend on the number taken from the scores first. -/
theorem log_shift (f : Fin 4096 → ℝ) (M : ℝ) : M + Real.log (∑ s, Real.exp (f s - M)) = Real.log (∑ s, Real.exp (f s)) := by
  simp only [Real.exp_sub]
  rw [← Finset.sum_div, Real.log_div (sum_exp_ne_zero f) (Real.exp_pos M).ne', Real.log_exp]
  ring

/-- A power of 2 of a score to base 2, less a number. -/
theorem two_rpow_sub (a M : ℝ) : (2 : ℝ) ^ (a / Real.log 2 - M) = Real.exp (a - M * Real.log 2) := by
  rw [← two_rpow_div_log, sub_div, mul_div_cancel_right₀ _ log_two_ne_zero]

theorem logSum_shift (x : ℕ → ℕ → ℝ) (kb qb i : ℕ) (M : ℝ) :
    M + Real.log (∑ s : Fin 4096, Real.exp (score x kb qb i s - M * Real.log 2)) / Real.log 2 = logSum x kb qb i := by
  have h := log_shift (fun s => score x kb qb i s) (M * Real.log 2)
  rw [logSum, log_shift, ← h, add_div, mul_div_cancel_right₀ _ log_two_ne_zero]

theorem attended_shift (x : ℕ → ℕ → ℝ) (kb qb i d : ℕ) (M : ℝ) :
    (∑ s : Fin 4096, Real.exp (score x kb qb i s - M) * x s (1280 + (kb + d))) / ∑ s : Fin 4096, Real.exp (score x kb qb i s - M)
      = attended x kb qb i d := by
  rw [attended, Finset.sum_div]
  refine Finset.sum_congr rfl fun s _ => ?_
  rw [← weight_shift x kb qb M]
  ring

/-! ### The body's values at a position -/

section payload

variable (k v : FVec Ideal S4096x128 .bf16) (q : FVec Ideal S256x128 .bf16)

theorem score_at (r : Fin 256) (s : Fin 4096) :
    (k0_pay3 (F := Ideal) k q (ix2 r s) : EReal) = ∑ d : Fin 128, (q (ix2 r d) : EReal) * k (ix2 s d) := by
  pointwise [k0_pay3, k0_pay1]

theorem top_at (w : FVec Ideal S256x4096 .f32) (r : Fin 256) (z : Fin 1) :
    (shapeCast S256x1 (multiReduction .maximumf [1] S256 w 0xFF800000#32 reduces_S256x4096_S256 (.inl rfl) rfl) shapeCasts_S256_S256x1 (ix2 r z) : EReal)
      = Finset.fold max (Ideal.ofBits .f32 0xFF800000#32) (fun s : Fin 4096 => (w (ix2 r s) : EReal)) Finset.univ := by
  pointwise

theorem exp_at (r : Fin 256) (s : Fin 4096) :
    (k0_pay5 (F := Ideal) k q (ix2 r s) : EReal) = Ideal.exp2 ((k0_pay3 (F := Ideal) k q (ix2 r s) : EReal) - k0_pay4 (F := Ideal) k q (ix2 r (0 : Fin 1))) := by
  pointwise [k0_pay5]
  rfl

theorem sum_at (r : Fin 256) (z : Fin 1) :
    (k0_pay6 (F := Ideal) k q (ix2 r z) : EReal) = ∑ s : Fin 4096, (k0_pay5 (F := Ideal) k q (ix2 r s) : EReal) := by
  pointwise [k0_pay6]

theorem out_at (r : Fin 256) (d : Fin 128) :
    (k0_pay7 (F := Ideal) k v q (ix2 r d) : EReal)
      = Ideal.div (∑ s : Fin 4096, (k0_pay5 (F := Ideal) k q (ix2 r s) : EReal) * v (ix2 s d)) (k0_pay6 (F := Ideal) k q (ix2 r (0 : Fin 1))) := by
  pointwise [k0_pay7, k0_pay2]

theorem log_at (z : Fin 1) (r : Fin 256) (e : Fin 128) :
    (k0_pay8 (F := Ideal) k q (ix3 z r e) : EReal)
      = (k0_pay4 (F := Ideal) k q (ix2 r (0 : Fin 1)) : EReal)
        + Ideal.div (Ideal.log (k0_pay6 (F := Ideal) k q (ix2 r (0 : Fin 1)))) (Ideal.log (Ideal.ofBits .f32 0x40000000#32)) := by
  pointwise [k0_pay8]

variable {k v q} {x : ℕ → ℕ → ℝ} {kb qb b : ℕ}
  (hk : ∀ (s : Fin 4096) (d : Fin 128), (k (ix2 s d) : EReal) = (x s (1024 + (kb + d)) : EReal))
  (hv : ∀ (s : Fin 4096) (d : Fin 128), (v (ix2 s d) : EReal) = (x s (1280 + (kb + d)) : EReal))
  (hq : ∀ (r : Fin 256) (d : Fin 128), (q (ix2 r d) : EReal) = (x (b + r) (qb + d) * scale / Real.log 2 : ℝ))

include hk hq

theorem score_apply (r : Fin 256) (s : Fin 4096) :
    (k0_pay3 (F := Ideal) k q (ix2 r s) : EReal) = (score x kb qb (b + r) s / Real.log 2 : ℝ) := by
  rw [score_at]
  simp only [hk, hq, ← EReal.coe_mul, sum_coe]
  rw [score_div_log]

theorem top_apply (r : Fin 256) (z : Fin 1) :
    (k0_pay4 (F := Ideal) k q (ix2 r z) : EReal) = (rowMax fun s : Fin 4096 => score x kb qb (b + r) s / Real.log 2 : ℝ) := by
  refine (top_at (k0_pay3 (F := Ideal) k q) r z).trans ?_
  rw [ofBits_neg_inf, ← fold_max_eq]
  simp only [score_apply hk hq]

theorem exp_apply (r : Fin 256) (s : Fin 4096) :
    (k0_pay5 (F := Ideal) k q (ix2 r s) : EReal) = (Real.exp (score x kb qb (b + r) s
      - (rowMax fun s : Fin 4096 => score x kb qb (b + r) s / Real.log 2) * Real.log 2) : ℝ) := by
  rw [exp_at, score_apply hk hq, top_apply hk hq, ← EReal.coe_sub, exp2_coe, two_rpow_sub]

theorem sum_apply (r : Fin 256) (z : Fin 1) :
    (k0_pay6 (F := Ideal) k q (ix2 r z) : EReal) = (∑ s : Fin 4096, Real.exp (score x kb qb (b + r) s
      - (rowMax fun s : Fin 4096 => score x kb qb (b + r) s / Real.log 2) * Real.log 2) : ℝ) := by
  rw [sum_at]
  simp only [exp_apply hk hq, sum_coe]

include hv in
theorem out_apply (r : Fin 256) (d : Fin 128) :
    (k0_pay7 (F := Ideal) k v q (ix2 r d) : EReal) = (attended x kb qb (b + r) d : ℝ) := by
  rw [out_at, sum_apply hk hq]
  simp only [exp_apply hk hq, hv, ← EReal.coe_mul, sum_coe]
  rw [div_coe _ (sum_exp_ne_zero _), attended_shift]

theorem log_apply (z : Fin 1) (r : Fin 256) (e : Fin 128) :
    (k0_pay8 (F := Ideal) k q (ix3 z r e) : EReal) = (logSum x kb qb (b + r) : ℝ) := by
  rw [log_at, sum_apply hk hq, top_apply hk hq, log_coe (sum_exp_pos _), ofBits_two, log_coe two_pos, div_coe _ log_two_ne_zero,
    ← EReal.coe_add, logSum_shift]

end payload

/-! ### The blocks -/

theorem lt8 (t : Fin cfg0.N) : t.val < 8 := t.isLt.trans_eq (by decide)

theorem index0 : ∀ t : Fin cfg0.N, win0_0.index t = ![0, t.val] := (by decide +kernel : ∀ t : Fin grid0.N, _)
theorem index1 : ∀ t : Fin cfg0.N, win0_1.index t = ![0, 8 + t.val / 4] := (by decide +kernel : ∀ t : Fin grid0.N, _)
theorem index2 : ∀ t : Fin cfg0.N, win0_2.index t = ![0, 10 + t.val / 4] := (by decide +kernel : ∀ t : Fin grid0.N, _)
theorem index3 : ∀ t : Fin cfg0.N, win0_3.index t = ![0, t.val] := (by decide +kernel : ∀ t : Fin grid0.N, _)
theorem index4 : ∀ t : Fin cfg0.N, win0_4.index t = ![t.val, 0, 0] := (by decide +kernel : ∀ t : Fin grid0.N, _)

/-- Some rows of a block, from row `o` on. -/
theorem rows_apply {α : EltTy → Type} {e : EltTy} {n : ℕ} (X : S4096x128.Idx → α e) (o : ℕ) (inb) (r : Fin n) (d : Fin 128) (h : o + r.val < 4096) :
    View.ld X (Rect.unit ![o, 0] ![n, 128] inb) (ix2 r d) = X (ix2 (⟨o + r, h⟩ : Fin 4096) d) := by
  refine View.ld_unit_apply_of X _ _ _ _ _ fun a => ?_
  match a with
  | 0 => rfl
  | 1 => exact (Nat.zero_add _).symm

section blocks

variable (m : (ℓ : Loc nD τ sig) → Buf (Elt Ideal) ℓ) (c : Dev nD) (t : Fin cfg0.N)

theorem packed_eq (i : Fin 4096) (j : Fin 3072) :
    (V m c main_v8 (ix2 i j) : EReal) = KernelRead.packed (m ((c.tc : Thread nD τ).loc main_arg0)) (ix2 i j) := by
  entry_read
  rfl

theorem query_block (r : Fin 4096) (d : Fin 128) : (iblk m c 0 t (ix2 r d) : EReal)
    = V m c main_v8 (ix2 r (⟨t.val * 128 + d, by have := lt8 t; omega⟩ : Fin 3072)) := by
  have := lt8 t
  blk_simp [iblk, index0 t]
  refine congrArg (V m c main_v8) ?_
  blk_ext [index0 t]

theorem key_block (s : Fin 4096) (d : Fin 128) : (iblk m c 1 t (ix2 s d) : EReal)
    = V m c main_v8 (ix2 s (⟨(8 + t.val / 4) * 128 + d, by have := lt8 t; omega⟩ : Fin 3072)) := by
  have := lt8 t
  blk_simp [iblk, index1 t]
  refine congrArg (V m c main_v8) ?_
  blk_ext [index1 t]

theorem value_block (s : Fin 4096) (d : Fin 128) : (iblk m c 2 t (ix2 s d) : EReal)
    = V m c main_v8 (ix2 s (⟨(10 + t.val / 4) * 128 + d, by have := lt8 t; omega⟩ : Fin 3072)) := by
  have := lt8 t
  blk_simp [iblk, index2 t]
  refine congrArg (V m c main_v8) ?_
  blk_ext [index2 t]

variable {m c} {x : ℕ → ℕ → ℝ}
  (hx : ∀ (i : Fin 4096) (j : Fin 3072), (m ((c.tc : Thread nD τ).loc main_arg0) (ix2 i j) : EReal) = (x i j : EReal))
include hx

theorem key_apply (inb) (s : Fin 4096) (d : Fin 128) :
    (View.ld (iblk m c 1 t) (Rect.unit ![0, 0] ![4096, 128] inb) (ix2 s d) : EReal) = (x s (1024 + (t / 4 * 128 + d)) : EReal) := by
  have := lt8 t
  refine (rows_apply (iblk m c 1 t) 0 inb s d (by omega)).trans ?_
  rw [key_block, packed_eq]
  refine (KernelRead.packed_rest hx _ _ (by show 1024 ≤ (8 + t.val / 4) * 128 + d.val; omega)).trans ?_
  show ((x (0 + s.val) ((8 + t.val / 4) * 128 + d.val) : ℝ) : EReal) = _
  rw [zero_add]
  congr 2
  omega

theorem value_apply (inb) (s : Fin 4096) (d : Fin 128) :
    (View.ld (iblk m c 2 t) (Rect.unit ![0, 0] ![4096, 128] inb) (ix2 s d) : EReal) = (x s (1280 + (t / 4 * 128 + d)) : EReal) := by
  have := lt8 t
  refine (rows_apply (iblk m c 2 t) 0 inb s d (by omega)).trans ?_
  rw [value_block, packed_eq]
  refine (KernelRead.packed_rest hx _ _ (by show 1024 ≤ (10 + t.val / 4) * 128 + d.val; omega)).trans ?_
  show ((x (0 + s.val) ((10 + t.val / 4) * 128 + d.val) : ℝ) : EReal) = _
  rw [zero_add]
  congr 2
  omega

theorem query_apply (o : ℕ) (inb) (h : o ≤ 3840) (r : Fin 256) (d : Fin 128) :
    (View.ld (iblk m c 0 t) (Rect.unit ![o, 0] ![256, 128] inb) (ix2 r d) : EReal)
      = ((x (o + r) (t / 4 * 512 + t % 4 * 128 + d) * scale / Real.log 2 : ℝ) : EReal) := by
  have := lt8 t
  refine (rows_apply (iblk m c 0 t) o inb r d (by omega)).trans ?_
  rw [query_block, packed_eq]
  refine (KernelRead.packed_query hx _ _ (by show t.val * 128 + d.val < 1024; omega)).trans ?_
  show ((x (o + r.val) (t.val * 128 + d.val) * scale / Real.log 2 : ℝ) : EReal) = _
  congr 4
  omega

/-! ### The two output blocks -/

/-- A run of 256 rows of the result, at the block's own position. -/
theorem out_tile {o : ℕ} {r : Fin 4096} {d : Fin 128} (j : S256x128.Idx) (h0 : r.val = o + (j 0).val) (h1 : d.val = (j 1).val) (h : o ≤ 3840) (inb inb1 inb2) :
    (k0_pay7 (F := Ideal) (View.ld (iblk m c 1 t) (Rect.unit ![0, 0] ![4096, 128] inb1)) (View.ld (iblk m c 2 t) (Rect.unit ![0, 0] ![4096, 128] inb2))
        (View.ld (iblk m c 0 t) (Rect.unit ![o, 0] ![256, 128] inb)) j : EReal)
      = ((attended x (t / 4 * 128) (t / 4 * 512 + t % 4 * 128) r d : ℝ) : EReal) := by
  obtain ⟨r', d', rfl⟩ : ∃ (r' : Fin 256) (d' : Fin 128), j = ix2 r' d' := ⟨j 0, j 1, eq_ix2 j⟩
  have e0 : r.val = o + r'.val := h0
  have e1 : d.val = d'.val := h1
  rw [e0, e1]
  exact out_apply (key_apply t hx inb1) (value_apply t hx inb2) (query_apply t hx o inb h) r' d'

/-- A run of 256 rows of the logarithms, at the block's own position. -/
theorem log_tile {o : ℕ} {r : Fin 4096} (j : S1x256x128.Idx) (h0 : r.val = o + (j 1).val) (h : o ≤ 3840) (inb inb1) :
    (k0_pay8 (F := Ideal) (View.ld (iblk m c 1 t) (Rect.unit ![0, 0] ![4096, 128] inb1))
        (View.ld (iblk m c 0 t) (Rect.unit ![o, 0] ![256, 128] inb)) j : EReal)
      = ((logSum x (t / 4 * 128) (t / 4 * 512 + t % 4 * 128) r : ℝ) : EReal) := by
  obtain ⟨z, r', d', rfl⟩ : ∃ (z : Fin 1) (r' : Fin 256) (d' : Fin 128), j = ix3 z r' d' := ⟨j 0, j 1, j 2, eq_ix3 j⟩
  have e0 : r.val = o + r'.val := h0
  rw [e0]
  exact log_apply (key_apply t hx inb1) (query_apply t hx o inb h) z r' d'

theorem out_block (r : Fin 4096) (d : Fin 128) :
    (out0_3 (F := Ideal) (iblk m c 0 t) (iblk m c 1 t) (iblk m c 2 t) (ix2 r d) : EReal)
      = ((attended x (t / 4 * 128) (t / 4 * 512 + t % 4 * 128) r d : ℝ) : EReal) := by
  unfold out0_3
  canon_tiles j h
  all_goals first
    | exact out_tile t hx j h0 h1 (by omega) _ _ _
    | exact out_tile t hx j (h0.trans (Nat.zero_add _).symm) h1 (by omega) _ _ _

theorem log_block (z : Fin 1) (r : Fin 4096) (e : Fin 128) :
    (out0_4 (F := Ideal) (iblk m c 0 t) (iblk m c 1 t) (iblk m c 2 t) (ix3 z r e) : EReal)
      = ((logSum x (t / 4 * 128) (t / 4 * 512 + t % 4 * 128) r : ℝ) : EReal) := by
  unfold out0_4
  canon_tiles j h
  all_goals first
    | exact log_tile t hx j h1 (by omega) _ _
    | exact log_tile t hx j (h1.trans (Nat.zero_add _).symm) (by omega) _ _

end blocks

end Cert.AttendRead

end
-- ==== Proof.AttendRun.lean ====
/-
  The attention's forward call: its two results at the end of a run, and the reference's, as real numbers, and that they are equal.
-/
module

public import proofs.«01_k».proof.Defs
public import proofs.«01_k».proof.Proof.Gen.AttendRefIdeal.Run
public import proofs.«01_k».proof.Proof.RefRead
public import proofs.«01_k».proof.Proof.Attend

@[expose] public section

noncomputable section

namespace Cert.AttendRead

open Idealize.ShloMosaic Idealize.ShloMosaic.TcCoe Idealize.SL.Sem
open Cert.RealIdeal Cert.AttnMath

section kernel

open Cert.AttendIdeal Cert.AttendIdeal.Gen

/-- What the first output array holds where the blocks cover it. -/
def outs (x : ℕ → ℕ → ℝ) : FVec Ideal S4096x2048 .bf16 := fun p =>
  ((attended x ((p 1).val / 512 * 128) ((p 1).val / 512 * 512 + (p 1).val / 128 % 4 * 128) (p 0) ((p 1).val % 128) : ℝ) : EReal)

theorem flush3 : ∀ t, (cfg0.win 3).flush t = true := by decide +kernel

variable {m : (ℓ : Loc nD τ sig) → Buf (Elt Ideal) ℓ} {c : Dev nD} {x : ℕ → ℕ → ℝ}
  (hx : ∀ (i : Fin 4096) (j : Fin 3072), (m ((c.tc : Thread nD τ).loc main_arg0) (ix2 i j) : EReal) = (x i j : EReal))
include hx

theorem flushed3 (t : Fin cfg0.N) : (dats m 0 c).flushed 3 t = ((cfg0.win 3).blk t).view.read (Elt Ideal) (outs x) := by
  funext p
  obtain ⟨r, d, rfl⟩ : ∃ (r : Fin 4096) (d : Fin 128), p = ix2 r d := ⟨p 0, p 1, eq_ix2 p⟩
  have := lt8 t
  blk_simp [index3 t, outs]
  rw [after0_3]
  refine (out_block t hx r d).trans ?_
  have e1 : (t.val * 128 + d.val) / 512 = t.val / 4 := by omega
  have e2 : (t.val * 128 + d.val) / 128 % 4 = t.val % 4 := by omega
  have e3 : (t.val * 128 + d.val) % 128 = d.val := by omega
  simp [index3 t, e1, e2, Nat.mod_eq_of_lt d.isLt]

/-- The first 1024 columns of the first output array, which are all that the blocks cover. -/
theorem array3 (i : Fin 4096) (j : Fin 2048) (h : j.val < 1024) : ((dats m 0 c).arrAt 3 cfg0.N (ix2 i j) : EReal) = outs x (ix2 i j) := by
  obtain ⟨t, ht⟩ : ∃ t : Fin cfg0.N, t.val = j.val / 128 := ⟨⟨j / 128, by rw [show cfg0.N = 8 by decide]; omega⟩, rfl⟩
  have e : ((cfg0.win 3).blk t).view.emb (ix2 i (⟨j % 128, Nat.mod_lt _ (by norm_num)⟩ : Fin 128)) = ix2 i j := by
    blk_ext [index3 t]
  have h := (dats m 0 c).arrAt_apply_of_mem 3 (outs x) (fun t _ => flushed3 hx t) cfg0.N t _ t.isLt (flush3 t)
    (((cfg0.win 3).blk t).view.emb_mem_set (ix2 i (⟨j % 128, Nat.mod_lt _ (by norm_num)⟩ : Fin 128)))
  rw [e] at h
  exact h

theorem array4 : (dats m 0 c).arrAt 4 cfg0.N = fun i => ((logSum x ((i 0).val / 4 * 128) ((i 0).val / 4 * 512 + (i 0).val % 4 * 128) (i 1) : ℝ) : EReal) := by
  refine (dats m 0 c).arrAt_eq_of_covers 4 _ (by decide +kernel) fun t _ j => ?_
  obtain ⟨z, r, e, rfl⟩ : ∃ (z : Fin 1) (r : Fin 4096) (e : Fin 128), j = ix3 z r e := ⟨j 0, j 1, j 2, eq_ix3 j⟩
  blk_simp [index4 t]
  rw [after0_4]
  refine (log_block t hx z r e).trans ?_
  simp

end kernel

section run

open Cert.AttendIdeal Cert.AttendIdeal.Gen

variable (m : (ℓ : Loc nD τ sig) → Buf (Elt Ideal) ℓ) (ρ : Dev nD → PrngReg)

/-- The first result is the first 1024 columns of the first output array. -/
theorem tail_eq (c : Dev nD) (i : Fin 4096) (j : Fin 1024) :
    (Pipeline.afterTail₀ cfgs (dats m) 0 (V0 m) [hostOps1] c main_v10 (ix2 i j) : EReal)
      = (dats m 0 c).arrAt 3 cfg0.N (ix2 i (⟨j, by omega⟩ : Fin 2048)) := by
  have e := (dats m 0 c).withArrays_arrAt sharedIn0 (V0 m c) (A_eq m c) 3
  unfold Pipeline.afterTail₀
  simp only [List.flatten_cons, List.flatten_nil, List.append_nil]
  after_results_simp
  pointwise
  exact congrFun e _

theorem run : θ_run (Cert.AttendIdeal.defs (F := Ideal)) (onTc (τ := τ) (main (F := Ideal))) ⟨m, fun _ => 0, ρ⟩ fun r => ∀ c : Dev nD,
    r.2.mem ((c.tc : Thread nD τ).loc main_v10) = Pipeline.afterTail₀ cfgs (dats m) 0 (V0 m) [hostOps1] c main_v10
    ∧ r.2.mem ((c.tc : Thread nD τ).loc main_v9_1) = (dats m 0 c).arrAt 4 cfg0.N
    ∧ r.2.mem ((c.tc : Thread nD τ).loc main_arg0) = m ((c.tc : Thread nD τ).loc main_arg0) :=
  (θ_run Cert.AttendIdeal.defs _ _).mono (fun _ h c =>
    ⟨(h c).2 main_v10 (Pipeline.mem_restRefs_of main_v10 (by decide) (by decide)), (h c).1 4,
      ((h c).2 main_arg0 (Pipeline.mem_restRefs_of main_arg0 (by decide) (by decide))).trans (W_main_arg0 m (dats m) c)⟩) (run_main m ρ)

end run

section reference

open Cert.AttendRefIdeal Cert.AttendRefIdeal.Gen

/-- The reference's first result. -/
def out (a : FVec Ideal S4096x3072 .f32) : FVec Ideal S4096x1024 .bf16 :=
  truncf .bf16 (shapeCast _ (transpose S4096x2x4x128 [3, 0, 2, 1] (Host.dotGeneral dot_S4096x2x128_S2x4x4096x4096_S2x128x4x4096_0_3_2_12_1_0 none (RefRead.vs a) (Host.divf (RefRead.exps a) (broadcastInDim S2x4x4096x4096 ![0, 1, 2, 3] bcast_S2x4x4096x1_S2x4x4096x4096_0_1_2_3 (broadcastInDim S2x4x4096x1 ![0, 1, 2] bcast_S2x4x4096_S2x4x4096x1_0_1_2 (RefRead.sums a))))) transposes_S2x128x4x4096_S4096x2x4x128_3_0_2_1) shapeCasts_S4096x2x4x128_S4096x1024 : FVec Ideal S4096x1024 .f32) bitsLt_bf16_f32

/-- The logarithm to base 2 of the sums of the exponentials of the scores, from the greatest scores and the sums taken with them. -/
def logs3 (t u : FVec Ideal S2x4x4096 .f32) : FVec Ideal S2x4x4096 .f32 :=
  Host.divf (addf t (Host.log u)) (broadcastInDim S2x4x4096 ![] bcast_S_S2x4x4096 (Host.log (constant S_ .f32 0x40000000#32)))

/-- An array by key head and query head within it, with one axis for the heads, along 128 lanes. -/
def spread (v : FVec Ideal S2x4x4096 .f32) : FVec Ideal S8x4096x128 .f32 :=
  broadcastInDim S8x4096x128 ![0, 1, 2] bcast_S8x4096x1_S8x4096x128_0_1_2 (shapeCast _ v shapeCasts_S2x4x4096_S8x4096x1)

/-- The reference's second result. -/
def logs (a : FVec Ideal S4096x3072 .f32) : FVec Ideal S8x4096x128 .f32 := spread (logs3 (KernelRead.tops a) (KernelRead.sums a))

variable {a : FVec Ideal S4096x3072 .f32} {x : ℕ → ℕ → ℝ} (hx : ∀ (i : Fin 4096) (j : Fin 3072), (a (ix2 i j) : EReal) = (x i j : EReal))

include hx in
theorem ref_out_apply (i : Fin 4096) (j : Fin 1024) :
    (out a (ix2 i j) : EReal) = (attended x (j / 512 * 128) (j / 512 * 512 + j / 128 % 4 * 128) i (j % 128) : EReal) := by
  pointwise [out]
  simp only [RefRead.exps_apply hx, RefRead.sums_apply hx, RefRead.vs_apply hx, div_coe _ (sum_exp_ne_zero _), ← EReal.coe_mul, sum_coe, weight_shift]
  rfl

theorem logs3_apply (t u : FVec Ideal S2x4x4096 .f32) (kv : Fin 2) (g : Fin 4) (i : Fin 4096) :
    (logs3 t u (ix3 kv g i) : EReal) = Ideal.div (t (ix3 kv g i) + Ideal.log (u (ix3 kv g i))) (Ideal.log (Ideal.ofBits .f32 0x40000000#32)) := by
  pointwise [logs3]

theorem spread_apply (v : FVec Ideal S2x4x4096 .f32) (h : Fin 8) (i : Fin 4096) (l : Fin 128) :
    (spread v (ix3 h i l) : EReal) = v (ix3 (⟨h / 4, by omega⟩ : Fin 2) (⟨h % 4, by omega⟩ : Fin 4) i) := by
  pointwise [spread]

include hx in
theorem ref_logs_apply (h : Fin 8) (i : Fin 4096) (l : Fin 128) :
    (logs a (ix3 h i l) : EReal) = (logSum x (h / 4 * 128) (h / 4 * 512 + h % 4 * 128) i : ℝ) := by
  unfold logs
  rw [spread_apply, logs3_apply, KernelRead.tops_apply hx, KernelRead.sums_apply hx, ofBits_two, log_coe two_pos, log_coe (sum_exp_pos _), ← EReal.coe_add, div_coe _ log_two_ne_zero, logSum]

end reference

end Cert.AttendRead

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.DownWeight
public import proofs.«01_k».proof.Proof.Gen.DownWeight.Skeleton
public import proofs.«01_k».proof.Proof.Gen.DownWeight.Launch
public import proofs.«01_k».proof.Proof.Gen.DownWeight.Points
public import proofs.«01_k».proof.Proof.Gen.DownWeight.Frame
public import proofs.«01_k».proof.Proof.Gen.DownWeightIdeal
public import proofs.«01_k».proof.Proof.Gen.DownWeightIdeal.Skeleton
public import proofs.«01_k».proof.Proof.Gen.DownWeightIdeal.Launch
public import proofs.«01_k».proof.Proof.Gen.DownWeightIdeal.Points
public import proofs.«01_k».proof.Proof.Gen.DownWeightIdeal.Frame
public import proofs.«01_k».proof.Proof.Gen.DownWeightIdeal.Value
public import proofs.«01_k».proof.Proof.Gen.DownWeightRefIdeal
public import proofs.«01_k».proof.Proof.Gen.DownWeightRefIdeal.Run
public import proofs.«01_k».proof.Proof.Gen.UpWeight
public import proofs.«01_k».proof.Proof.Gen.UpWeight.Skeleton
public import proofs.«01_k».proof.Proof.Gen.UpWeight.Launch
public import proofs.«01_k».proof.Proof.Gen.UpWeight.Points
public import proofs.«01_k».proof.Proof.Gen.UpWeight.Frame
public import proofs.«01_k».proof.Proof.Gen.UpWeightIdeal
public import proofs.«01_k».proof.Proof.Gen.UpWeightIdeal.Skeleton
public import proofs.«01_k».proof.Proof.Gen.UpWeightIdeal.Launch
public import proofs.«01_k».proof.Proof.Gen.UpWeightIdeal.Points
public import proofs.«01_k».proof.Proof.Gen.UpWeightIdeal.Frame
public import proofs.«01_k».proof.Proof.Gen.UpWeightIdeal.Value
public import proofs.«01_k».proof.Proof.Gen.UpWeightRefIdeal
public import proofs.«01_k».proof.Proof.Gen.UpWeightRefIdeal.Run
public import proofs.«01_k».proof.Proof.Gen.UpInput
public import proofs.«01_k».proof.Proof.Gen.UpInput.Skeleton
public import proofs.«01_k».proof.Proof.Gen.UpInput.Launch
public import proofs.«01_k».proof.Proof.Gen.UpInput.Points
public import proofs.«01_k».proof.Proof.Gen.UpInput.Frame
public import proofs.«01_k».proof.Proof.Gen.UpInputIdeal
public import proofs.«01_k».proof.Proof.Gen.UpInputIdeal.Skeleton
public import proofs.«01_k».proof.Proof.Gen.UpInputIdeal.Launch
public import proofs.«01_k».proof.Proof.Gen.UpInputIdeal.Points
public import proofs.«01_k».proof.Proof.Gen.UpInputIdeal.Frame
public import proofs.«01_k».proof.Proof.Gen.UpInputIdeal.Value
public import proofs.«01_k».proof.Proof.Gen.UpInputRefIdeal
public import proofs.«01_k».proof.Proof.Gen.UpInputRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.NormBack
public import proofs.«01_k».proof.Proof.Gen.NormBack.Skeleton
public import proofs.«01_k».proof.Proof.Gen.NormBack.Launch
public import proofs.«01_k».proof.Proof.Gen.NormBack.Points
public import proofs.«01_k».proof.Proof.Gen.NormBack.Frame
public import proofs.«01_k».proof.Proof.Gen.NormBackIdeal
public import proofs.«01_k».proof.Proof.Gen.NormBackIdeal.Skeleton
public import proofs.«01_k».proof.Proof.Gen.NormBackIdeal.Launch
public import proofs.«01_k».proof.Proof.Gen.NormBackIdeal.Points
public import proofs.«01_k».proof.Proof.Gen.NormBackIdeal.Frame
public import proofs.«01_k».proof.Proof.Gen.NormBackIdeal.Value
public import proofs.«01_k».proof.Proof.Gen.NormBackRefIdeal
public import proofs.«01_k».proof.Proof.Gen.NormBackRefIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailRefIdeal
public import proofs.«01_k».proof.Proof.Gen.TailRefIdeal.Run
public import proofs.«01_k».proof.Proof.Gen.GateInput
public import proofs.«01_k».proof.Proof.Gen.GateInput.Skeleton
public import proofs.«01_k».proof.Proof.Gen.GateInput.Launch
public import proofs.«01_k».proof.Proof.Gen.GateInput.Points
public import proofs.«01_k».proof.Proof.Gen.GateInput.Frame
public import proofs.«01_k».proof.Proof.Gen.GateInputIdeal
public import proofs.«01_k».proof.Proof.Gen.GateInputIdeal.Skeleton
public import proofs.«01_k».proof.Proof.Gen.GateInputIdeal.Launch
public import proofs.«01_k».proof.Proof.Gen.GateInputIdeal.Points
public import proofs.«01_k».proof.Proof.Gen.GateInputIdeal.Frame
public import proofs.«01_k».proof.Proof.Gen.GateInputIdeal.Value
public import proofs.«01_k».proof.Proof.Gen.GateInputRefIdeal
public import proofs.«01_k».proof.Proof.Gen.GateInputRefIdeal.Run
public import proofs.«01_k».proof.Proof.Gen.GateWeight
public import proofs.«01_k».proof.Proof.Gen.GateWeight.Skeleton
public import proofs.«01_k».proof.Proof.Gen.GateWeight.Launch
public import proofs.«01_k».proof.Proof.Gen.GateWeight.Points
public import proofs.«01_k».proof.Proof.Gen.GateWeight.Frame
public import proofs.«01_k».proof.Proof.Gen.GateWeightIdeal
public import proofs.«01_k».proof.Proof.Gen.GateWeightIdeal.Skeleton
public import proofs.«01_k».proof.Proof.Gen.GateWeightIdeal.Launch
public import proofs.«01_k».proof.Proof.Gen.GateWeightIdeal.Points
public import proofs.«01_k».proof.Proof.Gen.GateWeightIdeal.Frame
public import proofs.«01_k».proof.Proof.Gen.GateWeightIdeal.Value
public import proofs.«01_k».proof.Proof.Gen.GateWeightRefIdeal
public import proofs.«01_k».proof.Proof.Gen.GateWeightRefIdeal.Run
public import proofs.«01_k».proof.Proof.Gen.InWeight
public import proofs.«01_k».proof.Proof.Gen.InWeight.Skeleton
public import proofs.«01_k».proof.Proof.Gen.InWeight.Launch
public import proofs.«01_k».proof.Proof.Gen.InWeight.Points
public import proofs.«01_k».proof.Proof.Gen.InWeight.Frame
public import proofs.«01_k».proof.Proof.Gen.InWeightIdeal
public import proofs.«01_k».proof.Proof.Gen.InWeightIdeal.Skeleton
public import proofs.«01_k».proof.Proof.Gen.InWeightIdeal.Launch
public import proofs.«01_k».proof.Proof.Gen.InWeightIdeal.Points
public import proofs.«01_k».proof.Proof.Gen.InWeightIdeal.Frame
public import proofs.«01_k».proof.Proof.Gen.InWeightIdeal.Value
public import proofs.«01_k».proof.Proof.Gen.InWeightRefIdeal
public import proofs.«01_k».proof.Proof.Gen.InWeightRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.Attend
public import proofs.«01_k».proof.Proof.Gen.Attend.Skeleton
public import proofs.«01_k».proof.Proof.Gen.Attend.Launch
public import proofs.«01_k».proof.Proof.Gen.Attend.Points
public import proofs.«01_k».proof.Proof.Gen.Attend.Frame
public import proofs.«01_k».proof.Proof.Gen.AttendIdeal
public import proofs.«01_k».proof.Proof.Gen.AttendIdeal.Skeleton
public import proofs.«01_k».proof.Proof.Gen.AttendIdeal.Launch
public import proofs.«01_k».proof.Proof.Gen.AttendIdeal.Points
public import proofs.«01_k».proof.Proof.Gen.AttendIdeal.Frame
public import proofs.«01_k».proof.Proof.Gen.AttendRefIdeal
public import proofs.«01_k».proof.Proof.Gen.AttendRefIdeal.Run
public import proofs.«01_k».proof.Proof.Gen.Update
public import proofs.«01_k».proof.Proof.Gen.Update.Skeleton
public import proofs.«01_k».proof.Proof.Gen.Update.Launch
public import proofs.«01_k».proof.Proof.Gen.Update.Points
public import proofs.«01_k».proof.Proof.Gen.Update.Frame
public import proofs.«01_k».proof.Proof.Gen.UpdateIdeal
public import proofs.«01_k».proof.Proof.Gen.UpdateIdeal.Skeleton
public import proofs.«01_k».proof.Proof.Gen.UpdateIdeal.Launch
public import proofs.«01_k».proof.Proof.Gen.UpdateIdeal.Points
public import proofs.«01_k».proof.Proof.Gen.UpdateIdeal.Frame
public import proofs.«01_k».proof.Proof.Gen.UpdateIdeal.Value
public import proofs.«01_k».proof.Proof.Gen.UpdateRefIdeal
public import proofs.«01_k».proof.Proof.Gen.UpdateRefIdeal.Run
public import proofs.«01_k».proof.Proof.Gen.UpdateIn
public import proofs.«01_k».proof.Proof.Gen.UpdateIn.Skeleton
public import proofs.«01_k».proof.Proof.Gen.UpdateIn.Launch
public import proofs.«01_k».proof.Proof.Gen.UpdateIn.Points
public import proofs.«01_k».proof.Proof.Gen.UpdateIn.Frame
public import proofs.«01_k».proof.Proof.Gen.UpdateInIdeal
public import proofs.«01_k».proof.Proof.Gen.UpdateInIdeal.Skeleton
public import proofs.«01_k».proof.Proof.Gen.UpdateInIdeal.Launch
public import proofs.«01_k».proof.Proof.Gen.UpdateInIdeal.Points
public import proofs.«01_k».proof.Proof.Gen.UpdateInIdeal.Frame
public import proofs.«01_k».proof.Proof.Gen.UpdateInIdeal.Value
public import proofs.«01_k».proof.Proof.Gen.UpdateInRefIdeal
public import proofs.«01_k».proof.Proof.Gen.UpdateInRefIdeal.Run
public import proofs.«01_k».proof.Proof.Gen.UpdateOut
public import proofs.«01_k».proof.Proof.Gen.UpdateOut.Skeleton
public import proofs.«01_k».proof.Proof.Gen.UpdateOut.Launch
public import proofs.«01_k».proof.Proof.Gen.UpdateOut.Points
public import proofs.«01_k».proof.Proof.Gen.UpdateOut.Frame
public import proofs.«01_k».proof.Proof.Gen.UpdateOutIdeal
public import proofs.«01_k».proof.Proof.Gen.UpdateOutIdeal.Skeleton
public import proofs.«01_k».proof.Proof.Gen.UpdateOutIdeal.Launch
public import proofs.«01_k».proof.Proof.Gen.UpdateOutIdeal.Points
public import proofs.«01_k».proof.Proof.Gen.UpdateOutIdeal.Frame
public import proofs.«01_k».proof.Proof.Gen.UpdateOutIdeal.Value
public import proofs.«01_k».proof.Proof.Gen.UpdateOutRefIdeal
public import proofs.«01_k».proof.Proof.Gen.UpdateOutRefIdeal.Run
public import proofs.«01_k».proof.Proof.Gen.UpdateEmbed
public import proofs.«01_k».proof.Proof.Gen.UpdateEmbed.Skeleton
public import proofs.«01_k».proof.Proof.Gen.UpdateEmbed.Launch
public import proofs.«01_k».proof.Proof.Gen.UpdateEmbed.Points
public import proofs.«01_k».proof.Proof.Gen.UpdateEmbed.Frame
public import proofs.«01_k».proof.Proof.Gen.UpdateEmbedIdeal
public import proofs.«01_k».proof.Proof.Gen.UpdateEmbedIdeal.Skeleton
public import proofs.«01_k».proof.Proof.Gen.UpdateEmbedIdeal.Launch
public import proofs.«01_k».proof.Proof.Gen.UpdateEmbedIdeal.Points
public import proofs.«01_k».proof.Proof.Gen.UpdateEmbedIdeal.Frame
public import proofs.«01_k».proof.Proof.Gen.UpdateEmbedIdeal.Value
public import proofs.«01_k».proof.Proof.Gen.UpdateEmbedRefIdeal
public import proofs.«01_k».proof.Proof.Gen.UpdateEmbedRefIdeal.Run
public import proofs.«01_k».proof.Proof.Gen.UpdateSmall
public import proofs.«01_k».proof.Proof.Gen.UpdateSmall.Skeleton
public import proofs.«01_k».proof.Proof.Gen.UpdateSmall.Launch
public import proofs.«01_k».proof.Proof.Gen.UpdateSmall.Points
public import proofs.«01_k».proof.Proof.Gen.UpdateSmall.Frame
public import proofs.«01_k».proof.Proof.Gen.UpdateSmallIdeal
public import proofs.«01_k».proof.Proof.Gen.UpdateSmallIdeal.Skeleton
public import proofs.«01_k».proof.Proof.Gen.UpdateSmallIdeal.Launch
public import proofs.«01_k».proof.Proof.Gen.UpdateSmallIdeal.Points
public import proofs.«01_k».proof.Proof.Gen.UpdateSmallIdeal.Frame
public import proofs.«01_k».proof.Proof.Gen.UpdateSmallIdeal.Value
public import proofs.«01_k».proof.Proof.Gen.UpdateSmallRefIdeal
public import proofs.«01_k».proof.Proof.Gen.UpdateSmallRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.InputBack
public import proofs.«01_k».proof.Proof.Gen.InputBack.Skeleton
public import proofs.«01_k».proof.Proof.Gen.InputBack.Launch
public import proofs.«01_k».proof.Proof.Gen.InputBack.Points
public import proofs.«01_k».proof.Proof.Gen.InputBack.Frame
public import proofs.«01_k».proof.Proof.Gen.InputBackIdeal
public import proofs.«01_k».proof.Proof.Gen.InputBackIdeal.Skeleton
public import proofs.«01_k».proof.Proof.Gen.InputBackIdeal.Launch
public import proofs.«01_k».proof.Proof.Gen.InputBackIdeal.Points
public import proofs.«01_k».proof.Proof.Gen.InputBackIdeal.Frame
public import proofs.«01_k».proof.Proof.Gen.InputBackIdeal.Value
public import proofs.«01_k».proof.Proof.Gen.InputBackRefIdeal
public import proofs.«01_k».proof.Proof.Gen.InputBackRefIdeal.Run
public import proofs.«01_k».proof.Proof.Gen.Embed
public import proofs.«01_k».proof.Proof.Gen.Embed.Skeleton
public import proofs.«01_k».proof.Proof.Gen.Embed.Launch
public import proofs.«01_k».proof.Proof.Gen.Embed.Points
public import proofs.«01_k».proof.Proof.Gen.Embed.Frame
public import proofs.«01_k».proof.Proof.Gen.EmbedIdeal
public import proofs.«01_k».proof.Proof.Gen.EmbedIdeal.Skeleton
public import proofs.«01_k».proof.Proof.Gen.EmbedIdeal.Launch
public import proofs.«01_k».proof.Proof.Gen.EmbedIdeal.Points
public import proofs.«01_k».proof.Proof.Gen.EmbedIdeal.Frame
public import proofs.«01_k».proof.Proof.Gen.EmbedIdeal.Value
public import proofs.«01_k».proof.Proof.Gen.EmbedRefIdeal
public import proofs.«01_k».proof.Proof.Gen.EmbedRefIdeal.Run
public import proofs.«01_k».proof.Proof.Gen.EmbedWeight
public import proofs.«01_k».proof.Proof.Gen.EmbedWeight.Skeleton
public import proofs.«01_k».proof.Proof.Gen.EmbedWeight.Launch
public import proofs.«01_k».proof.Proof.Gen.EmbedWeight.Points
public import proofs.«01_k».proof.Proof.Gen.EmbedWeight.Frame
public import proofs.«01_k».proof.Proof.Gen.EmbedWeightIdeal
public import proofs.«01_k».proof.Proof.Gen.EmbedWeightIdeal.Skeleton
public import proofs.«01_k».proof.Proof.Gen.EmbedWeightIdeal.Launch
public import proofs.«01_k».proof.Proof.Gen.EmbedWeightIdeal.Points
public import proofs.«01_k».proof.Proof.Gen.EmbedWeightIdeal.Frame
public import proofs.«01_k».proof.Proof.Gen.EmbedWeightIdeal.Value
public import proofs.«01_k».proof.Proof.Gen.EmbedWeightRefIdeal
public import proofs.«01_k».proof.Proof.Gen.EmbedWeightRefIdeal.Run
public import proofs.«01_k».proof.Proof.Points
public import proofs.«01_k».proof.Proof.RefRead
public import proofs.«01_k».proof.Proof.Calls
public import proofs.«01_k».proof.Proof.AttendRun
public import Idealize.ShloMosaic.Adequacy
public import Idealize.ShloMosaic.Init

@[expose] public section

noncomputable section

namespace Cert.Proof

open Idealize.ShloMosaic Idealize.ShloMosaic.TcCoe Idealize.SL.Sem Cert.RealIdeal

/-- The side conditions of the precondition's operations. -/
theorem finite_facts : Cert.Pre_finite.Facts := ⟨by decide, by decide⟩

/-- An element of which the precondition's comparison with infinity is true is a real number. -/
theorem real_of_compare {s : Shape} (b : Shape.BroadcastsInDim ⟨0, ![]⟩ s ![]) (a : FVec Ideal s .f32)
    (h : cmpf .olt (Host.absf a) (broadcastInDim s ![] b (constant (F := Ideal) ⟨0, ![]⟩ .f32 0x7F800000#32)) = fun _ => 1#1) (i : s.Idx) :
    (a i : EReal) = (((a i : EReal).toReal : ℝ) : EReal) := by
  apply eq_coe_of_abs_lt
  have e : Ideal.cmp .olt (max (a i : EReal) (-(a i : EReal))) (Ideal.ofBits .f32 0x7F800000#32) = 1#1 := congrFun h i
  rw [ofBits_inf] at e
  unfold Ideal.cmp at e
  by_contra hn
  simp [hn] at e

/-- The contents of a matrix as a function of natural numbers. -/
def reals {n k : ℕ} (a : FVec Ideal ⟨2, ![n, k]⟩ .f32) (i j : ℕ) : ℝ :=
  if h : i < n ∧ j < k then (a (ix2 (⟨i, h.1⟩ : Fin n) (⟨j, h.2⟩ : Fin k)) : EReal).toReal else 0

theorem reals_apply {n k : ℕ} (a : FVec Ideal ⟨2, ![n, k]⟩ .f32) (h : ∀ i, (a i : EReal) = (((a i : EReal).toReal : ℝ) : EReal)) (i : Fin n) (j : Fin k) :
    (a (ix2 i j) : EReal) = (reals a i j : EReal) := by
  rw [reals, dif_pos ⟨i.isLt, j.isLt⟩]
  exact h _

/-- The reference leaves its arguments as they were; it declares no semaphore. -/
theorem frame_reference (m) (ρ) : θ_run (Cert.ReferenceIdeal.defs (F := Ideal)) (onTc (τ := Cert.ReferenceIdeal.τ) (Cert.ReferenceIdeal.main (F := Ideal)))
    ⟨m, fun _ => 0, ρ⟩ fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2.2.2, sem_eq_zero_of_no_sems (by decide) r.2⟩)
    (Cert.ReferenceIdeal.Value.run (F := Ideal) m ρ)

/-- The kernel's three results and the reference's are the same sums of real numbers. -/
theorem algebraic : Cert.algebraic_KernelIdeal_ReferenceIdeal_pre_finite (hPre_finite := finite_facts) := by
  intro m g m' g' hpre hagree
  have hx := fun c => reals_apply _ (real_of_compare _ _ (hpre c).1)
  have hy := fun c => reals_apply _ (real_of_compare _ _ (hpre c).2)
  refine ⟨_, _, _, (θ_run Cert.KernelIdeal.defs _ _).mono
    (fun _ h c => ⟨(h c).1.trans (Cert.Points.array6 (hx c) (hy c)), (h c).2.1.trans (Cert.Points.array7 (hx c) (hy c)),
      (h c).2.2.1.trans (Cert.Points.array8 (hx c) (hy c)), (h c).2.2.2⟩) (Cert.KernelIdeal.Value.run_blocks (F := Ideal) m g), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' g')
  · rw [Cert.RefRead.out0_eq, (hagree c).1, (hagree c).2]
    funext j
    obtain ⟨s, d, rfl⟩ : ∃ (s : Fin 4096) (d : Fin 1024), j = ix2 s d := ⟨j 0, j 1, eq_ix2 j⟩
    exact Cert.RefRead.out0_apply (hx c) (hy c) s d
  · rw [Cert.RefRead.out1_eq, (hagree c).1, (hagree c).2]
    funext j
    obtain ⟨s, d, rfl⟩ : ∃ (s : Fin 4096) (d : Fin 256), j = ix2 s d := ⟨j 0, j 1, eq_ix2 j⟩
    exact Cert.RefRead.out1_apply (hx c) (hy c) s d
  · refine Eq.trans (b := Cert.RefRead.out2 (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))) rfl ?_
    rw [(hagree c).1, (hagree c).2]
    funext j
    obtain ⟨s, d, rfl⟩ : ∃ (s : Fin 4096) (d : Fin 256), j = ix2 s d := ⟨j 0, j 1, eq_ix2 j⟩
    exact Cert.RefRead.out2_apply (hx c) (hy c) s d

/-- The side conditions of the other precondition's operations. -/
theorem finite_projection_facts : Cert.Pre_finite_projection.Facts := ⟨by decide⟩

theorem frame_attend : Cert.quiescent_AttendRefIdeal := fun m ρ _ =>
  Cert.Calls.quiet (by decide) (fun _ _ h => h.2.2) (Cert.AttendRefIdeal.Value.run (F := Ideal) m ρ)

/-- The attention's two results and the reference's are the same real numbers. -/
theorem attend : Cert.algebraic_AttendIdeal_AttendRefIdeal_pre_finite_projection (hPre_finite_projection := finite_projection_facts) := by
  intro m g m' g' hpre hagree
  have hx := fun c => reals_apply _ (real_of_compare _ _ (hpre c))
  refine ⟨fun c => Cert.AttendRead.out (m ((c.tc : Thread Cert.AttendIdeal.nD Cert.AttendIdeal.τ).loc Cert.AttendIdeal.main_arg0)),
    fun c => Cert.AttendRead.logs (m ((c.tc : Thread Cert.AttendIdeal.nD Cert.AttendIdeal.τ).loc Cert.AttendIdeal.main_arg0)),
    (θ_run Cert.AttendIdeal.defs _ _).mono (fun _ h c => ⟨(h c).1.trans ?_, (h c).2.1.trans ?_, (h c).2.2⟩) (Cert.AttendRead.run m g),
    (θ_run Cert.AttendRefIdeal.defs _ _).mono (fun _ h c => ⟨(h c).1.trans ?_, (h c).2.1.trans ?_, (h c).2.2⟩) (Cert.AttendRefIdeal.Value.run (F := Ideal) m' g')⟩
  · funext j
    obtain ⟨s, d, rfl⟩ : ∃ (s : Fin 4096) (d : Fin 1024), j = ix2 s d := ⟨j 0, j 1, eq_ix2 j⟩
    exact (Cert.AttendRead.tail_eq m c s d).trans ((Cert.AttendRead.array3 (hx c) s _ d.isLt).trans (Cert.AttendRead.ref_out_apply (hx c) s d).symm)
  · refine (Cert.AttendRead.array4 (hx c)).trans ?_
    funext j
    obtain ⟨h, s, l, rfl⟩ : ∃ (h : Fin 8) (s : Fin 4096) (l : Fin 128), j = ix3 h s l := ⟨j 0, j 1, j 2, eq_ix3 j⟩
    exact (Cert.AttendRead.ref_logs_apply (hx c) h s l).symm
  · refine Eq.trans (b := Cert.AttendRead.out (m' ((c.tc : Thread Cert.AttendRefIdeal.nD Cert.AttendRefIdeal.τ).loc Cert.AttendRefIdeal.main_arg0))) rfl ?_
    rw [hagree c]
  · refine Eq.trans (b := Cert.AttendRead.logs (m' ((c.tc : Thread Cert.AttendRefIdeal.nD Cert.AttendRefIdeal.τ).loc Cert.AttendRefIdeal.main_arg0))) rfl ?_
    rw [hagree c]

/-- Everything that the certificate claims. -/
theorem claim : Cert.Claim := ⟨Cert.Kernel.Gen.facts, Cert.KernelIdeal.Gen.facts, Cert.ReferenceIdeal.Gen.facts,
  Cert.DownWeight.Gen.facts, Cert.DownWeightIdeal.Gen.facts, Cert.DownWeightRefIdeal.Gen.facts,
  Cert.UpWeight.Gen.facts, Cert.UpWeightIdeal.Gen.facts, Cert.UpWeightRefIdeal.Gen.facts,
  Cert.UpInput.Gen.facts, Cert.UpInputIdeal.Gen.facts, Cert.UpInputRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.NormBack.Gen.facts, Cert.NormBackIdeal.Gen.facts, Cert.NormBackRefIdeal.Gen.facts,
  Cert.Tail.Gen.facts, Cert.TailIdeal.Gen.facts, Cert.TailRefIdeal.Gen.facts,
  Cert.GateInput.Gen.facts, Cert.GateInputIdeal.Gen.facts, Cert.GateInputRefIdeal.Gen.facts,
  Cert.GateWeight.Gen.facts, Cert.GateWeightIdeal.Gen.facts, Cert.GateWeightRefIdeal.Gen.facts,
  Cert.InWeight.Gen.facts, Cert.InWeightIdeal.Gen.facts, Cert.InWeightRefIdeal.Gen.facts,
  Cert.Gate.Gen.facts, Cert.GateIdeal.Gen.facts, Cert.GateRefIdeal.Gen.facts,
  Cert.Out.Gen.facts, Cert.OutIdeal.Gen.facts, Cert.OutRefIdeal.Gen.facts,
  Cert.Project.Gen.facts, Cert.ProjectIdeal.Gen.facts, Cert.ProjectRefIdeal.Gen.facts,
  Cert.Attend.Gen.facts, Cert.AttendIdeal.Gen.facts, Cert.AttendRefIdeal.Gen.facts,
  Cert.Update.Gen.facts, Cert.UpdateIdeal.Gen.facts, Cert.UpdateRefIdeal.Gen.facts,
  Cert.UpdateSmall.Gen.facts, Cert.UpdateSmallIdeal.Gen.facts, Cert.UpdateSmallRefIdeal.Gen.facts,
  Cert.Norm.Gen.facts, Cert.NormIdeal.Gen.facts, Cert.NormRefIdeal.Gen.facts,
  Cert.InputBack.Gen.facts, Cert.InputBackIdeal.Gen.facts, Cert.InputBackRefIdeal.Gen.facts,
  Cert.Embed.Gen.facts, Cert.EmbedIdeal.Gen.facts, Cert.EmbedRefIdeal.Gen.facts,
  Cert.EmbedWeight.Gen.facts, Cert.EmbedWeightIdeal.Gen.facts, Cert.EmbedWeightRefIdeal.Gen.facts,
  Cert.UpdateIn.Gen.facts, Cert.UpdateInIdeal.Gen.facts, Cert.UpdateInRefIdeal.Gen.facts,
  Cert.UpdateOut.Gen.facts, Cert.UpdateOutIdeal.Gen.facts, Cert.UpdateOutRefIdeal.Gen.facts,
  Cert.UpdateEmbed.Gen.facts, Cert.UpdateEmbedIdeal.Gen.facts, Cert.UpdateEmbedRefIdeal.Gen.facts,
  finite_facts, finite_projection_facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.DownWeight.Gen.frame m ρ, fun m ρ _ => Cert.DownWeightIdeal.Gen.frame m ρ, Cert.Calls.frame_down_weight,
  fun m ρ _ => Cert.UpWeight.Gen.frame m ρ, fun m ρ _ => Cert.UpWeightIdeal.Gen.frame m ρ, Cert.Calls.frame_up_weight,
  fun m ρ _ => Cert.UpInput.Gen.frame m ρ, fun m ρ _ => Cert.UpInputIdeal.Gen.frame m ρ, Cert.Calls.frame_up_input,
  fun m ρ _ => Cert.Up.Gen.frame m ρ, fun m ρ _ => Cert.UpIdeal.Gen.frame m ρ, Cert.Calls.frame_up,
  fun m ρ _ => Cert.Down.Gen.frame m ρ, fun m ρ _ => Cert.DownIdeal.Gen.frame m ρ, Cert.Calls.frame_down,
  fun m ρ _ => Cert.NormBack.Gen.frame m ρ, fun m ρ _ => Cert.NormBackIdeal.Gen.frame m ρ, Cert.Calls.frame_norm_back,
  fun m ρ _ => Cert.Tail.Gen.frame m ρ, fun m ρ _ => Cert.TailIdeal.Gen.frame m ρ, Cert.Calls.frame_tail,
  fun m ρ _ => Cert.GateInput.Gen.frame m ρ, fun m ρ _ => Cert.GateInputIdeal.Gen.frame m ρ, Cert.Calls.frame_gate_input,
  fun m ρ _ => Cert.GateWeight.Gen.frame m ρ, fun m ρ _ => Cert.GateWeightIdeal.Gen.frame m ρ, Cert.Calls.frame_gate_weight,
  fun m ρ _ => Cert.InWeight.Gen.frame m ρ, fun m ρ _ => Cert.InWeightIdeal.Gen.frame m ρ, Cert.Calls.frame_in_weight,
  fun m ρ _ => Cert.Gate.Gen.frame m ρ, fun m ρ _ => Cert.GateIdeal.Gen.frame m ρ, Cert.Calls.frame_gate,
  fun m ρ _ => Cert.Out.Gen.frame m ρ, fun m ρ _ => Cert.OutIdeal.Gen.frame m ρ, Cert.Calls.frame_out,
  fun m ρ _ => Cert.Project.Gen.frame m ρ, fun m ρ _ => Cert.ProjectIdeal.Gen.frame m ρ, Cert.Calls.frame_project,
  fun m ρ _ => Cert.Attend.Gen.frame m ρ, fun m ρ _ => Cert.AttendIdeal.Gen.frame m ρ, fun m ρ _ => Cert.AttendIdeal.Gen.frame m ρ,
  frame_attend, fun m ρ _ => frame_attend m ρ trivial,
  fun m ρ _ => Cert.Update.Gen.frame m ρ, fun m ρ _ => Cert.UpdateIdeal.Gen.frame m ρ, Cert.Calls.frame_update,
  fun m ρ _ => Cert.UpdateSmall.Gen.frame m ρ, fun m ρ _ => Cert.UpdateSmallIdeal.Gen.frame m ρ, Cert.Calls.frame_update_small,
  fun m ρ _ => Cert.Norm.Gen.frame m ρ, fun m ρ _ => Cert.NormIdeal.Gen.frame m ρ, Cert.Calls.frame_norm,
  fun m ρ _ => Cert.InputBack.Gen.frame m ρ, fun m ρ _ => Cert.InputBackIdeal.Gen.frame m ρ, Cert.Calls.frame_input_back,
  fun m ρ _ => Cert.Embed.Gen.frame m ρ, fun m ρ _ => Cert.EmbedIdeal.Gen.frame m ρ, Cert.Calls.frame_embed,
  fun m ρ _ => Cert.EmbedWeight.Gen.frame m ρ, fun m ρ _ => Cert.EmbedWeightIdeal.Gen.frame m ρ, Cert.Calls.frame_embed_weight,
  fun m ρ _ => Cert.UpdateIn.Gen.frame m ρ, fun m ρ _ => Cert.UpdateInIdeal.Gen.frame m ρ, Cert.Calls.frame_update_in,
  fun m ρ _ => Cert.UpdateOut.Gen.frame m ρ, fun m ρ _ => Cert.UpdateOutIdeal.Gen.frame m ρ, Cert.Calls.frame_update_out,
  fun m ρ _ => Cert.UpdateEmbed.Gen.frame m ρ, fun m ρ _ => Cert.UpdateEmbedIdeal.Gen.frame m ρ, Cert.Calls.frame_update_embed,
  trivial, algebraic, trivial, Cert.Calls.down_weight, trivial, Cert.Calls.up_weight, trivial, Cert.Calls.up_input, trivial, Cert.Calls.up, trivial, Cert.Calls.down, trivial, Cert.Calls.norm_back,
  trivial, Cert.Calls.tail, trivial, Cert.Calls.gate_input, trivial, Cert.Calls.gate_weight, trivial, Cert.Calls.in_weight, trivial, Cert.Calls.gate, trivial, Cert.Calls.out, trivial, Cert.Calls.project,
  trivial, attend, trivial, Cert.Calls.update, trivial, Cert.Calls.update_small, trivial, Cert.Calls.norm, trivial, Cert.Calls.input_back, trivial, Cert.Calls.embed, trivial, Cert.Calls.embed_weight,
  trivial, Cert.Calls.update_in, trivial, Cert.Calls.update_out, trivial, Cert.Calls.update_embed⟩

end Cert.Proof

end
